-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v37)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_v70) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v39_0)) (v1 : (c : Dev Cert.Kernel11Ideal.nD) → Buf (Elt Ideal) ((c.tc : Thread Cert.Kernel11Ideal.nD Cert.Kernel11Ideal.τ).loc Cert.Kernel11Ideal.main_v39_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v39_0) = v0 c
          ∧ r.2.mem ((c.tc : Thread Cert.Kernel11Ideal.nD Cert.Kernel11Ideal.τ).loc Cert.Kernel11Ideal.main_v39_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v62) = v0 c
          ∧ r.2.mem ((c.tc : Thread Cert.Reference11Ideal.nD Cert.Reference11Ideal.τ).loc Cert.Reference11Ideal.main_v67) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v24_0)) (v1 : (c : Dev Cert.Kernel12Ideal.nD) → Buf (Elt Ideal) ((c.tc : Thread Cert.Kernel12Ideal.nD Cert.Kernel12Ideal.τ).loc Cert.Kernel12Ideal.main_v24_1)) (v2 : (c : Dev Cert.Kernel12Ideal.nD) → Buf (Elt Ideal) ((c.tc : Thread Cert.Kernel12Ideal.nD Cert.Kernel12Ideal.τ).loc Cert.Kernel12Ideal.main_v24_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_0) = v0 c
          ∧ r.2.mem ((c.tc : Thread Cert.Kernel12Ideal.nD Cert.Kernel12Ideal.τ).loc Cert.Kernel12Ideal.main_v24_1) = v1 c
          ∧ r.2.mem ((c.tc : Thread Cert.Kernel12Ideal.nD Cert.Kernel12Ideal.τ).loc Cert.Kernel12Ideal.main_v24_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2048x8x64 : Shape := ⟨3, ![2048, 8, 64]⟩
abbrev S2048x8x32 : Shape := ⟨3, ![2048, 8, 32]⟩
abbrev S2048x32 : Shape := ⟨2, ![2048, 32]⟩
abbrev S2048x1x32 : Shape := ⟨3, ![2048, 1, 32]⟩
abbrev S_ : Shape := ⟨0, ![]⟩

class Facts : Prop where
  bcast_S2048x32_S2048x1x32_0_2 : S2048x32.BroadcastsInDim S2048x1x32 (![0, 2] : Fin 2 → Fin S2048x1x32.rank)
  bcast_S2048x1x32_S2048x8x32_0_1_2 : S2048x1x32.BroadcastsInDim S2048x8x32 (![0, 1, 2] : Fin 3 → Fin S2048x8x32.rank)
  pads_S2048x8x32_S2048x8x64_000_000_0320 : S2048x8x32.Pads (![0, 0, 0] : Fin 3 → Nat) ![0, 0, 32] ![0, 0, 0] S2048x8x64
  h_S_ : 0 < S_.numel
  bcast_S_S2048x8x64 : S_.BroadcastsInDim S2048x8x64 (![] : Fin 0 → Fin S2048x8x64.rank)

variable [Facts]

def fn_part1 {F : FTy → Type} [FloatOps F] (main_v3 : FVec F S2048x8x64 .f32) (main_v6 : IVec S2048x8x64 1) (main_v9 : IVec S2048x8x64 1) (main_v12 : IVec S2048x8x64 1) (main_v15 : IVec S2048x8x64 1) (main_v16 : FVec F S2048x8x64 .f32) (main_cst_5 : FVec F S_ .f32) : IVec S2048x8x64 1 :=
  let main_v17 : FVec F S2048x8x64 .f32 := broadcastInDim S2048x8x64 ![] bcast_S_S2048x8x64 main_cst_5
  let main_v18 : IVec S2048x8x64 1 := cmpf .olt main_v16 main_v17
  let main_v19 : FVec F S2048x8x64 .f32 := Host.absf main_v3
  let main_cst_6 : FVec F S_ .f32 := constant S_ .f32 0x7F800000#32
  let main_v20 : FVec F S2048x8x64 .f32 := broadcastInDim S2048x8x64 ![] bcast_S_S2048x8x64 main_cst_6
  let main_v21 : IVec S2048x8x64 1 := cmpf .olt main_v19 main_v20
  let main_v22 : IVec S2048x8x64 1 := andi main_v6 main_v9
  let main_v23 : IVec S2048x8x64 1 := andi main_v22 main_v12
  let main_v24 : IVec S2048x8x64 1 := andi main_v23 main_v15
  let main_v25 : IVec S2048x8x64 1 := andi main_v24 main_v18
  let main_v26 : IVec S2048x8x64 1 := andi main_v25 main_v21
  main_v26

def fn {F : FTy → Type} [FloatOps F] (main_arg0 : FVec F S2048x8x64 .f32) (main_arg1 : FVec F S2048x8x32 .f32) (main_arg2 : FVec F S2048x8x64 .f32) (main_arg3 : FVec F S2048x32 .f32) (main_arg4 : FVec F S2048x8x64 .f32) (main_arg5 : FVec F S2048x8x64 .f32) : IVec S2048x8x64 1 :=
  let main_v0 : FVec F S2048x1x32 .f32 := broadcastInDim S2048x1x32 ![0, 2] bcast_S2048x32_S2048x1x32_0_2 main_arg3
  let main_v1 : FVec F S2048x8x32 .f32 := broadcastInDim S2048x8x32 ![0, 1, 2] bcast_S2048x1x32_S2048x8x32_0_1_2 main_v0
  let main_cst : FVec F S_ .f32 := constant S_ .f32 0x00000000#32
  let main_v2 : FVec F S2048x8x64 .f32 := (fun x v => pad S2048x8x64 ![0, 0, 0] ![0, 0, 32] ![0, 0, 0] x v pads_S2048x8x32_S2048x8x64_000_000_0320 h_S_) main_arg1 main_cst
  let main_cst_0 : FVec F S_ .f32 := constant S_ .f32 0x00000000#32
  let main_v3 : FVec F S2048x8x64 .f32 := (fun x v => pad S2048x8x64 ![0, 0, 0] ![0, 0, 32] ![0, 0, 0] x v pads_S2048x8x32_S2048x8x64_000_000_0320 h_S_) main_v1 main_cst_0
  let main_v4 : FVec F S2048x8x64 .f32 := Host.absf main_arg0
  let main_cst_1 : FVec F S_ .f32 := constant S_ .f32 0x7F800000#32
  let main_v5 : FVec F S2048x8x64 .f32 := broadcastInDim S2048x8x64 ![] bcast_S_S2048x8x64 main_cst_1
  let main_v6 : IVec S2048x8x64 1 := cmpf .olt main_v4 main_v5
  let main_v7 : FVec F S2048x8x64 .f32 := Host.absf main_arg2
  let main_cst_2 : FVec F S_ .f32 := constant S_ .f32 0x7F800000#32
  let main_v8 : FVec F S2048x8x64 .f32 := broadcastInDim S2048x8x64 ![] bcast_S_S2048x8x64 main_cst_2
  let main_v9 : IVec S2048x8x64 1 := cmpf .olt main_v7 main_v8
  let main_v10 : FVec F S2048x8x64 .f32 := Host.absf main_arg4
  let main_cst_3 : FVec F S_ .f32 := constant S_ .f32 0x7F800000#32
  let main_v11 : FVec F S2048x8x64 .f32 := broadcastInDim S2048x8x64 ![] bcast_S_S2048x8x64 main_cst_3
  let main_v12 : IVec S2048x8x64 1 := cmpf .olt main_v10 main_v11
  let main_v13 : FVec F S2048x8x64 .f32 := Host.absf main_arg5
  let main_cst_4 : FVec F S_ .f32 := constant S_ .f32 0x7F800000#32
  let main_v14 : FVec F S2048x8x64 .f32 := broadcastInDim S2048x8x64 ![] bcast_S_S2048x8x64 main_cst_4
  let main_v15 : IVec S2048x8x64 1 := cmpf .olt main_v13 main_v14
  let main_v16 : FVec F S2048x8x64 .f32 := Host.absf main_v2
  let main_cst_5 : FVec F S_ .f32 := constant S_ .f32 0x7F800000#32
  fn_part1 (F := F) main_v3 main_v6 main_v9 main_v12 main_v15 main_v16 main_cst_5
-- ==== Pre_finite3.lean ====
abbrev S2048x2816 : Shape := ⟨2, ![2048, 2816]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩

class Facts : Prop where
  pads_S2048x1024_S2048x2816_000_017920 : S2048x1024.Pads (![0, 0] : Fin 2 → Nat) ![0, 1792] ![0, 0] S2048x2816
  h_S_ : 0 < S_.numel
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x2816 : S_.BroadcastsInDim S2048x2816 (![] : Fin 0 → Fin S2048x2816.rank)

variable [Facts]

def fn {F : FTy → Type} [FloatOps F] (main_arg0 : FVec F S2048x2816 .f32) (main_arg1 : FVec F S1024 .f32) (main_arg2 : FVec F S2048x1024 .f32) : IVec S2048x2816 1 :=
  let main_cst : FVec F S_ .f32 := constant S_ .f32 0x00000000#32
  let main_v0 : FVec F S2048x2816 .f32 := (fun x v => pad S2048x2816 ![0, 0] ![0, 1792] ![0, 0] x v pads_S2048x1024_S2048x2816_000_017920 h_S_) main_arg2 main_cst
  let main_v1 : FVec F S1x1024 .f32 := broadcastInDim S1x1024 ![1] bcast_S1024_S1x1024_1 main_arg1
  let main_v2 : FVec F S2048x1024 .f32 := broadcastInDim S2048x1024 ![0, 1] bcast_S1x1024_S2048x1024_0_1 main_v1
  let main_cst_0 : FVec F S_ .f32 := constant S_ .f32 0x00000000#32
  let main_v3 : FVec F S2048x2816 .f32 := (fun x v => pad S2048x2816 ![0, 0] ![0, 1792] ![0, 0] x v pads_S2048x1024_S2048x2816_000_017920 h_S_) main_v2 main_cst_0
  let main_v4 : FVec F S2048x2816 .f32 := Host.absf main_arg0
  let main_cst_1 : FVec F S_ .f32 := constant S_ .f32 0x7F800000#32
  let main_v5 : FVec F S2048x2816 .f32 := broadcastInDim S2048x2816 ![] bcast_S_S2048x2816 main_cst_1
  let main_v6 : IVec S2048x2816 1 := cmpf .olt main_v4 main_v5
  let main_v7 : FVec F S2048x2816 .f32 := Host.absf main_v0
  let main_cst_2 : FVec F S_ .f32 := constant S_ .f32 0x7F800000#32
  let main_v8 : FVec F S2048x2816 .f32 := broadcastInDim S2048x2816 ![] bcast_S_S2048x2816 main_cst_2
  let main_v9 : IVec S2048x2816 1 := cmpf .olt main_v7 main_v8
  let main_v10 : FVec F S2048x2816 .f32 := Host.absf main_v3
  let main_cst_3 : FVec F S_ .f32 := constant S_ .f32 0x7F800000#32
  let main_v11 : FVec F S2048x2816 .f32 := broadcastInDim S2048x2816 ![] bcast_S_S2048x2816 main_cst_3
  let main_v12 : IVec S2048x2816 1 := cmpf .olt main_v10 main_v11
  let main_v13 : IVec S2048x2816 1 := andi main_v6 main_v9
  let main_v14 : IVec S2048x2816 1 := andi main_v13 main_v12
  main_v14
-- ==== Kernel.lean ====
abbrev S2048x8x64 : Shape := ⟨3, ![2048, 8, 64]⟩
abbrev S2048x8x32 : Shape := ⟨3, ![2048, 8, 32]⟩
abbrev S2048x32 : Shape := ⟨2, ![2048, 32]⟩
abbrev S_ : Shape := ⟨0, ![]⟩
abbrev S2048x8x128 : Shape := ⟨3, ![2048, 8, 128]⟩
abbrev S8x2048x128 : Shape := ⟨3, ![8, 2048, 128]⟩
abbrev S8x2048x256 : Shape := ⟨3, ![8, 2048, 256]⟩
abbrev S2048x128 : Shape := ⟨2, ![2048, 128]⟩
abbrev S1x2048x128 : Shape := ⟨3, ![1, 2048, 128]⟩
abbrev S2048x1024 : Shape := ⟨2, ![2048, 1024]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S256x512 : Shape := ⟨2, ![256, 512]⟩
abbrev S1x768x256 : Shape := ⟨3, ![1, 768, 256]⟩
abbrev S768x256 : Shape := ⟨2, ![768, 256]⟩
abbrev S1x768x128 : Shape := ⟨3, ![1, 768, 128]⟩
abbrev S768x128 : Shape := ⟨2, ![768, 128]⟩
abbrev S256x768 : Shape := ⟨2, ![256, 768]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S256x1024 : Shape := ⟨2, ![256, 1024]⟩
abbrev S1x1280x256 : Shape := ⟨3, ![1, 1280, 256]⟩
abbrev S1280x256 : Shape := ⟨2, ![1280, 256]⟩
abbrev S1x1280x128 : Shape := ⟨3, ![1, 1280, 128]⟩
abbrev S1280x128 : Shape := ⟨2, ![1280, 128]⟩
abbrev S256x1280 : Shape := ⟨2, ![256, 1280]⟩
abbrev S1x1536x256 : Shape := ⟨3, ![1, 1536, 256]⟩
abbrev S1536x256 : Shape := ⟨2, ![1536, 256]⟩
abbrev S1x1536x128 : Shape := ⟨3, ![1, 1536, 128]⟩
abbrev S1536x128 : Shape := ⟨2, ![1536, 128]⟩
abbrev S256x1536 : Shape := ⟨2, ![256, 1536]⟩
abbrev S1x1792x256 : Shape := ⟨3, ![1, 1792, 256]⟩
abbrev S1792x256 : Shape := ⟨2, ![1792, 256]⟩
abbrev S1x1792x128 : Shape := ⟨3, ![1, 1792, 128]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 39
  | .vmem => 14
  | .smem => 0
  | _ => 0

abbrev bufTy : (tb : Table) → Fin (tcTables nBuf tb) → BufTy
  | .hbm, ⟨0, _⟩ => ⟨S2048x8x64, .f32⟩
  | .hbm, ⟨1, _⟩ => ⟨S2048x8x32, .f32⟩
  | .hbm, ⟨2, _⟩ => ⟨S2048x8x64, .f32⟩
  | .hbm, ⟨3, _⟩ => ⟨S2048x32, .f32⟩
  | .hbm, ⟨4, _⟩ => ⟨S2048x8x64, .f32⟩
  | .hbm, ⟨5, _⟩ => ⟨S2048x8x64, .f32⟩
  | .hbm, ⟨6, _⟩ => ⟨S_, .i32⟩
  | .hbm, ⟨7, _⟩ => ⟨S_, .f32⟩
  | .hbm, ⟨8, _⟩ => ⟨S2048x8x128, .f32⟩
  | .hbm, ⟨9, _⟩ => ⟨S8x2048x128, .f32⟩
  | .hbm, ⟨10, _⟩ => ⟨S_, .i32⟩
  | .hbm, ⟨11, _⟩ => ⟨S_, .f32⟩
  | .hbm, ⟨12, _⟩ => ⟨S2048x8x128, .f32⟩
  | .hbm, ⟨13, _⟩ => ⟨S8x2048x128, .f32⟩
  | .hbm, ⟨14, _⟩ => ⟨S8x2048x256, .f32⟩
  | .hbm, ⟨15, _⟩ => ⟨S8x2048x256, .bf16⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S1x2048x128, .f32⟩
  | .hbm, ⟨20, _⟩ => ⟨S8x2048x128, .f32⟩
  | .hbm, ⟨21, _⟩ => ⟨S_, .i32⟩
  | .hbm, ⟨22, _⟩ => ⟨S_, .f32⟩
  | .hbm, ⟨23, _⟩ => ⟨S2048x8x128, .f32⟩
  | .hbm, ⟨24, _⟩ => ⟨S8x2048x128, .f32⟩
  | .hbm, ⟨25, _⟩ => ⟨S8x2048x256, .f32⟩
  | .hbm, ⟨26, _⟩ => ⟨S8x2048x256, .bf16⟩
  | .hbm, ⟨27, _⟩ => ⟨S_, .i32⟩
  | .hbm, ⟨28, _⟩ => ⟨S_, .f32⟩
  | .hbm, ⟨29, _⟩ => ⟨S2048x8x128, .f32⟩
  | .hbm, ⟨30, _⟩ => ⟨S2048x1024, .f32⟩
  | .hbm, ⟨31, _⟩ => ⟨S_, .i32⟩
  | .hbm, ⟨32, _⟩ => ⟨S_, .f32⟩
  | .hbm, ⟨33, _⟩ => ⟨S2048x8x128, .f32⟩
  | .hbm, ⟨34, _⟩ => ⟨S8x2048x128, .f32⟩
  | .hbm, ⟨35, _⟩ => ⟨S8x2048x128, .bf16⟩
  | .hbm, ⟨36, _⟩ => ⟨S8x2048x256, .f32⟩
  | .hbm, ⟨37, _⟩ => ⟨S8x2048x256, .f32⟩
  | .hbm, ⟨38, _⟩ => ⟨S8x2048x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x128, .f32⟩
  | .local _ .vmem, ⟨13, _⟩ => ⟨S1x2048x128, .f32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call4_v0 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_call5_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x8x64 : Shape := ⟨3, ![2048, 8, 64]⟩
abbrev S2048x8x32 : Shape := ⟨3, ![2048, 8, 32]⟩
abbrev S2048x32 : Shape := ⟨2, ![2048, 32]⟩
abbrev S2048x1x32 : Shape := ⟨3, ![2048, 1, 32]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x32 : Shape := ⟨3, ![8, 2048, 32]⟩
abbrev S8x2048x64 : Shape := ⟨3, ![8, 2048, 64]⟩
abbrev S2048x8x128 : Shape := ⟨3, ![2048, 8, 128]⟩
abbrev S8x2048x128 : Shape := ⟨3, ![8, 2048, 128]⟩
abbrev S8x2048x256 : Shape := ⟨3, ![8, 2048, 256]⟩

abbrev nBuf : Space → Nat
  | .hbm => 116
  | .vmem => 0
  | .smem => 0
  | _ => 0

abbrev bufTy : (tb : Table) → Fin (tcTables nBuf tb) → BufTy
  | .hbm, ⟨0, _⟩ => ⟨S2048x8x64, .f32⟩
  | .hbm, ⟨1, _⟩ => ⟨S2048x8x32, .f32⟩
  | .hbm, ⟨2, _⟩ => ⟨S2048x8x64, .f32⟩
  | .hbm, ⟨3, _⟩ => ⟨S2048x32, .f32⟩
  | .hbm, ⟨4, _⟩ => ⟨S2048x8x64, .f32⟩
  | .hbm, ⟨5, _⟩ => ⟨S2048x8x64, .f32⟩
  | .hbm, ⟨6, _⟩ => ⟨S2048x1x32, .f32⟩
  | .hbm, ⟨7, _⟩ => ⟨S2048x8x32, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .i1⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .i1⟩
  | .hbm, ⟨41, _⟩ => ⟨S_, .f32⟩
  | .hbm, ⟨42, _⟩ => ⟨S8x2048, .f32⟩
  | .hbm, ⟨43, _⟩ => ⟨S8x2048, .i1⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x64x2048, .f32⟩
  | .hbm, ⟨66, _⟩ => ⟨S2048x8x64, .f32⟩
  | .hbm, ⟨67, _⟩ => ⟨S8x64x2048, .f32⟩
  | .hbm, ⟨68, _⟩ => ⟨S8x2048x2048, .f32⟩
  | .hbm, ⟨69, _⟩ => ⟨S8x64x2048, .f32⟩
  | .hbm, ⟨70, _⟩ => ⟨S2048x8x64, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S8x2048x32, .f32⟩
  | .hbm, ⟨92, _⟩ => ⟨S2048x8x32, .f32⟩
  | .hbm, ⟨93, _⟩ => ⟨S8x2048x32, .f32⟩
  | .hbm, ⟨94, _⟩ => ⟨S2048x8x32, .f32⟩
  | .hbm, ⟨95, _⟩ => ⟨S8x2048x64, .f32⟩
  | .hbm, ⟨96, _⟩ => ⟨S2048x8x64, .f32⟩
  | .hbm, ⟨97, _⟩ => ⟨S8x2048x64, .f32⟩
  | .hbm, ⟨98, _⟩ => ⟨S2048x8x64, .f32⟩
  | .hbm, ⟨99, _⟩ => ⟨S_, .f32⟩
  | .hbm, ⟨100, _⟩ => ⟨S2048x8x128, .f32⟩
  | .hbm, ⟨101, _⟩ => ⟨S8x2048x128, .f32⟩
  | .hbm, ⟨102, _⟩ => ⟨S_, .f32⟩
  | .hbm, ⟨103, _⟩ => ⟨S2048x8x128, .f32⟩
  | .hbm, ⟨104, _⟩ => ⟨S8x2048x128, .f32⟩
  | .hbm, ⟨105, _⟩ => ⟨S8x2048x256, .f32⟩
  | .hbm, ⟨106, _⟩ => ⟨S_, .f32⟩
  | .hbm, ⟨107, _⟩ => ⟨S2048x8x128, .f32⟩
  | .hbm, ⟨108, _⟩ => ⟨S8x2048x128, .f32⟩
  | .hbm, ⟨109, _⟩ => ⟨S_, .f32⟩
  | .hbm, ⟨110, _⟩ => ⟨S2048x8x128, .f32⟩
  | .hbm, ⟨111, _⟩ => ⟨S8x2048x128, .f32⟩
  | .hbm, ⟨112, _⟩ => ⟨S8x2048x256, .f32⟩
  | .hbm, ⟨113, _⟩ => ⟨S_, .f32⟩
  | .hbm, ⟨114, _⟩ => ⟨S2048x8x128, .f32⟩
  | .hbm, ⟨115, _⟩ => ⟨S8x2048x128, .f32⟩
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2x2816 : Shape := ⟨3, ![2048, 2, 2816]⟩
abbrev S2x2048x2816 : Shape := ⟨3, ![2, 2048, 2816]⟩
abbrev S5632x1024 : Shape := ⟨2, ![5632, 1024]⟩
abbrev S1x512x1408 : Shape := ⟨3, ![1, 512, 1408]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 35
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2x2816, .f32⟩
  | .hbm, ⟨31, _⟩ => ⟨S2x2048x2816, .f32⟩
  | .hbm, ⟨32, _⟩ => ⟨S2x2048x2816, .bf16⟩
  | .hbm, ⟨33, _⟩ => ⟨S2048x1024, .bf16⟩
  | .hbm, ⟨34, _⟩ => ⟨S5632x1024, .bf16⟩
  | .local _ .vmem, ⟨0, _⟩ => ⟨S1x512x1408, .bf16⟩
  | .local _ .vmem, ⟨1, _⟩ => ⟨S1x512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024 : Shape := ⟨1, ![1024]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S1x1024 : Shape := ⟨2, ![1, 1024]⟩
abbrev S5632x1024 : Shape := ⟨2, ![5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x5632, .f32⟩
  | .hbm, ⟨5, _⟩ => ⟨S_, .f32⟩
  | .hbm, ⟨6, _⟩ => ⟨S1024x5632, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x5632, .f32⟩
  | .hbm, ⟨33, _⟩ => ⟨S5632x1024, .f32⟩
  | .hbm, ⟨34, _⟩ => ⟨S1024x5632, .f32⟩
  | .hbm, ⟨35, _⟩ => ⟨S5632x1024, .f32⟩
  | .hbm, ⟨36, _⟩ => ⟨S5632x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S2048x2816 : Shape := ⟨2, ![2048, 2816]⟩
abbrev S1024 : Shape := ⟨1, ![1024]⟩
abbrev S2048x1024 : Shape := ⟨2, ![2048, 1024]⟩
abbrev S1x1024 : Shape := ⟨2, ![1, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S1024, .f32⟩
  | .hbm, ⟨2, _⟩ => ⟨S2048x1024, .f32⟩
  | .hbm, ⟨3, _⟩ => ⟨S2048x2816, .bf16⟩
  | .hbm, ⟨4, _⟩ => ⟨S1x1024, .f32⟩
  | .hbm, ⟨5, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x2816 : Shape := ⟨2, ![2048, 2816]⟩
abbrev S1024 : Shape := ⟨1, ![1024]⟩
abbrev S2048x1024 : Shape := ⟨2, ![2048, 1024]⟩
abbrev S_ : Shape := ⟨0, ![]⟩
abbrev S2816x1024 : Shape := ⟨2, ![2816, 1024]⟩
abbrev S1x1024 : Shape := ⟨2, ![1, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2816x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S2048x6832 : Shape := ⟨2, ![2048, 6832]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3072 : Shape := ⟨2, ![2048, 3072]⟩
abbrev S2048x512 : Shape := ⟨2, ![2048, 512]⟩
abbrev S2048x256 : Shape := ⟨2, ![2048, 256]⟩
abbrev S2048x128 : Shape := ⟨2, ![2048, 128]⟩
abbrev S2048x16 : Shape := ⟨2, ![2048, 16]⟩
abbrev S2048x384 : Shape := ⟨2, ![2048, 384]⟩
abbrev S2048x7296 : Shape := ⟨2, ![2048, 7296]⟩
abbrev S7296x1024 : Shape := ⟨2, ![7296, 1024]⟩
abbrev S512x2432 : Shape := ⟨2, ![512, 2432]⟩
abbrev S512x1024 : Shape := ⟨2, ![512, 1024]⟩
abbrev S2432x1024 : Shape := ⟨2, ![2432, 1024]⟩

abbrev nBuf : Space → Nat
  | .hbm => 55
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x6832, .f32⟩
  | .hbm, ⟨5, _⟩ => ⟨S2048x32, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x3072, .f32⟩
  | .hbm, ⟨32, _⟩ => ⟨S2048x1024, .f32⟩
  | .hbm, ⟨33, _⟩ => ⟨S2048x1024, .f32⟩
  | .hbm, ⟨34, _⟩ => ⟨S2048x512, .f32⟩
  | .hbm, ⟨35, _⟩ => ⟨S2048x512, .f32⟩
  | .hbm, ⟨36, _⟩ => ⟨S2048x256, .f32⟩
  | .hbm, ⟨37, _⟩ => ⟨S2048x32, .f32⟩
  | .hbm, ⟨38, _⟩ => ⟨S_, .i32⟩
  | .hbm, ⟨39, _⟩ => ⟨S_, .f32⟩
  | .hbm, ⟨40, _⟩ => ⟨S2048x128, .f32⟩
  | .hbm, ⟨41, _⟩ => ⟨S_, .i32⟩
  | .hbm, ⟨42, _⟩ => ⟨S_, .f32⟩
  | .hbm, ⟨43, _⟩ => ⟨S2048x128, .f32⟩
  | .hbm, ⟨44, _⟩ => ⟨S2048x16, .f32⟩
  | .hbm, ⟨45, _⟩ => ⟨S_, .i32⟩
  | .hbm, ⟨46, _⟩ => ⟨S_, .f32⟩
  | .hbm, ⟨47, _⟩ => ⟨S2048x128, .f32⟩
  | .hbm, ⟨48, _⟩ => ⟨S_, .f32⟩
  | .hbm, ⟨49, _⟩ => ⟨S2048x128, .f32⟩
  | .hbm, ⟨50, _⟩ => ⟨S2048x384, .f32⟩
  | .hbm, ⟨51, _⟩ => ⟨S2048x7296, .f32⟩
  | .hbm, ⟨52, _⟩ => ⟨S2048x7296, .bf16⟩
  | .hbm, ⟨53, _⟩ => ⟨S2048x1024, .bf16⟩
  | .hbm, ⟨54, _⟩ => ⟨S7296x1024, .bf16⟩
  | .local _ .vmem, ⟨0, _⟩ => ⟨S512x2432, .bf16⟩
  | .local _ .vmem, ⟨1, _⟩ => ⟨S512x2432, .bf16⟩
  | .local _ .vmem, ⟨2, _⟩ => ⟨S512x1024, .bf16⟩
  | .local _ .vmem, ⟨3, _⟩ => ⟨S512x1024, .bf16⟩
  | .local _ .vmem, ⟨4, _⟩ => ⟨S2432x1024, .bf16⟩
  | .local _ .vmem, ⟨5, _⟩ => ⟨S2432x1024, .bf16⟩
  | .local _ .vmem, ⟨6, _⟩ => ⟨S2432x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_c_3 : Ref sig .tc := ⟨.hbm, 41, rfl⟩
abbrev main_call1_v0 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024 : Shape := ⟨1, ![1024]⟩
abbrev S2048x6832 : Shape := ⟨2, ![2048, 6832]⟩
abbrev S2048x32 : Shape := ⟨2, ![2048, 32]⟩
abbrev S_ : Shape := ⟨0, ![]⟩
abbrev S1024x6832 : Shape := ⟨2, ![1024, 6832]⟩
abbrev S1024x32 : Shape := ⟨2, ![1024, 32]⟩
abbrev S2048 : Shape := ⟨1, ![2048]⟩
abbrev S2048x1 : Shape := ⟨2, ![2048, 1]⟩
abbrev S1x1024 : Shape := ⟨2, ![1, 1024]⟩
abbrev S32x1024 : Shape := ⟨2, ![32, 1024]⟩
abbrev S6832x1024 : Shape := ⟨2, ![6832, 1024]⟩
abbrev S1024x384 : Shape := ⟨2, ![1024, 384]⟩
abbrev S1024x256 : Shape := ⟨2, ![1024, 256]⟩
abbrev S1024x512 : Shape := ⟨2, ![1024, 512]⟩
abbrev S1024x1024 : Shape := ⟨2, ![1024, 1024]⟩
abbrev S1024x16 : Shape := ⟨2, ![1024, 16]⟩
abbrev S1024x3072 : Shape := ⟨2, ![1024, 3072]⟩
abbrev S1024x128 : Shape := ⟨2, ![1024, 128]⟩
abbrev S1024x7296 : Shape := ⟨2, ![1024, 7296]⟩
abbrev S7296x1024 : Shape := ⟨2, ![7296, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x6832, .f32⟩
  | .hbm, ⟨5, _⟩ => ⟨S2048x32, .f32⟩
  | .hbm, ⟨6, _⟩ => ⟨S_, .f32⟩
  | .hbm, ⟨7, _⟩ => ⟨S1024x6832, .f32⟩
  | .hbm, ⟨8, _⟩ => ⟨S_, .f32⟩
  | .hbm, ⟨9, _⟩ => ⟨S1024x32, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x6832, .f32⟩
  | .hbm, ⟨36, _⟩ => ⟨S2048x32, .f32⟩
  | .hbm, ⟨37, _⟩ => ⟨S32x1024, .f32⟩
  | .hbm, ⟨38, _⟩ => ⟨S1024x32, .f32⟩
  | .hbm, ⟨39, _⟩ => ⟨S6832x1024, .f32⟩
  | .hbm, ⟨40, _⟩ => ⟨S1024x6832, .f32⟩
  | .hbm, ⟨41, _⟩ => ⟨S1024x384, .f32⟩
  | .hbm, ⟨42, _⟩ => ⟨S1024x256, .f32⟩
  | .hbm, ⟨43, _⟩ => ⟨S1024x32, .f32⟩
  | .hbm, ⟨44, _⟩ => ⟨S1024x512, .f32⟩
  | .hbm, ⟨45, _⟩ => ⟨S1024x1024, .f32⟩
  | .hbm, ⟨46, _⟩ => ⟨S1024x1024, .f32⟩
  | .hbm, ⟨47, _⟩ => ⟨S1024x512, .f32⟩
  | .hbm, ⟨48, _⟩ => ⟨S1024x16, .f32⟩
  | .hbm, ⟨49, _⟩ => ⟨S1024x3072, .f32⟩
  | .hbm, ⟨50, _⟩ => ⟨S_, .f32⟩
  | .hbm, ⟨51, _⟩ => ⟨S1024x128, .f32⟩
  | .hbm, ⟨52, _⟩ => ⟨S_, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x7296, .f32⟩
  | .hbm, ⟨59, _⟩ => ⟨S7296x1024, .f32⟩
  | .hbm, ⟨60, _⟩ => ⟨S7296x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x512 : Shape := ⟨2, ![2048, 512]⟩
abbrev S2048x1024 : Shape := ⟨2, ![2048, 1024]⟩
abbrev S2048x8x64 : Shape := ⟨3, ![2048, 8, 64]⟩
abbrev S_ : Shape := ⟨0, ![]⟩
abbrev S2048x8x128 : Shape := ⟨3, ![2048, 8, 128]⟩
abbrev S1024x1024 : Shape := ⟨2, ![1024, 1024]⟩
abbrev S512x1024 : Shape := ⟨2, ![512, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x8x64, .f32⟩
  | .hbm, ⟨3, _⟩ => ⟨S_, .i32⟩
  | .hbm, ⟨4, _⟩ => ⟨S_, .f32⟩
  | .hbm, ⟨5, _⟩ => ⟨S2048x8x128, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S8x64x1024 : Shape := ⟨3, ![8, 64, 1024]⟩
abbrev S8x128x1024 : Shape := ⟨3, ![8, 128, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | .hbm, ⟨7, _⟩ => ⟨S8x64x1024, .f32⟩
  | .hbm, ⟨8, _⟩ => ⟨S_, .f32⟩
  | .hbm, ⟨9, _⟩ => ⟨S8x128x1024, .f32⟩
  | .hbm, ⟨10, _⟩ => ⟨S1024x1024, .f32⟩
  | .hbm, ⟨11, _⟩ => ⟨S1024x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S2048x2x2816 : Shape := ⟨3, ![2048, 2, 2816]⟩
abbrev S2x2048x2816 : Shape := ⟨3, ![2, 2048, 2816]⟩
abbrev S5632x1024 : Shape := ⟨2, ![5632, 1024]⟩
abbrev S512x1024 : Shape := ⟨2, ![512, 1024]⟩
abbrev S1x512x1408 : Shape := ⟨3, ![1, 512, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 23
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2048x1024, .f32⟩
  | .hbm, ⟨7, _⟩ => ⟨S2048x5632, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S2048x2x2816, .f32⟩
  | .hbm, ⟨17, _⟩ => ⟨S2x2048x2816, .f32⟩
  | .hbm, ⟨18, _⟩ => ⟨S2x2048x2816, .bf16⟩
  | .hbm, ⟨19, _⟩ => ⟨S5632x1024, .f32⟩
  | .hbm, ⟨20, _⟩ => ⟨S5632x1024, .bf16⟩
  | .hbm, ⟨21, _⟩ => ⟨S2048x1024, .f32⟩
  | .hbm, ⟨22, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x512x1408, .bf16⟩
  | .local _ .vmem, ⟨4, _⟩ => ⟨S1x512x1408, .bf16⟩
  | .local _ .vmem, ⟨5, _⟩ => ⟨S1408x1024, .bf16⟩
  | .local _ .vmem, ⟨6, _⟩ => ⟨S1408x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_8 : Index := 0#32
  ![v16.toNat, 0]
def k0_cond2 (i : grid0.Coords) : BitVec 1 :=
  let arg0 : BitVec 32 := BitVec.ofNat 32 (i 0).val
  let c0_i32_5 : BitVec 32 := 0#32
  let v10 : BitVec 1 := Scalar.cmpi .sgt arg0 c0_i32_5
  let v11 : BitVec 32 := Scalar.extui v10
  let c0_i32_6 : BitVec 32 := 0#32
  let v12 : BitVec 1 := Scalar.cmpi .ne v11 c0_i32_6
  v12

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_8 : Index := 0#32
  ![v16.toNat, 0]
def k0_cond3 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_7 : BitVec 32 := 0#32
  let v15 : BitVec 1 := Scalar.cmpi .ne v14 c0_i32_7
  v15

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_18 : Index := 0#32
  ![v38.toNat, 0]
def k0_cond4 (i : grid0.Coords) : BitVec 1 :=
  let arg1 : BitVec 32 := BitVec.ofNat 32 (i 1).val
  let c0_i32_29 : BitVec 32 := 0#32
  let v71 : BitVec 1 := Scalar.cmpi .eq arg1 c0_i32_29
  let v72 : BitVec 32 := Scalar.extui v71
  let c0_i32_30 : BitVec 32 := 0#32
  let v73 : BitVec 1 := Scalar.cmpi .ne v72 c0_i32_30
  v73

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024 : Shape := ⟨2, ![4, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2048x1024, .f32⟩
  | .hbm, ⟨7, _⟩ => ⟨S2048x5632, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x5632, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S_, .f32⟩
  | .hbm, ⟨95, _⟩ => ⟨S4x1024, .f32⟩
  | .hbm, ⟨96, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel11.lean ====
abbrev S2048x1024 : Shape := ⟨2, ![2048, 1024]⟩
abbrev S1024 : Shape := ⟨1, ![1024]⟩
abbrev S1024x6832 : Shape := ⟨2, ![1024, 6832]⟩
abbrev S2048x6832 : Shape := ⟨2, ![2048, 6832]⟩
abbrev S2048x32 : Shape := ⟨2, ![2048, 32]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x16 : Shape := ⟨2, ![1024, 16]⟩
abbrev S1024x32 : Shape := ⟨2, ![1024, 32]⟩
abbrev S2048x3072 : Shape := ⟨2, ![2048, 3072]⟩
abbrev S2048x512 : Shape := ⟨2, ![2048, 512]⟩
abbrev S2048x256 : Shape := ⟨2, ![2048, 256]⟩
abbrev S2048x128 : Shape := ⟨2, ![2048, 128]⟩
abbrev S2048x16 : Shape := ⟨2, ![2048, 16]⟩
abbrev S2048x384 : Shape := ⟨2, ![2048, 384]⟩
abbrev S2048x7296 : Shape := ⟨2, ![2048, 7296]⟩
abbrev S1024x3072 : Shape := ⟨2, ![1024, 3072]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024x384 : Shape := ⟨2, ![1024, 384]⟩
abbrev S1024x7296 : Shape := ⟨2, ![1024, 7296]⟩
abbrev S7296x1024 : Shape := ⟨2, ![7296, 1024]⟩
abbrev S512x1024 : Shape := ⟨2, ![512, 1024]⟩
abbrev S512x2432 : Shape := ⟨2, ![512, 2432]⟩
abbrev S2432x1024 : Shape := ⟨2, ![2432, 1024]⟩
abbrev S512 : Shape := ⟨1, ![512]⟩
abbrev S512x1 : Shape := ⟨2, ![512, 1]⟩

abbrev nBuf : Space → Nat
  | .hbm => 64
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x6832, .f32⟩
  | .hbm, ⟨5, _⟩ => ⟨S2048x6832, .f32⟩
  | .hbm, ⟨6, _⟩ => ⟨S2048x32, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S1024x16, .f32⟩
  | .hbm, ⟨15, _⟩ => ⟨S1024x16, .f32⟩
  | .hbm, ⟨16, _⟩ => ⟨S1024x32, .f32⟩
  | .hbm, ⟨17, _⟩ => ⟨S2048x3072, .f32⟩
  | .hbm, ⟨18, _⟩ => ⟨S2048x1024, .f32⟩
  | .hbm, ⟨19, _⟩ => ⟨S2048x1024, .f32⟩
  | .hbm, ⟨20, _⟩ => ⟨S2048x512, .f32⟩
  | .hbm, ⟨21, _⟩ => ⟨S2048x512, .f32⟩
  | .hbm, ⟨22, _⟩ => ⟨S2048x256, .f32⟩
  | .hbm, ⟨23, _⟩ => ⟨S2048x32, .f32⟩
  | .hbm, ⟨24, _⟩ => ⟨S_, .i32⟩
  | .hbm, ⟨25, _⟩ => ⟨S_, .f32⟩
  | .hbm, ⟨26, _⟩ => ⟨S2048x128, .f32⟩
  | .hbm, ⟨27, _⟩ => ⟨S_, .i32⟩
  | .hbm, ⟨28, _⟩ => ⟨S_, .f32⟩
  | .hbm, ⟨29, _⟩ => ⟨S2048x128, .f32⟩
  | .hbm, ⟨30, _⟩ => ⟨S2048x16, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x384, .f32⟩
  | .hbm, ⟨37, _⟩ => ⟨S2048x7296, .f32⟩
  | .hbm, ⟨38, _⟩ => ⟨S2048x7296, .bf16⟩
  | .hbm, ⟨39, _⟩ => ⟨S1024x3072, .f32⟩
  | .hbm, ⟨40, _⟩ => ⟨S1024x1024, .f32⟩
  | .hbm, ⟨41, _⟩ => ⟨S1024x1024, .f32⟩
  | .hbm, ⟨42, _⟩ => ⟨S1024x512, .f32⟩
  | .hbm, ⟨43, _⟩ => ⟨S1024x512, .f32⟩
  | .hbm, ⟨44, _⟩ => ⟨S1024x256, .f32⟩
  | .hbm, ⟨45, _⟩ => ⟨S1024x32, .f32⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S_, .i32⟩
  | .hbm, ⟨50, _⟩ => ⟨S_, .f32⟩
  | .hbm, ⟨51, _⟩ => ⟨S1024x128, .f32⟩
  | .hbm, ⟨52, _⟩ => ⟨S1024x16, .f32⟩
  | .hbm, ⟨53, _⟩ => ⟨S_, .i32⟩
  | .hbm, ⟨54, _⟩ => ⟨S_, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x384, .f32⟩
  | .hbm, ⟨59, _⟩ => ⟨S1024x7296, .f32⟩
  | .hbm, ⟨60, _⟩ => ⟨S1024x7296, .bf16⟩
  | .hbm, ⟨61, _⟩ => ⟨S7296x1024, .bf16⟩
  | .hbm, ⟨62, _⟩ => ⟨S2048x1024, .f32⟩
  | .hbm, ⟨63, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x2432, .bf16⟩
  | .local _ .vmem, ⟨4, _⟩ => ⟨S512x2432, .bf16⟩
  | .local _ .vmem, ⟨5, _⟩ => ⟨S2432x1024, .bf16⟩
  | .local _ .vmem, ⟨6, _⟩ => ⟨S2432x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_call2_v0 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_call3_v0 : Ref sig .tc := ⟨.hbm, 47, rfl⟩
abbrev main_v30 : Ref sig .tc := ⟨.hbm, 48, rfl⟩
abbrev main_c_4 : Ref sig .tc := ⟨.hbm, 49, rfl⟩
abbrev main_call4_v0 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_call5_v0 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_7 : Index := 0#32
  ![v16.toNat, 0]
def k0_cond2 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_7 : Index := 0#32
  ![v16.toNat, 0]
def k0_cond3 (i : grid0.Coords) : BitVec 1 :=
  let arg0 : BitVec 32 := BitVec.ofNat 32 (i 0).val
  let c2_i32 : BitVec 32 := 2#32
  let v13 : BitVec 1 := Scalar.cmpi .eq arg0 c2_i32
  let v14 : BitVec 32 := Scalar.extui v13
  let c0_i32_6 : BitVec 32 := 0#32
  let v15 : BitVec 1 := Scalar.cmpi .ne v14 c0_i32_6
  v15

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_17 : Index := 0#32
  ![v38.toNat, 0]
def k0_cond4 (i : grid0.Coords) : BitVec 1 :=
  let arg1 : BitVec 32 := BitVec.ofNat 32 (i 1).val
  let c0_i32_28 : BitVec 32 := 0#32
  let v71 : BitVec 1 := Scalar.cmpi .eq arg1 c0_i32_28
  let v72 : BitVec 32 := Scalar.extui v71
  let c0_i32_29 : BitVec 32 := 0#32
  let v73 : BitVec 1 := Scalar.cmpi .ne v72 c0_i32_29
  v73

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2432x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S2048x1024 : Shape := ⟨2, ![2048, 1024]⟩
abbrev S1024 : Shape := ⟨1, ![1024]⟩
abbrev S1024x6832 : Shape := ⟨2, ![1024, 6832]⟩
abbrev S2048x6832 : Shape := ⟨2, ![2048, 6832]⟩
abbrev S2048x32 : Shape := ⟨2, ![2048, 32]⟩
abbrev S1024x32 : Shape := ⟨2, ![1024, 32]⟩
abbrev S1024x16 : Shape := ⟨2, ![1024, 16]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x6832, .f32⟩
  | .hbm, ⟨5, _⟩ => ⟨S2048x6832, .f32⟩
  | .hbm, ⟨6, _⟩ => ⟨S2048x32, .f32⟩
  | .hbm, ⟨7, _⟩ => ⟨S2048x1024, .f32⟩
  | .hbm, ⟨8, _⟩ => ⟨S1024x32, .f32⟩
  | .hbm, ⟨9, _⟩ => ⟨S1024x16, .f32⟩
  | .hbm, ⟨10, _⟩ => ⟨S1024x16, .f32⟩
  | .hbm, ⟨11, _⟩ => ⟨S1024x32, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x6832, .f32⟩
  | .hbm, ⟨42, _⟩ => ⟨S2048x32, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S5x1024, .f32⟩
  | .hbm, ⟨90, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel12.lean ====
abbrev S2048x1024 : Shape := ⟨2, ![2048, 1024]⟩
abbrev S1024 : Shape := ⟨1, ![1024]⟩
abbrev S1024x6832 : Shape := ⟨2, ![1024, 6832]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x16 : Shape := ⟨2, ![1024, 16]⟩
abbrev S1024x32 : Shape := ⟨2, ![1024, 32]⟩
abbrev S1024x3072 : Shape := ⟨2, ![1024, 3072]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024x384 : Shape := ⟨2, ![1024, 384]⟩
abbrev S1024x7296 : Shape := ⟨2, ![1024, 7296]⟩
abbrev S7296x1024 : Shape := ⟨2, ![7296, 1024]⟩
abbrev S2048x7296 : Shape := ⟨2, ![2048, 7296]⟩
abbrev S2048x128 : Shape := ⟨2, ![2048, 128]⟩
abbrev S512x1024 : Shape := ⟨2, ![512, 1024]⟩
abbrev S2432x1024 : Shape := ⟨2, ![2432, 1024]⟩
abbrev S512x2432 : Shape := ⟨2, ![512, 2432]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x6832, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S5x1024, .f32⟩
  | .hbm, ⟨10, _⟩ => ⟨S8x1024, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S1024x3072, .f32⟩
  | .hbm, ⟨15, _⟩ => ⟨S1024x1024, .f32⟩
  | .hbm, ⟨16, _⟩ => ⟨S1024x1024, .f32⟩
  | .hbm, ⟨17, _⟩ => ⟨S1024x512, .f32⟩
  | .hbm, ⟨18, _⟩ => ⟨S1024x512, .f32⟩
  | .hbm, ⟨19, _⟩ => ⟨S1024x256, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x16, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S_, .f32⟩
  | .hbm, ⟨32, _⟩ => ⟨S1024x128, .f32⟩
  | .hbm, ⟨33, _⟩ => ⟨S1024x384, .f32⟩
  | .hbm, ⟨34, _⟩ => ⟨S1024x7296, .f32⟩
  | .hbm, ⟨35, _⟩ => ⟨S1024x7296, .bf16⟩
  | .hbm, ⟨36, _⟩ => ⟨S7296x1024, .bf16⟩
  | .hbm, ⟨37, _⟩ => ⟨S2048x7296, .f32⟩
  | .hbm, ⟨38, _⟩ => ⟨S2048x1024, .bf16⟩
  | .hbm, ⟨39, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S2432x1024, .bf16⟩
  | .local _ .vmem, ⟨4, _⟩ => ⟨S2432x1024, .bf16⟩
  | .local _ .vmem, ⟨5, _⟩ => ⟨S512x2432, .f32⟩
  | .local _ .vmem, ⟨6, _⟩ => ⟨S512x2432, .f32⟩
  | .local _ .vmem, ⟨7, _⟩ => ⟨S512x1024, .bf16⟩
  | .local _ .vmem, ⟨8, _⟩ => ⟨S512x1024, .bf16⟩
  | .local _ .vmem, ⟨9, _⟩ => ⟨S512x128, .f32⟩
  | .local _ .vmem, ⟨10, _⟩ => ⟨S512x128, .f32⟩
  | .local _ .vmem, ⟨11, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call2_v0 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v40 : Index := Scalar.indexCast v1
  let c0_16 : Index := 0#32
  ![v40.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v5 : Index := Scalar.indexCast v1
  let c0 : Index := 0#32
  ![v5.toNat, 0]
def k0_cond2 (i : grid0.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c3_i32 : BitVec 32 := 3#32
  let v2 : BitVec 32 := Scalar.select v1 arg1 c3_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2048x1024 : Shape := ⟨2, ![2048, 1024]⟩
abbrev S1024 : Shape := ⟨1, ![1024]⟩
abbrev S1024x6832 : Shape := ⟨2, ![1024, 6832]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x16 : Shape := ⟨2, ![1024, 16]⟩
abbrev S1024x32 : Shape := ⟨2, ![1024, 32]⟩
abbrev S2048x6832 : Shape := ⟨2, ![2048, 6832]⟩
abbrev S2048x32 : Shape := ⟨2, ![2048, 32]⟩
abbrev S2048x384 : Shape := ⟨2, ![2048, 384]⟩
abbrev S2048x256 : Shape := ⟨2, ![2048, 256]⟩
abbrev S2048x512 : Shape := ⟨2, ![2048, 512]⟩
abbrev S2048x16 : Shape := ⟨2, ![2048, 16]⟩
abbrev S2048x3072 : Shape := ⟨2, ![2048, 3072]⟩
abbrev S2048x128 : Shape := ⟨2, ![2048, 128]⟩
abbrev S2048x7296 : Shape := ⟨2, ![2048, 7296]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x6832, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1024x16, .f32⟩
  | .hbm, ⟨31, _⟩ => ⟨S1024x16, .f32⟩
  | .hbm, ⟨32, _⟩ => ⟨S1024x32, .f32⟩
  | .hbm, ⟨33, _⟩ => ⟨S2048x6832, .f32⟩
  | .hbm, ⟨34, _⟩ => ⟨S2048x32, .f32⟩
  | .hbm, ⟨35, _⟩ => ⟨S2048x384, .f32⟩
  | .hbm, ⟨36, _⟩ => ⟨S2048x256, .f32⟩
  | .hbm, ⟨37, _⟩ => ⟨S2048x32, .f32⟩
  | .hbm, ⟨38, _⟩ => ⟨S2048x512, .f32⟩
  | .hbm, ⟨39, _⟩ => ⟨S2048x1024, .f32⟩
  | .hbm, ⟨40, _⟩ => ⟨S2048x1024, .f32⟩
  | .hbm, ⟨41, _⟩ => ⟨S2048x512, .f32⟩
  | .hbm, ⟨42, _⟩ => ⟨S2048x16, .f32⟩
  | .hbm, ⟨43, _⟩ => ⟨S2048x3072, .f32⟩
  | .hbm, ⟨44, _⟩ => ⟨S_, .f32⟩
  | .hbm, ⟨45, _⟩ => ⟨S2048x128, .f32⟩
  | .hbm, ⟨46, _⟩ => ⟨S_, .f32⟩
  | .hbm, ⟨47, _⟩ => ⟨S2048x128, .f32⟩
  | .hbm, ⟨48, _⟩ => ⟨S_, .f32⟩
  | .hbm, ⟨49, _⟩ => ⟨S2048x128, .f32⟩
  | .hbm, ⟨50, _⟩ => ⟨S_, .f32⟩
  | .hbm, ⟨51, _⟩ => ⟨S2048x128, .f32⟩
  | .hbm, ⟨52, _⟩ => ⟨S2048x7296, .f32⟩
  | .hbm, ⟨53, _⟩ => ⟨S2048x1024, .bf16⟩
  | .hbm, ⟨54, _⟩ => ⟨S_, .f32⟩
  | .hbm, ⟨55, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.AttnModel.lean ====
/- The gradient of masked softmax attention over the real numbers, and the few facts by which extended real expressions
   are seen to be real ones: a finite sum of reals, the largest of the unmasked scores, a quotient by a positive sum. -/
module

public import Idealize.ShloMosaic.PureOps.Ideal.Laws

@[expose] public section

noncomputable section

namespace Cert.Attn

open Idealize.ShloMosaic

/-! ## Extended reals that are reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_mul {ι : Type*} [Fintype ι] (f g : ι → ℝ) :
    (∑ i, (f i : EReal) * (g i : EReal)) = ((∑ i, f i * g i : ℝ) : EReal) := by
  rw [coe_sum]; exact Finset.sum_congr rfl fun i _ => (EReal.coe_mul _ _).symm

theorem div_coe_coe (x : ℝ) {y : ℝ} (h : y ≠ 0) : Ideal.div (x : EReal) (y : EReal) = ((x / y : ℝ) : EReal) := by
  rw [Ideal.div_coe h, ← EReal.coe_mul, mul_one_div]

/-- A finite extended real is the real it rounds to. -/
theorem coe_of_abs_lt {a : EReal} (h : max a (-a) < ⊤) : ((a.toReal : ℝ) : EReal) = a := by
  refine EReal.coe_toReal (fun e => ?_) (fun e => ?_)
  · subst e; simp at h
  · subst e; simp at h

/-- The largest of the scores not masked: the scores after position `R` count as minus infinity. -/
theorem fold_max_masked {n : ℕ} (R : ℕ) (s : Fin n → ℝ) (M : ℝ) (hle : ∀ c : Fin n, c.val ≤ R → s c ≤ M)
    (hat : ∃ c : Fin n, c.val ≤ R ∧ s c = M) :
    Finset.univ.fold max (⊥ : EReal) (fun c : Fin n => if c.val ≤ R then (s c : EReal) else ⊥) = (M : EReal) := by
  refine le_antisymm (Finset.fold_max_le _ |>.mpr ⟨bot_le, fun c _ => ?_⟩) ?_
  · by_cases h : c.val ≤ R
    · simpa [h] using hle c h
    · simp [h]
  · obtain ⟨c, hc, he⟩ := hat
    refine (Finset.le_fold_max _).mpr (Or.inr ⟨c, Finset.mem_univ c, ?_⟩)
    simp [hc, he]

/-! ## The gradient over the reals -/

variable (s dp : Fin 2048 → Fin 2048 → ℝ) (σ : ℝ)

/-- The largest score of row `R`. -/
def mx (R : Fin 2048) : ℝ := (Finset.Iic R).sup' ⟨R, Finset.mem_Iic.mpr le_rfl⟩ (s R)
/-- The exponentials of row `R`, zero where masked. -/
def ex (R C : Fin 2048) : ℝ := if C.val ≤ R.val then Real.exp (s R C - mx s R) else 0
def den (R : Fin 2048) : ℝ := ∑ C, ex s R C
/-- The attention probabilities. -/
def pr (R C : Fin 2048) : ℝ := ex s R C / den s R
/-- What the softmax passes back: `p (dp − Σ p dp)`, times the scale of the scores. -/
def ds (R C : Fin 2048) : ℝ := pr s R C * (dp R C - ∑ C', pr s R C' * dp R C') * σ

theorem mx_le (R C : Fin 2048) (h : C.val ≤ R.val) : s R C ≤ mx s R :=
  Finset.le_sup' (s R) (Finset.mem_Iic.mpr (Fin.le_def.mpr h))

theorem mx_at (R : Fin 2048) : ∃ C : Fin 2048, C.val ≤ R.val ∧ s R C = mx s R := by
  obtain ⟨C, hC, he⟩ := Finset.exists_mem_eq_sup' (s := Finset.Iic R) ⟨R, Finset.mem_Iic.mpr le_rfl⟩ (s R)
  exact ⟨C, Fin.le_def.mp (Finset.mem_Iic.mp hC), he.symm⟩

theorem ex_nonneg (R C : Fin 2048) : 0 ≤ ex s R C := by
  unfold ex; split
  · exact (Real.exp_pos _).le
  · exact le_rfl

theorem ex_masked (R C : Fin 2048) (h : ¬ C.val ≤ R.val) : ex s R C = 0 := if_neg h

theorem den_pos (R : Fin 2048) : 0 < den s R := by
  refine Finset.sum_pos' (fun C _ => ex_nonneg s R C) ⟨R, Finset.mem_univ R, ?_⟩
  rw [ex, if_pos le_rfl]; exact Real.exp_pos _

theorem den_ne (R : Fin 2048) : den s R ≠ 0 := (den_pos s R).ne'

theorem pr_masked (R C : Fin 2048) (h : ¬ C.val ≤ R.val) : pr s R C = 0 := by rw [pr, ex_masked s R C h, zero_div]
theorem ds_masked (R C : Fin 2048) (h : ¬ C.val ≤ R.val) : ds s dp σ R C = 0 := by
  rw [ds, pr_masked s R C h, zero_mul, zero_mul]

/-- The quotient rule's form of the same: `(dp / L − Σ dp (1 / L²) e) e` is `p (dp − Σ p dp)`. -/
theorem ds_quotient (R C : Fin 2048) :
    (dp R C / den s R + -(∑ C', dp R C' * (1 / (den s R * den s R)) * ex s R C')) * ex s R C * σ = ds s dp σ R C := by
  have h : (∑ C', dp R C' * (1 / (den s R * den s R)) * ex s R C') = (∑ C', pr s R C' * dp R C') / den s R := by
    rw [Finset.sum_div]
    refine Finset.sum_congr rfl fun C' _ => ?_
    rw [pr]; have := den_ne s R; field_simp
  rw [h, ds, pr]; have := den_ne s R; field_simp; ring

/-- The row sum of `dout` times the attention's output is the row sum of the probabilities times `dp`. -/
theorem delta_eq {n m : ℕ} (g : Fin m → ℝ) (p : Fin n → ℝ) (v : Fin n → Fin m → ℝ) :
    ∑ d, g d * ∑ c, p c * v c d = ∑ c, p c * ∑ d, g d * v c d := by
  simp only [Finset.mul_sum]
  rw [Finset.sum_comm]
  exact Finset.sum_congr rfl fun c _ => Finset.sum_congr rfl fun d _ => by ring

/-- A sum over the first `n` columns is the whole sum if the rest is zero. -/
theorem sum_prefix {N n : ℕ} (h : n ≤ N) (f : Fin N → ℝ) (hz : ∀ C : Fin N, n ≤ C.val → f C = 0) :
    ∑ c : Fin n, f (Fin.castLE h c) = ∑ C, f C := by
  obtain ⟨k, rfl⟩ := Nat.exists_eq_add_of_le h
  rw [Fin.sum_univ_add]
  rw [Finset.sum_eq_zero (s := Finset.univ) (f := fun i : Fin k => f (Fin.natAdd n i)) (fun i _ => hz _ (by simp)), add_zero]
  rfl

end Cert.Attn

end
-- ==== Proof.AttnTile.lean ====
/- One block of 256 rows of the attention's gradient, with the first `n` columns, for any `n`: the operations the kernel's
   body runs for it, and what they leave, at the ideal values, in terms of the real gradient of AttnModel. The kernel runs
   this for eight sizes. -/
module

public import proofs.«01_k».proof.Proof.AttnModel
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Attn

open Idealize.ShloMosaic Idealize.ShloMosaic.ValueIdx

/-- A matrix shape. -/
abbrev Mat (a b : ℕ) : Shape := ⟨2, ![a, b]⟩

/-! ## A product that contracts the rows of both, row reductions, and the causal comparison, at an index -/

/-- `[K,M]ᵀ × [K,N]`. -/
abbrev tnDims (K M N : ℕ) (wf : DotDims.WF (Mat K M) (Mat K N) (Mat M N) [0] [0] [1] [1] [] []) :
    DotDims (Mat K M) (Mat K N) (Mat M N) where
  lhsContracting := [0]
  rhsContracting := [0]
  lhsNonContracting := [1]
  rhsNonContracting := [1]
  lhsBatch := []
  rhsBatch := []
  wf := wf

theorem matmul_tn_apply {K M N : ℕ} {φ₁ φ₂ : FTy} (wf : DotDims.WF (Mat K M) (Mat K N) (Mat M N) [0] [0] [1] [1] [] [])
    (prec : Option ContractPrecision) (lhs : FVec Ideal (Mat K M) φ₁) (rhs : FVec Ideal (Mat K N) φ₂)
    (acc : FVec Ideal (Mat M N) .f32) (r : Fin M) (c : Fin N) :
    FloatOps.matmul (tnDims K M N wf) prec lhs rhs acc (ix2 r c) = acc (ix2 r c) + ∑ k : Fin K, lhs (ix2 k r) * rhs (ix2 k c) := by
  have hr : (tnDims K M N wf).contr.rank = 1 := rfl
  have hs : (tnDims K M N wf).contr.size ⟨0, by omega⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  congr 2
  · funext a; apply Fin.ext
    match a with
    | ⟨0, _⟩ => exact hk
    | ⟨1, _⟩ => rfl
  · funext a; apply Fin.ext
    match a with
    | ⟨0, _⟩ => exact hk
    | ⟨1, _⟩ => rfl

theorem lift_row {a b : ℕ} (h : (Mat a b).Reduces [1] ⟨1, ![a]⟩) (r : Fin a) (k : Fin b) :
    h.lift (ix1 r) k = ix2 r k := by
  funext c; apply Fin.ext
  match c with
  | ⟨0, _⟩ => rfl
  | ⟨1, _⟩ => rfl

/-- The sum of each row. -/
def rowSum {F : FTy → Type} [FloatOps F] {a b : ℕ} (src : FVec F (Mat a b) .f32) (h : (Mat a b).Reduces [1] ⟨1, ![a]⟩) : FVec F ⟨1, ![a]⟩ .f32 :=
  multiReduction .add [1] ⟨1, ![a]⟩ src 0x00000000#32 h (.inl rfl) rfl
/-- The largest element of each row. -/
def rowMax {F : FTy → Type} [FloatOps F] {a b : ℕ} (src : FVec F (Mat a b) .f32) (h : (Mat a b).Reduces [1] ⟨1, ![a]⟩) : FVec F ⟨1, ![a]⟩ .f32 :=
  multiReduction .maximumf [1] ⟨1, ![a]⟩ src 0xFF800000#32 h (.inl rfl) rfl

theorem rowSum_apply {a b : ℕ} (src : FVec Ideal (Mat a b) .f32) (h : (Mat a b).Reduces [1] ⟨1, ![a]⟩) (r : Fin a) :
    rowSum src h (ix1 r) = ∑ k : Fin b, src (ix2 r k) :=
  (Ideal.multiReduction_add_single src _ h _ _ _).trans (Finset.sum_congr rfl fun k _ => congrArg src (lift_row h r k))

theorem rowMax_apply {a b : ℕ} (src : FVec Ideal (Mat a b) .f32) (h : (Mat a b).Reduces [1] ⟨1, ![a]⟩) (r : Fin a) :
    rowMax src h (ix1 r) = Finset.univ.fold max (Ideal.ofBits .f32 0xFF800000#32) (fun k : Fin b => src (ix2 r k)) :=
  (Ideal.multiReduction_maximumf_single src _ h _ _ _).trans
    (congrArg (Finset.univ.fold max (Ideal.ofBits .f32 0xFF800000#32)) (funext fun k => congrArg src (lift_row h r k)))

theorem colBroadcast_apply {α : Type} {a b : ℕ} (x : (Mat a 1).Idx → α) (h : (Mat a 1).Broadcasts (Mat a b)) (r : Fin a) (c : Fin b) :
    broadcastTo (Mat a b) x h (ix2 r c) = x (ix2 r 0) :=
  broadcastTo_apply x h _ _ fun d => match d with
    | ⟨0, _⟩ => by
        show r.val = if a = 1 then 0 else r.val
        split
        · have := r.isLt; omega
        · rfl
    | ⟨1, _⟩ => rfl

theorem sle_small (x y : ℕ) (hx : x < 4096) (hy : y < 4096) : IntOp.cmpi .sle (BitVec.ofNat 32 x) (BitVec.ofNat 32 y) = 1 ↔ x ≤ y := by
  have hx' : (BitVec.ofNat 32 x).toInt = x := by
    rw [BitVec.toInt_eq_toNat_of_lt] <;> simp [BitVec.toNat_ofNat] <;> omega
  have hy' : (BitVec.ofNat 32 y).toInt = y := by
    rw [BitVec.toInt_eq_toNat_of_lt] <;> simp [BitVec.toNat_ofNat] <;> omega
  show BitVec.ofBool ((BitVec.ofNat 32 x).sle (BitVec.ofNat 32 y)) = 1 ↔ _
  rw [BitVec.sle_eq_decide, hx', hy']
  by_cases h : x ≤ y <;> simp [h]

/-! ## The operations of one row block -/

/-- The shape conditions the operations state, at `n` columns. -/
structure Conds (n : ℕ) : Prop where
  iota0 : (Mat 256 n).Iotas .tc 32 [0]
  iota1 : (Mat 256 n).Iotas .tc 32 [1]
  red : (Mat 256 n).Reduces [1] ⟨1, ![256]⟩
  bc : (Mat 256 1).Broadcasts (Mat 256 n)
  sc : (⟨1, ![256]⟩ : Shape).ShapeCasts (Mat 256 1)
  redv : (Mat 256 128).Reduces [1] ⟨1, ![256]⟩
  bits : FTy.bf16.bits < FTy.f32.bits
  tnk : DotDims.WF (Mat 256 n) (Mat 256 256) (Mat n 256) [0] [0] [1] [1] [] []
  tnv : DotDims.WF (Mat 256 n) (Mat 256 128) (Mat n 128) [0] [0] [1] [1] [] []

/-- They hold at every number of columns. -/
theorem condsAt (n : ℕ) : Conds n where
  iota0 := ⟨by simp, fun _ => ⟨.inr rfl, le_rfl⟩, fun h => absurd rfl h⟩
  iota1 := ⟨by simp, fun _ => ⟨.inr rfl, le_rfl⟩, fun h => absurd rfl h⟩
  red := ⟨rfl, Nat.one_pos, fun b => match b with | ⟨0, _⟩ => rfl⟩
  bc := ⟨le_rfl, fun a => match a with | ⟨0, _⟩ => .inr fun _ => rfl | ⟨1, _⟩ => .inl rfl⟩
  sc := by decide
  redv := by decide
  bits := by decide
  tnk := ⟨rfl, by simp, rfl, by simp, by simp, by simp, (by decide : ([1, 0] : List (Fin 2)).Perm (List.finRange 2)),
    (by decide : ([1, 0] : List (Fin 2)).Perm (List.finRange 2)), rfl,
    by show 0 < 2; decide, fun a => match a with | ⟨0, _⟩ => rfl | ⟨1, _⟩ => rfl⟩
  tnv := ⟨rfl, by simp, rfl, by simp, by simp, by simp, (by decide : ([1, 0] : List (Fin 2)).Perm (List.finRange 2)),
    (by decide : ([1, 0] : List (Fin 2)).Perm (List.finRange 2)), rfl,
    by show 0 < 2; decide, fun a => match a with | ⟨0, _⟩ => rfl | ⟨1, _⟩ => rfl⟩

section Ops
variable {F : FTy → Type} [FloatOps F] {n : ℕ} (hc : Conds n) (off : BitVec 32)
  (q : FVec F (Mat 256 256) .bf16) (k : FVec F (Mat n 256) .bf16) (v : FVec F (Mat n 128) .bf16) (g : FVec F (Mat 256 128) .f32)

/-- The scaled scores, minus infinity where masked. -/
def score : FVec F (Mat 256 n) .f32 :=
  select (cmpi .sle (iota .tc (Mat 256 n) 32 [1] hc.iota1) (addi (iota .tc (Mat 256 n) 32 [0] hc.iota0) (broadcast (Mat 256 n) off)))
    (mulf (matmul (DotDims.transposedRhs 256 256 n) none q k (constant (Mat 256 n) .f32 0x00000000#32))
      (broadcast (Mat 256 n) (Scalar.ofBits .f32 0x3DD105EC#32 : F .f32)))
    (broadcast (Mat 256 n) (Scalar.ofBits .f32 0xFF800000#32 : F .f32))

/-- A column of one value per row, copied along the row. -/
def spread (x : FVec F ⟨1, ![256]⟩ .f32) : FVec F (Mat 256 n) .f32 :=
  broadcastTo (Mat 256 n) (shapeCast (Mat 256 1) x hc.sc) hc.bc

def expo : FVec F (Mat 256 n) .f32 :=
  exp (subf (score hc off q k) (spread hc (rowMax (score hc off q k) hc.red)))

def prob : FVec F (Mat 256 n) .f32 :=
  divf (expo hc off q k) (spread hc (rowSum (expo hc off q k) hc.red))

def delta : FVec F ⟨1, ![256]⟩ .f32 :=
  rowSum
    (mulf g (matmul (DotDims.plain 256 n 128) none (truncf .bf16 (prob hc off q k) hc.bits) v (constant (Mat 256 128) .f32 0x00000000#32)))
    hc.redv

def dscore : FVec F (Mat 256 n) .f32 :=
  mulf (mulf (prob hc off q k)
      (subf (matmul (DotDims.transposedRhs 256 128 n) none (truncf .bf16 g hc.bits) v (constant (Mat 256 n) .f32 0x00000000#32))
        (spread hc (delta hc off q k v g))))
    (broadcast (Mat 256 n) (Scalar.ofBits .f32 0x3DD105EC#32 : F .f32))

def dqTile : FVec F (Mat 256 256) .f32 :=
  matmul (DotDims.plain 256 n 256) none (truncf .bf16 (dscore hc off q k v g) hc.bits) k (constant (Mat 256 256) .f32 0x00000000#32)

def dkTile : FVec F (Mat n 256) .f32 :=
  matmul (tnDims 256 n 256 hc.tnk) none (truncf .bf16 (dscore hc off q k v g) hc.bits) q (constant (Mat n 256) .f32 0x00000000#32)

def dvTile : FVec F (Mat n 128) .f32 :=
  matmul (tnDims 256 n 128 hc.tnv) none (truncf .bf16 (prob hc off q k) hc.bits) (truncf .bf16 g hc.bits) (constant (Mat n 128) .f32 0x00000000#32)

end Ops

/-! ## Their values over the reals -/

/-- The scale of the scores, as the real number its word denotes. -/
def scale : ℝ := (Ideal.ofBits .f32 0x3DD105EC#32).toReal

theorem scale_coe : Ideal.ofBits .f32 0x3DD105EC#32 = (scale : EReal) := by
  refine (EReal.coe_toReal ?_ ?_).symm <;> simp [Ideal.ofBits, Ideal.ieee, -EReal.coe_mul]

theorem neg_inf : Ideal.ofBits .f32 0xFF800000#32 = (⊥ : EReal) := by
  simp [Ideal.ofBits, Ideal.ieee]

theorem zero_word : Ideal.ofBits .f32 0x00000000#32 = (0 : EReal) := by
  simp [Ideal.ofBits, Ideal.ieee]

variable (Q K : Fin 2048 → Fin 256 → ℝ) (V G : Fin 2048 → Fin 128 → ℝ)

/-- The scaled scores. -/
def scoreR (R C : Fin 2048) : ℝ := (∑ d, Q R d * K C d) * scale
/-- The gradient of the probabilities. -/
def dprobR (R C : Fin 2048) : ℝ := ∑ d, G R d * V C d
/-- The attention's probabilities. -/
abbrev probR : Fin 2048 → Fin 2048 → ℝ := pr (scoreR Q K)
/-- The gradient of the scores before their scale, times the scale. -/
abbrev dscoreR : Fin 2048 → Fin 2048 → ℝ := ds (scoreR Q K) (dprobR V G) scale

/-- The rows of a block. -/
abbrev rowAt (a n : ℕ) (han : n = a + 256) (hn : n ≤ 2048) (r : Fin 256) : Fin 2048 := ⟨a + r.val, by omega⟩

/-- What the operands of a block hold. -/
structure Holds (a n : ℕ) (han : n = a + 256) (hn : n ≤ 2048) (q : FVec Ideal (Mat 256 256) .bf16) (k : FVec Ideal (Mat n 256) .bf16)
    (v : FVec Ideal (Mat n 128) .bf16) (g : FVec Ideal (Mat 256 128) .f32) : Prop where
  q : ∀ r d, q (ix2 r d) = ((Q (rowAt a n han hn r) d : ℝ) : EReal)
  k : ∀ c d, k (ix2 c d) = ((K (Fin.castLE hn c) d : ℝ) : EReal)
  v : ∀ c d, v (ix2 c d) = ((V (Fin.castLE hn c) d : ℝ) : EReal)
  g : ∀ r d, g (ix2 r d) = ((G (rowAt a n han hn r) d : ℝ) : EReal)

section Values
variable {Q K V G} {a n : ℕ} {han : n = a + 256} {hn : n ≤ 2048} {q : FVec Ideal (Mat 256 256) .bf16} {k : FVec Ideal (Mat n 256) .bf16}
  {v : FVec Ideal (Mat n 128) .bf16} {g : FVec Ideal (Mat 256 128) .f32} (hc : Conds n) (H : Holds Q K V G a n han hn q k v g)
include H

theorem score_apply (r : Fin 256) (c : Fin n) :
    score hc (BitVec.ofNat 32 a) q k (ix2 r c)
      = if c.val ≤ a + r.val then ((scoreR Q K (rowAt a n han hn r) (Fin.castLE hn c) : ℝ) : EReal) else ⊥ := by
  have hb : cmpi .sle (iota .tc (Mat 256 n) 32 [1] hc.iota1) (addi (iota .tc (Mat 256 n) 32 [0] hc.iota0) (broadcast (Mat 256 n) (BitVec.ofNat 32 a)))
      (ix2 r c) = 1 ↔ c.val ≤ a + r.val := by
    show IntOp.cmpi .sle (iota .tc (Mat 256 n) 32 [1] hc.iota1 (ix2 r c))
      (iota .tc (Mat 256 n) 32 [0] hc.iota0 (ix2 r c) + BitVec.ofNat 32 a) = 1 ↔ _
    rw [iota_single_apply, iota_single_apply, ← BitVec.ofNat_add]
    have h1 := r.isLt
    have h2 := c.isLt
    rw [sle_small _ _ (by show c.val < 4096; omega) (by show r.val + a < 4096; omega)]
    show c.val ≤ r.val + a ↔ _
    omega
  have hs : mulf (matmul (DotDims.transposedRhs 256 256 n) none q k (constant (Mat 256 n) .f32 0x00000000#32))
      (broadcast (Mat 256 n) (Scalar.ofBits .f32 0x3DD105EC#32 : Ideal .f32)) (ix2 r c)
      = ((scoreR Q K (rowAt a n han hn r) (Fin.castLE hn c) : ℝ) : EReal) := by
    rw [mulf_apply]
    show FloatOps.matmul (DotDims.transposedRhs 256 256 n) none q k _ (ix2 r c) * Ideal.ofBits .f32 0x3DD105EC#32 = _
    rw [Ideal.matmul_transposedRhs_apply, constant_apply, zero_word, zero_add, scale_coe]
    simp only [H.q, H.k]
    rw [coe_sum_mul, ← EReal.coe_mul]; rfl
  unfold score
  rw [select_apply, Scalar.select, hs]
  by_cases h : c.val ≤ a + r.val
  · rw [if_pos (hb.mpr h), if_pos h]
  · rw [if_neg (fun e => h (hb.mp e)), if_neg h]
    exact neg_inf

omit H in
theorem spread_apply (x : FVec Ideal ⟨1, ![256]⟩ .f32) (r : Fin 256) (c : Fin n) : spread hc x (ix2 r c) = x (ix1 r) := by
  unfold spread
  rw [colBroadcast_apply, shapeCast_a_a1_apply]

theorem rowMax_score (r : Fin 256) :
    rowMax (score hc (BitVec.ofNat 32 a) q k) hc.red (ix1 r)
      = ((mx (scoreR Q K) (rowAt a n han hn r) : ℝ) : EReal) := by
  rw [rowMax_apply, neg_inf]
  simp only [score_apply hc H]
  refine fold_max_masked (a + r.val) (fun c => scoreR Q K (rowAt a n han hn r) (Fin.castLE hn c)) _
    (fun c h => mx_le _ _ _ h) ?_
  obtain ⟨C, hC, he⟩ := mx_at (scoreR Q K) (rowAt a n han hn r)
  exact ⟨⟨C.val, by have := r.isLt; have : C.val ≤ a + r.val := hC; omega⟩, hC, he⟩

theorem expo_apply (r : Fin 256) (c : Fin n) :
    expo hc (BitVec.ofNat 32 a) q k (ix2 r c) = ((ex (scoreR Q K) (rowAt a n han hn r) (Fin.castLE hn c) : ℝ) : EReal) := by
  show Ideal.exp (subf (score hc (BitVec.ofNat 32 a) q k) (spread hc (rowMax (score hc (BitVec.ofNat 32 a) q k) hc.red)) (ix2 r c)) = _
  rw [subf_apply, spread_apply, rowMax_score hc H, score_apply hc H, ex]
  by_cases h : c.val ≤ a + r.val
  · have h' : (Fin.castLE hn c).val ≤ (rowAt a n han hn r).val := h
    rw [if_pos h, if_pos h', ← EReal.coe_sub]; rfl
  · have h' : ¬ (Fin.castLE hn c).val ≤ (rowAt a n han hn r).val := h
    rw [if_neg h, if_neg h', EReal.bot_sub]; rfl

omit H in
theorem sum_cols (f : Fin 2048 → ℝ) (hz : ∀ C : Fin 2048, n ≤ C.val → f C = 0) :
    (∑ c : Fin n, ((f (Fin.castLE hn c) : ℝ) : EReal)) = ((∑ C, f C : ℝ) : EReal) := by
  rw [← coe_sum, sum_prefix hn f hz]

omit H in
theorem past (r : Fin 256) (C : Fin 2048) (h : n ≤ C.val) : ¬ C.val ≤ (rowAt a n han hn r).val := by
  have := r.isLt; show ¬ C.val ≤ a + r.val; omega

theorem prob_apply (r : Fin 256) (c : Fin n) :
    prob hc (BitVec.ofNat 32 a) q k (ix2 r c) = ((probR Q K (rowAt a n han hn r) (Fin.castLE hn c) : ℝ) : EReal) := by
  unfold prob
  rw [divf_apply, spread_apply, rowSum_apply]
  simp only [expo_apply hc H]
  rw [sum_cols (ex (scoreR Q K) (rowAt a n han hn r)) (fun C h => ex_masked _ _ _ (past r C h))]
  exact div_coe_coe _ (den_ne _ _)

theorem delta_apply (r : Fin 256) :
    delta hc (BitVec.ofNat 32 a) q k v g (ix1 r)
      = ((∑ C, probR Q K (rowAt a n han hn r) C * dprobR V G (rowAt a n han hn r) C : ℝ) : EReal) := by
  unfold delta
  rw [rowSum_apply]
  have h : ∀ d : Fin 128, mulf g (matmul (DotDims.plain 256 n 128) none (truncf .bf16 (prob hc (BitVec.ofNat 32 a) q k) hc.bits) v
      (constant (Mat 256 128) .f32 0x00000000#32)) (ix2 r d)
      = ((G (rowAt a n han hn r) d * ∑ C, probR Q K (rowAt a n han hn r) C * V C d : ℝ) : EReal) := by
    intro d
    rw [mulf_apply]
    show g (ix2 r d) * FloatOps.matmul (DotDims.plain 256 n 128) none (truncf .bf16 (prob hc (BitVec.ofNat 32 a) q k) hc.bits) v _ (ix2 r d) = _
    rw [Ideal.matmul_plain_apply, constant_apply, zero_word, zero_add]
    simp only [truncf_apply, prob_apply hc H, H.v, H.g, ← EReal.coe_mul]
    rw [sum_cols (fun C => probR Q K (rowAt a n han hn r) C * V C d) (fun C h => by rw [probR, pr_masked _ _ _ (past r C h), zero_mul])]
    rw [← EReal.coe_mul]
  simp only [h]
  rw [← coe_sum, delta_eq]
  rfl

theorem dscore_apply (r : Fin 256) (c : Fin n) :
    dscore hc (BitVec.ofNat 32 a) q k v g (ix2 r c)
      = ((dscoreR Q K V G (rowAt a n han hn r) (Fin.castLE hn c) : ℝ) : EReal) := by
  unfold dscore
  rw [mulf_apply, mulf_apply, subf_apply, spread_apply, delta_apply hc H, prob_apply hc H]
  show _ * (FloatOps.matmul (DotDims.transposedRhs 256 128 n) none (truncf .bf16 g hc.bits) v _ (ix2 r c) - _) * Ideal.ofBits .f32 0x3DD105EC#32 = _
  rw [Ideal.matmul_transposedRhs_apply, constant_apply, zero_word, zero_add, scale_coe]
  simp only [truncf_apply, H.v, H.g]
  rw [coe_sum_mul, ← EReal.coe_sub, ← EReal.coe_mul, ← EReal.coe_mul]
  rfl

theorem dqTile_apply (r d : Fin 256) :
    dqTile hc (BitVec.ofNat 32 a) q k v g (ix2 r d)
      = ((∑ C, dscoreR Q K V G (rowAt a n han hn r) C * K C d : ℝ) : EReal) := by
  show FloatOps.matmul (DotDims.plain 256 n 256) none (truncf .bf16 (dscore hc (BitVec.ofNat 32 a) q k v g) hc.bits) k _ (ix2 r d) = _
  rw [Ideal.matmul_plain_apply, constant_apply, zero_word, zero_add]
  simp only [truncf_apply, dscore_apply hc H, H.k, ← EReal.coe_mul]
  rw [sum_cols (fun C => dscoreR Q K V G (rowAt a n han hn r) C * K C d) (fun C h => by rw [dscoreR, ds_masked _ _ _ _ _ (past r C h), zero_mul])]

theorem dkTile_apply (c : Fin n) (d : Fin 256) :
    dkTile hc (BitVec.ofNat 32 a) q k v g (ix2 c d)
      = ((∑ r : Fin 256, dscoreR Q K V G (rowAt a n han hn r) (Fin.castLE hn c) * Q (rowAt a n han hn r) d : ℝ) : EReal) := by
  show FloatOps.matmul (tnDims 256 n 256 hc.tnk) none (truncf .bf16 (dscore hc (BitVec.ofNat 32 a) q k v g) hc.bits) q _ (ix2 c d) = _
  rw [matmul_tn_apply, constant_apply, zero_word, zero_add]
  simp only [truncf_apply, dscore_apply hc H, H.q]
  rw [coe_sum_mul]

theorem dvTile_apply (c : Fin n) (d : Fin 128) :
    dvTile hc (BitVec.ofNat 32 a) q k g (ix2 c d)
      = ((∑ r : Fin 256, probR Q K (rowAt a n han hn r) (Fin.castLE hn c) * G (rowAt a n han hn r) d : ℝ) : EReal) := by
  show FloatOps.matmul (tnDims 256 n 128 hc.tnv) none (truncf .bf16 (prob hc (BitVec.ofNat 32 a) q k) hc.bits) (truncf .bf16 g hc.bits) _ (ix2 c d) = _
  rw [matmul_tn_apply, constant_apply, zero_word, zero_add]
  simp only [truncf_apply, prob_apply hc H, H.g]
  rw [coe_sum_mul]

end Values

end Cert.Attn

end
-- ==== Proof.AttnBlocks.lean ====
/- The eight row blocks of the attention's gradient in the order the kernel's body runs them: the stores it makes into each
   of its three outputs, and what these outputs hold afterwards. -/
module

public import proofs.«01_k».proof.Proof.AttnTile
public import Idealize.ShloMosaic.Lib.Pipeline.FrameBody
public import Idealize.ShloMosaic.Lib.Pipeline.ValueKit.Tiles

@[expose] public section

noncomputable section

namespace Cert.Attn

open Idealize.ShloMosaic Idealize.ShloMosaic.ValueIdx

/-- One matrix with a leading unit axis, as a window's block is. -/
abbrev Slab (a b : ℕ) : Shape := ⟨3, ![1, a, b]⟩

theorem slab_cast (a b : ℕ) : (Slab a b).ShapeCasts (Mat a b) := by
  simp [Shape.ShapeCasts, Shape.numel, Fin.prod_univ_succ]

theorem cast_slab (a b : ℕ) : (Mat a b).ShapeCasts (Slab a b) := by
  simp [Shape.ShapeCasts, Shape.numel, Fin.prod_univ_succ]

theorem rows_inb {N w a n : ℕ} (h : a + n ≤ N) : ∀ x, (![0, a, 0] : Fin 3 → ℕ) x + (Slab n w).size x ≤ (Slab N w).size x
  | ⟨0, _⟩ => le_rfl
  | ⟨1, _⟩ => h
  | ⟨2, _⟩ => (Nat.zero_add w).le

/-- The rows `a … a + n` of a slab. -/
abbrev rows {N w a n : ℕ} (h : a + n ≤ N) : Rect (Slab N w) := Rect.unit ![0, a, 0] (Slab n w).size (rows_inb h)

section Lists
variable {F : FTy → Type} [FloatOps F] {sig : RefSig} {κ : Kind} {sp : Space}

/-- A matrix stored at the rows `a … a + n`. -/
abbrev putRows {N w a n : ℕ} (h : a + n ≤ N) (t : FVec F (Mat n w) .f32) : View.Piece (Elt F) (Slab N w) .f32 :=
  ⟨rows h, shapeCast (Slab n w) t (cast_slab n w)⟩

/-- What is there at the first `n` rows plus a matrix, stored there. -/
abbrev addRows {N w n : ℕ} (u : View sig κ sp (Slab N w) .f32) (h : n ≤ N) (L : List (View.Piece (Elt F) (Slab N w) .f32)) (t : FVec F (Mat n w) .f32) :
    List (View.Piece (Elt F) (Slab N w) .f32) :=
  putRows (a := 0) ((Nat.zero_add n).trans_le h)
    (addf (shapeCast (Mat n w) (u.readCov L (rows (w := w) (a := 0) ((Nat.zero_add n).trans_le h)).toLoadRect) (slab_cast n w)) t) :: L

variable (q : ∀ a, a + 256 ≤ 2048 → FVec F (Mat 256 256) .bf16) (k : ∀ n, n ≤ 2048 → FVec F (Mat n 256) .bf16)
  (v : ∀ n, n ≤ 2048 → FVec F (Mat n 128) .bf16) (g : ∀ a, a + 256 ≤ 2048 → FVec F (Mat 256 128) .f32)

/-- The stores into the gradient of the queries, by the first `i` blocks. -/
def dqList : (i : ℕ) → i ≤ 8 → List (View.Piece (Elt F) (Slab 2048 256) .f32)
  | 0, _ => []
  | i + 1, h =>
    putRows (a := 256 * i) (by omega) (dqTile (condsAt (256 * (i + 1))) (BitVec.ofNat 32 (256 * i)) (q (256 * i) (by omega)) (k (256 * (i + 1)) (by omega))
      (v (256 * (i + 1)) (by omega)) (g (256 * i) (by omega))) :: dqList i (by omega)

/-- The stores into the gradient of the keys: zero everywhere, then the blocks' sums. -/
def dkList (u : View sig κ sp (Slab 2048 256) .f32) : (i : ℕ) → i ≤ 8 → List (View.Piece (Elt F) (Slab 2048 256) .f32)
  | 0, _ => [putRows (a := 0) (n := 2048) le_rfl (broadcast (Mat 2048 256) (Scalar.ofBits .f32 0x00000000#32 : F .f32))]
  | i + 1, h =>
    addRows u (by omega) (dkList u i (by omega))
      (dkTile (condsAt (256 * (i + 1))) (BitVec.ofNat 32 (256 * i)) (q (256 * i) (by omega)) (k (256 * (i + 1)) (by omega))
        (v (256 * (i + 1)) (by omega)) (g (256 * i) (by omega)))

/-- The stores into the gradient of the values. -/
def dvList (u : View sig κ sp (Slab 2048 128) .f32) : (i : ℕ) → i ≤ 8 → List (View.Piece (Elt F) (Slab 2048 128) .f32)
  | 0, _ => [putRows (a := 0) (n := 2048) le_rfl (broadcast (Mat 2048 128) (Scalar.ofBits .f32 0x00000000#32 : F .f32))]
  | i + 1, h =>
    addRows u (by omega) (dvList u i (by omega))
      (dvTile (condsAt (256 * (i + 1))) (BitVec.ofNat 32 (256 * i)) (q (256 * i) (by omega)) (k (256 * (i + 1)) (by omega))
        (g (256 * i) (by omega)))

/-- Rows of a buffer, as the body loads them. -/
def loadRows {e : EltTy} {N w : ℕ} (u : View sig κ sp (Slab N w) e) (f : u.ty.Contents (Elt F)) (a n : ℕ) (h : a + n ≤ N) : Vec F (Mat n w) e :=
  shapeCast (Mat n w) (u.readAt (Elt F) (rows h).toLoadRect f) (slab_cast n w)

theorem mat_inb {N w a n : ℕ} (h : a + n ≤ N) : ∀ x, (![a, 0] : Fin 2 → ℕ) x + (Mat n w).size x ≤ (Mat N w).size x
  | ⟨0, _⟩ => h
  | ⟨1, _⟩ => (Nat.zero_add w).le

/-- Rows of a buffer without the unit axis. -/
def loadMat {e : EltTy} {N w : ℕ} (u : View sig κ sp (Mat N w) e) (f : u.ty.Contents (Elt F)) (a n : ℕ) (h : a + n ≤ N) : Vec F (Mat n w) e :=
  shapeCast (Mat n w) (u.readAt (Elt F) (Rect.unit (s := Mat N w) ![a, 0] (Mat n w).size (mat_inb h)).toLoadRect f) rfl

end Lists

/-! ## Reading them back -/

theorem mem_rows {N w a n : ℕ} (h : a + n ≤ N) (r : Fin N) (d : Fin w) :
    ix3 (0 : Fin 1) r d ∈ (rows (w := w) h).set ↔ a ≤ r.val ∧ r.val < a + n := by
  rw [Rect.mem_set_unit]
  constructor
  · intro hy; exact hy 1
  · intro hy x
    match x with
    | ⟨0, _⟩ => exact ⟨Nat.zero_le _, Nat.one_pos⟩
    | ⟨1, _⟩ => exact hy
    | ⟨2, _⟩ => exact ⟨Nat.zero_le _, (Nat.zero_add w).symm ▸ d.isLt⟩

theorem rows_idx {N w a n : ℕ} (h : a + n ≤ N) (r : Fin n) (d : Fin w) :
    (rows (w := w) h).idx (ix3 (0 : Fin 1) r d) = ix3 (0 : Fin 1) (⟨a + r.val, by omega⟩ : Fin N) d := by
  funext x; apply Fin.ext
  rw [Rect.idx_unit_val]
  match x with
  | ⟨0, _⟩ => rfl
  | ⟨1, _⟩ => rfl
  | ⟨2, _⟩ => exact Nat.zero_add _

/-- After a store of rows, a row of them. -/
theorem canon_putRows {N w a n : ℕ} (h : a + n ≤ N) (t : FVec Ideal (Mat n w) .f32) (L : List (View.Piece (Elt Ideal) (Slab N w) .f32))
    (r : Fin n) (d : Fin w) : View.canon (putRows h t :: L) (ix3 (0 : Fin 1) (⟨a + r.val, by omega⟩ : Fin N) d) = t (ix2 r d) := by
  rw [← rows_idx h r d]
  refine (View.canon_cons_emb _ _ _ _).trans ?_
  exact shapeCast_ab_1ab_apply t (cast_slab n w) 0 r d

/-- After a store of rows, a row outside. -/
theorem canon_putRows_off {N w a n : ℕ} (h : a + n ≤ N) (t : FVec Ideal (Mat n w) .f32) (L : List (View.Piece (Elt Ideal) (Slab N w) .f32))
    (r : Fin N) (d : Fin w) (hr : ¬ (a ≤ r.val ∧ r.val < a + n)) :
    View.canon (putRows h t :: L) (ix3 (0 : Fin 1) r d) = View.canon L (ix3 (0 : Fin 1) r d) :=
  View.canon_cons_of_not_mem _ _ fun hm => hr ((mem_rows h r d).1 hm)

section Values
variable {sig : RefSig} {κ : Kind} {sp : Space}

theorem loadRows_apply {e : EltTy} {N w : ℕ} (u : View sig κ sp (Slab N w) e) (f : u.ty.Contents (Elt Ideal)) (a n : ℕ) (h : a + n ≤ N)
    (r : Fin n) (d : Fin w) : loadRows u f a n h (ix2 r d) = u.read (Elt Ideal) f (ix3 (0 : Fin 1) (⟨a + r.val, by omega⟩ : Fin N) d) := by
  refine (shapeCast_1ab_ab_apply _ (slab_cast n w) r d).trans ?_
  rw [View.readAt_eq_ld]
  exact congrArg _ (rows_idx h r d)

theorem loadMat_apply {e : EltTy} {N w : ℕ} (u : View sig κ sp (Mat N w) e) (f : u.ty.Contents (Elt Ideal)) (a n : ℕ) (h : a + n ≤ N)
    (r : Fin n) (d : Fin w) : loadMat u f a n h (ix2 r d) = u.read (Elt Ideal) f (ix2 (⟨a + r.val, by omega⟩ : Fin N) d) := by
  refine (shapeCast_apply _ _ _ (ix2 r d) rfl).trans ?_
  rw [View.readAt_eq_ld]
  refine View.ld_unit_apply_of _ _ _ _ _ _ fun x => ?_
  match x with
  | ⟨0, _⟩ => rfl
  | ⟨1, _⟩ => exact (Nat.zero_add _).symm

theorem canon_addRows {N w n : ℕ} (u : View sig κ sp (Slab N w) .f32) (h : n ≤ N) (L : List (View.Piece (Elt Ideal) (Slab N w) .f32))
    (t : FVec Ideal (Mat n w) .f32) (r : Fin n) (d : Fin w) :
    View.canon (addRows u h L t) (ix3 (0 : Fin 1) (Fin.castLE h r) d)
      = View.canon L (ix3 (0 : Fin 1) (Fin.castLE h r) d) + t (ix2 r d) := by
  have e : Fin.castLE h r = (⟨0 + r.val, by omega⟩ : Fin N) := Fin.ext (Nat.zero_add _).symm
  rw [e]
  refine (canon_putRows _ _ L r d).trans ?_
  rw [addf_apply]
  congr 1
  refine (shapeCast_1ab_ab_apply _ (slab_cast n w) r d).trans ?_
  rw [View.readCov_eq_canon']
  exact congrArg _ (rows_idx _ r d)

theorem canon_addRows_off {N w n : ℕ} (u : View sig κ sp (Slab N w) .f32) (h : n ≤ N) (L : List (View.Piece (Elt Ideal) (Slab N w) .f32))
    (t : FVec Ideal (Mat n w) .f32) (r : Fin N) (d : Fin w) (hr : n ≤ r.val) :
    View.canon (addRows u h L t) (ix3 (0 : Fin 1) r d) = View.canon L (ix3 (0 : Fin 1) r d) :=
  canon_putRows_off _ _ L r d (by omega)

/-- The sum over the rows of the first blocks. -/
theorem sum_below (f : Fin 2048 → ℝ) (n : ℕ) (h : n ≤ 2048) :
    (∑ R : Fin 2048, if R.val < n then f R else 0) = ∑ r : Fin n, f (Fin.castLE h r) := by
  rw [← sum_prefix h (fun R => if R.val < n then f R else 0) fun R hR => if_neg (by omega)]
  exact Finset.sum_congr rfl fun r _ => if_pos r.isLt

theorem sum_step (f : Fin 2048 → ℝ) (i : ℕ) (h : i + 1 ≤ 8) :
    (∑ R : Fin 2048, if R.val < 256 * (i + 1) then f R else 0)
      = (∑ R : Fin 2048, if R.val < 256 * i then f R else 0) + ∑ r : Fin 256, f (rowAt (256 * i) (256 * (i + 1)) (by omega) (by omega) r) := by
  rw [sum_below f (256 * (i + 1)) (by omega), sum_below f (256 * i) (by omega)]
  exact Fin.sum_univ_add (a := 256 * i) (b := 256) fun r => f (Fin.castLE (m := 2048) (by omega) r)

/-- The blocks whose first rows are past a column add nothing to it. -/
theorem sum_skip (f : Fin 2048 → ℝ) (i : ℕ) (hz : ∀ R : Fin 2048, 256 * i ≤ R.val → R.val < 256 * (i + 1) → f R = 0) :
    (∑ R : Fin 2048, if R.val < 256 * (i + 1) then f R else 0) = ∑ R : Fin 2048, if R.val < 256 * i then f R else 0 := by
  refine Finset.sum_congr rfl fun R _ => ?_
  by_cases h1 : R.val < 256 * i
  · rw [if_pos h1, if_pos (by omega)]
  · rw [if_neg h1]
    split
    · exact hz R (by omega) (by omega)
    · rfl

/-- Sums over the row blocks, stored by adding to the first rows: what is there, when the sums are zero past the diagonal. -/
theorem acc_apply {w : ℕ} (u : View sig κ sp (Slab 2048 w) .f32) (f : Fin 2048 → Fin 2048 → Fin w → ℝ)
    (hz : ∀ R C d, R.val < C.val → f R C d = 0)
    (L : (i : ℕ) → i ≤ 8 → List (View.Piece (Elt Ideal) (Slab 2048 w) .f32))
    (t : ∀ i, FVec Ideal (Mat (256 * (i + 1)) w) .f32)
    (h0 : ∀ (C : Fin 2048) (d : Fin w), View.canon (L 0 (by omega)) (ix3 (0 : Fin 1) C d) = 0)
    (hL : ∀ i (h : i + 1 ≤ 8), L (i + 1) h = addRows u (by omega) (L i (by omega)) (t i))
    (ht : ∀ i (h : i + 1 ≤ 8) (c : Fin (256 * (i + 1))) (d : Fin w), t i (ix2 c d)
      = ((∑ r : Fin 256, f (rowAt (256 * i) (256 * (i + 1)) (by omega) (by omega) r) (Fin.castLE (by omega) c) d : ℝ) : EReal)) :
    ∀ (i : ℕ) (h : i ≤ 8) (C : Fin 2048) (d : Fin w),
      View.canon (L i h) (ix3 (0 : Fin 1) C d) = ((∑ R : Fin 2048, if R.val < 256 * i then f R C d else 0 : ℝ) : EReal)
  | 0, _, C, d => by
    rw [h0, Finset.sum_eq_zero fun R _ => if_neg (by omega)]; rfl
  | i + 1, h, C, d => by
    rw [hL i h]
    by_cases hC : C.val < 256 * (i + 1)
    · obtain ⟨c, rfl⟩ : ∃ c : Fin (256 * (i + 1)), C = Fin.castLE (Nat.mul_le_mul_left 256 h : _ ≤ 256 * 8) c := ⟨⟨C.val, hC⟩, rfl⟩
      rw [canon_addRows, acc_apply u f hz L t h0 hL ht i (by omega), ht i h, ← EReal.coe_add, sum_step (fun R => f R _ d) i h]
    · rw [canon_addRows_off _ _ _ _ _ _ (by omega), acc_apply u f hz L t h0 hL ht i (by omega),
        sum_skip (fun R => f R C d) i fun R _ h2 => hz R C d (by omega)]

theorem zeros_apply {w : ℕ} (C : Fin 2048) (d : Fin w) :
    View.canon [putRows (a := 0) (n := 2048) (N := 2048) le_rfl (broadcast (Mat 2048 w) (Scalar.ofBits .f32 0x00000000#32 : Ideal .f32))]
      (ix3 (0 : Fin 1) C d) = 0 := by
  have e : C = (⟨0 + C.val, by omega⟩ : Fin 2048) := Fin.ext (Nat.zero_add _).symm
  rw [e]
  exact (canon_putRows _ _ [] C d).trans zero_word

variable {Q K : Fin 2048 → Fin 256 → ℝ} {V G : Fin 2048 → Fin 128 → ℝ}
  {q : ∀ a, a + 256 ≤ 2048 → FVec Ideal (Mat 256 256) .bf16} {k : ∀ n, n ≤ 2048 → FVec Ideal (Mat n 256) .bf16}
  {v : ∀ n, n ≤ 2048 → FVec Ideal (Mat n 128) .bf16} {g : ∀ a, a + 256 ≤ 2048 → FVec Ideal (Mat 256 128) .f32}
  (H : ∀ (a n : ℕ) (han : n = a + 256) (hn : n ≤ 2048), Holds Q K V G a n han hn (q a (han.symm.le.trans hn)) (k n hn) (v n hn) (g a (han.symm.le.trans hn)))
include H

theorem dqList_apply : ∀ (i : ℕ) (h : i ≤ 8) (R : Fin 2048) (d : Fin 256), R.val < 256 * i →
    View.canon (dqList q k v g i h) (ix3 (0 : Fin 1) R d) = ((∑ C, dscoreR Q K V G R C * K C d : ℝ) : EReal)
  | 0, _, R, d, hR => absurd hR (by omega)
  | i + 1, h, R, d, hR => by
    by_cases hlo : 256 * i ≤ R.val
    · obtain ⟨r, rfl⟩ : ∃ r : Fin 256, R = rowAt (256 * i) (256 * (i + 1)) rfl (Nat.mul_le_mul_left 256 h : _ ≤ 256 * 8) r :=
        ⟨⟨R.val - 256 * i, by omega⟩, Fin.ext (by show R.val = 256 * i + (R.val - 256 * i); omega)⟩
      exact (canon_putRows _ _ _ r d).trans (dqTile_apply _ (H (256 * i) (256 * (i + 1)) (by omega) (by omega)) r d)
    · exact (canon_putRows_off _ _ _ R d (by omega)).trans (dqList_apply i (by omega) R d (by omega))

theorem dkList_apply (u : View sig κ sp (Slab 2048 256) .f32) (C : Fin 2048) (d : Fin 256) :
    View.canon (dkList q k v g u 8 le_rfl) (ix3 (0 : Fin 1) C d) = ((∑ R, dscoreR Q K V G R C * Q R d : ℝ) : EReal) := by
  have := acc_apply u (fun R C d => dscoreR Q K V G R C * Q R d) (fun R C d h => by rw [dscoreR, ds_masked _ _ _ _ _ (by omega), zero_mul])
    (dkList q k v g u) (fun i => if h : i + 1 ≤ 8 then dkTile (condsAt (256 * (i + 1))) (BitVec.ofNat 32 (256 * i)) (q (256 * i) (by omega))
      (k (256 * (i + 1)) (by omega)) (v (256 * (i + 1)) (by omega)) (g (256 * i) (by omega)) else constant _ .f32 0) zeros_apply
    (fun i h => by rw [dif_pos h]; rfl)
    (fun i h c d => by rw [dif_pos h]; exact dkTile_apply _ (H (256 * i) (256 * (i + 1)) (by omega) (by omega)) c d) 8 le_rfl C d
  rw [this]
  exact congrArg _ (Finset.sum_congr rfl fun R _ => if_pos R.isLt)

theorem dvList_apply (u : View sig κ sp (Slab 2048 128) .f32) (C : Fin 2048) (d : Fin 128) :
    View.canon (dvList q k g u 8 le_rfl) (ix3 (0 : Fin 1) C d) = ((∑ R, probR Q K R C * G R d : ℝ) : EReal) := by
  have := acc_apply u (fun R C d => probR Q K R C * G R d) (fun R C d h => by rw [probR, pr_masked _ _ _ (by omega), zero_mul])
    (dvList q k g u) (fun i => if h : i + 1 ≤ 8 then dvTile (condsAt (256 * (i + 1))) (BitVec.ofNat 32 (256 * i)) (q (256 * i) (by omega))
      (k (256 * (i + 1)) (by omega)) (g (256 * i) (by omega)) else constant _ .f32 0) zeros_apply
    (fun i h => by rw [dif_pos h]; rfl)
    (fun i h c d => by rw [dif_pos h]; exact dvTile_apply _ (H (256 * i) (256 * (i + 1)) (by omega) (by omega)) c d) 8 le_rfl C d
  rw [this]
  exact congrArg _ (Finset.sum_congr rfl fun R _ => if_pos R.isLt)

end Values

end Cert.Attn

end
-- ==== Proof.AttnRun.lean ====
/- The stores of the kernel's run are the eight blocks of AttnBlocks. -/
module

public import proofs.«01_k».proof.Proof.AttnBlocks
public import proofs.«01_k».proof.Proof.Gen.KernelIdeal.Frame
public import Idealize.ShloMosaic.Lib.Tactic.RunNames

@[expose] public section

set_option maxRecDepth 16384

noncomputable section

namespace Cert.KernelIdeal.Gen

open Idealize.ShloMosaic Cert.Attn

variable {F : FTy → Type} [FloatOps F]
variable (c : Dev nD) (i : grid0.Coords) (arg1 : Memref sig .tc .vmem S1x2048x256 .bf16) (harg1 : arg1.IsWhole) (arg2 : Memref sig .tc .vmem S1x2048x256 .bf16) (harg2 : arg2.IsWhole) (arg3 : Memref sig .tc .vmem S1x2048x128 .bf16) (harg3 : arg3.IsWhole) (arg4 : Memref sig .tc .vmem S2048x128 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x2048x128 .f32) (harg7 : arg7.IsWhole)
    (x0 : Vec F S1x2048x256 .bf16) (x1 : Vec F S1x2048x256 .bf16) (x2 : Vec F S1x2048x128 .bf16) (x3 : Vec F S2048x128 .f32)

def qs (a : ℕ) (h : a + 256 ≤ 2048) : FVec F (Mat 256 256) .bf16 := loadRows (N := 2048) (w := 256) arg1.view (harg1.unread x0) a 256 h
def ks (n : ℕ) (h : n ≤ 2048) : FVec F (Mat n 256) .bf16 := loadRows (N := 2048) (w := 256) arg2.view (harg2.unread x1) 0 n ((Nat.zero_add n).trans_le h)
def vs (n : ℕ) (h : n ≤ 2048) : FVec F (Mat n 128) .bf16 := loadRows (N := 2048) (w := 128) arg3.view (harg3.unread x2) 0 n ((Nat.zero_add n).trans_le h)
def gs (a : ℕ) (h : a + 256 ≤ 2048) : FVec F (Mat 256 128) .f32 := loadMat (N := 2048) (w := 128) arg4.view (harg4.unread x3) a 256 h

theorem stores4 : (kernelRun0_A c i arg1 harg1 arg2 harg2 arg3 harg3 arg4 harg4 arg5 harg5 arg6 harg6 arg7 harg7 x0 x1 x2 x3).1
    = dqList (qs arg1 harg1 x0) (ks arg2 harg2 x1) (vs arg3 harg3 x2) (gs arg4 harg4 x3) 8 le_rfl := by
  sl_kernel_rfl

theorem stores5 : (kernelRun0_A c i arg1 harg1 arg2 harg2 arg3 harg3 arg4 harg4 arg5 harg5 arg6 harg6 arg7 harg7 x0 x1 x2 x3).2.1
    = dkList (qs arg1 harg1 x0) (ks arg2 harg2 x1) (vs arg3 harg3 x2) (gs arg4 harg4 x3) arg6.view 8 le_rfl := by
  sl_kernel_rfl

theorem stores6 : (kernelRun0_A c i arg1 harg1 arg2 harg2 arg3 harg3 arg4 harg4 arg5 harg5 arg6 harg6 arg7 harg7 x0 x1 x2 x3).2.2.1
    = dvList (qs arg1 harg1 x0) (ks arg2 harg2 x1) (gs arg4 harg4 x3) arg7.view 8 le_rfl := by
  sl_kernel_rfl

end Cert.KernelIdeal.Gen

namespace Cert.KernelIdeal.Gen

open Idealize.ShloMosaic Idealize.ShloMosaic.ValueIdx Cert.Attn

variable (c : Dev nD) (i : grid0.Coords) (arg1 : Memref sig .tc .vmem S1x2048x256 .bf16) (harg1 : arg1.IsWhole) (arg2 : Memref sig .tc .vmem S1x2048x256 .bf16) (harg2 : arg2.IsWhole) (arg3 : Memref sig .tc .vmem S1x2048x128 .bf16) (harg3 : arg3.IsWhole) (arg4 : Memref sig .tc .vmem S2048x128 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x2048x128 .f32) (harg7 : arg7.IsWhole)
    (x0 : Vec Ideal S1x2048x256 .bf16) (x1 : Vec Ideal S1x2048x256 .bf16) (x2 : Vec Ideal S1x2048x128 .bf16) (x3 : Vec Ideal S2048x128 .f32)

/-- What the four blocks of one head hold. -/
structure HeadHolds (Q K : Fin 2048 → Fin 256 → ℝ) (V G : Fin 2048 → Fin 128 → ℝ) : Prop where
  q : ∀ R d, x0 (ix3 (0 : Fin 1) R d) = ((Q R d : ℝ) : EReal)
  k : ∀ C d, x1 (ix3 (0 : Fin 1) C d) = ((K C d : ℝ) : EReal)
  v : ∀ C d, x2 (ix3 (0 : Fin 1) C d) = ((V C d : ℝ) : EReal)
  g : ∀ R d, x3 (ix2 R d) = ((G R d : ℝ) : EReal)

variable {x0 x1 x2 x3} {Q K : Fin 2048 → Fin 256 → ℝ} {V G : Fin 2048 → Fin 128 → ℝ} (H : HeadHolds x0 x1 x2 x3 Q K V G)
include H

theorem holds (a n : ℕ) (han : n = a + 256) (hn : n ≤ 2048) :
    Holds Q K V G a n han hn (qs arg1 harg1 x0 a (han.symm.le.trans hn)) (ks arg2 harg2 x1 n hn) (vs arg3 harg3 x2 n hn)
      (gs arg4 harg4 x3 a (han.symm.le.trans hn)) where
  q r d := (loadRows_apply _ _ _ _ _ r d).trans (by rw [harg1.read_unread]; exact H.q _ d)
  k c d := (loadRows_apply _ _ _ _ _ c d).trans (by
    rw [harg2.read_unread]
    refine (H.k _ d).trans ?_
    rw [show (⟨0 + c.val, by omega⟩ : Fin 2048) = Fin.castLE hn c from Fin.ext (Nat.zero_add _)])
  v c d := (loadRows_apply _ _ _ _ _ c d).trans (by
    rw [harg3.read_unread]
    refine (H.v _ d).trans ?_
    rw [show (⟨0 + c.val, by omega⟩ : Fin 2048) = Fin.castLE hn c from Fin.ext (Nat.zero_add _)])
  g r d := (loadMat_apply _ _ _ _ _ r d).trans (by rw [harg4.read_unread]; exact H.g _ d)

theorem out4_apply (R : Fin 2048) (d : Fin 256) :
    out0_A_4 c i arg1 harg1 arg2 harg2 arg3 harg3 arg4 harg4 arg5 harg5 arg6 harg6 arg7 harg7 x0 x1 x2 x3 (ix3 (0 : Fin 1) R d)
      = ((∑ C, dscoreR Q K V G R C * K C d : ℝ) : EReal) := by
  rw [out0_A_4, View.read_writes_junk_eq_canon, stores4]
  exact dqList_apply (holds arg1 harg1 arg2 harg2 arg3 harg3 arg4 harg4 H) 8 le_rfl R d R.isLt

theorem out5_apply (C : Fin 2048) (d : Fin 256) :
    out0_A_5 c i arg1 harg1 arg2 harg2 arg3 harg3 arg4 harg4 arg5 harg5 arg6 harg6 arg7 harg7 x0 x1 x2 x3 (ix3 (0 : Fin 1) C d)
      = ((∑ R, dscoreR Q K V G R C * Q R d : ℝ) : EReal) := by
  rw [out0_A_5, View.read_writes_junk_eq_canon, stores5]
  exact dkList_apply (holds arg1 harg1 arg2 harg2 arg3 harg3 arg4 harg4 H) _ C d

theorem out6_apply (C : Fin 2048) (d : Fin 128) :
    out0_A_6 c i arg1 harg1 arg2 harg2 arg3 harg3 arg4 harg4 arg5 harg5 arg6 harg6 arg7 harg7 x0 x1 x2 x3 (ix3 (0 : Fin 1) C d)
      = ((∑ R, probR Q K R C * G R d : ℝ) : EReal) := by
  rw [out0_A_6, View.read_writes_junk_eq_canon, stores6]
  exact dvList_apply (holds arg1 harg1 arg2 harg2 arg3 harg3 arg4 harg4 H) _ C d

end Cert.KernelIdeal.Gen

end
-- ==== Proof.AttnLayout.lean ====
/- How the host lays the attention's arrays out: features filled up with zeros, heads first, two feature groups side by
   side. At an index, and for the products that contract such features. -/
module

public import proofs.«01_k».proof.Proof.AttnTile
public import Idealize.ShloMosaic.Lib.KernelVsHost

@[expose] public section

noncomputable section

namespace Cert.Attn

open Idealize.ShloMosaic Idealize.ShloMosaic.ValueIdx

/-- An array of three axes. -/
abbrev Tens (a b c : ℕ) : Shape := ⟨3, ![a, b, c]⟩

theorem pad_last {α : Type} {a b w W : ℕ} {hi : Fin 3 → ℕ} (x : (Tens a b w).Idx → α) (v : (⟨0, ![]⟩ : Shape).Idx → α)
    (h : (Tens a b w).Pads ![0, 0, 0] hi ![0, 0, 0] (Tens a b W)) (hu : 0 < (⟨0, ![]⟩ : Shape).numel) (i : Fin a) (j : Fin b) (d : Fin W) :
    pad (Tens a b W) ![0, 0, 0] hi ![0, 0, 0] x v h hu (ix3 i j d) = if hd : d.val < w then x (ix3 i j ⟨d.val, hd⟩) else v (Shape.Idx.first hu) := by
  split
  · rename_i hd
    refine pad_apply_of_inside _ _ _ _ _ _ _ _ _ fun x => ?_
    match x with
    | ⟨0, _⟩ => show i.val = 0 + i.val * 1; omega
    | ⟨1, _⟩ => show j.val = 0 + j.val * 1; omega
    | ⟨2, _⟩ => show d.val = 0 + d.val * 1; omega
  · rename_i hd
    refine pad_apply_of_not_inside _ _ _ _ _ _ _ _ (2 : Fin 3) fun hc => hd ?_
    have h3 : (d.val - 0) / 1 < w := hc.2.2
    omega

theorem pad_last2 {α : Type} {a w W : ℕ} {hi : Fin 2 → ℕ} (x : (Mat a w).Idx → α) (v : (⟨0, ![]⟩ : Shape).Idx → α)
    (h : (Mat a w).Pads ![0, 0] hi ![0, 0] (Mat a W)) (hu : 0 < (⟨0, ![]⟩ : Shape).numel) (i : Fin a) (d : Fin W) :
    pad (Mat a W) ![0, 0] hi ![0, 0] x v h hu (ix2 i d) = if hd : d.val < w then x (ix2 i ⟨d.val, hd⟩) else v (Shape.Idx.first hu) := by
  split
  · rename_i hd
    refine pad_apply_of_inside _ _ _ _ _ _ _ _ _ fun x => ?_
    match x with
    | ⟨0, _⟩ => show i.val = 0 + i.val * 1; omega
    | ⟨1, _⟩ => show d.val = 0 + d.val * 1; omega
  · rename_i hd
    refine pad_apply_of_not_inside _ _ _ _ _ _ _ _ (1 : Fin 2) fun hc => hd ?_
    have h3 : (d.val - 0) / 1 < w := hc.2.2
    omega

theorem swap_apply {α : Type} {a b w : ℕ} (x : (Tens a b w).Idx → α) (h : (Tens a b w).Transposes [1, 0, 2] (Tens b a w))
    (j : Fin b) (i : Fin a) (d : Fin w) : transpose (Tens b a w) [1, 0, 2] x h (ix3 j i d) = x (ix3 i j d) :=
  transpose_apply _ x h _ _ fun b => match b with | ⟨0, _⟩ => rfl | ⟨1, _⟩ => rfl | ⟨2, _⟩ => rfl

theorem cat_apply {α : Type} {a b : ℕ} (x y : (Tens a b 128).Idx → α) (h : Shape.Concatenates [Tens a b 128, Tens a b 128] (Tens a b 256) (2 : Fin 3))
    (i : Fin a) (j : Fin b) (d : Fin 256) :
    concatenate (Tens a b 256) (2 : Fin 3) [⟨Tens a b 128, x⟩, ⟨Tens a b 128, y⟩] h (ix3 i j d)
      = if hd : d.val < 128 then x (ix3 i j ⟨d.val, hd⟩) else y (ix3 i j ⟨d.val - 128, by omega⟩) := by
  split
  · rename_i hd
    refine concatenate_pair_apply_left _ x y h _ rfl _ fun b => ?_
    match b with
    | ⟨0, _⟩ => rfl
    | ⟨1, _⟩ => rfl
    | ⟨2, _⟩ => rfl
  · rename_i hd
    refine concatenate_pair_apply_right _ x y h _ rfl rfl _ (fun b hb => ?_) ?_
    · match b with
      | ⟨0, _⟩ => rfl
      | ⟨1, _⟩ => rfl
      | ⟨2, _⟩ => exact absurd rfl hb
    · show d.val - 128 + 128 = d.val
      omega

/-- Features filled up with zeros. -/
def wide {w : ℕ} (f : Fin w → ℝ) (d : Fin 128) : ℝ := if h : d.val < w then f ⟨d.val, h⟩ else 0

/-- Two groups of features side by side. -/
def pair (x y : Fin 128 → ℝ) (d : Fin 256) : ℝ := if h : d.val < 128 then x ⟨d.val, h⟩ else y ⟨d.val - 128, by omega⟩

theorem wide_coe {w : ℕ} (f : Fin w → ℝ) (d : Fin 128) (x : EReal) (hx : x = 0) :
    (if h : d.val < w then ((f ⟨d.val, h⟩ : ℝ) : EReal) else x) = ((wide f d : ℝ) : EReal) := by
  unfold wide
  split
  · rfl
  · rw [hx]; rfl

theorem pair_coe (x y : Fin 128 → ℝ) (d : Fin 256) :
    (if h : d.val < 128 then ((x ⟨d.val, h⟩ : ℝ) : EReal) else ((y ⟨d.val - 128, by omega⟩ : ℝ) : EReal)) = ((pair x y d : ℝ) : EReal) := by
  unfold pair
  split <;> rfl

theorem sum_wide {w : ℕ} (hw : w ≤ 128) (f g : Fin w → ℝ) : ∑ d, wide f d * wide g d = ∑ d, f d * g d := by
  rw [← sum_prefix hw (fun d => wide f d * wide g d) fun d hd => by rw [wide, dif_neg (by omega), zero_mul]]
  refine Finset.sum_congr rfl fun d _ => ?_
  rw [wide, wide, dif_pos (show (Fin.castLE hw d).val < w from d.isLt), dif_pos (show (Fin.castLE hw d).val < w from d.isLt)]
  rfl

theorem sum_pair (x y x' y' : Fin 128 → ℝ) : ∑ d, pair x y d * pair x' y' d = ∑ d, x d * x' d + ∑ d, y d * y' d := by
  refine (Fin.sum_univ_add (a := 128) (b := 128) _).trans (congrArg₂ (· + ·) (Finset.sum_congr rfl fun d _ => ?_) (Finset.sum_congr rfl fun d _ => ?_))
  · rw [pair, pair, dif_pos (show (Fin.castAdd 128 d).val < 128 from d.isLt), dif_pos (show (Fin.castAdd 128 d).val < 128 from d.isLt)]
    rfl
  · have h : ¬ (Fin.natAdd 128 d).val < 128 := by show ¬ 128 + d.val < 128; omega
    rw [pair, pair, dif_neg h, dif_neg h]
    have e : (⟨(Fin.natAdd 128 d).val - 128, by omega⟩ : Fin 128) = d := Fin.ext (by show 128 + d.val - 128 = d.val; omega)
    rw [e]

/-! ## One head's operands, from the arrays of the whole attention -/

section Heads
variable (qn : Fin 2048 → Fin 8 → Fin 64 → ℝ) (qr : Fin 2048 → Fin 8 → Fin 32 → ℝ) (kn : Fin 2048 → Fin 8 → Fin 64 → ℝ)
  (kr : Fin 2048 → Fin 32 → ℝ) (v ct : Fin 2048 → Fin 8 → Fin 64 → ℝ) (h : Fin 8)

def headQ (R : Fin 2048) : Fin 256 → ℝ := pair (wide (qn R h)) (wide (qr R h))
def headK (C : Fin 2048) : Fin 256 → ℝ := pair (wide (kn C h)) (wide (kr C))
def headV (C : Fin 2048) : Fin 128 → ℝ := wide (v C h)
end Heads

end Cert.Attn

end
-- ==== Proof.AttnKernel.lean ====
/- What the kernel's three results hold, as functions of the arguments. -/
module

public import proofs.«01_k».proof.Proof.AttnRun
public import proofs.«01_k».proof.Proof.AttnLayout
public import proofs.«01_k».proof.Proof.Gen.KernelIdeal.Value

@[expose] public section

noncomputable section

namespace Cert.KernelIdeal.Gen

open Idealize.ShloMosaic Idealize.ShloMosaic.TcCoe Idealize.ShloMosaic.ValueIdx Cert.Attn

variable (m : (ℓ : Loc nD τ sig) → Buf (Elt Ideal) ℓ) (c : Dev nD)

/-- The zero the host pads with. -/
abbrev fill : FVec Ideal S_ .f32 := sitofp .f32 (constantI S_ 32 0#32)

theorem fill_apply (i : S_.Idx) : fill i = 0 := by
  show ((((0#32 : BitVec 32).toInt : ℤ) : ℝ) : EReal) = 0
  simp

/-- Heads first, features filled up. -/
abbrev lay64 (x : FVec Ideal S2048x8x64 .f32) : FVec Ideal S8x2048x128 .f32 :=
  transpose S8x2048x128 [1, 0, 2] (pad S2048x8x128 ![0, 0, 0] ![0, 0, 64] ![0, 0, 0] x fill pads_S2048x8x64_S2048x8x128_000_000_0640 h_S_)
    transposes_S2048x8x128_S8x2048x128_1_0_2
abbrev lay32 (x : FVec Ideal S2048x8x32 .f32) : FVec Ideal S8x2048x128 .f32 :=
  transpose S8x2048x128 [1, 0, 2] (pad S2048x8x128 ![0, 0, 0] ![0, 0, 96] ![0, 0, 0] x fill pads_S2048x8x32_S2048x8x128_000_000_0960 h_S_)
    transposes_S2048x8x128_S8x2048x128_1_0_2
abbrev join (x y : FVec Ideal S8x2048x128 .f32) : FVec Ideal S8x2048x256 .bf16 :=
  truncf .bf16 (concatenate S8x2048x256 2 [⟨S8x2048x128, x⟩, ⟨S8x2048x128, y⟩] concatenates_S8x2048x128_S8x2048x128_S8x2048x256_d2) bitsLt_bf16_f32

theorem entry_q : V m c main_v5 = join (lay64 (m (c, main_arg0))) (lay32 (m (c, main_arg1))) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  rfl

/-- The rope keys, the same for every head. -/
abbrev layOne (x : FVec Ideal S2048x32 .f32) : FVec Ideal S8x2048x128 .f32 :=
  broadcastInDim S8x2048x128 ![0, 1, 2] bcast_S1x2048x128_S8x2048x128_0_1_2
    (broadcastInDim S1x2048x128 ![1, 2] bcast_S2048x128_S1x2048x128_1_2
      (pad S2048x128 ![0, 0] ![0, 96] ![0, 0] x fill pads_S2048x32_S2048x128_000_0960 h_S_))

theorem entry_k : V m c main_v12 = join (lay64 (m (c, main_arg2))) (layOne (m (c, main_arg3))) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  rfl

theorem entry_v : V m c main_v17 = truncf .bf16 (lay64 (m (c, main_arg4))) bitsLt_bf16_f32 := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  rfl

/-- The output's gradient: each head's features filled up, the heads side by side. -/
abbrev flat64 (x : FVec Ideal S2048x8x64 .f32) : FVec Ideal S2048x1024 .f32 :=
  shapeCast S2048x1024 (pad S2048x8x128 ![0, 0, 0] ![0, 0, 64] ![0, 0, 0] x fill pads_S2048x8x64_S2048x8x128_000_000_0640 h_S_)
    shapeCasts_S2048x8x128_S2048x1024

theorem entry_g : V m c main_v14 = flat64 (m (c, main_arg5)) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  rfl

/-! ## The arguments as real numbers, and the operands they make -/

/-- The arguments hold real numbers. -/
structure Reals (qn : Fin 2048 → Fin 8 → Fin 64 → ℝ) (qr : Fin 2048 → Fin 8 → Fin 32 → ℝ) (kn : Fin 2048 → Fin 8 → Fin 64 → ℝ)
    (kr : Fin 2048 → Fin 32 → ℝ) (v ct : Fin 2048 → Fin 8 → Fin 64 → ℝ)
    (a0 : FVec Ideal S2048x8x64 .f32) (a1 : FVec Ideal S2048x8x32 .f32) (a2 : FVec Ideal S2048x8x64 .f32) (a3 : FVec Ideal S2048x32 .f32)
    (a4 a5 : FVec Ideal S2048x8x64 .f32) : Prop where
  qn : ∀ i h d, a0 (ix3 i h d) = ((qn i h d : ℝ) : EReal)
  qr : ∀ i h d, a1 (ix3 i h d) = ((qr i h d : ℝ) : EReal)
  kn : ∀ i h d, a2 (ix3 i h d) = ((kn i h d : ℝ) : EReal)
  kr : ∀ i d, a3 (ix2 i d) = ((kr i d : ℝ) : EReal)
  v : ∀ i h d, a4 (ix3 i h d) = ((v i h d : ℝ) : EReal)
  ct : ∀ i h d, a5 (ix3 i h d) = ((ct i h d : ℝ) : EReal)

theorem pad64_apply {f : Fin 2048 → Fin 8 → Fin 64 → ℝ} (x : FVec Ideal S2048x8x64 .f32) (hx : ∀ i h d, x (ix3 i h d) = ((f i h d : ℝ) : EReal))
    (i : Fin 2048) (h : Fin 8) (d : Fin 128) :
    pad S2048x8x128 ![0, 0, 0] ![0, 0, 64] ![0, 0, 0] x fill pads_S2048x8x64_S2048x8x128_000_000_0640 h_S_ (ix3 i h d) = ((wide (f i h) d : ℝ) : EReal) := by
  refine (pad_last x fill _ _ i h d).trans ?_
  simp only [hx]
  exact wide_coe (f i h) d _ (fill_apply _)

theorem lay64_apply {f : Fin 2048 → Fin 8 → Fin 64 → ℝ} (x : FVec Ideal S2048x8x64 .f32) (hx : ∀ i h d, x (ix3 i h d) = ((f i h d : ℝ) : EReal))
    (h : Fin 8) (i : Fin 2048) (d : Fin 128) : lay64 x (ix3 h i d) = ((wide (f i h) d : ℝ) : EReal) :=
  (swap_apply _ _ h i d).trans (pad64_apply x hx i h d)

theorem lay32_apply {f : Fin 2048 → Fin 8 → Fin 32 → ℝ} (x : FVec Ideal S2048x8x32 .f32) (hx : ∀ i h d, x (ix3 i h d) = ((f i h d : ℝ) : EReal))
    (h : Fin 8) (i : Fin 2048) (d : Fin 128) : lay32 x (ix3 h i d) = ((wide (f i h) d : ℝ) : EReal) := by
  refine (swap_apply _ _ h i d).trans ((pad_last x fill _ _ i h d).trans ?_)
  simp only [hx]
  exact wide_coe (f i h) d _ (fill_apply _)

theorem layOne_apply {f : Fin 2048 → Fin 32 → ℝ} (x : FVec Ideal S2048x32 .f32) (hx : ∀ i d, x (ix2 i d) = ((f i d : ℝ) : EReal))
    (h : Fin 8) (i : Fin 2048) (d : Fin 128) : layOne x (ix3 h i d) = ((wide (f i) d : ℝ) : EReal) := by
  refine (broadcastInDim_apply _ _ _ _ (ix3 (0 : Fin 1) i d) fun a => ?_).trans
    ((broadcastInDim_apply _ _ _ _ (ix2 i d) fun a => ?_).trans ((pad_last2 x fill _ _ i d).trans ?_))
  · match a with
    | ⟨0, _⟩ => rfl
    | ⟨1, _⟩ => rfl
    | ⟨2, _⟩ => rfl
  · match a with
    | ⟨0, _⟩ => rfl
    | ⟨1, _⟩ => rfl
  · simp only [hx]
    exact wide_coe (f i) d _ (fill_apply _)

theorem join_apply {f g : Fin 128 → ℝ} (x y : FVec Ideal S8x2048x128 .f32) (h : Fin 8) (i : Fin 2048)
    (hx : ∀ d, x (ix3 h i d) = ((f d : ℝ) : EReal)) (hy : ∀ d, y (ix3 h i d) = ((g d : ℝ) : EReal))
    (d : Fin 256) : join x y (ix3 h i d) = ((pair f g d : ℝ) : EReal) := by
  show concatenate S8x2048x256 2 [⟨S8x2048x128, x⟩, ⟨S8x2048x128, y⟩] concatenates_S8x2048x128_S8x2048x128_S8x2048x256_d2 (ix3 h i d) = _
  refine (cat_apply x y concatenates_S8x2048x128_S8x2048x128_S8x2048x256_d2 h i d).trans ?_
  simp only [hx, hy]
  exact pair_coe f g d

theorem flat64_apply {f : Fin 2048 → Fin 8 → Fin 64 → ℝ} (x : FVec Ideal S2048x8x64 .f32) (hx : ∀ i h d, x (ix3 i h d) = ((f i h d : ℝ) : EReal))
    (i : Fin 2048) (h : Fin 8) (d : Fin 128) (e : Fin 1024) (he : e.val = h.val * 128 + d.val) : flat64 x (ix2 i e) = ((wide (f i h) d : ℝ) : EReal) := by
  refine (shapeCast_apply _ _ _ (ix3 i h d) ?_).trans (pad64_apply x hx i h d)
  rw [Shape.rowMajor_val_three, Shape.rowMajor_val_two]
  show (i.val * 8 + h.val) * 128 + d.val = i.val * 1024 + e.val
  omega

/-! ## The windows -/

theorem index_q : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index_k : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index_v : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index_g : ∀ t : Fin cfg0.N, win0_3.index t 0 = 0 ∧ win0_3.index t 1 = t.val :=
  (by decide +kernel : ∀ t : Fin grid0.N, win0_3.index t 0 = 0 ∧ win0_3.index t 1 = t.val)
theorem index_dq : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem index_dk : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
theorem index_dv : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

theorem block_q (t : Fin 8) (r : Fin 2048) (d : Fin 256) : iblk m c 0 t (ix3 (0 : Fin 1) r d) = V m c main_v5 (ix3 t r d) := by
  have hi := index_q t
  refine congrArg (V m c main_v5) (funext fun a => Fin.ext ?_)
  match a with
  | ⟨0, _⟩ => show win0_0.index t 0 * 1 + 1 * 0 = t.val; omega
  | ⟨1, _⟩ => show win0_0.index t 1 * 2048 + 1 * r.val = r.val; omega
  | ⟨2, _⟩ => show win0_0.index t 2 * 256 + 1 * d.val = d.val; omega

theorem block_k (t : Fin 8) (r : Fin 2048) (d : Fin 256) : iblk m c 1 t (ix3 (0 : Fin 1) r d) = V m c main_v12 (ix3 t r d) := by
  have hi := index_k t
  refine congrArg (V m c main_v12) (funext fun a => Fin.ext ?_)
  match a with
  | ⟨0, _⟩ => show win0_1.index t 0 * 1 + 1 * 0 = t.val; omega
  | ⟨1, _⟩ => show win0_1.index t 1 * 2048 + 1 * r.val = r.val; omega
  | ⟨2, _⟩ => show win0_1.index t 2 * 256 + 1 * d.val = d.val; omega

theorem block_v (t : Fin 8) (r : Fin 2048) (d : Fin 128) : iblk m c 2 t (ix3 (0 : Fin 1) r d) = V m c main_v17 (ix3 t r d) := by
  have hi := index_v t
  refine congrArg (V m c main_v17) (funext fun a => Fin.ext ?_)
  match a with
  | ⟨0, _⟩ => show win0_2.index t 0 * 1 + 1 * 0 = t.val; omega
  | ⟨1, _⟩ => show win0_2.index t 1 * 2048 + 1 * r.val = r.val; omega
  | ⟨2, _⟩ => show win0_2.index t 2 * 128 + 1 * d.val = d.val; omega

theorem block_g (t : Fin 8) (r : Fin 2048) (d : Fin 128) :
    iblk m c 3 t (ix2 r d) = V m c main_v14 (ix2 r (⟨t.val * 128 + d.val, by omega⟩ : Fin 1024)) := by
  have hi := index_g t
  refine congrArg (V m c main_v14) (funext fun a => Fin.ext ?_)
  match a with
  | ⟨0, _⟩ => show win0_3.index t 0 * 2048 + 1 * r.val = r.val; omega
  | ⟨1, _⟩ => show win0_3.index t 1 * 128 + 1 * d.val = t.val * 128 + d.val; omega

variable {qn : Fin 2048 → Fin 8 → Fin 64 → ℝ} {qr : Fin 2048 → Fin 8 → Fin 32 → ℝ} {kn : Fin 2048 → Fin 8 → Fin 64 → ℝ}
  {kr : Fin 2048 → Fin 32 → ℝ} {v ct : Fin 2048 → Fin 8 → Fin 64 → ℝ}
  (H : Reals qn qr kn kr v ct (m (c, main_arg0)) (m (c, main_arg1)) (m (c, main_arg2)) (m (c, main_arg3)) (m (c, main_arg4)) (m (c, main_arg5)))
include H

theorem headHolds (t : Fin 8) : HeadHolds (iblk m c 0 t) (iblk m c 1 t) (iblk m c 2 t) (iblk m c 3 t)
    (headQ qn qr t) (headK kn kr t) (headV v t) (headV ct t) where
  q R d := (block_q m c t R d).trans (by
    rw [entry_q]; exact join_apply _ _ t R (lay64_apply _ H.qn t R) (lay32_apply _ H.qr t R) d)
  k R d := (block_k m c t R d).trans (by
    rw [entry_k]; exact join_apply _ _ t R (lay64_apply _ H.kn t R) (layOne_apply _ H.kr t R) d)
  v R d := (block_v m c t R d).trans (by rw [entry_v]; exact lay64_apply _ H.v t R d)
  g R d := (block_g m c t R d).trans (by rw [entry_g]; exact flat64_apply _ H.ct R t d _ rfl)

theorem final_dq (t : Fin 8) (R : Fin 2048) (d : Fin 256) : (dats m 0 c).arrAt 4 cfg0.N (ix3 t R d)
    = ((∑ C, dscoreR (headQ qn qr t) (headK kn kr t) (headV v t) (headV ct t) R C * headK kn kr t C d : ℝ) : EReal) := by
  have hi := index_dq t
  refine Eq.trans ?_ ((congrFun (Value.blocks4 m c t (flush0_4 t)) (ix3 (0 : Fin 1) R d)).trans ?_)
  · refine congrArg ((dats m 0 c).arrAt 4 cfg0.N) (funext fun a => Fin.ext ?_)
    match a with
    | ⟨0, _⟩ => show t.val = win0_4.index t 0 * 1 + 1 * 0; omega
    | ⟨1, _⟩ => show R.val = win0_4.index t 1 * 2048 + 1 * R.val; omega
    | ⟨2, _⟩ => show d.val = win0_4.index t 2 * 256 + 1 * d.val; omega
  · exact (congrFun (Value.flushed4_A m c t) _).trans (out4_apply _ _ _ _ _ _ _ _ _ _ _ _ _ _ _ _ (headHolds m c H t) R d)

theorem final_dk (t : Fin 8) (C : Fin 2048) (d : Fin 256) : (dats m 0 c).arrAt 5 cfg0.N (ix3 t C d)
    = ((∑ R, dscoreR (headQ qn qr t) (headK kn kr t) (headV v t) (headV ct t) R C * headQ qn qr t R d : ℝ) : EReal) := by
  have hi := index_dk t
  refine Eq.trans ?_ ((congrFun (Value.blocks5 m c t (flush0_5 t)) (ix3 (0 : Fin 1) C d)).trans ?_)
  · refine congrArg ((dats m 0 c).arrAt 5 cfg0.N) (funext fun a => Fin.ext ?_)
    match a with
    | ⟨0, _⟩ => show t.val = win0_5.index t 0 * 1 + 1 * 0; omega
    | ⟨1, _⟩ => show C.val = win0_5.index t 1 * 2048 + 1 * C.val; omega
    | ⟨2, _⟩ => show d.val = win0_5.index t 2 * 256 + 1 * d.val; omega
  · exact (congrFun (Value.flushed5_A m c t) _).trans (out5_apply _ _ _ _ _ _ _ _ _ _ _ _ _ _ _ _ (headHolds m c H t) C d)

theorem final_dv (t : Fin 8) (C : Fin 2048) (d : Fin 128) : (dats m 0 c).arrAt 6 cfg0.N (ix3 t C d)
    = ((∑ R, probR (headQ qn qr t) (headK kn kr t) R C * headV ct t R d : ℝ) : EReal) := by
  have hi := index_dv t
  refine Eq.trans ?_ ((congrFun (Value.blocks6 m c t (flush0_6 t)) (ix3 (0 : Fin 1) C d)).trans ?_)
  · refine congrArg ((dats m 0 c).arrAt 6 cfg0.N) (funext fun a => Fin.ext ?_)
    match a with
    | ⟨0, _⟩ => show t.val = win0_6.index t 0 * 1 + 1 * 0; omega
    | ⟨1, _⟩ => show C.val = win0_6.index t 1 * 2048 + 1 * C.val; omega
    | ⟨2, _⟩ => show d.val = win0_6.index t 2 * 128 + 1 * d.val; omega
  · exact (congrFun (Value.flushed6_A m c t) _).trans (out6_apply _ _ _ _ _ _ _ _ _ _ _ _ _ _ _ _ (headHolds m c H t) C d)

end Cert.KernelIdeal.Gen

end
-- ==== Proof.AttnReference.lean ====
/- What the reference's three results hold, as functions of the arguments. -/
module

public import proofs.«01_k».proof.Proof.AttnKernel
public import proofs.«01_k».proof.Proof.Gen.ReferenceIdeal.Read
public import Idealize.ShloMosaic.Lib.IdealHost

@[expose] public section

noncomputable section

namespace Cert.ReferenceIdeal.Read

open Idealize.ShloMosaic Idealize.ShloMosaic.ValueIdx Cert.Attn

/-! ## Reading at an index given by its coordinates -/

theorem at3 {α : Type} {a b c : ℕ} (f : (Tens a b c).Idx → α) (i : (Tens a b c).Idx) (x : Fin a) (y : Fin b) (z : Fin c)
    (h0 : (i 0).val = x.val) (h1 : (i 1).val = y.val) (h2 : (i 2).val = z.val) : f i = f (ix3 x y z) :=
  congrArg f (funext fun d => Fin.ext (match d with | ⟨0, _⟩ => h0 | ⟨1, _⟩ => h1 | ⟨2, _⟩ => h2))

theorem at2 {α : Type} {a b : ℕ} (f : (Mat a b).Idx → α) (i : (Mat a b).Idx) (x : Fin a) (y : Fin b)
    (h0 : (i 0).val = x.val) (h1 : (i 1).val = y.val) : f i = f (ix2 x y) :=
  congrArg f (funext fun d => Fin.ext (match d with | ⟨0, _⟩ => h0 | ⟨1, _⟩ => h1))

theorem one_word : FloatOps.ofBits (F := Ideal) .f32 0x3F800000#32 = ((1 : ℝ) : EReal) := Ideal.ofBits_one_f32
theorem zero_word' : FloatOps.ofBits (F := Ideal) .f32 0x00000000#32 = (0 : EReal) := zero_word

/-- The largest element along the last of three axes. -/
theorem reduceMax_last {a b n : ℕ} (x : FVec Ideal (Tens a b n) .f32) (h : (Tens a b n).ReducesTo [2] (Mat a b))
    (h' : (Tens a b n).Reduces [2] (Mat a b)) (hu : 0 < (⟨0, ![]⟩ : Shape).numel) (i : Fin a) (j : Fin b) :
    Host.reduce FloatOps.maximumf x (constant ⟨0, ![]⟩ .f32 0xFF800000#32) h hu (ix2 i j)
      = Finset.univ.fold max (⊥ : EReal) (fun k : Fin n => x (ix3 i j k)) :=
  (congrFun (hostReduce_maximumf_eq_multiReduction x 0xFF800000#32 h hu h' (.inl rfl) rfl) (ix2 i j)).trans
    ((Ideal.multiReduction_maximumf_single x _ h' _ _ _).trans
      ((congrArg (fun e : EReal => Finset.univ.fold max e (x ∘ h'.lift (ix2 i j))) neg_inf).trans
        (congrArg (Finset.univ.fold max (⊥ : EReal)) (funext fun k : Fin n => at3 x (h'.lift (ix2 i j) k) i j k rfl rfl rfl))))

section Values

variable {qn : Fin 2048 → Fin 8 → Fin 64 → ℝ} {qr : Fin 2048 → Fin 8 → Fin 32 → ℝ} {kn : Fin 2048 → Fin 8 → Fin 64 → ℝ}
  {kr : Fin 2048 → Fin 32 → ℝ} {v ct : Fin 2048 → Fin 8 → Fin 64 → ℝ}
  {x0 : FVec Ideal (Tens 2048 8 64) .f32} {x1 : FVec Ideal (Tens 2048 8 32) .f32} {x2 : FVec Ideal (Tens 2048 8 64) .f32}
  {x3 : FVec Ideal (Mat 2048 32) .f32} {x4 x5 : FVec Ideal (Tens 2048 8 64) .f32}
  (H : Cert.KernelIdeal.Gen.Reals qn qr kn kr v ct x0 x1 x2 x3 x4 x5) (h : Fin 8) (R C : Fin 2048)

include H

/-! ## The scores and their softmax -/

/-- Head `h`'s scores. -/
theorem score_val : val_main_v6 (F := Ideal) x0 x1 x2 x3 (ix3 h R C)
    = ((scoreR (headQ qn qr h) (headK kn kr h) R C : ℝ) : EReal) := by
  have e1 : val_main_v2 (F := Ideal) x0 x2 (ix3 h R C) = ((∑ d, qn R h d * kn C h d : ℝ) : EReal) := by
    rw [val_main_v2_apply, ← coe_sum_mul]
    exact Finset.sum_congr rfl fun d _ => congrArg₂ (· * ·)
      ((at3 x0 _ R h d rfl rfl rfl).trans (H.qn R h d)) ((at3 x2 _ C h d rfl rfl rfl).trans (H.kn C h d))
  have e2 : val_main_v3 (F := Ideal) x1 x3 (ix3 h R C) = ((∑ d, qr R h d * kr C d : ℝ) : EReal) := by
    rw [val_main_v3_apply, ← coe_sum_mul]
    refine Finset.sum_congr rfl fun d _ => congrArg₂ (· * ·)
      ((at3 x1 _ R h d rfl rfl rfl).trans (H.qr R h d)) ?_
    rw [val_main_v1_apply, val_main_v0_apply]
    exact (at2 x3 _ C d rfl rfl).trans (H.kr C d)
  rw [val_main_v6_apply, val_main_v4_apply, val_main_v5_apply, val_main_cst_apply, e1, e2]
  show ((_ : EReal) + _) * Ideal.ofBits .f32 0x3DD105EC#32 = _
  rw [scale_coe, ← EReal.coe_add, ← EReal.coe_mul]
  refine congrArg (fun r : ℝ => (r : EReal)) ?_
  unfold scoreR headQ headK
  rw [sum_pair, sum_wide (by omega), sum_wide (by omega)]

omit H in
theorem mask_val : val_main_v13_1 (F := Ideal) (ix3 h R C) = 1 ↔ C.val ≤ R.val := by
  rw [val_main_v13_1_apply, val_main_v12_apply, val_main_v10_apply, val_main_v8_apply, val_main_v11_apply, val_main_v9_apply,
    val_main_v7_apply, val_main_v7_apply]
  exact sle_small _ _ (lt_trans C.isLt (by norm_num)) (lt_trans R.isLt (by norm_num))

theorem masked_val : val_main_v13_0 (F := Ideal) x0 x1 x2 x3 (ix3 h R C)
    = if C.val ≤ R.val then ((scoreR (headQ qn qr h) (headK kn kr h) R C : ℝ) : EReal) else ⊥ := by
  rw [val_main_v13_0_apply, Scalar.select, score_val H]
  by_cases hm : C.val ≤ R.val
  · rw [if_pos ((mask_val h R C).mpr hm), if_pos hm]
  · rw [if_neg (fun e => hm ((mask_val h R C).mp e)), if_neg hm, val_main_call0_v2_apply]
    exact neg_inf

theorem max_val : val_main_v21 (F := Ideal) x0 x1 x2 x3 (ix2 h R) = ((mx (scoreR (headQ qn qr h) (headK kn kr h)) R : ℝ) : EReal) := by
  have e : val_main_v14 (F := Ideal) x0 x1 x2 x3 (ix2 h R) = ((mx (scoreR (headQ qn qr h) (headK kn kr h)) R : ℝ) : EReal) := by
    unfold val_main_v14
    refine (reduceMax_last (val_main_v13_0 (F := Ideal) x0 x1 x2 x3) _ (by decide) _ h R).trans ?_
    simp only [masked_val H]
    exact fold_max_masked R.val (scoreR (headQ qn qr h) (headK kn kr h) R) _ (fun c hc => mx_le _ _ _ hc) (mx_at _ R)
  rw [val_main_v21_apply, e, val_main_v20_apply, val_main_cst_3_apply]
  show max (Ideal.ofBits .f32 0xFF800000#32) _ = _
  rw [neg_inf]
  exact max_eq_right bot_le

theorem exp_val : val_main_v34 (F := Ideal) x0 x1 x2 x3 (ix3 h R C) = ((ex (scoreR (headQ qn qr h) (headK kn kr h)) R C : ℝ) : EReal) := by
  have e : val_main_v32 (F := Ideal) x0 x1 x2 x3 (ix3 h R C) = ((mx (scoreR (headQ qn qr h) (headK kn kr h)) R : ℝ) : EReal) := by
    rw [val_main_v32_apply, val_main_v31_apply]
    exact (at2 _ _ h R rfl rfl).trans (max_val H h R)
  rw [val_main_v34_apply, val_main_v33_apply, masked_val H, e]
  show Ideal.exp ((_ : EReal) - _) = _
  unfold ex
  by_cases hm : C.val ≤ R.val
  · rw [if_pos hm, if_pos hm, ← EReal.coe_sub]; rfl
  · rw [if_neg hm, if_neg hm, EReal.bot_sub]; rfl

theorem den_val (i : (Tens 8 2048 1).Idx) (h0 : (i 0).val = h.val) (h1 : (i 1).val = R.val) :
    val_main_v36 (F := Ideal) x0 x1 x2 x3 i = ((den (scoreR (headQ qn qr h) (headK kn kr h)) R : ℝ) : EReal) := by
  rw [val_main_v36_apply]
  refine (at2 _ _ h R h0 h1).trans ?_
  rw [val_main_v35_apply, val_main_cst_9_apply, zero_word', zero_add, den, coe_sum]
  exact Finset.sum_congr rfl fun k _ => (at3 _ _ h R k rfl rfl rfl).trans (exp_val H h R k)

theorem prob_val : val_main_v38 (F := Ideal) x0 x1 x2 x3 (ix3 h R C) = ((probR (headQ qn qr h) (headK kn kr h) R C : ℝ) : EReal) := by
  rw [val_main_v38_apply, exp_val H, val_main_v37_apply, den_val H h R _ rfl rfl]
  exact div_coe_coe _ (den_ne _ R)

/-! ## The gradient of the scores -/

theorem ct_val (d : Fin 64) : val_main_v44 (F := Ideal) x5 (ix3 h d R) = ((ct R h d : ℝ) : EReal) := by
  rw [val_main_v44_apply]
  exact (at3 x5 _ R h d rfl rfl rfl).trans (H.ct R h d)

theorem dprob_val : val_main_v45 (F := Ideal) x4 x5 (ix3 h R C) = ((dprobR (headV v h) (headV ct h) R C : ℝ) : EReal) := by
  unfold dprobR headV
  rw [val_main_v45_apply, sum_wide (by omega), ← coe_sum_mul]
  exact Finset.sum_congr rfl fun d _ => congrArg₂ (· * ·)
    ((at3 (val_main_v44 (F := Ideal) x5) _ h d R rfl rfl rfl).trans (ct_val H h R d)) ((at3 x4 _ C h d rfl rfl rfl).trans (H.v C h d))

theorem inv_val (i : (Tens 8 2048 1).Idx) (h0 : (i 0).val = h.val) (h1 : (i 1).val = R.val) :
    val_main_v41 (F := Ideal) x0 x1 x2 x3 i
      = ((1 / (den (scoreR (headQ qn qr h) (headK kn kr h)) R * den (scoreR (headQ qn qr h) (headK kn kr h)) R) : ℝ) : EReal) := by
  rw [val_main_v41_apply, val_main_v40_apply, val_main_v39_apply, val_main_cst_10_apply, one_word, den_val H h R i h0 h1]
  show Ideal.div _ ((_ : EReal) * _) = _
  rw [← EReal.coe_mul]
  exact div_coe_coe _ (mul_ne_zero (den_ne _ R) (den_ne _ R))

theorem sum_val : val_main_v57 (F := Ideal) x0 x1 x2 x3 x4 x5 (ix3 h R C)
    = ((-(∑ C', dprobR (headV v h) (headV ct h) R C'
        * (1 / (den (scoreR (headQ qn qr h) (headK kn kr h)) R * den (scoreR (headQ qn qr h) (headK kn kr h)) R))
        * ex (scoreR (headQ qn qr h) (headK kn kr h)) R C') : ℝ) : EReal) := by
  rw [val_main_v57_apply, val_main_v56_apply, val_main_cst_12_apply, zero_word', zero_add, Fin.sum_univ_one, val_main_v53_apply,
    val_main_v52_apply]
  have e : val_main_v51 (F := Ideal) x0 x1 x2 x3 x4 x5 (ix2 h R)
      = ((∑ C', dprobR (headV v h) (headV ct h) R C'
        * (1 / (den (scoreR (headQ qn qr h) (headK kn kr h)) R * den (scoreR (headQ qn qr h) (headK kn kr h)) R))
        * ex (scoreR (headQ qn qr h) (headK kn kr h)) R C' : ℝ) : EReal) := by
    rw [val_main_v51_apply, val_main_cst_11_apply, zero_word', zero_add, coe_sum]
    refine Finset.sum_congr rfl fun k _ => (at3 _ _ h R k rfl rfl rfl).trans ?_
    rw [val_main_v50_apply, val_main_v49_apply, val_main_v48_apply, dprob_val H, exp_val H, inv_val H h R _ rfl rfl]
    show ((_ : EReal) * _) * _ = _
    rw [← EReal.coe_mul, ← EReal.coe_mul]
  show -(val_main_v51 (F := Ideal) x0 x1 x2 x3 x4 x5 _) = _
  rw [EReal.coe_neg, ← e]
  refine congrArg (fun r : EReal => -r) (at2 _ _ h R ?_ ?_)
  · show ((h.val * 2048 + R.val) * 1 + 0) / 2048 = h.val
    have := R.isLt; omega
  · show ((h.val * 2048 + R.val) * 1 + 0) % 2048 = R.val
    have := R.isLt; omega

theorem dscore_val : val_main_v62 (F := Ideal) x0 x1 x2 x3 x4 x5 (ix3 h R C)
    = ((dscoreR (headQ qn qr h) (headK kn kr h) (headV v h) (headV ct h) R C : ℝ) : EReal) := by
  have e : val_main_v59 (F := Ideal) x0 x1 x2 x3 x4 x5 (ix3 h R C)
      = (((dprobR (headV v h) (headV ct h) R C / den (scoreR (headQ qn qr h) (headK kn kr h)) R
          + -(∑ C', dprobR (headV v h) (headV ct h) R C'
            * (1 / (den (scoreR (headQ qn qr h) (headK kn kr h)) R * den (scoreR (headQ qn qr h) (headK kn kr h)) R))
            * ex (scoreR (headQ qn qr h) (headK kn kr h)) R C'))
          * ex (scoreR (headQ qn qr h) (headK kn kr h)) R C : ℝ) : EReal) := by
    rw [val_main_v59_apply, val_main_v58_apply, val_main_v55_apply, val_main_v54_apply, dprob_val H, exp_val H, sum_val H,
      den_val H h R _ rfl rfl]
    show (Ideal.div _ _ + _ : EReal) * _ = _
    rw [div_coe_coe _ (den_ne _ R), ← EReal.coe_add, ← EReal.coe_mul]
  rw [val_main_v62_apply, val_main_v60_apply, Scalar.select, val_main_v61_apply, val_main_cst_13_apply, e]
  show (_ : EReal) * Ideal.ofBits .f32 0x3DD105EC#32 = _
  rw [scale_coe]
  by_cases hm : C.val ≤ R.val
  · rw [if_pos ((mask_val h R C).mpr hm), ← EReal.coe_mul, ds_quotient]
  · rw [if_neg (fun e => hm ((mask_val h R C).mp e)), val_main_call1_v0_apply, val_main_call1_cst_apply, zero_word', zero_mul, dscoreR,
      ds_masked _ _ _ _ _ hm]
    rfl

/-! ## The products -/

theorem dqn_val (d : Fin 64) : val_main_v70 (F := Ideal) x0 x1 x2 x3 x4 x5 (ix3 R h d)
    = ((∑ C, dscoreR (headQ qn qr h) (headK kn kr h) (headV v h) (headV ct h) R C * kn C h d : ℝ) : EReal) := by
  rw [val_main_v70_apply]
  refine (at3 _ _ h R d rfl rfl rfl).trans ?_
  rw [val_main_v69_apply, ← coe_sum_mul]
  exact Finset.sum_congr rfl fun C _ => congrArg₂ (· * ·)
    ((at3 (val_main_v62 (F := Ideal) x0 x1 x2 x3 x4 x5) _ h R C rfl rfl rfl).trans (dscore_val H h R C))
    ((at3 x2 _ C h d rfl rfl rfl).trans (H.kn C h d))

theorem dqr_val (d : Fin 32) : val_main_v66 (F := Ideal) x0 x1 x2 x3 x4 x5 (ix3 R h d)
    = ((∑ C, dscoreR (headQ qn qr h) (headK kn kr h) (headV v h) (headV ct h) R C * kr C d : ℝ) : EReal) := by
  rw [val_main_v66_apply]
  refine (at3 _ _ h R d rfl rfl rfl).trans ?_
  rw [val_main_v65_apply, ← coe_sum_mul]
  refine Finset.sum_congr rfl fun C _ => congrArg₂ (· * ·)
    ((at3 (val_main_v62 (F := Ideal) x0 x1 x2 x3 x4 x5) _ h R C rfl rfl rfl).trans (dscore_val H h R C)) ?_
  rw [val_main_v1_apply, val_main_v0_apply]
  exact (at2 x3 _ C d rfl rfl).trans (H.kr C d)

theorem dkn_val (d : Fin 64) : val_main_v68 (F := Ideal) x0 x1 x2 x3 x4 x5 (ix3 C h d)
    = ((∑ R, dscoreR (headQ qn qr h) (headK kn kr h) (headV v h) (headV ct h) R C * qn R h d : ℝ) : EReal) := by
  rw [val_main_v68_apply]
  refine (at3 _ _ h C d rfl rfl rfl).trans ?_
  rw [val_main_v67_apply, ← coe_sum_mul]
  exact Finset.sum_congr rfl fun R _ => congrArg₂ (· * ·)
    ((at3 (val_main_v62 (F := Ideal) x0 x1 x2 x3 x4 x5) _ h R C rfl rfl rfl).trans (dscore_val H h R C))
    ((at3 x0 _ R h d rfl rfl rfl).trans (H.qn R h d))

theorem dkr_val (d : Fin 32) : val_main_v64 (F := Ideal) x0 x1 x2 x3 x4 x5 (ix3 C h d)
    = ((∑ R, dscoreR (headQ qn qr h) (headK kn kr h) (headV v h) (headV ct h) R C * qr R h d : ℝ) : EReal) := by
  rw [val_main_v64_apply]
  refine (at3 _ _ h C d rfl rfl rfl).trans ?_
  rw [val_main_v63_apply, ← coe_sum_mul]
  exact Finset.sum_congr rfl fun R _ => congrArg₂ (· * ·)
    ((at3 (val_main_v62 (F := Ideal) x0 x1 x2 x3 x4 x5) _ h R C rfl rfl rfl).trans (dscore_val H h R C))
    ((at3 x1 _ R h d rfl rfl rfl).trans (H.qr R h d))

theorem dv_val (d : Fin 64) : val_main_v47 (F := Ideal) x0 x1 x2 x3 x5 (ix3 C h d)
    = ((∑ R, probR (headQ qn qr h) (headK kn kr h) R C * ct R h d : ℝ) : EReal) := by
  rw [val_main_v47_apply]
  refine (at3 _ _ h d C rfl rfl rfl).trans ?_
  rw [val_main_v46_apply]
  simp only [mul_comm (probR _ _ _ _)]
  rw [← coe_sum_mul]
  exact Finset.sum_congr rfl fun R _ => congrArg₂ (· * ·)
    ((at3 (val_main_v44 (F := Ideal) x5) _ h d R rfl rfl rfl).trans (ct_val H h R d))
    ((at3 (val_main_v38 (F := Ideal) x0 x1 x2 x3) _ h R C rfl rfl rfl).trans (prob_val H h R C))

/-! ## The results, laid out -/

omit H in
/-- A sum against features filled up with zeros is the sums filled up with zeros. -/
theorem wide_sum {w : ℕ} (p : Fin 2048 → ℝ) (f : Fin 2048 → Fin w → ℝ) (d : Fin 128) :
    wide (fun e => ∑ C, p C * f C e) d = ∑ C, p C * wide (f C) d := by
  by_cases hd : d.val < w
  · simp only [wide, dif_pos hd]
  · simp only [wide, dif_neg hd, mul_zero, Finset.sum_const_zero]

omit H in
theorem pair_sum (p : Fin 2048 → ℝ) (f g : Fin 2048 → Fin 128 → ℝ) (d : Fin 256) :
    pair (fun e => ∑ C, p C * f C e) (fun e => ∑ C, p C * g C e) d = ∑ C, p C * pair (f C) (g C) d := by
  by_cases hd : d.val < 128
  · simp only [pair, dif_pos hd]
  · simp only [pair, dif_neg hd]

theorem res_dq (d : Fin 256) : val_main_v75 (F := Ideal) x0 x1 x2 x3 x4 x5 (ix3 h R d)
    = ((∑ C, dscoreR (headQ qn qr h) (headK kn kr h) (headV v h) (headV ct h) R C * headK kn kr h C d : ℝ) : EReal) := by
  have e1 (e : Fin 128) : val_main_v72 (F := Ideal) x0 x1 x2 x3 x4 x5 (ix3 h R e)
      = ((∑ C, dscoreR (headQ qn qr h) (headK kn kr h) (headV v h) (headV ct h) R C * wide (kn C h) e : ℝ) : EReal) := by
    rw [← wide_sum, ← wide_coe _ e _ zero_word']
    refine (swap_apply (val_main_v71 (F := Ideal) x0 x1 x2 x3 x4 x5) _ h R e).trans ((pad_last _ _ _ _ R h e).trans ?_)
    split
    · exact dqn_val H h R _
    · rfl
  have e2 (e : Fin 128) : val_main_v74 (F := Ideal) x0 x1 x2 x3 x4 x5 (ix3 h R e)
      = ((∑ C, dscoreR (headQ qn qr h) (headK kn kr h) (headV v h) (headV ct h) R C * wide (kr C) e : ℝ) : EReal) := by
    rw [← wide_sum, ← wide_coe _ e _ zero_word']
    refine (swap_apply (val_main_v73 (F := Ideal) x0 x1 x2 x3 x4 x5) _ h R e).trans ((pad_last _ _ _ _ R h e).trans ?_)
    split
    · exact dqr_val H h R _
    · rfl
  unfold val_main_v75 headK
  rw [← pair_sum, ← pair_coe]
  refine (cat_apply _ _ _ h R d).trans ?_
  split
  · exact e1 _
  · exact e2 _

theorem res_dk (d : Fin 256) : val_main_v80 (F := Ideal) x0 x1 x2 x3 x4 x5 (ix3 h C d)
    = ((∑ R, dscoreR (headQ qn qr h) (headK kn kr h) (headV v h) (headV ct h) R C * headQ qn qr h R d : ℝ) : EReal) := by
  have e1 (e : Fin 128) : val_main_v77 (F := Ideal) x0 x1 x2 x3 x4 x5 (ix3 h C e)
      = ((∑ R, dscoreR (headQ qn qr h) (headK kn kr h) (headV v h) (headV ct h) R C * wide (qn R h) e : ℝ) : EReal) := by
    rw [← wide_sum, ← wide_coe _ e _ zero_word']
    refine (swap_apply (val_main_v76 (F := Ideal) x0 x1 x2 x3 x4 x5) _ h C e).trans ((pad_last _ _ _ _ C h e).trans ?_)
    split
    · exact dkn_val H h C _
    · rfl
  have e2 (e : Fin 128) : val_main_v79 (F := Ideal) x0 x1 x2 x3 x4 x5 (ix3 h C e)
      = ((∑ R, dscoreR (headQ qn qr h) (headK kn kr h) (headV v h) (headV ct h) R C * wide (qr R h) e : ℝ) : EReal) := by
    rw [← wide_sum, ← wide_coe _ e _ zero_word']
    refine (swap_apply (val_main_v78 (F := Ideal) x0 x1 x2 x3 x4 x5) _ h C e).trans ((pad_last _ _ _ _ C h e).trans ?_)
    split
    · exact dkr_val H h C _
    · rfl
  unfold val_main_v80 headQ
  rw [← pair_sum, ← pair_coe]
  refine (cat_apply _ _ _ h C d).trans ?_
  split
  · exact e1 _
  · exact e2 _

theorem res_dv (d : Fin 128) : val_main_v82 (F := Ideal) x0 x1 x2 x3 x5 (ix3 h C d)
    = ((∑ R, probR (headQ qn qr h) (headK kn kr h) R C * headV ct h R d : ℝ) : EReal) := by
  unfold headV
  rw [← wide_sum, ← wide_coe _ d _ zero_word']
  refine (swap_apply (val_main_v81 (F := Ideal) x0 x1 x2 x3 x5) _ h C d).trans ((pad_last _ _ _ _ C h d).trans ?_)
  split
  · exact dv_val H h C _
  · rfl

end Values

end Cert.ReferenceIdeal.Read

end
-- ==== Proof.AttnFinite.lean ====
/- The precondition says that every argument entry is a real number. -/
module

public import proofs.«01_k».proof.Proof.AttnReference
public import proofs.«01_k».proof.Proof.Gen.Pre_finite

@[expose] public section

noncomputable section

namespace Cert.Pre_finite.Gen

open Idealize.ShloMosaic Idealize.ShloMosaic.ValueIdx Cert.Attn Cert.ReferenceIdeal.Read

theorem and_one {a b : BitVec 1} (h : IntOp.andi a b = 1#1) : a = 1#1 ∧ b = 1#1 := by revert a b; decide

theorem inf_word : Ideal.ofBits .f32 0x7F800000#32 = (⊤ : EReal) := by simp [Ideal.ofBits, Ideal.ieee]

/-- An entry whose absolute value is below infinity is the real number it reads as. -/
theorem real_of_lt {a : EReal} (h : Ideal.cmp .olt (max a (-a)) (Ideal.ofBits .f32 0x7F800000#32) = 1#1) : a = ((a.toReal : ℝ) : EReal) := by
  rw [inf_word] at h
  refine (coe_of_abs_lt ?_).symm
  by_contra hc
  have : Ideal.cmp .olt (max a (-a)) ⊤ = 0#1 := by simp [Ideal.cmp, hc]
  rw [this] at h
  exact absurd h (by decide)

/-- Every entry of an array is a real number. -/
abbrev AllReal (x : FVec Ideal S2048x8x64 .f32) : Prop := ∀ i, x i = ((x i).toReal : EReal)

abbrev wide32 (x : FVec Ideal S2048x8x32 .f32) : FVec Ideal S2048x8x64 .f32 :=
  pad S2048x8x64 ![0, 0, 0] ![0, 0, 32] ![0, 0, 0] x (constant S_ .f32 0x00000000#32) pads_S2048x8x32_S2048x8x64_000_000_0320 h_S_

abbrev heads (x : FVec Ideal S2048x32 .f32) : FVec Ideal S2048x8x32 .f32 :=
  broadcastInDim S2048x8x32 ![0, 1, 2] bcast_S2048x1x32_S2048x8x32_0_1_2 (broadcastInDim S2048x1x32 ![0, 2] bcast_S2048x32_S2048x1x32_0_2 x)

abbrev below (x : FVec Ideal S2048x8x64 .f32) : IVec S2048x8x64 1 :=
  cmpf .olt (Host.absf x) (broadcastInDim S2048x8x64 ![] bcast_S_S2048x8x64 (constant S_ .f32 0x7F800000#32))

theorem below_real (x : FVec Ideal S2048x8x64 .f32) (i : S2048x8x64.Idx) (h : below x i = 1#1) : x i = ((x i).toReal : EReal) := real_of_lt h

variable {a0 : FVec Ideal S2048x8x64 .f32} {a1 : FVec Ideal S2048x8x32 .f32} {a2 : FVec Ideal S2048x8x64 .f32}
  {a3 : FVec Ideal S2048x32 .f32} {a4 a5 : FVec Ideal S2048x8x64 .f32}

theorem split (h : fn (F := Ideal) a0 a1 a2 a3 a4 a5 = fun _ => 1#1) :
    AllReal a0 ∧ AllReal a2 ∧ AllReal a4 ∧ AllReal a5 ∧ AllReal (wide32 a1) ∧ AllReal (wide32 (heads a3)) := by
  have h' (i : S2048x8x64.Idx) : IntOp.andi (IntOp.andi (IntOp.andi (IntOp.andi (IntOp.andi (below a0 i) (below a2 i)) (below a4 i)) (below a5 i))
      (below (wide32 a1) i)) (below (wide32 (heads a3)) i) = 1#1 := congrFun h i
  refine ⟨fun i => ?_, fun i => ?_, fun i => ?_, fun i => ?_, fun i => ?_, fun i => ?_⟩ <;>
    obtain ⟨p, p5⟩ := and_one (h' i) <;> obtain ⟨p, p4⟩ := and_one p <;> obtain ⟨p, p3⟩ := and_one p <;>
    obtain ⟨p, p2⟩ := and_one p <;> obtain ⟨p0, p1⟩ := and_one p
  · exact below_real _ i p0
  · exact below_real _ i p1
  · exact below_real _ i p2
  · exact below_real _ i p3
  · exact below_real _ i p4
  · exact below_real _ i p5

theorem wide32_apply (x : FVec Ideal S2048x8x32 .f32) (i : Fin 2048) (h : Fin 8) (d : Fin 32) :
    wide32 x (ix3 i h (Fin.castLE (by decide) d)) = x (ix3 i h d) :=
  (pad_last x _ _ _ i h _).trans (dif_pos (show (Fin.castLE (by decide : 32 ≤ 64) d).val < 32 from d.isLt))

theorem heads_apply (x : FVec Ideal S2048x32 .f32) (i : Fin 2048) (h : Fin 8) (d : Fin 32) : heads x (ix3 i h d) = x (ix2 i d) := by
  refine (broadcastInDim_apply _ _ _ (ix3 i h d) (ix3 i 0 d) fun k => ?_).trans (broadcastInDim_apply _ _ _ (ix3 i 0 d) (ix2 i d) fun k => ?_)
  · match k with
    | ⟨0, _⟩ => rfl
    | ⟨1, _⟩ => rfl
    | ⟨2, _⟩ => rfl
  · match k with
    | ⟨0, _⟩ => rfl
    | ⟨1, _⟩ => rfl

/-- Under the precondition the arguments are arrays of real numbers. -/
theorem reals (h : fn (F := Ideal) a0 a1 a2 a3 a4 a5 = fun _ => 1#1) :
    Cert.KernelIdeal.Gen.Reals (fun i h d => (a0 (ix3 i h d)).toReal) (fun i h d => (a1 (ix3 i h d)).toReal) (fun i h d => (a2 (ix3 i h d)).toReal)
      (fun i d => (a3 (ix2 i d)).toReal) (fun i h d => (a4 (ix3 i h d)).toReal) (fun i h d => (a5 (ix3 i h d)).toReal) a0 a1 a2 a3 a4 a5 := by
  obtain ⟨p0, p2, p4, p5, p1, p3⟩ := split h
  refine ⟨fun i h d => p0 _, fun i h d => ?_, fun i h d => p2 _, fun i d => ?_, fun i h d => p4 _, fun i h d => p5 _⟩
  · have e := p1 (ix3 i h (Fin.castLE (by decide) d))
    rw [wide32_apply] at e
    exact e
  · have e := p3 (ix3 i 0 (Fin.castLE (by decide) d))
    rw [wide32_apply, heads_apply] at e
    exact e

end Cert.Pre_finite.Gen

end
-- ==== Proof.AttnClaims.lean ====
/- The claims on the attention's gradient. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnFinite
public import Idealize.ShloMosaic.Adequacy
public import Idealize.ShloMosaic.Init

@[expose] public section

noncomputable section

namespace Cert.AttnClaims

open Idealize.ShloMosaic Idealize.SL.Sem Idealize.ShloMosaic.TcCoe Idealize.ShloMosaic.ValueIdx

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_reference_pre : Cert.quiescent_ReferenceIdeal_pre_finite := fun m ρ _ => frame_reference m ρ trivial

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (hp : Cert.Pre_KernelIdeal_finite m) (c : Dev Cert.KernelIdeal.nD)
  (a0 : m' (c, Cert.ReferenceIdeal.main_arg0) = m (c, Cert.KernelIdeal.main_arg0))
  (a1 : m' (c, Cert.ReferenceIdeal.main_arg1) = m (c, Cert.KernelIdeal.main_arg1))
  (a2 : m' (c, Cert.ReferenceIdeal.main_arg2) = m (c, Cert.KernelIdeal.main_arg2))
  (a3 : m' (c, Cert.ReferenceIdeal.main_arg3) = m (c, Cert.KernelIdeal.main_arg3))
  (a5 : m' (c, Cert.ReferenceIdeal.main_arg5) = m (c, Cert.KernelIdeal.main_arg5))

include hp a0 a1 a2 a3 a5

theorem dq_eq (a4 : m' (c, Cert.ReferenceIdeal.main_arg4) = m (c, Cert.KernelIdeal.main_arg4)) :
    Cert.ReferenceIdeal.Value.res_main_v75 m' c = (Cert.KernelIdeal.Gen.dats m 0 c).arrAt 4 Cert.KernelIdeal.cfg0.N := by
  refine (Cert.ReferenceIdeal.Read.val_main_v75_eq m' c).trans ?_
  rw [show m' ((c.tc : Thread _ _).loc Cert.ReferenceIdeal.main_arg0) = _ from a0, show m' ((c.tc : Thread _ _).loc Cert.ReferenceIdeal.main_arg1) = _ from a1,
    show m' ((c.tc : Thread _ _).loc Cert.ReferenceIdeal.main_arg2) = _ from a2, show m' ((c.tc : Thread _ _).loc Cert.ReferenceIdeal.main_arg3) = _ from a3,
    show m' ((c.tc : Thread _ _).loc Cert.ReferenceIdeal.main_arg4) = _ from a4, show m' ((c.tc : Thread _ _).loc Cert.ReferenceIdeal.main_arg5) = _ from a5]
  have H := Cert.Pre_finite.Gen.reals (hp c)
  funext i
  rw [eq_ix3 i]
  exact (Cert.ReferenceIdeal.Read.res_dq H _ _ _).trans (Cert.KernelIdeal.Gen.final_dq m c H _ _ _).symm

theorem dk_eq (a4 : m' (c, Cert.ReferenceIdeal.main_arg4) = m (c, Cert.KernelIdeal.main_arg4)) :
    Cert.ReferenceIdeal.Value.res_main_v80 m' c = (Cert.KernelIdeal.Gen.dats m 0 c).arrAt 5 Cert.KernelIdeal.cfg0.N := by
  refine (Cert.ReferenceIdeal.Read.val_main_v80_eq m' c).trans ?_
  rw [show m' ((c.tc : Thread _ _).loc Cert.ReferenceIdeal.main_arg0) = _ from a0, show m' ((c.tc : Thread _ _).loc Cert.ReferenceIdeal.main_arg1) = _ from a1,
    show m' ((c.tc : Thread _ _).loc Cert.ReferenceIdeal.main_arg2) = _ from a2, show m' ((c.tc : Thread _ _).loc Cert.ReferenceIdeal.main_arg3) = _ from a3,
    show m' ((c.tc : Thread _ _).loc Cert.ReferenceIdeal.main_arg4) = _ from a4, show m' ((c.tc : Thread _ _).loc Cert.ReferenceIdeal.main_arg5) = _ from a5]
  have H := Cert.Pre_finite.Gen.reals (hp c)
  funext i
  rw [eq_ix3 i]
  exact (Cert.ReferenceIdeal.Read.res_dk H _ _ _).trans (Cert.KernelIdeal.Gen.final_dk m c H _ _ _).symm

theorem dv_eq : Cert.ReferenceIdeal.Value.res_main_v82 m' c = (Cert.KernelIdeal.Gen.dats m 0 c).arrAt 6 Cert.KernelIdeal.cfg0.N := by
  refine (Cert.ReferenceIdeal.Read.val_main_v82_eq m' c).trans ?_
  rw [show m' ((c.tc : Thread _ _).loc Cert.ReferenceIdeal.main_arg0) = _ from a0, show m' ((c.tc : Thread _ _).loc Cert.ReferenceIdeal.main_arg1) = _ from a1,
    show m' ((c.tc : Thread _ _).loc Cert.ReferenceIdeal.main_arg2) = _ from a2, show m' ((c.tc : Thread _ _).loc Cert.ReferenceIdeal.main_arg3) = _ from a3,
    show m' ((c.tc : Thread _ _).loc Cert.ReferenceIdeal.main_arg5) = _ from a5]
  have H := Cert.Pre_finite.Gen.reals (hp c)
  funext i
  rw [eq_ix3 i]
  exact (Cert.ReferenceIdeal.Read.res_dv H _ _ _).trans (Cert.KernelIdeal.Gen.final_dv m c H _ _ _).symm
end

theorem algebraic : Cert.algebraic_KernelIdeal_ReferenceIdeal_pre_finite := fun m ρ m' ρ' hp ha =>
  ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m ρ,
    (θ_run Cert.ReferenceIdeal.defs _ _).mono (fun r h c =>
      have ⟨a0, a1, a2, a3, a4, a5⟩ := ha c
      have ⟨h0, h1, h2, h3⟩ := h c
      ⟨h0.trans (dq_eq hp c a0 a1 a2 a3 a5 a4), h1.trans (dk_eq hp c a0 a1 a2 a3 a5 a4), h2.trans (dv_eq hp c a0 a1 a2 a3 a5), h3⟩)
      (Cert.ReferenceIdeal.Value.run (F := Ideal) m' ρ')⟩

end Cert.AttnClaims

end
-- ==== Proof.ProdModel.lean ====
/- What the calls that multiply two arrays over their rows share: a step adds the product of one block of 512 rows to what
   the step before left, and four steps make the product over all 2048 rows. -/
module

public import proofs.«01_k».proof.Proof.AttnTile

@[expose] public section

noncomputable section

namespace Cert.Prod

open Idealize.ShloMosaic Idealize.ShloMosaic.ValueIdx Cert.Attn

/-- The index of a row, read off any number. -/
abbrev row (n : ℕ) : Fin 2048 := Fin.ofNat 2048 n

/-- A sum over the first `n` numbers, as a sum over `Fin n`. -/
theorem sum_fin_range {β : Type} [AddCommMonoid β] (f : ℕ → β) (n : ℕ) : ∑ k : Fin n, f k.val = ∑ k ∈ Finset.range n, f k :=
  (Finset.sum_range f).symm

/-- Four blocks of equal length are the whole range. -/
theorem sum_split {β : Type} [AddCommMonoid β] {b n : ℕ} [NeZero n] (hn : n = b + b + b + b) (f : Fin n → β) :
    ∑ s ∈ Finset.range 4, ∑ k : Fin b, f (Fin.ofNat n (b * s + k.val)) = ∑ t : Fin n, f t := by
  have e : ∑ t : Fin n, f t = ∑ t : Fin n, f (Fin.ofNat n t.val) :=
    Finset.sum_congr rfl fun t _ => congrArg f (Fin.ext (Nat.mod_eq_of_lt t.isLt).symm)
  have e' : Finset.range n = Finset.range (b + b + b + b) := congrArg Finset.range hn
  rw [e, sum_fin_range (fun x => f (Fin.ofNat n x)) n, e', Finset.sum_range_add, Finset.sum_range_add, Finset.sum_range_add,
    Finset.sum_range_succ, Finset.sum_range_succ, Finset.sum_range_succ, Finset.sum_range_one]
  simp only [Finset.sum_range, Nat.mul_zero, Nat.zero_add, Nat.mul_one, show b * 2 = b + b by omega, show b * 3 = b + b + b by omega]

/-- Four blocks of 512 rows are the 2048 rows. -/
theorem sum_blocks {β : Type} [AddCommMonoid β] (f : Fin 2048 → β) :
    ∑ s ∈ Finset.range 4, ∑ k : Fin 512, f (row (512 * s + k.val)) = ∑ t : Fin 2048, f t := sum_split (b := 512) (n := 2048) rfl f

/-- The product over the rows at an index, from an accumulator of zeros. -/
theorem product_apply {K M N : ℕ} {φ₁ φ₂ : FTy} (wf : DotDims.WF (Mat K M) (Mat K N) (Mat M N) [0] [0] [1] [1] [] [])
    (prec : Option ContractPrecision) (lhs : FVec Ideal (Mat K M) φ₁) (rhs : FVec Ideal (Mat K N) φ₂) (r : Fin M) (c : Fin N) :
    matmul (tnDims K M N wf) prec lhs rhs (constant (Mat M N) .f32 0x00000000#32) (ix2 r c) = ∑ k : Fin K, lhs (ix2 k r) * rhs (ix2 k c) := by
  refine (matmul_tn_apply wf prec lhs rhs _ r c).trans ?_
  rw [constant_apply, zero_word, zero_add]

/-- The same product on the host. -/
theorem hostProduct_apply {K M N : ℕ} {φ₁ φ₂ : FTy} (wf : DotDims.WF (Mat K M) (Mat K N) (Mat M N) [0] [0] [1] [1] [] [])
    (prec : Option ContractPrecision) (lhs : FVec Ideal (Mat K M) φ₁) (rhs : FVec Ideal (Mat K N) φ₂) (r : Fin M) (c : Fin N) :
    (Host.dotGeneral (tnDims K M N wf) prec lhs rhs : FVec Ideal (Mat M N) .f32) (ix2 r c) = ∑ k : Fin K, lhs (ix2 k r) * rhs (ix2 k c) := by
  refine (matmul_tn_apply wf prec lhs rhs _ r c).trans ?_
  exact zero_add _

/-- A block of a stack, as a matrix. -/
theorem flat_apply {α : Type} {a b : ℕ} (x : (⟨3, ![1, a, b]⟩ : Shape).Idx → α) (h : (⟨3, ![1, a, b]⟩ : Shape).ShapeCasts (Mat a b)) (r : Fin a) (c : Fin b) :
    shapeCast (Mat a b) x h (ix2 r c) = x (ix3 (0 : Fin 1) r c) := by
  refine shapeCast_apply x h _ _ ?_
  rw [Shape.rowMajor_val_three, Shape.rowMajor_val_two]
  show (0 * a + r.val) * b + c.val = r.val * b + c.val
  rw [Nat.zero_mul, Nat.zero_add]

end Cert.Prod

end
-- ==== Proof.ProdUp.lean ====
/- The gradient of the gated layer's first weight: the call's result is the product of the cotangent and the modulated
   activations over all rows. -/
module

public import proofs.«01_k».proof.Proof.ProdModel
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Kernel2Ideal.Gen

open Idealize.ShloMosaic Idealize.ShloMosaic.TcCoe Idealize.ShloMosaic.ValueIdx Idealize.ShloMosaic.Tactic Cert.Attn Cert.Prod Cert.Kernel2Ideal.Value

theorem off2 : (![0, 0] : Fin 2 → ℕ) = fun _ => 0 := funext fun a => by fin_cases a <;> rfl
theorem off3 : (![0, 0, 0] : Fin 3 → ℕ) = fun _ => 0 := funext fun a => by fin_cases a <;> rfl

section
variable (c : Dev nD) (i : grid0.Coords) (arg3 : Memref sig .tc .vmem S1x512x1408 .bf16) (harg3 : arg3.IsWhole)
  (arg4 : Memref sig .tc .vmem S512x1024 .bf16) (harg4 : arg4.IsWhole) (arg5 : Memref sig .tc .vmem S1408x1024 .bf16) (harg5 : arg5.IsWhole)
  (arg6 : Memref sig .tc .vmem S1408x1024 .f32) (harg6 : arg6.IsWhole) (x0 : Vec Ideal S1x512x1408 .bf16) (x1 : Vec Ideal S512x1024 .bf16)
  (xs : Vec Ideal S1408x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) off2, View.readCov_unit_zero (S := S1408x1024) _ off2]
  simp only [View.readAt_eq_ld, harg3.read_unread, harg4.read_unread, View.ld_unit_zero (S := S1x512x1408) off3, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S1x512x1408) off3,
    View.ld_unit_zero (S := S512x1024) off2, View.ld_unit_zero (S := S1408x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S1x512x1408) off3,
    View.ld_unit_zero (S := S512x1024) off2, View.ld_unit_zero (S := S1408x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S1408x1024) _ off2]
  simp only [View.readAt_eq_ld, harg3.read_unread, harg4.read_unread, harg6.read_unread, View.ld_unit_zero (S := S1x512x1408) off3,
    View.ld_unit_zero (S := S512x1024) off2, View.ld_unit_zero (S := S1408x1024) off2]
end

/-- What a step adds, at an index. -/
theorem step_apply (xs : Vec Ideal S1408x1024 .f32) (x0 : Vec Ideal S1x512x1408 .bf16) (x1 : Vec Ideal S512x1024 .bf16) (r : Fin 1408) (d : Fin 1024) :
    k0_pay2 xs x0 x1 (ix2 r d) = xs (ix2 r d) + ∑ k : Fin 512, x0 (ix3 (0 : Fin 1) k r) * x1 (ix2 k d) := by
  unfold k0_pay2
  simp only [shapeCast_self]
  refine congrArg (xs (ix2 r d) + ·) ((product_apply (φ₁ := .bf16) (φ₂ := .bf16) _ none (shapeCast S512x1408 x0 shapeCasts_S1x512x1408_S512x1408) x1 r d).trans ?_)
  exact Finset.sum_congr rfl fun k _ => congrArg (fun y : EReal => y * x1 (ix2 k d)) (flat_apply x0 _ k r)

theorem step_at (xs : Vec Ideal S1408x1024 .f32) (x0 : Vec Ideal S1x512x1408 .bf16) (x1 : Vec Ideal S512x1024 .bf16) (i : S1408x1024.Idx) :
    k0_pay2 xs x0 x1 i = xs i + ∑ k : Fin 512, x0 (ix3 (0 : Fin 1) k (i 0)) * x1 (ix2 k (i 1)) := by
  obtain ⟨r, d, rfl⟩ : ∃ (r : Fin 1408) (d : Fin 1024), i = ix2 r d := ⟨i 0, i 1, eq_ix2 i⟩
  exact step_apply xs x0 x1 r d

theorem zero_apply (i : S1408x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val / 8 ∧ win0_0.index t 1 = t.val % 4 ∧ win0_0.index t 2 = t.val / 4 % 2 :=
  (by decide +kernel : ∀ t : Fin grid0.N, win0_0.index t 0 = t.val / 8 ∧ win0_0.index t 1 = t.val % 4 ∧ win0_0.index t 2 = t.val / 4 % 2)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S1x512x1408 .bf16 := iblk m c 0 t
abbrev blockB (t : Fin cfg0.N) : Vec Ideal S512x1024 .bf16 := iblk m c 1 t

/-- The product that a step at point `t` adds. -/
def added (t : ℕ) (i : S1408x1024.Idx) : EReal :=
  if h : t < cfg0.N then ∑ k : Fin 512, blockA m c ⟨t, h⟩ (ix3 (0 : Fin 1) k (i 0)) * blockB m c ⟨t, h⟩ (ix2 k (i 1)) else 0

theorem kept (t : Fin cfg0.N) (i : S1408x1024.Idx) :
    (outsAt0 m c t.val t.isLt).2 i = ∑ s ∈ Finset.range (t.val % 4 + 1), added m c (4 * (t.val / 4) + s) i := by
  have hN : cfg0.N = 16 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S1408x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- The cotangent, and the modulated activations: the reference names the same host operations. -/
abbrev cot : FVec Ideal S2048x5632 .f32 := m (c, main_arg4)
abbrev acts : FVec Ideal S2048x1024 .f32 := Cert.Reference2Ideal.Read.val_main_v21 (F := Ideal) (m (c, main_arg0)) (m (c, main_arg1)) (m (c, main_arg2)) (m (c, main_arg3))
abbrev halves (y : FVec Ideal S2048x5632 .f32) : FVec Ideal S2x2048x2816 .bf16 :=
  truncf .bf16 (transpose S2x2048x2816 [1, 0, 2] (shapeCast S2048x2x2816 y shapeCasts_S2048x5632_S2048x2x2816)
    transposes_S2048x2x2816_S2x2048x2816_1_0_2) bitsLt_bf16_f32

set_option maxHeartbeats 4000000 in
theorem entry_b : V m c main_v24 = (truncf .bf16 (acts m c) bitsLt_bf16_f32 : FVec Ideal S2048x1024 .bf16) := by
  unfold V
  simp only [hostOps0, List.flatten_cons, List.flatten_nil, List.append_nil, List.cons_append, List.nil_append]
  after_results
  rfl

theorem entry_a : V m c main_v23 = halves (cot m c) := by
  unfold V
  simp only [hostOps0, List.flatten_cons, List.flatten_nil, List.append_nil, List.cons_append, List.nil_append]
  after_results
  rfl

theorem halves_apply (y : FVec Ideal S2048x5632 .f32) (h : Fin 2) (t : Fin 2048) (e : Fin 2816) (j : Fin 5632) (hj : j.val = 2816 * h.val + e.val) :
    halves y (ix3 h t e) = y (ix2 t j) := by
  refine (transpose_apply [1, 0, 2] (shapeCast S2048x2x2816 y shapeCasts_S2048x5632_S2048x2x2816) transposes_S2048x2x2816_S2x2048x2816_1_0_2
    (ix3 h t e) (ix3 t h e) fun b => match b with | ⟨0, _⟩ => rfl | ⟨1, _⟩ => rfl | ⟨2, _⟩ => rfl).trans ?_
  refine shapeCast_apply _ _ _ (ix2 t j) ?_
  rw [Shape.rowMajor_val_three, Shape.rowMajor_val_two]
  show t.val * 5632 + j.val = (t.val * 2 + h.val) * 2816 + e.val
  omega

theorem blockA_apply (t : Fin cfg0.N) (k : Fin 512) (r : Fin 1408) (j : Fin 5632) (hj : j.val = 1408 * (t.val / 4) + r.val) :
    blockA m c t (ix3 (0 : Fin 1) k r) = cot m c (ix2 (row (512 * (t.val % 4) + k.val)) j) := by
  have hi := index_a t
  have hN : t.val < 16 := lt_of_lt_of_eq t.isLt N_0
  have hk := k.isLt
  have hr := r.isLt
  have e1 : (row (512 * (t.val % 4) + k.val)).val = 512 * (t.val % 4) + k.val := Nat.mod_eq_of_lt (by omega)
  refine Eq.trans (b := V m c main_v23 (ix3 (⟨t.val / 8, by omega⟩ : Fin 2) (row (512 * (t.val % 4) + k.val)) (⟨1408 * (t.val / 4 % 2) + r.val, by omega⟩ : Fin 2816))) ?_ ?_
  · refine congrArg (V m c main_v23) (funext fun a => Fin.ext ?_)
    match a with
    | ⟨0, _⟩ => show win0_0.index t 0 * 1 + 1 * 0 = t.val / 8; omega
    | ⟨1, _⟩ => show win0_0.index t 1 * 512 + 1 * k.val = (row (512 * (t.val % 4) + k.val)).val; omega
    | ⟨2, _⟩ => show win0_0.index t 2 * 1408 + 1 * r.val = 1408 * (t.val / 4 % 2) + r.val; omega
  · rw [entry_a]
    exact halves_apply _ _ _ _ _ (by show j.val = 2816 * (t.val / 8) + (1408 * (t.val / 4 % 2) + r.val); omega)

theorem blockB_apply (t : Fin cfg0.N) (k : Fin 512) (d : Fin 1024) :
    blockB m c t (ix2 k d) = acts m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v24 (ix2 (row (512 * (t.val % 4) + k.val)) d)) ?_ ?_
  · refine congrArg (V m c main_v24) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 5632) (d : Fin 1024) : G2 m c (ix2 j d)
    = ∑ t : Fin 2048, cot m c (ix2 t j)
      * acts m c (ix2 t d) := by
  have hN : cfg0.N = 16 := N_0
  have hj := j.isLt
  have hd := d.isLt
  have hp : pt2Of (ix2 j d) = 4 * (j.val / 1408) + 3 := by
    show 4 * (1 * (j.val / 1408 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => cot m c (ix2 t j)
      * acts m c (ix2 t d))]
  show ∑ s ∈ Finset.range (pt2Of (ix2 j d) % 4 + 1), added m c (4 * (pt2Of (ix2 j d) / 4) + s) _ = _
  rw [hp, show (4 * (j.val / 1408) + 3) % 4 + 1 = 4 by omega, show (4 * (j.val / 1408) + 3) / 4 = j.val / 1408 by omega]
  refine Finset.sum_congr rfl fun s hs => ?_
  have hs' := Finset.mem_range.mp hs
  have hb : 4 * (j.val / 1408) + s < cfg0.N := by omega
  rw [added, dif_pos hb]
  refine Finset.sum_congr rfl fun k _ => ?_
  have e4 : (4 * (j.val / 1408) + s) % 4 = s := by omega
  have ea := blockA_apply m c ⟨_, hb⟩ k ⟨j.val % 1408, Nat.mod_lt _ (by decide)⟩ j
    (by show j.val = 1408 * ((4 * (j.val / 1408) + s) / 4) + j.val % 1408; omega)
  have eb := blockB_apply m c ⟨_, hb⟩ k ⟨d.val % 1024, Nat.mod_lt _ (by decide)⟩
  simp only [e4] at ea eb
  have ed : (⟨d.val % 1024, Nat.mod_lt _ (by decide)⟩ : Fin 1024) = d := Fin.ext (Nat.mod_eq_of_lt hd)
  rw [ed] at eb
  exact congrArg₂ (fun p q : EReal => p * q) ea ((congrArg (fun q => blockB m c ⟨_, hb⟩ (ix2 k q)) ed).trans eb)

/-- The reference's result at an index. -/
theorem reference_apply (x : FVec Ideal S2048x1024 .f32) (w sh sc : FVec Ideal S1024 .f32) (y : FVec Ideal S2048x5632 .f32) (j : Fin 5632) (d : Fin 1024) :
    Cert.Reference2Ideal.Read.val_main_v26 (F := Ideal) x w sh sc y (ix2 j d)
      = ∑ t : Fin 2048, y (ix2 t j) * Cert.Reference2Ideal.Read.val_main_v21 (F := Ideal) x w sh sc (ix2 t d) := by
  refine Eq.trans (b := Cert.Reference2Ideal.Read.val_main_v23 (F := Ideal) x w sh sc y (ix2 j d)) ?_ (hostProduct_apply (φ₁ := .f32) (φ₂ := .f32) _ none y _ j d)
  rw [Cert.Reference2Ideal.Read.val_main_v26_apply, Cert.Reference2Ideal.Read.val_main_v25_apply, Cert.Reference2Ideal.Read.val_main_v24_apply]
  refine congrArg (Cert.Reference2Ideal.Read.val_main_v23 (F := Ideal) x w sh sc y) (funext fun a => ?_)
  match a with
  | ⟨0, _⟩ => rfl
  | ⟨1, _⟩ => rfl

theorem result_eq (i : S5632x1024.Idx) : Cert.Reference2Ideal.Read.val_main_v26 (F := Ideal) (m (c, main_arg0)) (m (c, main_arg1)) (m (c, main_arg2))
    (m (c, main_arg3)) (m (c, main_arg4)) i = G2 m c i := by
  obtain ⟨j, d, rfl⟩ : ∃ (j : Fin 5632) (d : Fin 1024), i = ix2 j d := ⟨i 0, i 1, eq_ix2 i⟩
  exact (reference_apply _ _ _ _ _ j d).trans (result m c j d).symm

end Cert.Kernel2Ideal.Gen

end
-- ==== Proof.ProdDown.lean ====
/- The gradient of the gated layer's second weight: the call's result is the product of the activations and the cotangent
   over all rows, times the gate. -/
module

public import proofs.«01_k».proof.Proof.ProdModel
public import proofs.«01_k».proof.Proof.Gen.Kernel3Ideal.Value
public import proofs.«01_k».proof.Proof.Gen.Reference3Ideal.Run
public import proofs.«01_k».proof.Proof.Gen.Reference3Ideal.Read

@[expose] public section

noncomputable section

namespace Cert.Kernel3Ideal.Gen

open Idealize.ShloMosaic Idealize.ShloMosaic.TcCoe Idealize.ShloMosaic.ValueIdx Idealize.ShloMosaic.Tactic Cert.Attn Cert.Prod Cert.Kernel3Ideal.Value

theorem off2 : (![0, 0] : Fin 2 → ℕ) = fun _ => 0 := funext fun a => by fin_cases a <;> rfl

section
variable (c : Dev nD) (i : grid0.Coords) (arg3 : Memref sig .tc .vmem S512x1408 .bf16) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1408x1024 .bf16) (harg6 : arg6.IsWhole) (arg7 : Memref sig .tc .vmem S1408x1024 .f32) (harg7 : arg7.IsWhole)
  (x0 : Vec Ideal S512x1408 .bf16) (x1 : Vec Ideal S512x1024 .f32) (x2 : Vec Ideal S1x1024 .f32) (xs : Vec Ideal S1408x1024 .f32)

theorem first_step (hc0 : cond0_0 i) (hc1 : ¬cond0_1 i) :
    sout0_A_0 c i arg3 harg3 arg4 harg4 arg5 harg5 arg6 harg6 arg7 harg7 hc0 hc1 x0 x1 x2 = k0_pay2 (k0_pay1 (F := Ideal)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1408x1024) off2, View.readCov_unit_zero (S := S1408x1024) _ off2]
  simp only [View.readAt_eq_ld, harg3.read_unread, harg4.read_unread, View.ld_unit_zero (S := S512x1408) off2, View.ld_unit_zero (S := S1x1024) off2, View.ld_unit_zero (S := S512x1024) off2]

theorem mid_step (hc0 : ¬cond0_0 i) (hc1 : ¬cond0_1 i) :
    sout0_B_0 c i arg3 harg3 arg4 harg4 arg5 harg5 arg6 harg6 arg7 harg7 hc0 hc1 x0 x1 x2 xs = k0_pay2 xs x0 x1 := by
  unfold sout0_B_0
  rw [View.read_writes_eq_canon _ _ _ (scover0_B_0 c i arg3 harg3 arg4 harg4 arg5 harg5 arg6 harg6 arg7 harg7 hc0 hc1 x0 x1 x2 xs)]
  unfold kernelRun0_B
  dsimp only
  sl_unfold_words
  rw [View.canon_unit_zero off2]
  simp only [View.readAt_eq_ld, harg3.read_unread, harg4.read_unread, harg5.read_unread, harg7.read_unread, View.ld_unit_zero (S := S512x1408) off2, View.ld_unit_zero (S := S1x1024) off2,
    View.ld_unit_zero (S := S512x1024) off2, View.ld_unit_zero (S := S1408x1024) off2]

theorem last_step (hc0 : ¬cond0_0 i) (hc1 : cond0_1 i) :
    sout0_C_0 c i arg3 harg3 arg4 harg4 arg5 harg5 arg6 harg6 arg7 harg7 hc0 hc1 x0 x1 x2 xs = k0_pay2 xs x0 x1 := by
  unfold sout0_C_0
  rw [View.read_writes_eq_canon _ _ _ (scover0_C_0 c i arg3 harg3 arg4 harg4 arg5 harg5 arg6 harg6 arg7 harg7 hc0 hc1 x0 x1 x2 xs)]
  unfold kernelRun0_C
  dsimp only
  sl_unfold_words
  rw [View.canon_unit_zero off2]
  simp only [View.readAt_eq_ld, harg3.read_unread, harg4.read_unread, harg5.read_unread, harg7.read_unread, View.ld_unit_zero (S := S512x1408) off2, View.ld_unit_zero (S := S1x1024) off2,
    View.ld_unit_zero (S := S512x1024) off2, View.ld_unit_zero (S := S1408x1024) off2]

theorem last_out (hc0 : ¬cond0_0 i) (hc1 : cond0_1 i) :
    out0_C_3 c i arg3 harg3 arg4 harg4 arg5 harg5 arg6 harg6 arg7 harg7 hc0 hc1 x0 x1 x2 xs = k0_pay3 (k0_pay2 xs x0 x1) x2 := by
  unfold out0_C_3
  rw [View.read_writes_eq_canon _ _ _ (cover0_C_3 c i arg3 harg3 arg4 harg4 arg5 harg5 arg6 harg6 arg7 harg7 hc0 hc1 x0 x1 x2 xs)]
  unfold kernelRun0_C
  dsimp only
  sl_unfold_words
  rw [View.canon_unit_zero off2, View.readCov_unit_zero (S := S1408x1024) _ off2]
  simp only [View.readAt_eq_ld, harg3.read_unread, harg4.read_unread, harg5.read_unread, harg7.read_unread, View.ld_unit_zero (S := S512x1408) off2, View.ld_unit_zero (S := S1x1024) off2,
    View.ld_unit_zero (S := S512x1024) off2, View.ld_unit_zero (S := S1408x1024) off2]
end

/-- What a step adds, at an index. -/
theorem step_apply (xs : Vec Ideal S1408x1024 .f32) (x0 : Vec Ideal S512x1408 .bf16) (x1 : Vec Ideal S512x1024 .f32) (r : Fin 1408) (d : Fin 1024) :
    k0_pay2 xs x0 x1 (ix2 r d) = xs (ix2 r d) + ∑ k : Fin 512, x0 (ix2 k r) * x1 (ix2 k d) := by
  unfold k0_pay2
  simp only [shapeCast_self]
  exact congrArg (xs (ix2 r d) + ·) (product_apply (φ₁ := .bf16) (φ₂ := .bf16) _ none x0 (truncf .bf16 x1 bitsLt_bf16_f32) r d)

theorem step_at (xs : Vec Ideal S1408x1024 .f32) (x0 : Vec Ideal S512x1408 .bf16) (x1 : Vec Ideal S512x1024 .f32) (i : S1408x1024.Idx) :
    k0_pay2 xs x0 x1 i = xs i + ∑ k : Fin 512, x0 (ix2 k (i 0)) * x1 (ix2 k (i 1)) := by
  obtain ⟨r, d, rfl⟩ : ∃ (r : Fin 1408) (d : Fin 1024), i = ix2 r d := ⟨i 0, i 1, eq_ix2 i⟩
  exact step_apply xs x0 x1 r d

theorem zero_apply (i : S1408x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)
theorem index_g : ∀ t : Fin cfg0.N, win0_2.index t 0 = 0 ∧ win0_2.index t 1 = 0 :=
  (by decide +kernel : ∀ t : Fin grid0.N, win0_2.index t 0 = 0 ∧ win0_2.index t 1 = 0)

/-- The blocks a point reads. -/
abbrev blockA (t : Fin cfg0.N) : Vec Ideal S512x1408 .bf16 := iblk m c 0 t
abbrev blockB (t : Fin cfg0.N) : Vec Ideal S512x1024 .f32 := iblk m c 1 t
abbrev blockG (t : Fin cfg0.N) : Vec Ideal S1x1024 .f32 := iblk m c 2 t

/-- The product that a step at point `t` adds. -/
def added (t : ℕ) (i : S1408x1024.Idx) : EReal :=
  if h : t < cfg0.N then ∑ k : Fin 512, blockA m c ⟨t, h⟩ (ix2 k (i 0)) * blockB m c ⟨t, h⟩ (ix2 k (i 1)) else 0

theorem kept (t : Fin cfg0.N) (i : S1408x1024.Idx) :
    (outsAt0 m c t.val t.isLt).2 i = ∑ s ∈ Finset.range (t.val % 4 + 1), added m c (4 * (t.val / 4) + s) i := by
  have hN : cfg0.N = 8 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (r : Fin 1408) (d : Fin 1024) :
    ((outsAt0 m c t.val t.isLt).1 (ix2 r d) : EReal) = (outsAt0 m c t.val t.isLt).2 (ix2 r d) * blockG m c t (ix2 (0 : Fin 1) d) := by
  rw [outsAt0_C m c t (by omega) h]
  dsimp only
  rw [last_out, last_step]
  unfold k0_pay3
  simp only [shapeCast_self]
  refine congrArg (fun y : EReal => _ * y) (broadcastTo_apply (blockG m c t) broadcasts_S1x1024_S1408x1024 (ix2 r d) (ix2 (0 : Fin 1) d) fun k => ?_)
  match k with
  | ⟨0, _⟩ => rfl
  | ⟨1, _⟩ => rfl

/-! ## What the host hands to the call, and the result -/

/-- The activations, the gate and the cotangent. -/
abbrev acts : FVec Ideal S2048x2816 .f32 := m (c, main_arg0)
abbrev gate : FVec Ideal S1024 .f32 := m (c, main_arg1)
abbrev cot : FVec Ideal S2048x1024 .f32 := m (c, main_arg2)

theorem entry_a : V m c main_v0 = (truncf .bf16 (acts m c) bitsLt_bf16_f32 : FVec Ideal S2048x2816 .bf16) := by
  unfold V
  simp only [hostOps0, List.flatten_cons, List.flatten_nil, List.append_nil, List.cons_append, List.nil_append]
  after_results

theorem entry_b : V m c main_arg2 = cot m c := by
  unfold V
  simp only [hostOps0, List.flatten_cons, List.flatten_nil, List.append_nil, List.cons_append, List.nil_append]
  after_results

theorem entry_g : V m c main_v1 = broadcastInDim S1x1024 ![1] bcast_S1024_S1x1024_1 (gate m c) := by
  unfold V
  simp only [hostOps0, List.flatten_cons, List.flatten_nil, List.append_nil, List.cons_append, List.nil_append]
  after_results

theorem blockA_apply (t : Fin cfg0.N) (k : Fin 512) (r : Fin 1408) (j : Fin 2816) (hj : j.val = 1408 * (t.val / 4) + r.val) :
    blockA m c t (ix2 k r) = acts m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v0 (ix2 (row (512 * (t.val % 4) + k.val)) j)) ?_ ?_
  · refine congrArg (V m c main_v0) (funext fun a => Fin.ext ?_)
    match a with
    | ⟨0, _⟩ => show win0_0.index t 0 * 512 + 1 * k.val = (row (512 * (t.val % 4) + k.val)).val; omega
    | ⟨1, _⟩ => show win0_0.index t 1 * 1408 + 1 * r.val = j.val; omega
  · rw [entry_a]
    rfl

theorem blockB_apply (t : Fin cfg0.N) (k : Fin 512) (d : Fin 1024) : blockB m c t (ix2 k d) = cot m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_arg2 (ix2 (row (512 * (t.val % 4) + k.val)) d)) ?_ (congrFun (entry_b m c) _)
  refine congrArg (V m c main_arg2) (funext fun a => Fin.ext ?_)
  match a with
  | ⟨0, _⟩ => show win0_1.index t 0 * 512 + 1 * k.val = (row (512 * (t.val % 4) + k.val)).val; omega
  | ⟨1, _⟩ => show win0_1.index t 1 * 1024 + 1 * d.val = d.val; omega

theorem blockG_apply (t : Fin cfg0.N) (d : Fin 1024) : blockG m c t (ix2 (0 : Fin 1) d) = gate m c (ix1 d) := by
  have hi := index_g t
  refine Eq.trans (b := V m c main_v1 (ix2 (0 : Fin 1) d)) ?_ ?_
  · refine congrArg (V m c main_v1) (funext fun a => Fin.ext ?_)
    match a with
    | ⟨0, _⟩ => show win0_2.index t 0 * 1 + 1 * 0 = 0; omega
    | ⟨1, _⟩ => show win0_2.index t 1 * 1024 + 1 * d.val = d.val; omega
  · rw [entry_g]
    exact broadcastInDim_apply _ _ _ _ (ix1 d) fun k => match k with | ⟨0, _⟩ => rfl

/-- The result at an index: the product over all rows, times the gate. -/
theorem result (j : Fin 2816) (d : Fin 1024) : G3 m c (ix2 j d) = (∑ t : Fin 2048, acts m c (ix2 t j) * cot m c (ix2 t d)) * gate m c (ix1 d) := by
  have hN : cfg0.N = 8 := N_0
  have hj := j.isLt
  have hd := d.isLt
  have hp : pt3Of (ix2 j d) = 4 * (j.val / 1408) + 3 := by
    show 4 * (1 * (j.val / 1408 - 0) + 1 * (d.val / 1024 - 0)) + 3 = _
    omega
  have hl : pt3Of (ix2 j d) < cfg0.N := by omega
  have ed : (⟨d.val % 1024, Nat.mod_lt _ (by decide)⟩ : Fin 1024) = d := Fin.ext (Nat.mod_eq_of_lt hd)
  have ei : loc3Of (ix2 j d) = ix2 (⟨j.val % 1408, Nat.mod_lt _ (by decide)⟩ : Fin 1408) d := by
    funext a
    match a with
    | ⟨0, _⟩ => rfl
    | ⟨1, _⟩ => exact ed
  rw [G3, dif_pos hl, ← outsAt0_sweep m c _ hl, ei]
  refine (written m c ⟨_, hl⟩ (by show pt3Of (ix2 j d) % 4 = 3; omega) _ _).trans ?_
  rw [kept m c ⟨_, hl⟩, blockG_apply, ← sum_blocks (fun t => acts m c (ix2 t j) * cot m c (ix2 t d))]
  refine congrArg (fun y : EReal => y * gate m c (ix1 d)) ?_
  show ∑ s ∈ Finset.range (pt3Of (ix2 j d) % 4 + 1), added m c (4 * (pt3Of (ix2 j d) / 4) + s) _ = _
  rw [hp, show (4 * (j.val / 1408) + 3) % 4 + 1 = 4 by omega, show (4 * (j.val / 1408) + 3) / 4 = j.val / 1408 by omega]
  refine Finset.sum_congr rfl fun s hs => ?_
  have hs' := Finset.mem_range.mp hs
  have hb : 4 * (j.val / 1408) + s < cfg0.N := by omega
  rw [added, dif_pos hb]
  refine Finset.sum_congr rfl fun k _ => ?_
  have e4 : (4 * (j.val / 1408) + s) % 4 = s := by omega
  have ea := blockA_apply m c ⟨_, hb⟩ k ⟨j.val % 1408, Nat.mod_lt _ (by decide)⟩ j
    (by show j.val = 1408 * ((4 * (j.val / 1408) + s) / 4) + j.val % 1408; omega)
  have eb := blockB_apply m c ⟨_, hb⟩ k d
  simp only [e4] at ea eb
  exact congrArg₂ (fun p q : EReal => p * q) ea eb

/-- The reference's result at an index. -/
theorem reference_apply (x : FVec Ideal S2048x2816 .f32) (g : FVec Ideal S1024 .f32) (y : FVec Ideal S2048x1024 .f32) (j : Fin 2816) (d : Fin 1024) :
    Cert.Reference3Ideal.Read.val_main_v9 (F := Ideal) x g y (ix2 j d) = ∑ t : Fin 2048, g (ix1 d) * y (ix2 t d) * x (ix2 t j) := by
  have hg (t : Fin 2048) : Cert.Reference3Ideal.Read.val_main_v6 (F := Ideal) g y (ix2 t d) = g (ix1 d) * y (ix2 t d) := by
    rw [Cert.Reference3Ideal.Read.val_main_v6_apply, Cert.Reference3Ideal.Read.val_main_v5_apply, Cert.Reference3Ideal.Read.val_main_v1_apply]
    refine congrArg (fun i => g i * y (ix2 t d)) (funext fun a => ?_)
    match a with
    | ⟨0, _⟩ => rfl
  refine Eq.trans (b := Cert.Reference3Ideal.Read.val_main_v7 (F := Ideal) x g y (ix2 d j)) ?_
    ((hostProduct_apply (φ₁ := .f32) (φ₂ := .f32) _ none _ x d j).trans (Finset.sum_congr rfl fun t _ => congrArg (fun q : EReal => q * x (ix2 t j)) (hg t)))
  rw [Cert.Reference3Ideal.Read.val_main_v9_apply, Cert.Reference3Ideal.Read.val_main_v8_apply]
  refine congrArg (Cert.Reference3Ideal.Read.val_main_v7 (F := Ideal) x g y) (funext fun a => ?_)
  match a with
  | ⟨0, _⟩ => rfl
  | ⟨1, _⟩ => rfl

/-- The gate moves out of a sum of real numbers. -/
theorem gate_out (g : EReal) (f h : Fin 2048 → EReal) (hg : g = (g.toReal : EReal)) (hf : ∀ t, f t = ((f t).toReal : EReal)) (hh : ∀ t, h t = ((h t).toReal : EReal)) :
    ∑ t, g * h t * f t = (∑ t, f t * h t) * g := by
  have e1 : ∑ t, g * h t * f t = ((∑ t, g.toReal * (h t).toReal * (f t).toReal : ℝ) : EReal) := by
    rw [coe_sum]
    exact Finset.sum_congr rfl fun t _ => by rw [EReal.coe_mul, EReal.coe_mul, ← hg, ← hf t, ← hh t]
  have e2 : ∑ t, f t * h t = ((∑ t, (f t).toReal * (h t).toReal : ℝ) : EReal) := by
    rw [coe_sum]
    exact Finset.sum_congr rfl fun t _ => by rw [EReal.coe_mul, ← hf t, ← hh t]
  rw [e1, e2]
  conv_rhs => rw [hg]
  rw [← EReal.coe_mul, Finset.sum_mul]
  exact congrArg _ (Finset.sum_congr rfl fun t _ => by ring)

theorem result_eq (ha : ∀ i, acts m c i = ((acts m c i).toReal : EReal)) (hg : ∀ i, gate m c i = ((gate m c i).toReal : EReal))
    (hy : ∀ i, cot m c i = ((cot m c i).toReal : EReal)) (i : S2816x1024.Idx) :
    Cert.Reference3Ideal.Read.val_main_v9 (F := Ideal) (m (c, main_arg0)) (m (c, main_arg1)) (m (c, main_arg2)) i = G3 m c i := by
  obtain ⟨j, d, rfl⟩ : ∃ (j : Fin 2816) (d : Fin 1024), i = ix2 j d := ⟨i 0, i 1, eq_ix2 i⟩
  exact (reference_apply _ _ _ j d).trans ((gate_out _ (fun t => acts m c (ix2 t j)) (fun t => cot m c (ix2 t d)) (hg _) (fun t => ha _) (fun t => hy _)).trans (result m c j d).symm)

end Cert.Kernel3Ideal.Gen

end
-- ==== Proof.ProdClaims.lean ====
/- The claims on the gradients of the gated layer's two weights. -/
module

public import proofs.«01_k».proof.Defs
public import proofs.«01_k».proof.Proof.Gen.Kernel2.Frame
public import proofs.«01_k».proof.Proof.Gen.Kernel3.Frame
public import proofs.«01_k».proof.Proof.Gen.Reference3Ideal.Run
public import proofs.«01_k».proof.Proof.AttnFinite
public import proofs.«01_k».proof.Proof.ProdUp
public import proofs.«01_k».proof.Proof.ProdDown
public import proofs.«01_k».proof.Proof.Gen.Pre_finite3
public import Idealize.ShloMosaic.Adequacy
public import Idealize.ShloMosaic.Init

@[expose] public section

noncomputable section

/-! ## What the precondition says -/

namespace Cert.Pre_finite3.Gen

open Idealize.ShloMosaic Idealize.ShloMosaic.ValueIdx Cert.Attn
open Cert.Pre_finite.Gen (and_one real_of_lt)

variable {a0 : FVec Ideal S2048x2816 .f32} {a1 : FVec Ideal S1024 .f32} {a2 : FVec Ideal S2048x1024 .f32}

abbrev wide (x : FVec Ideal S2048x1024 .f32) : FVec Ideal S2048x2816 .f32 :=
  pad S2048x2816 ![0, 0] ![0, 1792] ![0, 0] x (constant S_ .f32 0x00000000#32) pads_S2048x1024_S2048x2816_000_017920 h_S_

abbrev rows (x : FVec Ideal S1024 .f32) : FVec Ideal S2048x1024 .f32 :=
  broadcastInDim S2048x1024 ![0, 1] bcast_S1x1024_S2048x1024_0_1 (broadcastInDim S1x1024 ![1] bcast_S1024_S1x1024_1 x)

abbrev below (x : FVec Ideal S2048x2816 .f32) : IVec S2048x2816 1 :=
  cmpf .olt (Host.absf x) (broadcastInDim S2048x2816 ![] bcast_S_S2048x2816 (constant S_ .f32 0x7F800000#32))

theorem below_real (x : FVec Ideal S2048x2816 .f32) (i : S2048x2816.Idx) (h : below x i = 1#1) : x i = ((x i).toReal : EReal) := real_of_lt h

theorem wide_apply (x : FVec Ideal S2048x1024 .f32) (t : Fin 2048) (d : Fin 1024) : wide x (ix2 t (Fin.castLE (by decide) d)) = x (ix2 t d) :=
  (pad_last2 x _ _ _ t _).trans (dif_pos (show (Fin.castLE (by decide : 1024 ≤ 2816) d).val < 1024 from d.isLt))

theorem rows_apply (x : FVec Ideal S1024 .f32) (t : Fin 2048) (d : Fin 1024) : rows x (ix2 t d) = x (ix1 d) := by
  refine (broadcastInDim_apply _ _ _ (ix2 t d) (ix2 (0 : Fin 1) d) fun k => ?_).trans (broadcastInDim_apply _ _ _ (ix2 (0 : Fin 1) d) (ix1 d) fun k => ?_)
  · match k with
    | ⟨0, _⟩ => rfl
    | ⟨1, _⟩ => rfl
  · match k with
    | ⟨0, _⟩ => rfl

theorem reals (h : fn (F := Ideal) a0 a1 a2 = fun _ => 1#1) :
    (∀ i, a0 i = ((a0 i).toReal : EReal)) ∧ (∀ i, a1 i = ((a1 i).toReal : EReal)) ∧ (∀ i, a2 i = ((a2 i).toReal : EReal)) := by
  have h' (i : S2048x2816.Idx) : IntOp.andi (IntOp.andi (below a0 i) (below (wide a2) i)) (below (wide (rows a1)) i) = 1#1 := congrFun h i
  refine ⟨fun i => ?_, fun i => ?_, fun i => ?_⟩
  · exact below_real _ i (and_one (and_one (h' i)).1).1
  · obtain ⟨d, rfl⟩ : ∃ d : Fin 1024, i = ix1 d := ⟨i 0, eq_ix1 i⟩
    have e := below_real _ _ (and_one (h' (ix2 (0 : Fin 2048) (Fin.castLE (by decide) d)))).2
    rw [wide_apply, rows_apply] at e
    exact e
  · obtain ⟨t, d, rfl⟩ : ∃ (t : Fin 2048) (d : Fin 1024), i = ix2 t d := ⟨i 0, i 1, eq_ix2 i⟩
    have e := below_real _ _ (and_one (and_one (h' (ix2 t (Fin.castLE (by decide) d)))).1).2
    rw [wide_apply] at e
    exact e

end Cert.Pre_finite3.Gen

namespace Cert.ProdClaims

open Idealize.ShloMosaic Idealize.SL.Sem Idealize.ShloMosaic.TcCoe Idealize.ShloMosaic.ValueIdx

/-! ## The first weight -/

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m ρ m' ρ' _ ha =>
  ⟨fun c => Cert.Kernel2Ideal.Value.G2 m c, Cert.Kernel2Ideal.Value.run m ρ,
    (θ_run Cert.Reference2Ideal.defs _ _).mono (fun r h c => by
      obtain ⟨a0, a1, a2, a3, a4⟩ := ha c
      obtain ⟨h0, h1⟩ := h c
      refine ⟨h0.trans ((Cert.Reference2Ideal.Read.val_main_v26_eq (F := Ideal) _ _ _ _ _).trans ?_), h1⟩
      rw [a0, a1, a2, a3, a4]
      exact funext fun i => Cert.Kernel2Ideal.Gen.result_eq m c i)
      (Cert.Reference2Ideal.Value.run (F := Ideal) m' ρ')⟩

/-! ## The second weight -/

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_ideal3_pre : Cert.quiescent_Kernel3Ideal_pre_finite3 := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_reference3_pre : Cert.quiescent_Reference3Ideal_pre_finite3 := fun m ρ _ => frame_reference3 m ρ trivial

theorem algebraic3 : Cert.algebraic_Kernel3Ideal_Reference3Ideal_pre_finite3 := fun m ρ m' ρ' hp ha =>
  ⟨fun c => Cert.Kernel3Ideal.Value.G3 m c, Cert.Kernel3Ideal.Value.run m ρ,
    (θ_run Cert.Reference3Ideal.defs _ _).mono (fun r h c => by
      obtain ⟨a0, a1, a2⟩ := ha c
      obtain ⟨h0, h1⟩ := h c
      obtain ⟨r0, r1, r2⟩ := Cert.Pre_finite3.Gen.reals (hp c)
      refine ⟨h0.trans ((Cert.Reference3Ideal.Read.val_main_v9_eq (F := Ideal) _ _ _).trans ?_), h1⟩
      rw [a0, a1, a2]
      exact funext fun i => Cert.Kernel3Ideal.Gen.result_eq m c r0 r1 r2 i)
      (Cert.Reference3Ideal.Value.run (F := Ideal) m' ρ')⟩

end Cert.ProdClaims

end
-- ==== Proof.ProdLayout.lean ====
/- The order in which the projection's call lays the columns: eleven pieces side by side, three of them filled up with zeros. -/
module

public import proofs.«01_k».proof.Proof.ProdModel
public import proofs.«01_k».proof.Proof.AttnLayout

@[expose] public section

noncomputable section

namespace Cert.Prod

open Idealize.ShloMosaic Idealize.ShloMosaic.ValueIdx Cert.Attn

variable {n : ℕ}

/-- One piece of a row of pieces, at an index. -/
theorem joined_at {w W : ℕ} (xs : List ((s : Shape) × (s.Idx → EReal))) (h : Shape.Concatenates (xs.map (·.1)) (Mat n W) (1 : Fin 2))
    (r : Fin n) (j : Fin W) (k : ℕ) (hk : k < xs.length) (x : (Mat n w).Idx → EReal) (hxk : xs[k] = ⟨Mat n w, x⟩) (pre : ℕ)
    (hpre : (((xs.take k).map (·.1)).map fun s => if h : s.rank = (Mat n W).rank then s.size ((1 : Fin 2).cast h.symm) else 0).sum = pre)
    (e : Fin w) (he : pre + e.val = j.val) : concatenate (Mat n W) (1 : Fin 2) xs h (ix2 r j) = x (ix2 r e) := by
  refine concatenate_apply_piece (t := Mat n W) (1 : Fin 2) xs h (ix2 r j) k hk (Mat n w) x hxk rfl pre hpre (ix2 r e) (fun b hb => ?_) he
  match b with
  | ⟨0, _⟩ => rfl
  | ⟨1, _⟩ => exact absurd rfl hb

/-- What stands in column `j` of a row laid out: a column `e` of the projection's own order, of the swapped copy of the rope
    key, or zero. -/
def col (a : Fin 6832 → EReal) (b : Fin 32 → EReal) (j : ℕ) : EReal :=
  if j < 3072 then a (Fin.ofNat 6832 (3760 + j))
  else if j < 4096 then a (Fin.ofNat 6832 (2208 + (j - 3072)))
  else if j < 5120 then a (Fin.ofNat 6832 (1184 + (j - 4096)))
  else if j < 5632 then a (Fin.ofNat 6832 (672 + (j - 5120)))
  else if j < 6144 then a (Fin.ofNat 6832 (3232 + (j - 5632)))
  else if j < 6400 then a (Fin.ofNat 6832 (384 + (j - 6144)))
  else if j < 6432 then a (Fin.ofNat 6832 (640 + (j - 6400)))
  else if j < 6528 then 0
  else if j < 6560 then b (Fin.ofNat 32 (j - 6528))
  else if j < 6656 then 0
  else if j < 6672 then a (Fin.ofNat 6832 (3744 + (j - 6656)))
  else if j < 6912 then 0
  else a (Fin.ofNat 6832 (j - 6912))

/-- Where the pieces come from. -/
structure Pieces (A : (Mat n 6832).Idx → EReal) (B : (Mat n 32).Idx → EReal)
    (p0 : (Mat n 3072).Idx → EReal) (p1 p2 : (Mat n 1024).Idx → EReal) (p3 p4 : (Mat n 512).Idx → EReal) (p5 : (Mat n 256).Idx → EReal)
    (p6 p7 p8 p9 : (Mat n 128).Idx → EReal) (p10 : (Mat n 384).Idx → EReal) : Prop where
  g : ∀ r e, p0 (ix2 r e) = A (ix2 r (Fin.ofNat 6832 (3760 + e.val)))
  x : ∀ r e, p1 (ix2 r e) = A (ix2 r (Fin.ofNat 6832 (2208 + e.val)))
  z : ∀ r e, p2 (ix2 r e) = A (ix2 r (Fin.ofNat 6832 (1184 + e.val)))
  u : ∀ r e, p3 (ix2 r e) = A (ix2 r (Fin.ofNat 6832 (672 + e.val)))
  bc : ∀ r e, p4 (ix2 r e) = A (ix2 r (Fin.ofNat 6832 (3232 + e.val)))
  kv : ∀ r e, p5 (ix2 r e) = A (ix2 r (Fin.ofNat 6832 (384 + e.val)))
  kr : ∀ r e, p6 (ix2 r e) = if e.val < 32 then A (ix2 r (Fin.ofNat 6832 (640 + e.val))) else 0
  krs : ∀ r e, p7 (ix2 r e) = if e.val < 32 then B (ix2 r (Fin.ofNat 32 e.val)) else 0
  dt : ∀ r e, p8 (ix2 r e) = if e.val < 16 then A (ix2 r (Fin.ofNat 6832 (3744 + e.val))) else 0
  fill : ∀ r e, p9 (ix2 r e) = 0
  q : ∀ r e, p10 (ix2 r e) = A (ix2 r (Fin.ofNat 6832 e.val))

/-- The pieces, in the order they are laid. -/
abbrev pieces (p0 : (Mat n 3072).Idx → EReal) (p1 p2 : (Mat n 1024).Idx → EReal) (p3 p4 : (Mat n 512).Idx → EReal) (p5 : (Mat n 256).Idx → EReal)
    (p6 p7 p8 p9 : (Mat n 128).Idx → EReal) (p10 : (Mat n 384).Idx → EReal) :
    List ((s : Shape) × (s.Idx → EReal)) :=
  [⟨Mat n 3072, p0⟩, ⟨Mat n 1024, p1⟩, ⟨Mat n 1024, p2⟩, ⟨Mat n 512, p3⟩, ⟨Mat n 512, p4⟩, ⟨Mat n 256, p5⟩,
      ⟨Mat n 128, p6⟩, ⟨Mat n 128, p7⟩, ⟨Mat n 128, p8⟩, ⟨Mat n 128, p9⟩, ⟨Mat n 384, p10⟩]

set_option maxRecDepth 32768 in
set_option maxHeartbeats 4000000 in
/-- The pieces side by side, at an index. -/
theorem joined_apply {A : (Mat n 6832).Idx → EReal} {B : (Mat n 32).Idx → EReal}
    {p0 : (Mat n 3072).Idx → EReal} {p1 p2 : (Mat n 1024).Idx → EReal} {p3 p4 : (Mat n 512).Idx → EReal} {p5 : (Mat n 256).Idx → EReal}
    {p6 p7 p8 p9 : (Mat n 128).Idx → EReal} {p10 : (Mat n 384).Idx → EReal} (H : Pieces A B p0 p1 p2 p3 p4 p5 p6 p7 p8 p9 p10)
    (h : Shape.Concatenates [Mat n 3072, Mat n 1024, Mat n 1024, Mat n 512, Mat n 512, Mat n 256, Mat n 128, Mat n 128, Mat n 128, Mat n 128, Mat n 384]
      (Mat n 7296) (1 : Fin 2)) (r : Fin n) (j : Fin 7296) :
    concatenate (Mat n 7296) (1 : Fin 2) (pieces p0 p1 p2 p3 p4 p5 p6 p7 p8 p9 p10) h (ix2 r j)
      = col (fun e => A (ix2 r e)) (fun e => B (ix2 r e)) j.val := by
  have hj := j.isLt
  unfold col
  by_cases h0 : j.val < 3072
  · rw [if_pos h0]
    exact (joined_at (pieces p0 p1 p2 p3 p4 p5 p6 p7 p8 p9 p10) h r j 0 (by show _ < 11; decide) p0 rfl 0 rfl ⟨j.val, h0⟩ (Nat.zero_add _)).trans (H.g r _)
  rw [if_neg h0]
  by_cases h1 : j.val < 4096
  · rw [if_pos h1]
    exact (joined_at (pieces p0 p1 p2 p3 p4 p5 p6 p7 p8 p9 p10) h r j 1 (by show _ < 11; decide) p1 rfl 3072 rfl ⟨j.val - 3072, by omega⟩ (by show 3072 + (j.val - 3072) = j.val; omega)).trans (H.x r _)
  rw [if_neg h1]
  by_cases h2 : j.val < 5120
  · rw [if_pos h2]
    exact (joined_at (pieces p0 p1 p2 p3 p4 p5 p6 p7 p8 p9 p10) h r j 2 (by show _ < 11; decide) p2 rfl 4096 rfl ⟨j.val - 4096, by omega⟩ (by show 4096 + (j.val - 4096) = j.val; omega)).trans (H.z r _)
  rw [if_neg h2]
  by_cases h3 : j.val < 5632
  · rw [if_pos h3]
    exact (joined_at (pieces p0 p1 p2 p3 p4 p5 p6 p7 p8 p9 p10) h r j 3 (by show _ < 11; decide) p3 rfl 5120 rfl ⟨j.val - 5120, by omega⟩ (by show 5120 + (j.val - 5120) = j.val; omega)).trans (H.u r _)
  rw [if_neg h3]
  by_cases h4 : j.val < 6144
  · rw [if_pos h4]
    exact (joined_at (pieces p0 p1 p2 p3 p4 p5 p6 p7 p8 p9 p10) h r j 4 (by show _ < 11; decide) p4 rfl 5632 rfl ⟨j.val - 5632, by omega⟩ (by show 5632 + (j.val - 5632) = j.val; omega)).trans (H.bc r _)
  rw [if_neg h4]
  by_cases h5 : j.val < 6400
  · rw [if_pos h5]
    exact (joined_at (pieces p0 p1 p2 p3 p4 p5 p6 p7 p8 p9 p10) h r j 5 (by show _ < 11; decide) p5 rfl 6144 rfl ⟨j.val - 6144, by omega⟩ (by show 6144 + (j.val - 6144) = j.val; omega)).trans (H.kv r _)
  rw [if_neg h5]
  by_cases h6 : j.val < 6432
  · rw [if_pos h6]
    exact (joined_at (pieces p0 p1 p2 p3 p4 p5 p6 p7 p8 p9 p10) h r j 6 (by show _ < 11; decide) p6 rfl 6400 rfl ⟨j.val - 6400, by omega⟩ (by show 6400 + (j.val - 6400) = j.val; omega)).trans ((H.kr r _).trans (if_pos (by show j.val - 6400 < 32; omega)))
  rw [if_neg h6]
  by_cases h7 : j.val < 6528
  · rw [if_pos h7]
    exact (joined_at (pieces p0 p1 p2 p3 p4 p5 p6 p7 p8 p9 p10) h r j 6 (by show _ < 11; decide) p6 rfl 6400 rfl ⟨j.val - 6400, by omega⟩ (by show 6400 + (j.val - 6400) = j.val; omega)).trans ((H.kr r _).trans (if_neg (by show ¬ j.val - 6400 < 32; omega)))
  rw [if_neg h7]
  by_cases h8 : j.val < 6560
  · rw [if_pos h8]
    exact (joined_at (pieces p0 p1 p2 p3 p4 p5 p6 p7 p8 p9 p10) h r j 7 (by show _ < 11; decide) p7 rfl 6528 rfl ⟨j.val - 6528, by omega⟩ (by show 6528 + (j.val - 6528) = j.val; omega)).trans ((H.krs r _).trans (if_pos (by show j.val - 6528 < 32; omega)))
  rw [if_neg h8]
  by_cases h9 : j.val < 6656
  · rw [if_pos h9]
    exact (joined_at (pieces p0 p1 p2 p3 p4 p5 p6 p7 p8 p9 p10) h r j 7 (by show _ < 11; decide) p7 rfl 6528 rfl ⟨j.val - 6528, by omega⟩ (by show 6528 + (j.val - 6528) = j.val; omega)).trans ((H.krs r _).trans (if_neg (by show ¬ j.val - 6528 < 32; omega)))
  rw [if_neg h9]
  by_cases h10 : j.val < 6672
  · rw [if_pos h10]
    exact (joined_at (pieces p0 p1 p2 p3 p4 p5 p6 p7 p8 p9 p10) h r j 8 (by show _ < 11; decide) p8 rfl 6656 rfl ⟨j.val - 6656, by omega⟩ (by show 6656 + (j.val - 6656) = j.val; omega)).trans ((H.dt r _).trans (if_pos (by show j.val - 6656 < 16; omega)))
  rw [if_neg h10]
  by_cases h11 : j.val < 6912
  · rw [if_pos h11]
    by_cases hd : j.val < 6784
    · exact (joined_at (pieces p0 p1 p2 p3 p4 p5 p6 p7 p8 p9 p10) h r j 8 (by show _ < 11; decide) p8 rfl 6656 rfl ⟨j.val - 6656, by omega⟩ (by show 6656 + (j.val - 6656) = j.val; omega)).trans ((H.dt r _).trans (if_neg (by show ¬ j.val - 6656 < 16; omega)))
    · exact (joined_at (pieces p0 p1 p2 p3 p4 p5 p6 p7 p8 p9 p10) h r j 9 (by show _ < 11; decide) p9 rfl 6784 rfl ⟨j.val - 6784, by omega⟩ (by show 6784 + (j.val - 6784) = j.val; omega)).trans (H.fill r _)
  rw [if_neg h11]
  exact (joined_at (pieces p0 p1 p2 p3 p4 p5 p6 p7 p8 p9 p10) h r j 10 (by show _ < 11; decide) p10 rfl 6912 rfl ⟨j.val - 6912, by omega⟩ (by show 6912 + (j.val - 6912) = j.val; omega)).trans (H.q r _)

/-- A column of a row laid out is one column of the projection's own order, one of the swapped copy, or zero. -/
theorem col_cases (j : ℕ) : (∃ e, ∀ a b, col a b j = a e) ∨ (∃ e, ∀ a b, col a b j = b e) ∨ ∀ a b, col a b j = 0 := by
  unfold col
  by_cases h0 : j < 3072
  · simp only [if_pos h0]
    exact .inl ⟨_, fun _ _ => rfl⟩
  simp only [if_neg h0]
  by_cases h1 : j < 4096
  · simp only [if_pos h1]
    exact .inl ⟨_, fun _ _ => rfl⟩
  simp only [if_neg h1]
  by_cases h2 : j < 5120
  · simp only [if_pos h2]
    exact .inl ⟨_, fun _ _ => rfl⟩
  simp only [if_neg h2]
  by_cases h3 : j < 5632
  · simp only [if_pos h3]
    exact .inl ⟨_, fun _ _ => rfl⟩
  simp only [if_neg h3]
  by_cases h4 : j < 6144
  · simp only [if_pos h4]
    exact .inl ⟨_, fun _ _ => rfl⟩
  simp only [if_neg h4]
  by_cases h5 : j < 6400
  · simp only [if_pos h5]
    exact .inl ⟨_, fun _ _ => rfl⟩
  simp only [if_neg h5]
  by_cases h6 : j < 6432
  · simp only [if_pos h6]
    exact .inl ⟨_, fun _ _ => rfl⟩
  simp only [if_neg h6]
  by_cases h7 : j < 6528
  · simp only [if_pos h7]
    exact .inr (.inr fun _ _ => trivial)
  simp only [if_neg h7]
  by_cases h8 : j < 6560
  · simp only [if_pos h8]
    exact .inr (.inl ⟨_, fun _ _ => rfl⟩)
  simp only [if_neg h8]
  by_cases h9 : j < 6656
  · simp only [if_pos h9]
    exact .inr (.inr fun _ _ => trivial)
  simp only [if_neg h9]
  by_cases h10 : j < 6672
  · simp only [if_pos h10]
    exact .inl ⟨_, fun _ _ => rfl⟩
  simp only [if_neg h10]
  by_cases h11 : j < 6912
  · simp only [if_pos h11]
    exact .inr (.inr fun _ _ => trivial)
  simp only [if_neg h11]
  exact .inl ⟨_, fun _ _ => rfl⟩

/-- A product over rows of columns laid out is the layout of the products. -/
theorem sum_col {κ : Type} [Fintype κ] (a : κ → Fin 6832 → EReal) (b : κ → Fin 32 → EReal) (w : κ → EReal) (j : ℕ) :
    ∑ t, col (a t) (b t) j * w t = col (fun e => ∑ t, a t e * w t) (fun e => ∑ t, b t e * w t) j := by
  obtain ⟨e, he⟩ | ⟨e, he⟩ | he := col_cases j
  · simp only [he]
  · simp only [he]
  · simp only [he]
    exact Finset.sum_eq_zero fun t _ => zero_mul _

/-- A piece filled up with zeros, at an index. -/
theorem filled_apply {w : ℕ} (x : (Mat n w).Idx → EReal) (v : (⟨0, ![]⟩ : Shape).Idx → EReal) {hi : Fin 2 → ℕ}
    (h : (Mat n w).Pads ![0, 0] hi ![0, 0] (Mat n 128)) (hu : 0 < (⟨0, ![]⟩ : Shape).numel) (hv : v (Shape.Idx.first hu) = 0)
    (r : Fin n) (e : Fin 128) (y : EReal) (hy : ∀ he : e.val < w, x (ix2 r ⟨e.val, he⟩) = y) :
    pad (Mat n 128) ![0, 0] hi ![0, 0] x v h hu (ix2 r e) = if e.val < w then y else 0 := by
  rw [pad_last2]
  split
  · exact hy _
  · exact hv

/-- A range of columns, at an index. -/
theorem columns_apply {w W o : ℕ} (y : (Mat n W).Idx → EReal) (h : (Mat n W).Slices ![0, o] (Mat n w)) (r : Fin n) (e : Fin w) (j : Fin W) (hj : j.val = o + e.val) :
    extractStridedSlice (Mat n w) ![0, o] y h (ix2 r e) = y (ix2 r j) :=
  extractStridedSlice_apply ![0, o] y h (ix2 r e) (ix2 r j) fun a => match a with
    | ⟨0, _⟩ => by show r.val = 0 + r.val; omega
    | ⟨1, _⟩ => hj

end Cert.Prod

end
-- ==== Proof.ProdIn.lean ====
/- The gradient of the projections' weight: the product of the cotangent, its columns in the order of the call, and the modulated activations over all rows. -/
module

public import proofs.«01_k».proof.Proof.ProdModel
public import proofs.«01_k».proof.Proof.ProdLayout
public import proofs.«01_k».proof.Proof.Gen.Kernel4Ideal.Value
public import proofs.«01_k».proof.Proof.Gen.Reference4Ideal.Run
public import proofs.«01_k».proof.Proof.Gen.Reference4Ideal.Read

@[expose] public section

noncomputable section

namespace Cert.Kernel4Ideal.Gen

open Idealize.ShloMosaic Idealize.ShloMosaic.TcCoe Idealize.ShloMosaic.ValueIdx Idealize.ShloMosaic.Tactic Cert.Attn Cert.Prod Cert.Kernel4Ideal.Value

theorem off2 : (![0, 0] : Fin 2 → ℕ) = fun _ => 0 := funext fun a => by fin_cases a <;> rfl

section
variable (c : Dev nD) (i : grid0.Coords) (arg3 : Memref sig .tc .vmem S512x2432 .bf16) (harg3 : arg3.IsWhole)
  (arg4 : Memref sig .tc .vmem S512x1024 .bf16) (harg4 : arg4.IsWhole) (arg5 : Memref sig .tc .vmem S2432x1024 .bf16) (harg5 : arg5.IsWhole)
  (arg6 : Memref sig .tc .vmem S2432x1024 .f32) (harg6 : arg6.IsWhole) (x0 : Vec Ideal S512x2432 .bf16) (x1 : Vec Ideal S512x1024 .bf16)
  (xs : Vec Ideal S2432x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2432x1024) off2, View.readCov_unit_zero (S := S2432x1024) _ off2]
  simp only [View.readAt_eq_ld, harg3.read_unread, harg4.read_unread, View.ld_unit_zero (S := S512x2432) off2, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S512x2432) off2,
    View.ld_unit_zero (S := S512x1024) off2, View.ld_unit_zero (S := S2432x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S512x2432) off2,
    View.ld_unit_zero (S := S512x1024) off2, View.ld_unit_zero (S := S2432x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S2432x1024) _ off2]
  simp only [View.readAt_eq_ld, harg3.read_unread, harg4.read_unread, harg6.read_unread, View.ld_unit_zero (S := S512x2432) off2,
    View.ld_unit_zero (S := S512x1024) off2, View.ld_unit_zero (S := S2432x1024) off2]
end

/-- What a step adds, at an index. -/
theorem step_at (xs : Vec Ideal S2432x1024 .f32) (x0 : Vec Ideal S512x2432 .bf16) (x1 : Vec Ideal S512x1024 .bf16) (i : S2432x1024.Idx) :
    k0_pay2 xs x0 x1 i = xs i + ∑ k : Fin 512, x0 (ix2 k (i 0)) * x1 (ix2 k (i 1)) := by
  obtain ⟨r, d, rfl⟩ : ∃ (r : Fin 2432) (d : Fin 1024), i = ix2 r d := ⟨i 0, i 1, eq_ix2 i⟩
  unfold k0_pay2
  simp only [shapeCast_self]
  exact congrArg (xs (ix2 r d) + ·) (product_apply (φ₁ := .bf16) (φ₂ := .bf16) _ none x0 x1 r d)

theorem zero_apply (i : S2432x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S512x2432 .bf16 := iblk m c 0 t
abbrev blockB (t : Fin cfg0.N) : Vec Ideal S512x1024 .bf16 := iblk m c 1 t

/-- The product that a step at point `t` adds. -/
def added (t : ℕ) (i : S2432x1024.Idx) : EReal :=
  if h : t < cfg0.N then ∑ k : Fin 512, blockA m c ⟨t, h⟩ (ix2 k (i 0)) * blockB m c ⟨t, h⟩ (ix2 k (i 1)) else 0

theorem kept (t : Fin cfg0.N) (i : S2432x1024.Idx) :
    (outsAt0 m c t.val t.isLt).2 i = ∑ s ∈ Finset.range (t.val % 4 + 1), added m c (4 * (t.val / 4) + s) i := by
  have hN : cfg0.N = 12 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S2432x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- The cotangents, and the modulated activations: the reference names the same host operations. -/
abbrev cot : FVec Ideal S2048x6832 .f32 := m (c, main_arg4)
abbrev cotSwap : FVec Ideal S2048x32 .f32 := m (c, main_arg5)
abbrev fill : FVec Ideal S_ .f32 := sitofp .f32 (constantI S_ 32 0#32)

theorem fill_apply (i : S_.Idx) : fill i = 0 := by
  show ((((0#32 : BitVec 32).toInt : ℤ) : ℝ) : EReal) = 0
  simp

/-- The columns in the order of the call. -/
abbrev laid (y : FVec Ideal S2048x6832 .f32) (z : FVec Ideal S2048x32 .f32) : FVec Ideal S2048x7296 .f32 :=
  concatenate S2048x7296 1 [⟨S2048x3072, extractStridedSlice S2048x3072 ![0, 3760] y slices_S2048x6832_S2048x3072_0_3760⟩,
    ⟨S2048x1024, extractStridedSlice S2048x1024 ![0, 2208] y slices_S2048x6832_S2048x1024_0_2208⟩,
    ⟨S2048x1024, extractStridedSlice S2048x1024 ![0, 1184] y slices_S2048x6832_S2048x1024_0_1184⟩,
    ⟨S2048x512, extractStridedSlice S2048x512 ![0, 672] y slices_S2048x6832_S2048x512_0_672⟩,
    ⟨S2048x512, extractStridedSlice S2048x512 ![0, 3232] y slices_S2048x6832_S2048x512_0_3232⟩,
    ⟨S2048x256, extractStridedSlice S2048x256 ![0, 384] y slices_S2048x6832_S2048x256_0_384⟩,
    ⟨S2048x128, pad S2048x128 ![0, 0] ![0, 96] ![0, 0] (extractStridedSlice S2048x32 ![0, 640] y slices_S2048x6832_S2048x32_0_640) fill
      pads_S2048x32_S2048x128_000_0960 h_S_⟩,
    ⟨S2048x128, pad S2048x128 ![0, 0] ![0, 96] ![0, 0] z fill pads_S2048x32_S2048x128_000_0960 h_S_⟩,
    ⟨S2048x128, pad S2048x128 ![0, 0] ![0, 112] ![0, 0] (extractStridedSlice S2048x16 ![0, 3744] y slices_S2048x6832_S2048x16_0_3744) fill
      pads_S2048x16_S2048x128_000_01120 h_S_⟩,
    ⟨S2048x128, broadcastInDim S2048x128 ![] bcast_S_S2048x128 (constant S_ .f32 0x00000000#32)⟩,
    ⟨S2048x384, extractStridedSlice S2048x384 ![0, 0] y slices_S2048x6832_S2048x384_0_0⟩]
    concatenates_S2048x3072_S2048x1024_S2048x1024_S2048x512_S2048x512_S2048x256_S2048x128_S2048x128_S2048x128_S2048x128_S2048x384_S2048x7296_d1

/-- The two arrays, before they are rounded. -/
abbrev left : FVec Ideal S2048x7296 .f32 := laid (cot m c) (cotSwap m c)
abbrev right : FVec Ideal S2048x1024 .f32 :=
  Cert.Reference4Ideal.Read.val_main_v22 (F := Ideal) (m (c, main_arg0)) (m (c, main_arg1)) (m (c, main_arg2)) (m (c, main_arg3))

set_option maxHeartbeats 4000000 in
theorem entry_a : V m c main_v35 = (truncf .bf16 (left m c) bitsLt_bf16_f32 : FVec Ideal S2048x7296 .bf16) := by
  unfold V
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
theorem entry_b : V m c main_v36 = (truncf .bf16 (right m c) bitsLt_bf16_f32 : FVec Ideal S2048x1024 .bf16) := by
  unfold V
  simp only [hostOps0, hostOps0_1, hostOps0_2, hostOps0_3, hostOps0_4, hostOps0_5, hostOps0_6, List.flatten_cons, List.flatten_nil, List.append_nil, List.cons_append, List.nil_append]
  after_results
  rfl

/-- A column of the columns laid out. -/
theorem laid_apply (y : FVec Ideal S2048x6832 .f32) (z : FVec Ideal S2048x32 .f32) (t : Fin 2048) (j : Fin 7296) :
    laid y z (ix2 t j) = col (fun e => y (ix2 t e)) (fun e => z (ix2 t e)) j.val := by
  refine joined_apply (n := 2048) (A := y) (B := z) ⟨?_, ?_, ?_, ?_, ?_, ?_, ?_, ?_, ?_, ?_, ?_⟩ _ t j
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => filled_apply _ fill _ _ (fill_apply _) r e _ fun he => columns_apply y _ r _ _ (Nat.mod_eq_of_lt (by show 640 + e.val < 6832; omega))
  · exact fun r e => filled_apply z fill _ _ (fill_apply _) r e _ fun he => congrArg (fun a => z (ix2 r a)) (Fin.ext (Nat.mod_eq_of_lt he).symm)
  · exact fun r e => filled_apply _ fill _ _ (fill_apply _) r e _ fun he => columns_apply y _ r _ _ (Nat.mod_eq_of_lt (by show 3744 + e.val < 6832; omega))
  · exact fun r e => zero_word
  · exact fun r e => columns_apply y _ r e _ ((Nat.mod_eq_of_lt (by have := e.isLt; omega)).trans (Nat.zero_add _).symm)

theorem blockA_apply (t : Fin cfg0.N) (k : Fin 512) (r : Fin 2432) (j : Fin 7296) (hj : j.val = 2432 * (t.val / 4) + r.val) :
    blockA m c t (ix2 k r) = left m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v35 (ix2 (row (512 * (t.val % 4) + k.val)) j)) ?_ ?_
  · refine congrArg (V m c main_v35) (funext fun a => Fin.ext ?_)
    match a with
    | ⟨0, _⟩ => show win0_0.index t 0 * 512 + 1 * k.val = (row (512 * (t.val % 4) + k.val)).val; omega
    | ⟨1, _⟩ => show win0_0.index t 1 * 2432 + 1 * r.val = j.val; omega
  · rw [entry_a]
    rfl

theorem blockB_apply (t : Fin cfg0.N) (k : Fin 512) (d : Fin 1024) :
    blockB m c t (ix2 k d) = right m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v36 (ix2 (row (512 * (t.val % 4) + k.val)) d)) ?_ ?_
  · refine congrArg (V m c main_v36) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 7296) (d : Fin 1024) : G2 m c (ix2 j d) = ∑ t : Fin 2048, left m c (ix2 t j) * right m c (ix2 t d) := by
  have hN : cfg0.N = 12 := N_0
  have hj := j.isLt
  have hd := d.isLt
  have hp : pt2Of (ix2 j d) = 4 * (j.val / 2432) + 3 := by
    show 4 * (1 * (j.val / 2432 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => left m c (ix2 t j) * right m c (ix2 t d))]
  show ∑ s ∈ Finset.range (pt2Of (ix2 j d) % 4 + 1), added m c (4 * (pt2Of (ix2 j d) / 4) + s) _ = _
  rw [hp, show (4 * (j.val / 2432) + 3) % 4 + 1 = 4 by omega, show (4 * (j.val / 2432) + 3) / 4 = j.val / 2432 by omega]
  refine Finset.sum_congr rfl fun s hs => ?_
  have hs' := Finset.mem_range.mp hs
  have hb : 4 * (j.val / 2432) + s < cfg0.N := by omega
  rw [added, dif_pos hb]
  refine Finset.sum_congr rfl fun k _ => ?_
  have e4 : (4 * (j.val / 2432) + s) % 4 = s := by omega
  have ea := blockA_apply m c ⟨_, hb⟩ k ⟨j.val % 2432, Nat.mod_lt _ (by decide)⟩ j
    (by show j.val = 2432 * ((4 * (j.val / 2432) + s) / 4) + j.val % 2432; omega)
  have ed : (⟨d.val % 1024, Nat.mod_lt _ (by decide)⟩ : Fin 1024) = d := Fin.ext (Nat.mod_eq_of_lt hd)
  have eb := blockB_apply m c ⟨_, hb⟩ k d
  simp only [e4] at ea eb
  exact congrArg₂ (fun p q : EReal => p * q) ea ((congrArg (fun q => blockB m c ⟨_, hb⟩ (ix2 k q)) ed).trans eb)

/-- The reference's result, its columns laid out. -/
theorem reference_apply (x : FVec Ideal S2048x1024 .f32) (w sh sc : FVec Ideal S1024 .f32) (y : FVec Ideal S2048x6832 .f32) (z : FVec Ideal S2048x32 .f32)
    (j : Fin 7296) (d : Fin 1024) : Cert.Reference4Ideal.Read.val_main_v44 (F := Ideal) x w sh sc y z (ix2 j d)
      = ∑ t : Fin 2048, laid y z (ix2 t j) * Cert.Reference4Ideal.Read.val_main_v22 (F := Ideal) x w sh sc (ix2 t d) := by
  simp only [laid_apply]
  rw [sum_col (fun t e => y (ix2 t e)) (fun t e => z (ix2 t e)) (fun t => Cert.Reference4Ideal.Read.val_main_v22 (F := Ideal) x w sh sc (ix2 t d)) j.val]
  have hA (d : Fin 1024) (e : Fin 6832) : Cert.Reference4Ideal.Read.val_main_v28 (F := Ideal) x w sh sc y (ix2 d e)
      = ∑ t : Fin 2048, y (ix2 t e) * Cert.Reference4Ideal.Read.val_main_v22 (F := Ideal) x w sh sc (ix2 t d) := by
    refine Eq.trans (b := Cert.Reference4Ideal.Read.val_main_v27 (F := Ideal) x w sh sc y (ix2 e d)) ?_ (hostProduct_apply (φ₁ := .f32) (φ₂ := .f32) _ none y _ e d)
    rw [Cert.Reference4Ideal.Read.val_main_v28_apply]
    refine congrArg (Cert.Reference4Ideal.Read.val_main_v27 (F := Ideal) x w sh sc y) (funext fun a => ?_)
    match a with
    | ⟨0, _⟩ => rfl
    | ⟨1, _⟩ => rfl
  have hB (d : Fin 1024) (e : Fin 32) : Cert.Reference4Ideal.Read.val_main_v26 (F := Ideal) x w sh sc z (ix2 d e)
      = ∑ t : Fin 2048, z (ix2 t e) * Cert.Reference4Ideal.Read.val_main_v22 (F := Ideal) x w sh sc (ix2 t d) := by
    refine Eq.trans (b := Cert.Reference4Ideal.Read.val_main_v25 (F := Ideal) x w sh sc z (ix2 e d)) ?_ (hostProduct_apply (φ₁ := .f32) (φ₂ := .f32) _ none z _ e d)
    rw [Cert.Reference4Ideal.Read.val_main_v26_apply]
    refine congrArg (Cert.Reference4Ideal.Read.val_main_v25 (F := Ideal) x w sh sc z) (funext fun a => ?_)
    match a with
    | ⟨0, _⟩ => rfl
    | ⟨1, _⟩ => rfl
  simp only [← hA, ← hB]
  refine Eq.trans (b := Cert.Reference4Ideal.Read.val_main_v42 (F := Ideal) x w sh sc y z (ix2 d j)) ?_ ?_
  · rw [Cert.Reference4Ideal.Read.val_main_v44_apply, Cert.Reference4Ideal.Read.val_main_v43_apply]
    refine congrArg (Cert.Reference4Ideal.Read.val_main_v42 (F := Ideal) x w sh sc y z) (funext fun a => ?_)
    match a with
    | ⟨0, _⟩ => rfl
    | ⟨1, _⟩ => rfl
  generalize hy : Cert.Reference4Ideal.Read.val_main_v28 (F := Ideal) x w sh sc y = A
  generalize hz : Cert.Reference4Ideal.Read.val_main_v26 (F := Ideal) x w sh sc z = B
  unfold Cert.Reference4Ideal.Read.val_main_v42
  refine joined_apply (n := 1024) (A := A) (B := B) ⟨?_, ?_, ?_, ?_, ?_, ?_, ?_, ?_, ?_, ?_, ?_⟩ _ d j
  all_goals subst hy hz
  · exact fun r e => columns_apply _ _ r e _ (Nat.mod_eq_of_lt (by have := e.isLt; omega))
  · exact fun r e => columns_apply _ _ r e _ (Nat.mod_eq_of_lt (by have := e.isLt; omega))
  · exact fun r e => columns_apply _ _ r e _ (Nat.mod_eq_of_lt (by have := e.isLt; omega))
  · exact fun r e => columns_apply _ _ r e _ (Nat.mod_eq_of_lt (by have := e.isLt; omega))
  · exact fun r e => columns_apply _ _ r e _ (Nat.mod_eq_of_lt (by have := e.isLt; omega))
  · exact fun r e => columns_apply _ _ r e _ (Nat.mod_eq_of_lt (by have := e.isLt; omega))
  · exact fun r e => filled_apply _ _ _ _ zero_word r e _ fun he => columns_apply _ _ r _ _ (Nat.mod_eq_of_lt (by show 640 + e.val < 6832; omega))
  · exact fun r e => filled_apply _ _ _ _ zero_word r e _ fun he => congrArg (fun a => Cert.Reference4Ideal.Read.val_main_v26 (F := Ideal) x w sh sc z (ix2 r a)) (Fin.ext (Nat.mod_eq_of_lt he).symm)
  · exact fun r e => filled_apply _ _ _ _ zero_word r e _ fun he => columns_apply _ _ r _ _ (Nat.mod_eq_of_lt (by show 3744 + e.val < 6832; omega))
  · exact fun r e => zero_word
  · exact fun r e => columns_apply _ _ r e _ ((Nat.mod_eq_of_lt (by have := e.isLt; omega)).trans (Nat.zero_add _).symm)

theorem result_eq (i : S7296x1024.Idx) : Cert.Reference4Ideal.Read.val_main_v44 (F := Ideal) (m (c, main_arg0)) (m (c, main_arg1)) (m (c, main_arg2))
    (m (c, main_arg3)) (m (c, main_arg4)) (m (c, main_arg5)) i = G2 m c i := by
  obtain ⟨j, d, rfl⟩ : ∃ (j : Fin 7296) (d : Fin 1024), i = ix2 j d := ⟨i 0, i 1, eq_ix2 i⟩
  exact (reference_apply _ _ _ _ _ _ j d).trans (result m c j d).symm

end Cert.Kernel4Ideal.Gen

end
-- ==== Proof.ProdOut.lean ====
/- The gradient of the output projection: the product of the merged branches and the cotangent over all rows. -/
module

public import proofs.«01_k».proof.Proof.ProdModel
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Kernel6Ideal.Gen

open Idealize.ShloMosaic Idealize.ShloMosaic.TcCoe Idealize.ShloMosaic.ValueIdx Idealize.ShloMosaic.Tactic Cert.Attn Cert.Prod Cert.Kernel6Ideal.Value

theorem off2 : (![0, 0] : Fin 2 → ℕ) = fun _ => 0 := funext fun a => by fin_cases a <;> rfl

section
variable (c : Dev nD) (i : grid0.Coords) (arg3 : Memref sig .tc .vmem S512x1024 .bf16) (harg3 : arg3.IsWhole)
  (arg4 : Memref sig .tc .vmem S512x1024 .bf16) (harg4 : arg4.IsWhole) (arg5 : Memref sig .tc .vmem S1024x1024 .bf16) (harg5 : arg5.IsWhole)
  (arg6 : Memref sig .tc .vmem S1024x1024 .f32) (harg6 : arg6.IsWhole) (x0 : Vec Ideal S512x1024 .bf16) (x1 : Vec Ideal S512x1024 .bf16)
  (xs : Vec Ideal S1024x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S512x1024) off2, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S1024x1024) _ off2]
  simp only [View.readAt_eq_ld, harg3.read_unread, harg4.read_unread, harg6.read_unread, View.ld_unit_zero (S := S512x1024) off2,
    View.ld_unit_zero (S := S512x1024) off2, View.ld_unit_zero (S := S1024x1024) off2]
end

/-- What a step adds, at an index. -/
theorem step_at (xs : Vec Ideal S1024x1024 .f32) (x0 : Vec Ideal S512x1024 .bf16) (x1 : Vec Ideal S512x1024 .bf16) (i : S1024x1024.Idx) :
    k0_pay2 xs x0 x1 i = xs i + ∑ k : Fin 512, x0 (ix2 k (i 0)) * x1 (ix2 k (i 1)) := by
  obtain ⟨r, d, rfl⟩ : ∃ (r : Fin 1024) (d : Fin 1024), i = ix2 r d := ⟨i 0, i 1, eq_ix2 i⟩
  unfold k0_pay2
  simp only [shapeCast_self]
  exact congrArg (xs (ix2 r d) + ·) (product_apply (φ₁ := .bf16) (φ₂ := .bf16) _ none x0 x1 r d)

theorem zero_apply (i : S1024x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S512x1024 .bf16 := iblk m c 0 t
abbrev blockB (t : Fin cfg0.N) : Vec Ideal S512x1024 .bf16 := iblk m c 1 t

/-- The product that a step at point `t` adds. -/
def added (t : ℕ) (i : S1024x1024.Idx) : EReal :=
  if h : t < cfg0.N then ∑ k : Fin 512, blockA m c ⟨t, h⟩ (ix2 k (i 0)) * blockB m c ⟨t, h⟩ (ix2 k (i 1)) else 0

theorem kept (t : Fin cfg0.N) (i : S1024x1024.Idx) :
    (outsAt0 m c t.val t.isLt).2 i = ∑ s ∈ Finset.range (t.val % 4 + 1), added m c (4 * (t.val / 4) + s) i := by
  have hN : cfg0.N = 4 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S1024x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- The two arrays, before they are rounded. -/
abbrev left : FVec Ideal S2048x1024 .f32 := m (c, main_arg0)
abbrev right : FVec Ideal S2048x1024 .f32 := m (c, main_arg1)

theorem entry_a : V m c main_v0 = (truncf .bf16 (left m c) bitsLt_bf16_f32 : FVec Ideal S2048x1024 .bf16) := by
  unfold V
  simp only [hostOps0, List.flatten_cons, List.flatten_nil, List.append_nil, List.cons_append, List.nil_append]
  after_results

theorem entry_b : V m c main_v1 = (truncf .bf16 (right m c) bitsLt_bf16_f32 : FVec Ideal S2048x1024 .bf16) := by
  unfold V
  simp only [hostOps0, List.flatten_cons, List.flatten_nil, List.append_nil, List.cons_append, List.nil_append]
  after_results

theorem blockA_apply (t : Fin cfg0.N) (k : Fin 512) (r : Fin 1024) (j : Fin 1024) (hj : j.val = 1024 * (t.val / 4) + r.val) :
    blockA m c t (ix2 k r) = left m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v0 (ix2 (row (512 * (t.val % 4) + k.val)) j)) ?_ ?_
  · refine congrArg (V m c main_v0) (funext fun a => Fin.ext ?_)
    match a with
    | ⟨0, _⟩ => show win0_0.index t 0 * 512 + 1 * k.val = (row (512 * (t.val % 4) + k.val)).val; omega
    | ⟨1, _⟩ => show win0_0.index t 1 * 1024 + 1 * r.val = j.val; omega
  · rw [entry_a]
    rfl

theorem blockB_apply (t : Fin cfg0.N) (k : Fin 512) (d : Fin 1024) :
    blockB m c t (ix2 k d) = right m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v1 (ix2 (row (512 * (t.val % 4) + k.val)) d)) ?_ ?_
  · refine congrArg (V m c main_v1) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 1024) (d : Fin 1024) : G2 m c (ix2 j d) = ∑ t : Fin 2048, left m c (ix2 t j) * right m c (ix2 t d) := by
  have hN : cfg0.N = 4 := N_0
  have hj := j.isLt
  have hd := d.isLt
  have hp : pt2Of (ix2 j d) = 4 * (j.val / 1024) + 3 := by
    show 4 * (1 * (j.val / 1024 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => left m c (ix2 t j) * right m c (ix2 t d))]
  show ∑ s ∈ Finset.range (pt2Of (ix2 j d) % 4 + 1), added m c (4 * (pt2Of (ix2 j d) / 4) + s) _ = _
  rw [hp, show (4 * (j.val / 1024) + 3) % 4 + 1 = 4 by omega, show (4 * (j.val / 1024) + 3) / 4 = j.val / 1024 by omega]
  refine Finset.sum_congr rfl fun s hs => ?_
  have hs' := Finset.mem_range.mp hs
  have hb : 4 * (j.val / 1024) + s < cfg0.N := by omega
  rw [added, dif_pos hb]
  refine Finset.sum_congr rfl fun k _ => ?_
  have e4 : (4 * (j.val / 1024) + s) % 4 = s := by omega
  have ea := blockA_apply m c ⟨_, hb⟩ k ⟨j.val % 1024, Nat.mod_lt _ (by decide)⟩ j
    (by show j.val = 1024 * ((4 * (j.val / 1024) + s) / 4) + j.val % 1024; omega)
  have ed : (⟨d.val % 1024, Nat.mod_lt _ (by decide)⟩ : Fin 1024) = d := Fin.ext (Nat.mod_eq_of_lt hd)
  have eb := blockB_apply m c ⟨_, hb⟩ k d
  simp only [e4] at ea eb
  exact congrArg₂ (fun p q : EReal => p * q) ea ((congrArg (fun q => blockB m c ⟨_, hb⟩ (ix2 k q)) ed).trans eb)

/-- The reference's result at an index. -/
theorem reference_apply (x : FVec Ideal S2048x1024 .f32) (y : FVec Ideal S2048x1024 .f32) (j : Fin 1024) (d : Fin 1024) :
    Cert.Reference6Ideal.Read.val_main_v4 (F := Ideal) x y (ix2 j d) = ∑ t : Fin 2048, x (ix2 t j) * y (ix2 t d) := by
  refine Eq.trans (b := Cert.Reference6Ideal.Read.val_main_v2 (F := Ideal) x y (ix2 d j)) ?_
    ((hostProduct_apply (φ₁ := .f32) (φ₂ := .f32) _ none y x d j).trans (Finset.sum_congr rfl fun t _ => mul_comm _ _))
  rw [Cert.Reference6Ideal.Read.val_main_v4_apply, Cert.Reference6Ideal.Read.val_main_v3_apply]
  refine congrArg (Cert.Reference6Ideal.Read.val_main_v2 (F := Ideal) x y) (funext fun a => ?_)
  match a with
  | ⟨0, _⟩ => rfl
  | ⟨1, _⟩ => rfl

theorem result_eq (i : S1024x1024.Idx) : Cert.Reference6Ideal.Read.val_main_v4 (F := Ideal) (m (c, main_arg0)) (m (c, main_arg1)) i = G2 m c i := by
  obtain ⟨j, d, rfl⟩ : ∃ (j : Fin 1024) (d : Fin 1024), i = ix2 j d := ⟨i 0, i 1, eq_ix2 i⟩
  exact (reference_apply _ _ j d).trans (result m c j d).symm

end Cert.Kernel6Ideal.Gen

end
-- ==== Proof.ProdAttended.lean ====
/- The gradient of the first branch's weight: the product of the attention's output, each head filled up with zeros, and the cotangent over all rows. -/
module

public import proofs.«01_k».proof.Proof.ProdModel
public import proofs.«01_k».proof.Proof.AttnLayout
public import proofs.«01_k».proof.Proof.Gen.Kernel7Ideal.Value
public import proofs.«01_k».proof.Proof.Gen.Reference7Ideal.Run
public import proofs.«01_k».proof.Proof.Gen.Reference7Ideal.Read

@[expose] public section

noncomputable section

namespace Cert.Kernel7Ideal.Gen

open Idealize.ShloMosaic Idealize.ShloMosaic.TcCoe Idealize.ShloMosaic.ValueIdx Idealize.ShloMosaic.Tactic Cert.Attn Cert.Prod Cert.Kernel7Ideal.Value

theorem off2 : (![0, 0] : Fin 2 → ℕ) = fun _ => 0 := funext fun a => by fin_cases a <;> rfl

section
variable (c : Dev nD) (i : grid0.Coords) (arg3 : Memref sig .tc .vmem S512x1024 .bf16) (harg3 : arg3.IsWhole)
  (arg4 : Memref sig .tc .vmem S512x1024 .bf16) (harg4 : arg4.IsWhole) (arg5 : Memref sig .tc .vmem S1024x1024 .bf16) (harg5 : arg5.IsWhole)
  (arg6 : Memref sig .tc .vmem S1024x1024 .f32) (harg6 : arg6.IsWhole) (x0 : Vec Ideal S512x1024 .bf16) (x1 : Vec Ideal S512x1024 .bf16)
  (xs : Vec Ideal S1024x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S512x1024) off2, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S1024x1024) _ off2]
  simp only [View.readAt_eq_ld, harg3.read_unread, harg4.read_unread, harg6.read_unread, View.ld_unit_zero (S := S512x1024) off2,
    View.ld_unit_zero (S := S512x1024) off2, View.ld_unit_zero (S := S1024x1024) off2]
end

/-- What a step adds, at an index. -/
theorem step_at (xs : Vec Ideal S1024x1024 .f32) (x0 : Vec Ideal S512x1024 .bf16) (x1 : Vec Ideal S512x1024 .bf16) (i : S1024x1024.Idx) :
    k0_pay2 xs x0 x1 i = xs i + ∑ k : Fin 512, x0 (ix2 k (i 0)) * x1 (ix2 k (i 1)) := by
  obtain ⟨r, d, rfl⟩ : ∃ (r : Fin 1024) (d : Fin 1024), i = ix2 r d := ⟨i 0, i 1, eq_ix2 i⟩
  unfold k0_pay2
  simp only [shapeCast_self]
  exact congrArg (xs (ix2 r d) + ·) (product_apply (φ₁ := .bf16) (φ₂ := .bf16) _ none x0 x1 r d)

theorem zero_apply (i : S1024x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S512x1024 .bf16 := iblk m c 0 t
abbrev blockB (t : Fin cfg0.N) : Vec Ideal S512x1024 .bf16 := iblk m c 1 t

/-- The product that a step at point `t` adds. -/
def added (t : ℕ) (i : S1024x1024.Idx) : EReal :=
  if h : t < cfg0.N then ∑ k : Fin 512, blockA m c ⟨t, h⟩ (ix2 k (i 0)) * blockB m c ⟨t, h⟩ (ix2 k (i 1)) else 0

theorem kept (t : Fin cfg0.N) (i : S1024x1024.Idx) :
    (outsAt0 m c t.val t.isLt).2 i = ∑ s ∈ Finset.range (t.val % 4 + 1), added m c (4 * (t.val / 4) + s) i := by
  have hN : cfg0.N = 4 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S1024x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- Each head's 64 features, filled up to 128 with the zero of the call's own making. -/
abbrev fill : FVec Ideal S_ .f32 := sitofp .f32 (constantI S_ 32 0#32)
abbrev heads (x : FVec Ideal S2048x512 .f32) : FVec Ideal S2048x8x64 .f32 := shapeCast S2048x8x64 x shapeCasts_S2048x512_S2048x8x64
abbrev filled (x : FVec Ideal S2048x512 .f32) : FVec Ideal S2048x8x128 .f32 :=
  pad S2048x8x128 ![0, 0, 0] ![0, 0, 64] ![0, 0, 0] (heads x) fill pads_S2048x8x64_S2048x8x128_000_000_0640 h_S_
abbrev wide (x : FVec Ideal S2048x512 .f32) : FVec Ideal S2048x1024 .f32 := shapeCast S2048x1024 (filled x) shapeCasts_S2048x8x128_S2048x1024

/-- The two arrays, before they are rounded. -/
abbrev attended : FVec Ideal S2048x512 .f32 := m (c, main_arg0)
abbrev left : FVec Ideal S2048x1024 .f32 := wide (attended m c)
abbrev right : FVec Ideal S2048x1024 .f32 := m (c, main_arg1)

theorem entry_a : V m c main_v3 = (truncf .bf16 (left m c) bitsLt_bf16_f32 : FVec Ideal S2048x1024 .bf16) := by
  unfold V
  simp only [hostOps0, hostOps0_1, hostOps0_2, List.flatten_cons, List.flatten_nil, List.append_nil, List.cons_append, List.nil_append]
  after_results
  rfl

theorem entry_b : V m c main_v4 = (truncf .bf16 (right m c) bitsLt_bf16_f32 : FVec Ideal S2048x1024 .bf16) := by
  unfold V
  simp only [hostOps0, hostOps0_1, hostOps0_2, List.flatten_cons, List.flatten_nil, List.append_nil, List.cons_append, List.nil_append]
  after_results

theorem fill_apply (i : S_.Idx) : fill i = 0 := by
  show (((0#32 : BitVec 32).toInt : ℝ) : EReal) = 0
  norm_num

/-- A column of the array filled up: a feature of a head, or zero. -/
theorem wide_apply (x : FVec Ideal S2048x512 .f32) (t : Fin 2048) (j : Fin 1024) :
    wide x (ix2 t j) = if h : j.val % 128 < 64 then x (ix2 t (⟨64 * (j.val / 128) + j.val % 128, by omega⟩ : Fin 512)) else 0 := by
  have hj := j.isLt
  refine (shapeCast_apply _ _ (ix2 t j) (ix3 t (⟨j.val / 128, by omega⟩ : Fin 8) (⟨j.val % 128, by omega⟩ : Fin 128)) ?_).trans ?_
  · rw [Shape.rowMajor_val_three, Shape.rowMajor_val_two]
    show (t.val * 8 + j.val / 128) * 128 + j.val % 128 = t.val * 1024 + j.val
    omega
  refine (pad_last (heads x) fill _ _ t _ _).trans ?_
  by_cases h : j.val % 128 < 64
  · rw [dif_pos h, dif_pos h]
    refine shapeCast_apply _ _ _ (ix2 t (⟨64 * (j.val / 128) + j.val % 128, by omega⟩ : Fin 512)) ?_
    rw [Shape.rowMajor_val_three, Shape.rowMajor_val_two]
    show t.val * 512 + (64 * (j.val / 128) + j.val % 128) = (t.val * 8 + j.val / 128) * 64 + j.val % 128
    omega
  · rw [dif_neg h, dif_neg h]
    exact fill_apply _

theorem blockA_apply (t : Fin cfg0.N) (k : Fin 512) (r : Fin 1024) (j : Fin 1024) (hj : j.val = 1024 * (t.val / 4) + r.val) :
    blockA m c t (ix2 k r) = left m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v3 (ix2 (row (512 * (t.val % 4) + k.val)) j)) ?_ ?_
  · refine congrArg (V m c main_v3) (funext fun a => Fin.ext ?_)
    match a with
    | ⟨0, _⟩ => show win0_0.index t 0 * 512 + 1 * k.val = (row (512 * (t.val % 4) + k.val)).val; omega
    | ⟨1, _⟩ => show win0_0.index t 1 * 1024 + 1 * r.val = j.val; omega
  · rw [entry_a]
    rfl

theorem blockB_apply (t : Fin cfg0.N) (k : Fin 512) (d : Fin 1024) :
    blockB m c t (ix2 k d) = right m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v4 (ix2 (row (512 * (t.val % 4) + k.val)) d)) ?_ ?_
  · refine congrArg (V m c main_v4) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 1024) (d : Fin 1024) : G2 m c (ix2 j d) = ∑ t : Fin 2048, left m c (ix2 t j) * right m c (ix2 t d) := by
  have hN : cfg0.N = 4 := N_0
  have hj := j.isLt
  have hd := d.isLt
  have hp : pt2Of (ix2 j d) = 4 * (j.val / 1024) + 3 := by
    show 4 * (1 * (j.val / 1024 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => left m c (ix2 t j) * right m c (ix2 t d))]
  show ∑ s ∈ Finset.range (pt2Of (ix2 j d) % 4 + 1), added m c (4 * (pt2Of (ix2 j d) / 4) + s) _ = _
  rw [hp, show (4 * (j.val / 1024) + 3) % 4 + 1 = 4 by omega, show (4 * (j.val / 1024) + 3) / 4 = j.val / 1024 by omega]
  refine Finset.sum_congr rfl fun s hs => ?_
  have hs' := Finset.mem_range.mp hs
  have hb : 4 * (j.val / 1024) + s < cfg0.N := by omega
  rw [added, dif_pos hb]
  refine Finset.sum_congr rfl fun k _ => ?_
  have e4 : (4 * (j.val / 1024) + s) % 4 = s := by omega
  have ea := blockA_apply m c ⟨_, hb⟩ k ⟨j.val % 1024, Nat.mod_lt _ (by decide)⟩ j
    (by show j.val = 1024 * ((4 * (j.val / 1024) + s) / 4) + j.val % 1024; omega)
  have ed : (⟨d.val % 1024, Nat.mod_lt _ (by decide)⟩ : Fin 1024) = d := Fin.ext (Nat.mod_eq_of_lt hd)
  have eb := blockB_apply m c ⟨_, hb⟩ k d
  simp only [e4] at ea eb
  exact congrArg₂ (fun p q : EReal => p * q) ea ((congrArg (fun q => blockB m c ⟨_, hb⟩ (ix2 k q)) ed).trans eb)

/-- The reference's result at an index. -/
theorem reference_apply (x : FVec Ideal S2048x512 .f32) (y : FVec Ideal S2048x1024 .f32) (j : Fin 1024) (d : Fin 1024) :
    Cert.Reference7Ideal.Read.val_main_v7 (F := Ideal) x y (ix2 j d) = ∑ t : Fin 2048, wide x (ix2 t j) * y (ix2 t d) := by
  have hj := j.isLt
  have hd := d.isLt
  refine Eq.trans (b := Cert.Reference7Ideal.Read.val_main_v5 (F := Ideal) x y (ix3 (⟨j.val / 128, by omega⟩ : Fin 8) (⟨j.val % 128, by omega⟩ : Fin 128) d)) ?_ ?_
  · rw [Cert.Reference7Ideal.Read.val_main_v7_apply]
    refine shapeCast_apply (Cert.Reference7Ideal.Read.val_main_v5 (F := Ideal) x y) _ (ix2 j d) _ ?_
    rw [Shape.rowMajor_val_three, Shape.rowMajor_val_two]
    show (j.val / 128 * 128 + j.val % 128) * 1024 + d.val = j.val * 1024 + d.val
    omega
  unfold Cert.Reference7Ideal.Read.val_main_v5
  simp only [wide_apply]
  by_cases h : j.val % 128 < 64
  · simp only [dif_pos h]
    refine (pad_apply_of_inside _ _ _ _ _ _ _ _ (ix3 (⟨j.val / 128, by omega⟩ : Fin 8) (⟨j.val % 128, h⟩ : Fin 64) d) fun a => ?_).trans ?_
    · match a with
      | ⟨0, _⟩ => show j.val / 128 = 0 + j.val / 128 * 1; omega
      | ⟨1, _⟩ => show j.val % 128 = 0 + j.val % 128 * 1; omega
      | ⟨2, _⟩ => show d.val = 0 + d.val * 1; omega
    refine Eq.trans (b := Cert.Reference7Ideal.Read.val_main_v2 (F := Ideal) x y (ix2 d (⟨64 * (j.val / 128) + j.val % 128, by omega⟩ : Fin 512))) ?_
      ((hostProduct_apply (φ₁ := .f32) (φ₂ := .f32) _ none y x d _).trans (Finset.sum_congr rfl fun t _ => mul_comm _ _))
    rw [Cert.Reference7Ideal.Read.val_main_v4_apply, Cert.Reference7Ideal.Read.val_main_v3_apply]
    refine congrArg (Cert.Reference7Ideal.Read.val_main_v2 (F := Ideal) x y) (funext fun a => Fin.ext ?_)
    match a with
    | ⟨0, _⟩ => show ((j.val / 128 * 64 + j.val % 128) * 1024 + d.val) % 1024 = d.val; omega
    | ⟨1, _⟩ => show ((j.val / 128 * 64 + j.val % 128) * 1024 + d.val) / 1024 = 64 * (j.val / 128) + j.val % 128; omega
  · simp only [dif_neg h, zero_mul, Finset.sum_const_zero]
    refine (pad_apply_of_not_inside _ _ _ _ _ _ _ _ (1 : Fin 3) fun hc => h ?_).trans zero_word
    have h3 : (j.val % 128 - 0) / 1 < 64 := hc.2.2
    omega

theorem result_eq (i : S1024x1024.Idx) : Cert.Reference7Ideal.Read.val_main_v7 (F := Ideal) (m (c, main_arg0)) (m (c, main_arg1)) i = G2 m c i := by
  obtain ⟨j, d, rfl⟩ : ∃ (j : Fin 1024) (d : Fin 1024), i = ix2 j d := ⟨i 0, i 1, eq_ix2 i⟩
  exact (reference_apply _ _ j d).trans (result m c j d).symm

end Cert.Kernel7Ideal.Gen

end
-- ==== Proof.ProdPool.lean ====
/- The gradient of the second branch's weight: the product of the branch's output and the cotangent over all rows. -/
module

public import proofs.«01_k».proof.Proof.ProdModel
public import proofs.«01_k».proof.Proof.Gen.Kernel8Ideal.Value
public import proofs.«01_k».proof.Proof.Gen.Reference8Ideal.Run
public import proofs.«01_k».proof.Proof.Gen.Reference8Ideal.Read

@[expose] public section

noncomputable section

namespace Cert.Kernel8Ideal.Gen

open Idealize.ShloMosaic Idealize.ShloMosaic.TcCoe Idealize.ShloMosaic.ValueIdx Idealize.ShloMosaic.Tactic Cert.Attn Cert.Prod Cert.Kernel8Ideal.Value

theorem off2 : (![0, 0] : Fin 2 → ℕ) = fun _ => 0 := funext fun a => by fin_cases a <;> rfl

section
variable (c : Dev nD) (i : grid0.Coords) (arg3 : Memref sig .tc .vmem S512x512 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S512x1024 .f32) (harg6 : arg6.IsWhole) (x0 : Vec Ideal S512x512 .bf16) (x1 : Vec Ideal S512x1024 .bf16)
  (xs : Vec Ideal S512x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) off2, View.readCov_unit_zero (S := S512x1024) _ off2]
  simp only [View.readAt_eq_ld, harg3.read_unread, harg4.read_unread, View.ld_unit_zero (S := S512x512) off2, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S512x512) off2,
    View.ld_unit_zero (S := S512x1024) off2, View.ld_unit_zero (S := S512x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S512x512) off2,
    View.ld_unit_zero (S := S512x1024) off2, View.ld_unit_zero (S := S512x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S512x1024) _ off2]
  simp only [View.readAt_eq_ld, harg3.read_unread, harg4.read_unread, harg6.read_unread, View.ld_unit_zero (S := S512x512) off2,
    View.ld_unit_zero (S := S512x1024) off2, View.ld_unit_zero (S := S512x1024) off2]
end

/-- What a step adds, at an index. -/
theorem step_at (xs : Vec Ideal S512x1024 .f32) (x0 : Vec Ideal S512x512 .bf16) (x1 : Vec Ideal S512x1024 .bf16) (i : S512x1024.Idx) :
    k0_pay2 xs x0 x1 i = xs i + ∑ k : Fin 512, x0 (ix2 k (i 0)) * x1 (ix2 k (i 1)) := by
  obtain ⟨r, d, rfl⟩ : ∃ (r : Fin 512) (d : Fin 1024), i = ix2 r d := ⟨i 0, i 1, eq_ix2 i⟩
  unfold k0_pay2
  simp only [shapeCast_self]
  exact congrArg (xs (ix2 r d) + ·) (product_apply (φ₁ := .bf16) (φ₂ := .bf16) _ none x0 x1 r d)

theorem zero_apply (i : S512x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S512x512 .bf16 := iblk m c 0 t
abbrev blockB (t : Fin cfg0.N) : Vec Ideal S512x1024 .bf16 := iblk m c 1 t

/-- The product that a step at point `t` adds. -/
def added (t : ℕ) (i : S512x1024.Idx) : EReal :=
  if h : t < cfg0.N then ∑ k : Fin 512, blockA m c ⟨t, h⟩ (ix2 k (i 0)) * blockB m c ⟨t, h⟩ (ix2 k (i 1)) else 0

theorem kept (t : Fin cfg0.N) (i : S512x1024.Idx) :
    (outsAt0 m c t.val t.isLt).2 i = ∑ s ∈ Finset.range (t.val % 4 + 1), added m c (4 * (t.val / 4) + s) i := by
  have hN : cfg0.N = 4 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S512x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- The two arrays, before they are rounded. -/
abbrev left : FVec Ideal S2048x512 .f32 := m (c, main_arg0)
abbrev right : FVec Ideal S2048x1024 .f32 := m (c, main_arg1)

theorem entry_a : V m c main_v0 = (truncf .bf16 (left m c) bitsLt_bf16_f32 : FVec Ideal S2048x512 .bf16) := by
  unfold V
  simp only [hostOps0, List.flatten_cons, List.flatten_nil, List.append_nil, List.cons_append, List.nil_append]
  after_results

theorem entry_b : V m c main_v1 = (truncf .bf16 (right m c) bitsLt_bf16_f32 : FVec Ideal S2048x1024 .bf16) := by
  unfold V
  simp only [hostOps0, List.flatten_cons, List.flatten_nil, List.append_nil, List.cons_append, List.nil_append]
  after_results

theorem blockA_apply (t : Fin cfg0.N) (k : Fin 512) (r : Fin 512) (j : Fin 512) (hj : j.val = 512 * (t.val / 4) + r.val) :
    blockA m c t (ix2 k r) = left m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v0 (ix2 (row (512 * (t.val % 4) + k.val)) j)) ?_ ?_
  · refine congrArg (V m c main_v0) (funext fun a => Fin.ext ?_)
    match a with
    | ⟨0, _⟩ => show win0_0.index t 0 * 512 + 1 * k.val = (row (512 * (t.val % 4) + k.val)).val; omega
    | ⟨1, _⟩ => show win0_0.index t 1 * 512 + 1 * r.val = j.val; omega
  · rw [entry_a]
    rfl

theorem blockB_apply (t : Fin cfg0.N) (k : Fin 512) (d : Fin 1024) :
    blockB m c t (ix2 k d) = right m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v1 (ix2 (row (512 * (t.val % 4) + k.val)) d)) ?_ ?_
  · refine congrArg (V m c main_v1) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 512) (d : Fin 1024) : G2 m c (ix2 j d) = ∑ t : Fin 2048, left m c (ix2 t j) * right m c (ix2 t d) := by
  have hN : cfg0.N = 4 := N_0
  have hj := j.isLt
  have hd := d.isLt
  have hp : pt2Of (ix2 j d) = 4 * (j.val / 512) + 3 := by
    show 4 * (1 * (j.val / 512 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => left m c (ix2 t j) * right m c (ix2 t d))]
  show ∑ s ∈ Finset.range (pt2Of (ix2 j d) % 4 + 1), added m c (4 * (pt2Of (ix2 j d) / 4) + s) _ = _
  rw [hp, show (4 * (j.val / 512) + 3) % 4 + 1 = 4 by omega, show (4 * (j.val / 512) + 3) / 4 = j.val / 512 by omega]
  refine Finset.sum_congr rfl fun s hs => ?_
  have hs' := Finset.mem_range.mp hs
  have hb : 4 * (j.val / 512) + s < cfg0.N := by omega
  rw [added, dif_pos hb]
  refine Finset.sum_congr rfl fun k _ => ?_
  have e4 : (4 * (j.val / 512) + s) % 4 = s := by omega
  have ea := blockA_apply m c ⟨_, hb⟩ k ⟨j.val % 512, Nat.mod_lt _ (by decide)⟩ j
    (by show j.val = 512 * ((4 * (j.val / 512) + s) / 4) + j.val % 512; omega)
  have ed : (⟨d.val % 1024, Nat.mod_lt _ (by decide)⟩ : Fin 1024) = d := Fin.ext (Nat.mod_eq_of_lt hd)
  have eb := blockB_apply m c ⟨_, hb⟩ k d
  simp only [e4] at ea eb
  exact congrArg₂ (fun p q : EReal => p * q) ea ((congrArg (fun q => blockB m c ⟨_, hb⟩ (ix2 k q)) ed).trans eb)

/-- The reference's result at an index. -/
theorem reference_apply (x : FVec Ideal S2048x512 .f32) (y : FVec Ideal S2048x1024 .f32) (j : Fin 512) (d : Fin 1024) :
    Cert.Reference8Ideal.Read.val_main_v4 (F := Ideal) x y (ix2 j d) = ∑ t : Fin 2048, x (ix2 t j) * y (ix2 t d) := by
  refine Eq.trans (b := Cert.Reference8Ideal.Read.val_main_v2 (F := Ideal) x y (ix2 d j)) ?_
    ((hostProduct_apply (φ₁ := .f32) (φ₂ := .f32) _ none y x d j).trans (Finset.sum_congr rfl fun t _ => mul_comm _ _))
  rw [Cert.Reference8Ideal.Read.val_main_v4_apply, Cert.Reference8Ideal.Read.val_main_v3_apply]
  refine congrArg (Cert.Reference8Ideal.Read.val_main_v2 (F := Ideal) x y) (funext fun a => ?_)
  match a with
  | ⟨0, _⟩ => rfl
  | ⟨1, _⟩ => rfl

theorem result_eq (i : S512x1024.Idx) : Cert.Reference8Ideal.Read.val_main_v4 (F := Ideal) (m (c, main_arg0)) (m (c, main_arg1)) i = G2 m c i := by
  obtain ⟨j, d, rfl⟩ : ∃ (j : Fin 512) (d : Fin 1024), i = ix2 j d := ⟨i 0, i 1, eq_ix2 i⟩
  exact (reference_apply _ _ j d).trans (result m c j d).symm

end Cert.Kernel8Ideal.Gen

end
-- ==== Proof.ProdState.lean ====
/- The gradient of the third branch's weight: the product of the branch's output and the cotangent over all rows. -/
module

public import proofs.«01_k».proof.Proof.ProdModel
public import proofs.«01_k».proof.Proof.Gen.Kernel9Ideal.Value
public import proofs.«01_k».proof.Proof.Gen.Reference9Ideal.Run
public import proofs.«01_k».proof.Proof.Gen.Reference9Ideal.Read

@[expose] public section

noncomputable section

namespace Cert.Kernel9Ideal.Gen

open Idealize.ShloMosaic Idealize.ShloMosaic.TcCoe Idealize.ShloMosaic.ValueIdx Idealize.ShloMosaic.Tactic Cert.Attn Cert.Prod Cert.Kernel9Ideal.Value

theorem off2 : (![0, 0] : Fin 2 → ℕ) = fun _ => 0 := funext fun a => by fin_cases a <;> rfl

section
variable (c : Dev nD) (i : grid0.Coords) (arg3 : Memref sig .tc .vmem S512x1024 .bf16) (harg3 : arg3.IsWhole)
  (arg4 : Memref sig .tc .vmem S512x1024 .bf16) (harg4 : arg4.IsWhole) (arg5 : Memref sig .tc .vmem S1024x1024 .bf16) (harg5 : arg5.IsWhole)
  (arg6 : Memref sig .tc .vmem S1024x1024 .f32) (harg6 : arg6.IsWhole) (x0 : Vec Ideal S512x1024 .bf16) (x1 : Vec Ideal S512x1024 .bf16)
  (xs : Vec Ideal S1024x1024 .f32)

theorem first_step (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S512x1024) off2, View.ld_unit_zero (S := S512x1024) off2]

theorem mid_step (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_step (hc0 : ¬cond0_0 i) (hc1 : cond0_1 i) :
    sout0_C_0 c i arg3 harg3 arg4 harg4 arg5 harg5 arg6 harg6 hc0 hc1 x0 x1 xs = k0_pay2 xs x0 x1 := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  rw [View.canon_unit_zero off2]
  simp only [View.readAt_eq_ld, harg3.read_unread, harg4.read_unread, harg6.read_unread, View.ld_unit_zero (S := S512x1024) off2,
    View.ld_unit_zero (S := S512x1024) off2, View.ld_unit_zero (S := S1024x1024) off2]

theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero off2, View.readCov_unit_zero (S := S1024x1024) _ off2]
  simp only [View.readAt_eq_ld, harg3.read_unread, harg4.read_unread, harg6.read_unread, View.ld_unit_zero (S := S512x1024) off2,
    View.ld_unit_zero (S := S512x1024) off2, View.ld_unit_zero (S := S1024x1024) off2]
end

/-- What a step adds, at an index. -/
theorem step_at (xs : Vec Ideal S1024x1024 .f32) (x0 : Vec Ideal S512x1024 .bf16) (x1 : Vec Ideal S512x1024 .bf16) (i : S1024x1024.Idx) :
    k0_pay2 xs x0 x1 i = xs i + ∑ k : Fin 512, x0 (ix2 k (i 0)) * x1 (ix2 k (i 1)) := by
  obtain ⟨r, d, rfl⟩ : ∃ (r : Fin 1024) (d : Fin 1024), i = ix2 r d := ⟨i 0, i 1, eq_ix2 i⟩
  unfold k0_pay2
  simp only [shapeCast_self]
  exact congrArg (xs (ix2 r d) + ·) (product_apply (φ₁ := .bf16) (φ₂ := .bf16) _ none x0 x1 r d)

theorem zero_apply (i : S1024x1024.Idx) : k0_pay1 (F := Ideal) i = (0 : EReal) := by
  unfold k0_pay1
  simp only [shapeCast_self]
  exact zero_word

variable (m : (ℓ : Loc nD τ sig) → Buf (Elt Ideal) ℓ) (c : Dev nD)

theorem index_a : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index_b : ∀ t : Fin cfg0.N, win0_1.index t 0 = t.val % 4 ∧ win0_1.index t 1 = 0 :=
  (by decide +kernel : ∀ t : Fin grid0.N, win0_1.index t 0 = t.val % 4 ∧ win0_1.index t 1 = 0)

/-- The blocks a point reads. -/
abbrev blockA (t : Fin cfg0.N) : Vec Ideal S512x1024 .bf16 := iblk m c 0 t
abbrev blockB (t : Fin cfg0.N) : Vec Ideal S512x1024 .bf16 := iblk m c 1 t

/-- The product that a step at point `t` adds. -/
def added (t : ℕ) (i : S1024x1024.Idx) : EReal :=
  if h : t < cfg0.N then ∑ k : Fin 512, blockA m c ⟨t, h⟩ (ix2 k (i 0)) * blockB m c ⟨t, h⟩ (ix2 k (i 1)) else 0

theorem kept (t : Fin cfg0.N) (i : S1024x1024.Idx) :
    (outsAt0 m c t.val t.isLt).2 i = ∑ s ∈ Finset.range (t.val % 4 + 1), added m c (4 * (t.val / 4) + s) i := by
  have hN : cfg0.N = 4 := N_0
  rw [soutsAt0_0_eq]
  refine (Pipeline.accAt_add_apply (β := EReal) _ _ (fun _ => 0) (added m c) (4 * (t.val / 4)) 3 (fun h i => ?_) (fun n h acc i hb he => ?_) _ (by omega) _ i).trans (zero_add _)
  · have h0 : 4 * (t.val / 4) % 4 = 0 := by omega
    rw [scAt0_0, dif_pos h0, dif_neg (by omega), first_step]
    rw [added, dif_pos h]
    exact (step_at _ (blockA m c ⟨_, h⟩) (blockB m c ⟨_, h⟩) i).trans (congrArg (fun y : EReal => y + _) (zero_apply i))
  · have h0 : ¬n % 4 = 0 := by omega
    have hs : scAt0_0 m c n h acc i = k0_pay2 acc (iblk m c 0 ⟨n, h⟩) (iblk m c 1 ⟨n, h⟩) i := by
      rw [scAt0_0, dif_neg h0]
      split
      · rw [last_step]
      · rw [mid_step]
    rw [hs, added, dif_pos h]
    exact step_at _ (blockA m c ⟨_, h⟩) (blockB m c ⟨_, h⟩) i

theorem written (t : Fin cfg0.N) (h : t.val % 4 = 3) (i : S1024x1024.Idx) : (outsAt0 m c t.val t.isLt).1 i = (outsAt0 m c t.val t.isLt).2 i := by
  rw [outsAt0_C m c t (by omega) h]
  dsimp only
  rw [last_out, last_step]
  rfl

/-! ## What the host hands to the call, and the result -/

/-- The two arrays, before they are rounded. -/
abbrev left : FVec Ideal S2048x1024 .f32 := m (c, main_arg0)
abbrev right : FVec Ideal S2048x1024 .f32 := m (c, main_arg1)

theorem entry_a : V m c main_v0 = (truncf .bf16 (left m c) bitsLt_bf16_f32 : FVec Ideal S2048x1024 .bf16) := by
  unfold V
  simp only [hostOps0, List.flatten_cons, List.flatten_nil, List.append_nil, List.cons_append, List.nil_append]
  after_results

theorem entry_b : V m c main_v1 = (truncf .bf16 (right m c) bitsLt_bf16_f32 : FVec Ideal S2048x1024 .bf16) := by
  unfold V
  simp only [hostOps0, List.flatten_cons, List.flatten_nil, List.append_nil, List.cons_append, List.nil_append]
  after_results

theorem blockA_apply (t : Fin cfg0.N) (k : Fin 512) (r : Fin 1024) (j : Fin 1024) (hj : j.val = 1024 * (t.val / 4) + r.val) :
    blockA m c t (ix2 k r) = left m c (ix2 (row (512 * (t.val % 4) + k.val)) j) := by
  have hi := index_a t
  have hk := k.isLt
  have e1 : (row (512 * (t.val % 4) + k.val)).val = 512 * (t.val % 4) + k.val := Nat.mod_eq_of_lt (by omega)
  refine Eq.trans (b := V m c main_v0 (ix2 (row (512 * (t.val % 4) + k.val)) j)) ?_ ?_
  · refine congrArg (V m c main_v0) (funext fun a => Fin.ext ?_)
    match a with
    | ⟨0, _⟩ => show win0_0.index t 0 * 512 + 1 * k.val = (row (512 * (t.val % 4) + k.val)).val; omega
    | ⟨1, _⟩ => show win0_0.index t 1 * 1024 + 1 * r.val = j.val; omega
  · rw [entry_a]
    rfl

theorem blockB_apply (t : Fin cfg0.N) (k : Fin 512) (d : Fin 1024) :
    blockB m c t (ix2 k d) = right m c (ix2 (row (512 * (t.val % 4) + k.val)) d) := by
  have hi := index_b t
  have hk := k.isLt
  have e1 : (row (512 * (t.val % 4) + k.val)).val = 512 * (t.val % 4) + k.val := Nat.mod_eq_of_lt (by omega)
  refine Eq.trans (b := V m c main_v1 (ix2 (row (512 * (t.val % 4) + k.val)) d)) ?_ ?_
  · refine congrArg (V m c main_v1) (funext fun a => Fin.ext ?_)
    match a with
    | ⟨0, _⟩ => show win0_1.index t 0 * 512 + 1 * k.val = (row (512 * (t.val % 4) + k.val)).val; omega
    | ⟨1, _⟩ => show win0_1.index t 1 * 1024 + 1 * d.val = d.val; omega
  · rw [entry_b]
    rfl

/-- The result at an index: the product over all rows. -/
theorem result (j : Fin 1024) (d : Fin 1024) : G2 m c (ix2 j d) = ∑ t : Fin 2048, left m c (ix2 t j) * right m c (ix2 t d) := by
  have hN : cfg0.N = 4 := N_0
  have hj := j.isLt
  have hd := d.isLt
  have hp : pt2Of (ix2 j d) = 4 * (j.val / 1024) + 3 := by
    show 4 * (1 * (j.val / 1024 - 0) + 1 * (d.val / 1024 - 0)) + 3 = _
    omega
  have hl : pt2Of (ix2 j d) < cfg0.N := by omega
  rw [G2, dif_pos hl, ← outsAt0_sweep m c _ hl, written m c ⟨_, hl⟩ (by show pt2Of (ix2 j d) % 4 = 3; omega), kept m c ⟨_, hl⟩,
    ← sum_blocks (fun t => left m c (ix2 t j) * right m c (ix2 t d))]
  show ∑ s ∈ Finset.range (pt2Of (ix2 j d) % 4 + 1), added m c (4 * (pt2Of (ix2 j d) / 4) + s) _ = _
  rw [hp, show (4 * (j.val / 1024) + 3) % 4 + 1 = 4 by omega, show (4 * (j.val / 1024) + 3) / 4 = j.val / 1024 by omega]
  refine Finset.sum_congr rfl fun s hs => ?_
  have hs' := Finset.mem_range.mp hs
  have hb : 4 * (j.val / 1024) + s < cfg0.N := by omega
  rw [added, dif_pos hb]
  refine Finset.sum_congr rfl fun k _ => ?_
  have e4 : (4 * (j.val / 1024) + s) % 4 = s := by omega
  have ea := blockA_apply m c ⟨_, hb⟩ k ⟨j.val % 1024, Nat.mod_lt _ (by decide)⟩ j
    (by show j.val = 1024 * ((4 * (j.val / 1024) + s) / 4) + j.val % 1024; omega)
  have ed : (⟨d.val % 1024, Nat.mod_lt _ (by decide)⟩ : Fin 1024) = d := Fin.ext (Nat.mod_eq_of_lt hd)
  have eb := blockB_apply m c ⟨_, hb⟩ k d
  simp only [e4] at ea eb
  exact congrArg₂ (fun p q : EReal => p * q) ea ((congrArg (fun q => blockB m c ⟨_, hb⟩ (ix2 k q)) ed).trans eb)

/-- The reference's result at an index. -/
theorem reference_apply (x : FVec Ideal S2048x1024 .f32) (y : FVec Ideal S2048x1024 .f32) (j : Fin 1024) (d : Fin 1024) :
    Cert.Reference9Ideal.Read.val_main_v4 (F := Ideal) x y (ix2 j d) = ∑ t : Fin 2048, x (ix2 t j) * y (ix2 t d) := by
  refine Eq.trans (b := Cert.Reference9Ideal.Read.val_main_v2 (F := Ideal) x y (ix2 d j)) ?_
    ((hostProduct_apply (φ₁ := .f32) (φ₂ := .f32) _ none y x d j).trans (Finset.sum_congr rfl fun t _ => mul_comm _ _))
  rw [Cert.Reference9Ideal.Read.val_main_v4_apply, Cert.Reference9Ideal.Read.val_main_v3_apply]
  refine congrArg (Cert.Reference9Ideal.Read.val_main_v2 (F := Ideal) x y) (funext fun a => ?_)
  match a with
  | ⟨0, _⟩ => rfl
  | ⟨1, _⟩ => rfl

theorem result_eq (i : S1024x1024.Idx) : Cert.Reference9Ideal.Read.val_main_v4 (F := Ideal) (m (c, main_arg0)) (m (c, main_arg1)) i = G2 m c i := by
  obtain ⟨j, d, rfl⟩ : ∃ (j : Fin 1024) (d : Fin 1024), i = ix2 j d := ⟨i 0, i 1, eq_ix2 i⟩
  exact (reference_apply _ _ j d).trans (result m c j d).symm

end Cert.Kernel9Ideal.Gen

end
-- ==== Proof.WeightClaims.lean ====
/- The claims on the gradients of the projections' and the branches' weights. -/
module

public import proofs.«01_k».proof.Defs
public import proofs.«01_k».proof.Proof.Gen.Kernel4.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.ProdIn
public import proofs.«01_k».proof.Proof.ProdOut
public import proofs.«01_k».proof.Proof.ProdAttended
public import proofs.«01_k».proof.Proof.ProdPool
public import proofs.«01_k».proof.Proof.ProdState
public import Idealize.ShloMosaic.Adequacy
public import Idealize.ShloMosaic.Init

@[expose] public section

noncomputable section

namespace Cert.ProdClaims

open Idealize.ShloMosaic Idealize.SL.Sem Idealize.ShloMosaic.TcCoe Idealize.ShloMosaic.ValueIdx

/-! ## The projections' weight -/

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m ρ m' ρ' _ ha =>
  ⟨fun c => Cert.Kernel4Ideal.Value.G2 m c, Cert.Kernel4Ideal.Value.run m ρ,
    (θ_run Cert.Reference4Ideal.defs _ _).mono (fun r h c => by
      obtain ⟨a0, a1, a2, a3, a4, a5⟩ := ha c
      obtain ⟨h0, h1⟩ := h c
      refine ⟨h0.trans ((Cert.Reference4Ideal.Read.val_main_v44_eq (F := Ideal) _ _).trans ?_), h1⟩
      rw [a0, a1, a2, a3, a4, a5]
      exact funext fun i => Cert.Kernel4Ideal.Gen.result_eq m c i)
      (Cert.Reference4Ideal.Value.run (F := Ideal) m' ρ')⟩

/-! ## The output projection -/

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := fun m ρ m' ρ' _ ha =>
  ⟨fun c => Cert.Kernel6Ideal.Value.G2 m c, Cert.Kernel6Ideal.Value.run m ρ,
    (θ_run Cert.Reference6Ideal.defs _ _).mono (fun r h c => by
      obtain ⟨a0, a1⟩ := ha c
      obtain ⟨h0, h1⟩ := h c
      refine ⟨h0.trans ((Cert.Reference6Ideal.Read.val_main_v4_eq (F := Ideal) _ _).trans ?_), h1⟩
      rw [a0, a1]
      exact funext fun i => Cert.Kernel6Ideal.Gen.result_eq m c i)
      (Cert.Reference6Ideal.Value.run (F := Ideal) m' ρ')⟩

/-! ## The first branch -/

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := fun m ρ m' ρ' _ ha =>
  ⟨fun c => Cert.Kernel7Ideal.Value.G2 m c, Cert.Kernel7Ideal.Value.run m ρ,
    (θ_run Cert.Reference7Ideal.defs _ _).mono (fun r h c => by
      obtain ⟨a0, a1⟩ := ha c
      obtain ⟨h0, h1⟩ := h c
      refine ⟨h0.trans ((Cert.Reference7Ideal.Read.val_main_v7_eq (F := Ideal) _ _).trans ?_), h1⟩
      rw [a0, a1]
      exact funext fun i => Cert.Kernel7Ideal.Gen.result_eq m c i)
      (Cert.Reference7Ideal.Value.run (F := Ideal) m' ρ')⟩

/-! ## The second branch -/

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m ρ m' ρ' _ ha =>
  ⟨fun c => Cert.Kernel8Ideal.Value.G2 m c, Cert.Kernel8Ideal.Value.run m ρ,
    (θ_run Cert.Reference8Ideal.defs _ _).mono (fun r h c => by
      obtain ⟨a0, a1⟩ := ha c
      obtain ⟨h0, h1⟩ := h c
      refine ⟨h0.trans ((Cert.Reference8Ideal.Read.val_main_v4_eq (F := Ideal) _ _).trans ?_), h1⟩
      rw [a0, a1]
      exact funext fun i => Cert.Kernel8Ideal.Gen.result_eq m c i)
      (Cert.Reference8Ideal.Value.run (F := Ideal) m' ρ')⟩

/-! ## The third branch -/

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := fun m ρ m' ρ' _ ha =>
  ⟨fun c => Cert.Kernel9Ideal.Value.G2 m c, Cert.Kernel9Ideal.Value.run m ρ,
    (θ_run Cert.Reference9Ideal.defs _ _).mono (fun r h c => by
      obtain ⟨a0, a1⟩ := ha c
      obtain ⟨h0, h1⟩ := h c
      refine ⟨h0.trans ((Cert.Reference9Ideal.Read.val_main_v4_eq (F := Ideal) _ _).trans ?_), h1⟩
      rw [a0, a1]
      exact funext fun i => Cert.Kernel9Ideal.Gen.result_eq m c i)
      (Cert.Reference9Ideal.Value.run (F := Ideal) m' ρ')⟩

end Cert.ProdClaims

end
-- ==== Proof.NormRuns.lean ====
/- The body of the first projection's gradient, run once per case of its conditions. -/
module

public import proofs.«01_k».proof.Proof.Gen.Kernel10Ideal.Frame
public import proofs.«01_k».proof.Proof.Gen.Kernel10Ideal.Skeleton
public import Idealize.ShloMosaic.Lib.WritesUnit

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The conditions, over the points -/

section
variable (t : Fin cfg0.N)

theorem coord0 : (grid0.coords t 0).val = t.val / 4 := by
  have ht : t.val < 16 := Nat.lt_of_lt_of_eq t.isLt N_0
  exact (Pipeline.Grid.coords_val t 0 (by decide) rfl : (grid0.coords t 0).val = t.val / 4 % 4).trans (Nat.mod_eq_of_lt (by omega))
theorem coord1 : (grid0.coords t 1).val = t.val % 4 :=
  (Pipeline.Grid.coords_val t 1 (by decide) rfl : (grid0.coords t 1).val = t.val / 1 % 4).trans (by rw [Nat.div_one])

end

theorem starts : ∀ t : Fin cfg0.N, k0_cond1 (grid0.coords t) = 1#1 ↔ t.val < 4 := by decide +kernel
theorem goes_on : ∀ t : Fin cfg0.N, k0_cond2 (grid0.coords t) = 1#1 ↔ 4 ≤ t.val := by decide +kernel
theorem ends : ∀ t : Fin cfg0.N, k0_cond3 (grid0.coords t) = 1#1 ↔ 12 ≤ t.val := by decide +kernel
theorem resets : ∀ t : Fin cfg0.N, k0_cond4 (grid0.coords t) = 1#1 ↔ t.val % 4 = 0 := by decide +kernel

/-! ## The runs -/

/-- The six blocks that a point reads. -/
def six (c : Dev nD) (arg2 : Memref sig .tc .vmem S512x1024 .f32) (arg3 : Memref sig .tc .vmem S8x1024 .f32) (arg4 : Memref sig .tc .vmem S1x512x1408 .bf16)
    (arg5 : Memref sig .tc .vmem S1408x1024 .bf16) (arg6 arg7 : Memref sig .tc .vmem S512x1024 .f32)
    (x0 : Vec F S512x1024 .f32) (x1 : Vec F S8x1024 .f32) (x2 : Vec F S1x512x1408 .bf16) (x3 : Vec F S1408x1024 .bf16)
    (x4 x5 : Vec F S512x1024 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S1x512x1408 .bf16) (harg4 : arg4.IsWhole) (arg5 : Memref sig .tc .vmem S1408x1024 .bf16) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S512x1024 .f32) (harg8 : arg8.IsWhole) (arg9 : Memref sig .tc .vmem S8x1024 .f32) (harg9 : arg9.IsWhole)
  (arg10 : Memref sig .tc .vmem S2048x1024 .f32) (harg10 : arg10.IsWhole)
  (x0 : Vec F S512x1024 .f32) (x1 : Vec F S8x1024 .f32) (x2 : Vec F S1x512x1408 .bf16) (x3 : Vec F S1408x1024 .bf16)
  (x4 : Vec F S512x1024 .f32) (x5 : Vec F S512x1024 .f32)

/-- A point of the first block of columns stores its product into its rows of the scratch. -/
noncomputable def runFirst (h1 : k0_cond1 i = 1#1) (h2 : ¬k0_cond2 i = 1#1) (h3 : ¬k0_cond3 i = 1#1) (xs : Vec F S2048x1024 .f32) :
    { L : List (View.Piece (Elt F) S2048x1024 .f32) // ∀ (o6 : Vec F S512x1024 .f32) (o7 : Vec F S8x1024 .f32) (E : Set ℕ) (K : PUnit → sProp 𝕄),
      iprop(six c arg2 arg3 arg4 arg5 arg6 arg7 x0 x1 x2 x3 x4 x5 ∗ owns (c : Thread nD τ) arg8 fullShare o6 ∗ owns (c : Thread nD τ) arg9 fullShare o7 ∗ owns (c : Thread nD τ) arg10 fullShare xs
          ∗ (iprop(six c arg2 arg3 arg4 arg5 arg6 arg7 x0 x1 x2 x3 x4 x5
            ∗ owns (c : Thread nD τ) arg8 fullShare o6 ∗ owns (c : Thread nD τ) arg9 fullShare o7
            ∗ (arg10.view.loc (c : Thread nD τ) ↦[arg10.view.set]{fullShare} arg10.view.writes (Elt F) (harg10.unread xs) L)) -∗ K ⟨⟩))
        ⊢ wp frame (wpE (defs₀ (F := F)) Variants.none c none) E
            (cc0_ffn_norm_bwd i arg2 harg2 arg3 harg3 arg4 harg4 arg5 harg5 arg6 harg6 arg7 harg7 arg8 harg8 arg9 harg9 arg10 harg10) K } := by
  refine ⟨?_, fun o6 o7 E K => ?run⟩
  case run =>
    simp only [cc0_ffn_norm_bwd_eq_skeleton]; unfold cc0_ffn_norm_bwd_skel
    unfold six owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | sl_exact h1 | sl_exact h2 | sl_exact h3)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexact HS

/-- A point of a later block, but the last, adds its product to its rows. -/
noncomputable def runNext (h1 : ¬k0_cond1 i = 1#1) (h2 : k0_cond2 i = 1#1) (h3 : ¬k0_cond3 i = 1#1) (xs : Vec F S2048x1024 .f32) :
    { L : List (View.Piece (Elt F) S2048x1024 .f32) // ∀ (o6 : Vec F S512x1024 .f32) (o7 : Vec F S8x1024 .f32) (E : Set ℕ) (K : PUnit → sProp 𝕄),
      iprop(six c arg2 arg3 arg4 arg5 arg6 arg7 x0 x1 x2 x3 x4 x5 ∗ owns (c : Thread nD τ) arg8 fullShare o6 ∗ owns (c : Thread nD τ) arg9 fullShare o7 ∗ owns (c : Thread nD τ) arg10 fullShare xs
          ∗ (iprop(six c arg2 arg3 arg4 arg5 arg6 arg7 x0 x1 x2 x3 x4 x5
            ∗ owns (c : Thread nD τ) arg8 fullShare o6 ∗ owns (c : Thread nD τ) arg9 fullShare o7
            ∗ (arg10.view.loc (c : Thread nD τ) ↦[arg10.view.set]{fullShare} arg10.view.writes (Elt F) (harg10.unread xs) L)) -∗ K ⟨⟩))
        ⊢ wp frame (wpE (defs₀ (F := F)) Variants.none c none) E
            (cc0_ffn_norm_bwd i arg2 harg2 arg3 harg3 arg4 harg4 arg5 harg5 arg6 harg6 arg7 harg7 arg8 harg8 arg9 harg9 arg10 harg10) K } := by
  refine ⟨?_, fun o6 o7 E K => ?run⟩
  case run =>
    simp only [cc0_ffn_norm_bwd_eq_skeleton]; unfold cc0_ffn_norm_bwd_skel
    unfold six owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | sl_exact h1 | sl_exact h2 | sl_exact h3)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexact HS

/-- The first point of the last block adds its product, takes the gradients of its rows, and starts the sums over the rows. -/
noncomputable def runReset (h1 : ¬k0_cond1 i = 1#1) (h2 : k0_cond2 i = 1#1) (h3 : k0_cond3 i = 1#1) (h4 : k0_cond4 i = 1#1) (o6 : Vec F S512x1024 .f32) (o7 : Vec F S8x1024 .f32) (xs : Vec F S2048x1024 .f32) :
    Σ' (L6 : List (View.Piece (Elt F) S512x1024 .f32)) (L7 : List (View.Piece (Elt F) S8x1024 .f32)),
    { L : List (View.Piece (Elt F) S2048x1024 .f32) // ∀ (E : Set ℕ) (K : PUnit → sProp 𝕄),
      iprop(six c arg2 arg3 arg4 arg5 arg6 arg7 x0 x1 x2 x3 x4 x5 ∗ owns (c : Thread nD τ) arg8 fullShare o6 ∗ owns (c : Thread nD τ) arg9 fullShare o7 ∗ owns (c : Thread nD τ) arg10 fullShare xs
          ∗ (iprop(six c arg2 arg3 arg4 arg5 arg6 arg7 x0 x1 x2 x3 x4 x5
            ∗ (arg8.view.loc (c : Thread nD τ) ↦[arg8.view.set]{fullShare} arg8.view.writes (Elt F) (harg8.unread o6) L6)
            ∗ (arg9.view.loc (c : Thread nD τ) ↦[arg9.view.set]{fullShare} arg9.view.writes (Elt F) (harg9.unread o7) L7)
            ∗ (arg10.view.loc (c : Thread nD τ) ↦[arg10.view.set]{fullShare} arg10.view.writes (Elt F) (harg10.unread xs) L)) -∗ K ⟨⟩))
        ⊢ wp frame (wpE (defs₀ (F := F)) Variants.none c none) E
            (cc0_ffn_norm_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_ffn_norm_bwd_eq_skeleton]; unfold cc0_ffn_norm_bwd_skel
    simp only [k0_part1_eq_skeleton, k0_part2_eq_skeleton]; unfold k0_part1_skel k0_part2_skel
    unfold six owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | sl_exact h1 | sl_exact h2 | sl_exact h3 | sl_exact h4)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexact H6
    isplitl [H7]; · iexact H7
    iexact HS

/-- A later point of the last block does the same and goes on with the sums. -/
noncomputable def runLast (h1 : ¬k0_cond1 i = 1#1) (h2 : k0_cond2 i = 1#1) (h3 : k0_cond3 i = 1#1) (h4 : ¬k0_cond4 i = 1#1) (o6 : Vec F S512x1024 .f32) (o7 : Vec F S8x1024 .f32) (xs : Vec F S2048x1024 .f32) :
    Σ' (L6 : List (View.Piece (Elt F) S512x1024 .f32)) (L7 : List (View.Piece (Elt F) S8x1024 .f32)),
    { L : List (View.Piece (Elt F) S2048x1024 .f32) // ∀ (E : Set ℕ) (K : PUnit → sProp 𝕄),
      iprop(six c arg2 arg3 arg4 arg5 arg6 arg7 x0 x1 x2 x3 x4 x5 ∗ owns (c : Thread nD τ) arg8 fullShare o6 ∗ owns (c : Thread nD τ) arg9 fullShare o7 ∗ owns (c : Thread nD τ) arg10 fullShare xs
          ∗ (iprop(six c arg2 arg3 arg4 arg5 arg6 arg7 x0 x1 x2 x3 x4 x5
            ∗ (arg8.view.loc (c : Thread nD τ) ↦[arg8.view.set]{fullShare} arg8.view.writes (Elt F) (harg8.unread o6) L6)
            ∗ (arg9.view.loc (c : Thread nD τ) ↦[arg9.view.set]{fullShare} arg9.view.writes (Elt F) (harg9.unread o7) L7)
            ∗ (arg10.view.loc (c : Thread nD τ) ↦[arg10.view.set]{fullShare} arg10.view.writes (Elt F) (harg10.unread xs) L)) -∗ K ⟨⟩))
        ⊢ wp frame (wpE (defs₀ (F := F)) Variants.none c none) E
            (cc0_ffn_norm_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_ffn_norm_bwd_eq_skeleton]; unfold cc0_ffn_norm_bwd_skel
    simp only [k0_part1_eq_skeleton, k0_part2_eq_skeleton]; unfold k0_part1_skel k0_part2_skel
    unfold six owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hfs
    sl_exec (disch := first | sl_exact h1 | sl_exact h2 | sl_exact h3 | sl_exact h4)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexact H6
    isplitl [H7]; · iexact H7
    iexact HS

end

end Cert.Kernel10Ideal.Gen

end
-- ==== Proof.NormPieces.lean ====
/- What the runs leave, read off their pieces. -/
module

public import proofs.«01_k».proof.Proof.NormRuns
public import proofs.«01_k».proof.Proof.AttnTile

@[expose] public section

set_option maxRecDepth 16384

noncomputable section

namespace Cert.Kernel10Ideal.Gen

open Idealize.ShloMosaic Idealize.ShloMosaic.TcCoe Idealize.ShloMosaic.Tactic Idealize.ShloMosaic.ValueIdx
open Idealize.SL.Sem

variable {F : FTy → Type} [FloatOps F]

theorem zero_off2 : (![0, 0] : Fin 2 → ℕ) = fun _ => 0 := funext fun a => by fin_cases a <;> rfl
theorem zero_off3 : (![0, 0, 0] : Fin 3 → ℕ) = fun _ => 0 := funext fun a => by fin_cases a <;> rfl

/-- The rows of the scratch that a point works on. -/
def take (i : grid0.Coords) (xs : Vec F S2048x1024 .f32) : Vec F S512x1024 .f32 := fun x => xs (ix2 (Fin.ofNat 2048 (512 * (i 1).val + (x 0).val)) (x 1))
/-- The scratch with those rows replaced. -/
def put (i : grid0.Coords) (xs : Vec F S2048x1024 .f32) (p : Vec F S512x1024 .f32) : Vec F S2048x1024 .f32 := fun y =>
  if 512 * (i 1).val ≤ (y 0).val ∧ (y 0).val < 512 * (i 1).val + 512 then p (ix2 (Fin.ofNat 512 (y 0).val) (y 1)) else xs y
/-- A row of the eight, and a row put in. -/
def rowOf (r : Fin 8) (x : Vec F S8x1024 .f32) : Vec F S1x1024 .f32 := fun y => x (ix2 r (y 1))
def putRow (r : Fin 8) (x : Vec F S8x1024 .f32) (p : FVec F S1x1024 .f32) : Vec F S8x1024 .f32 := fun y => if (y 0).val = r.val then p (ix2 0 (y 1)) else x y

theorem row_lt (i : grid0.Coords) : (i 1).val < 4 := (i 1).isLt

section
variable (i : grid0.Coords) {sp : Space} (v : View sig .tc sp S2048x1024 .f32)

theorem read_put (f : v.ty.Contents (Elt F)) (off : Fin 2 → ℕ) (hoff : off = ![512 * (i 1).val, 0]) (inb : ∀ a, off a + S512x1024.size a ≤ S2048x1024.size a) (p : Vec F S512x1024 .f32) :
    v.read (Elt F) (v.writes (Elt F) f [⟨Rect.unit (s := S2048x1024) off S512x1024.size inb, p⟩]) = put i (v.read (Elt F) f) p := by
  funext y
  have hi := row_lt i
  unfold put
  split
  · rename_i h
    refine View.read_writes_cons_rows_of_mem v f inb p [] y (ix2 (Fin.ofNat 512 (y 0).val) (y 1)) hoff ?_ rfl
    show (y 0).val = 512 * (i 1).val + (y 0).val % 512
    omega
  · rename_i h
    exact View.read_writes_cons_rows_of_not_mem v f inb p [] y hoff rfl
      (show (y 0).val < 512 * (i 1).val ∨ 512 * (i 1).val + 512 ≤ (y 0).val by omega)
/-- A read of the rows just stored reads what was stored. -/
theorem readCov_put (off off' : Fin 2 → ℕ) (hoff : off = ![512 * (i 1).val, 0]) (hoff' : off' = ![512 * (i 1).val, 0])
    (inb : ∀ a, off a + S512x1024.size a ≤ S2048x1024.size a) (inb' : ∀ a, off' a + S512x1024.size a ≤ S2048x1024.size a) (p : Vec F S512x1024 .f32) :
    v.readCov [⟨Rect.unit (s := S2048x1024) off S512x1024.size inb, p⟩] (Rect.unit (s := S2048x1024) off' S512x1024.size inb').toLoadRect = p := by
  subst hoff'
  rw [View.readCov_eq_canon']
  funext x
  rw [← View.read_writes_junk_eq_canon v]
  exact View.read_writes_cons_unit_of_mem v v.junk inb p [] _ x hoff fun a => by
    show (![512 * (i 1).val, 0] : Fin 2 → ℕ) a + 1 * (x a).val = _
    rw [Nat.one_mul]

theorem ld_take (off : Fin 2 → ℕ) (hoff : off = ![512 * (i 1).val, 0]) (inb : ∀ a, off a + S512x1024.size a ≤ S2048x1024.size a) (xs : Vec F S2048x1024 .f32) :
    View.ld xs (Rect.unit (s := S2048x1024) off S512x1024.size inb) = take i xs := by
  subst hoff
  funext x
  have hi := row_lt i
  refine congrArg xs (funext fun a => Fin.ext ?_)
  have hx : (x 0).val < 512 := (x 0).isLt
  match a with
  | ⟨0, _⟩ =>
    show 512 * (i 1).val + 1 * (x 0).val = (512 * (i 1).val + (x 0).val) % 2048
    omega
  | ⟨1, _⟩ => show 0 + 1 * (x 1).val = (x 1).val; omega
end

theorem ld_row (r : Fin 8) (inb : ∀ a, (![r.val, 0] : Fin 2 → ℕ) a + S1x1024.size a ≤ S8x1024.size a) (x : Vec F S8x1024 .f32) :
    View.ld x (Rect.unit (s := S8x1024) ![r.val, 0] S1x1024.size inb) = rowOf r x := by
  funext y
  refine congrArg x (funext fun a => Fin.ext ?_)
  have hy : (y 0).val < 1 := (y 0).isLt
  match a with
  | ⟨0, _⟩ => show r.val + 1 * (y 0).val = r.val; omega
  | ⟨1, _⟩ => show 0 + 1 * (y 1).val = (y 1).val; omega

theorem readCov_put' (i : grid0.Coords) {sp : Space} (v : View sig .tc sp S2048x1024 .f32) (off off' : Fin 2 → ℕ) (hoff : off = ![512 * (i 1).val, 0]) (hoff' : off' = ![512 * (i 1).val, 0])
    (inb : ∀ a, off a + S512x1024.size a ≤ S2048x1024.size a) (inb' : ∀ a, off' a + S512x1024.size a ≤ S2048x1024.size a) (p : Vec F S512x1024 .f32) :
    v.readCov [⟨Rect.unit (s := S2048x1024) off ![512, 1024] inb, p⟩] (Rect.unit (s := S2048x1024) off' ![512, 1024] inb').toLoadRect = p :=
  readCov_put i v off off' hoff hoff' inb inb' p
theorem ld_take' (i : grid0.Coords) (off : Fin 2 → ℕ) (hoff : off = ![512 * (i 1).val, 0]) (inb : ∀ a, off a + S512x1024.size a ≤ S2048x1024.size a) (xs : Vec F S2048x1024 .f32) :
    View.ld xs (Rect.unit (s := S2048x1024) off ![512, 1024] inb) = take i xs := ld_take i off hoff inb xs

theorem ld_row0 (inb : ∀ a, (![0, 0] : Fin 2 → ℕ) a + S1x1024.size a ≤ S8x1024.size a) (x : Vec F S8x1024 .f32) :
    View.ld x (Rect.unit (s := S8x1024) ![0, 0] ![1, 1024] inb) = rowOf 0 x := ld_row 0 inb x
theorem ld_row1 (inb : ∀ a, (![1, 0] : Fin 2 → ℕ) a + S1x1024.size a ≤ S8x1024.size a) (x : Vec F S8x1024 .f32) :
    View.ld x (Rect.unit (s := S8x1024) ![1, 0] ![1, 1024] inb) = rowOf 1 x := ld_row 1 inb x
theorem ld_row2 (inb : ∀ a, (![2, 0] : Fin 2 → ℕ) a + S1x1024.size a ≤ S8x1024.size a) (x : Vec F S8x1024 .f32) :
    View.ld x (Rect.unit (s := S8x1024) ![2, 0] ![1, 1024] inb) = rowOf 2 x := ld_row 2 inb x
theorem ld_row3 (inb : ∀ a, (![3, 0] : Fin 2 → ℕ) a + S1x1024.size a ≤ S8x1024.size a) (x : Vec F S8x1024 .f32) :
    View.ld x (Rect.unit (s := S8x1024) ![3, 0] ![1, 1024] inb) = rowOf 3 x := ld_row 3 inb x

section
variable {sp : Space} (v : View sig .tc sp S8x1024 .f32)

/-- A stored row, and a row read back. -/
theorem read_putRow (f : v.ty.Contents (Elt F)) (n : ℕ) (hn : n < 8) (inb : ∀ a, (![n, 0] : Fin 2 → ℕ) a + S1x1024.size a ≤ S8x1024.size a)
    (p : Vec F S1x1024 .f32) (L : List (View.Piece (Elt F) S8x1024 .f32)) :
    v.read (Elt F) (v.writes (Elt F) f (⟨Rect.unit (s := S8x1024) ![n, 0] S1x1024.size inb, p⟩ :: L))
      = putRow ⟨n, hn⟩ (v.read (Elt F) (v.writes (Elt F) f L)) p := by
  funext y
  unfold putRow
  split
  · rename_i h
    exact View.read_writes_cons_rows_of_mem v f inb p L y (ix2 0 (y 1)) rfl h rfl
  · rename_i h
    refine View.read_writes_cons_rows_of_not_mem v f inb p L y rfl rfl (show (y 0).val < n ∨ n + 1 ≤ (y 0).val from ?_)
    have : (y 0).val ≠ n := h
    omega

theorem readCov_row (n : ℕ) (hn : n < 8) (inb : ∀ a, (![n, 0] : Fin 2 → ℕ) a + S1x1024.size a ≤ S8x1024.size a) (L : List (View.Piece (Elt F) S8x1024 .f32)) :
    v.readCov L (Rect.unit (s := S8x1024) ![n, 0] S1x1024.size inb).toLoadRect = rowOf ⟨n, hn⟩ (v.read (Elt F) (v.writes (Elt F) v.junk L)) := by
  rw [View.readCov_eq_canon', View.read_writes_junk_eq_canon]
  exact ld_row ⟨n, hn⟩ inb (View.canon L)

theorem read_fill' (f : v.ty.Contents (Elt F)) (inb : ∀ a, (![0, 0] : Fin 2 → ℕ) a + S8x1024.size a ≤ S8x1024.size a) (p : Vec F S8x1024 .f32) :
    v.read (Elt F) (v.writes (Elt F) f [⟨Rect.unit (s := S8x1024) ![0, 0] ![8, 1024] inb, p⟩]) = p :=
  funext fun y => View.read_writes_cons_unit_of_mem v f inb p [] y y rfl fun a => by fin_cases a <;> exact (Nat.zero_add _).symm
end

theorem rowOf_putRow (r r' : Fin 8) (h : r ≠ r') (x : Vec F S8x1024 .f32) (p : FVec F S1x1024 .f32) : rowOf r (putRow r' x p) = rowOf r x :=
  funext fun y => if_neg fun e => h (Fin.ext e)

/-- The gradient of the rows from the gradient of the normalised rows, and the residual line's. -/
def dxOf (x0 : Vec F S512x1024 .f32) (x1 : Vec F S8x1024 .f32) (x4 acc : Vec F S512x1024 .f32) : Vec F S512x1024 .f32 :=
  k0_pay17 x0 (k0_pay15 x0 (rowOf 0 x1) (rowOf 2 x1) acc) (k0_pay16 x0 (rowOf 0 x1) (rowOf 2 x1) acc) (Scalar.ofBits .f32 0x44800000#32) x4

/-- The sums over the rows, gone on with. -/
def dvOf (x0 : Vec F S512x1024 .f32) (x1 : Vec F S8x1024 .f32) (x4 x5 acc : Vec F S512x1024 .f32) (z : Vec F S8x1024 .f32) : Vec F S8x1024 .f32 :=
  putRow 3 (putRow 2 (putRow 1 (putRow 0 z (k0_pay19 (k0_pay13 x0 (rowOf 2 x1) acc) (rowOf 0 z)))
      (k0_pay20 (k0_pay10 acc) (rowOf 1 z)))
      (k0_pay21 (k0_pay11 x0 (rowOf 0 x1) acc) (rowOf 2 z)))
    (k0_pay4 (k0_pay22 (rowOf 3 z)) x4 x5)

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S1x512x1408 .bf16) (harg4 : arg4.IsWhole) (arg5 : Memref sig .tc .vmem S1408x1024 .bf16) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S512x1024 .f32) (harg8 : arg8.IsWhole) (arg9 : Memref sig .tc .vmem S8x1024 .f32) (harg9 : arg9.IsWhole)
  (arg10 : Memref sig .tc .vmem S2048x1024 .f32) (harg10 : arg10.IsWhole)
  (x0 : Vec F S512x1024 .f32) (x1 : Vec F S8x1024 .f32) (x2 : Vec F S1x512x1408 .bf16) (x3 : Vec F S1408x1024 .bf16)
  (x4 : Vec F S512x1024 .f32) (x5 : Vec F S512x1024 .f32) (o6 : Vec F S512x1024 .f32) (o7 : Vec F S8x1024 .f32) (xs : Vec F S2048x1024 .f32)

theorem keptFirst (h1 : k0_cond1 i = 1#1) (h2 : ¬k0_cond2 i = 1#1) (h3 : ¬k0_cond3 i = 1#1) :
    arg10.view.read (Elt F) (arg10.view.writes (Elt F) (harg10.unread xs)
      (runFirst c i arg2 harg2 arg3 harg3 arg4 harg4 arg5 harg5 arg6 harg6 arg7 harg7 arg8 harg8 arg9 harg9 arg10 harg10 x0 x1 x2 x3 x4 x5 h1 h2 h3 xs).1) = put i xs (k0_pay2 x2 x3) := by
  unfold runFirst
  dsimp only
  rw [read_put i _ _ _ (k0_off1_eq i)]
  simp only [View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i),
    ld_row0, ld_row1, ld_row2, ld_row3]

theorem keptNext (h1 : ¬k0_cond1 i = 1#1) (h2 : k0_cond2 i = 1#1) (h3 : ¬k0_cond3 i = 1#1) :
    arg10.view.read (Elt F) (arg10.view.writes (Elt F) (harg10.unread xs)
      (runNext c i arg2 harg2 arg3 harg3 arg4 harg4 arg5 harg5 arg6 harg6 arg7 harg7 arg8 harg8 arg9 harg9 arg10 harg10 x0 x1 x2 x3 x4 x5 h1 h2 h3 xs).1) = put i xs (k0_pay3 x2 x3 (take i xs)) := by
  unfold runNext
  dsimp only
  rw [read_put i _ _ _ (k0_off2_eq i)]
  simp only [View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i),
    ld_row0, ld_row1, ld_row2, ld_row3]

theorem keptReset (h1 : ¬k0_cond1 i = 1#1) (h2 : k0_cond2 i = 1#1) (h3 : k0_cond3 i = 1#1) (h4 : k0_cond4 i = 1#1) :
    arg10.view.read (Elt F) (arg10.view.writes (Elt F) (harg10.unread xs)
      (runReset c i arg2 harg2 arg3 harg3 arg4 harg4 arg5 harg5 arg6 harg6 arg7 harg7 arg8 harg8 arg9 harg9 arg10 harg10 x0 x1 x2 x3 x4 x5 h1 h2 h3 h4 o6 o7 xs).2.2.1) = put i xs (k0_pay3 x2 x3 (take i xs)) := by
  unfold runReset
  dsimp only
  unfold runReset.sl.HS_1
  rw [read_put i _ _ _ (k0_off2_eq i)]
  simp only [View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i),
    ld_row0, ld_row1, ld_row2, ld_row3]

theorem keptLast (h1 : ¬k0_cond1 i = 1#1) (h2 : k0_cond2 i = 1#1) (h3 : k0_cond3 i = 1#1) (h4 : ¬k0_cond4 i = 1#1) :
    arg10.view.read (Elt F) (arg10.view.writes (Elt F) (harg10.unread xs)
      (runLast c i arg2 harg2 arg3 harg3 arg4 harg4 arg5 harg5 arg6 harg6 arg7 harg7 arg8 harg8 arg9 harg9 arg10 harg10 x0 x1 x2 x3 x4 x5 h1 h2 h3 h4 o6 o7 xs).2.2.1) = put i xs (k0_pay3 x2 x3 (take i xs)) := by
  unfold runLast
  dsimp only
  unfold runLast.sl.HS_1
  rw [read_put i _ _ _ (k0_off2_eq i)]
  simp only [View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i),
    ld_row0, ld_row1, ld_row2, ld_row3]

theorem dxReset (h1 : ¬k0_cond1 i = 1#1) (h2 : k0_cond2 i = 1#1) (h3 : k0_cond3 i = 1#1) (h4 : k0_cond4 i = 1#1) :
    arg8.view.read (Elt F) (arg8.view.writes (Elt F) (harg8.unread o6)
      (runReset c i arg2 harg2 arg3 harg3 arg4 harg4 arg5 harg5 arg6 harg6 arg7 harg7 arg8 harg8 arg9 harg9 arg10 harg10 x0 x1 x2 x3 x4 x5 h1 h2 h3 h4 o6 o7 xs).1)
      = dxOf x0 x1 x4 (k0_pay3 x2 x3 (take i xs)) := by
  unfold runReset dxOf
  dsimp only
  simp only [runReset.sl.v39, runReset.sl.HS_1, runReset.sl.cst_23, readCov_put' i _ _ _ (k0_off2_eq i) (k0_off3_eq i), View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i), ld_take' i _ (k0_off2_eq i),
    ld_row0, ld_row1, ld_row2, ld_row3]
  exact funext fun y => View.read_writes_cons_unit_of_mem _ _ _ _ [] y y zero_off2 fun a => (Nat.zero_add _).symm

theorem dxLast (h1 : ¬k0_cond1 i = 1#1) (h2 : k0_cond2 i = 1#1) (h3 : k0_cond3 i = 1#1) (h4 : ¬k0_cond4 i = 1#1) :
    arg8.view.read (Elt F) (arg8.view.writes (Elt F) (harg8.unread o6)
      (runLast c i arg2 harg2 arg3 harg3 arg4 harg4 arg5 harg5 arg6 harg6 arg7 harg7 arg8 harg8 arg9 harg9 arg10 harg10 x0 x1 x2 x3 x4 x5 h1 h2 h3 h4 o6 o7 xs).1)
      = dxOf x0 x1 x4 (k0_pay3 x2 x3 (take i xs)) := by
  unfold runLast dxOf
  dsimp only
  simp only [runLast.sl.v39, runLast.sl.HS_1, runLast.sl.cst_23, readCov_put' i _ _ _ (k0_off2_eq i) (k0_off3_eq i), View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i), ld_take' i _ (k0_off2_eq i),
    ld_row0, ld_row1, ld_row2, ld_row3]
  exact funext fun y => View.read_writes_cons_unit_of_mem _ _ _ _ [] y y zero_off2 fun a => (Nat.zero_add _).symm

theorem dvReset (h1 : ¬k0_cond1 i = 1#1) (h2 : k0_cond2 i = 1#1) (h3 : k0_cond3 i = 1#1) (h4 : k0_cond4 i = 1#1) :
    arg9.view.read (Elt F) (arg9.view.writes (Elt F) (harg9.unread o7)
      (runReset c i arg2 harg2 arg3 harg3 arg4 harg4 arg5 harg5 arg6 harg6 arg7 harg7 arg8 harg8 arg9 harg9 arg10 harg10 x0 x1 x2 x3 x4 x5 h1 h2 h3 h4 o6 o7 xs).2.1)
      = dvOf x0 x1 x4 x5 (k0_pay3 x2 x3 (take i xs)) k0_pay18 := by
  unfold runReset dvOf
  dsimp only
  simp only [runReset.sl.v39, runReset.sl.HS_1, runReset.sl.v86, runReset.sl.v82, runReset.sl.H7_4, runReset.sl.H7_3, runReset.sl.H7_2, runReset.sl.H7_1, runReset.sl.v78, runReset.sl.v74, readCov_put' i _ _ _ (k0_off2_eq i) (k0_off3_eq i), View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i), ld_take' i _ (k0_off2_eq i),
    ld_row0, ld_row1, ld_row2, ld_row3]
  generalize k0_pay3 x2 x3 (take i xs) = acc
  simp only [read_putRow _ _ 0 (by decide), read_putRow _ _ 1 (by decide), read_putRow _ _ 2 (by decide), read_putRow _ _ 3 (by decide),
    readCov_row _ 0 (by decide), readCov_row _ 1 (by decide), readCov_row _ 2 (by decide), readCov_row _ 3 (by decide)]
  simp only [read_fill', rowOf_putRow _ _ (show (⟨2, by decide⟩ : Fin 8) ≠ ⟨1, by decide⟩ by decide), rowOf_putRow _ _ (show (⟨2, by decide⟩ : Fin 8) ≠ ⟨0, by decide⟩ by decide),
    rowOf_putRow _ _ (show (⟨1, by decide⟩ : Fin 8) ≠ ⟨0, by decide⟩ by decide), rowOf_putRow _ _ (show (⟨3, by decide⟩ : Fin 8) ≠ ⟨2, by decide⟩ by decide),
    rowOf_putRow _ _ (show (⟨3, by decide⟩ : Fin 8) ≠ ⟨1, by decide⟩ by decide), rowOf_putRow _ _ (show (⟨3, by decide⟩ : Fin 8) ≠ ⟨0, by decide⟩ by decide)]
  rfl

theorem dvLast (h1 : ¬k0_cond1 i = 1#1) (h2 : k0_cond2 i = 1#1) (h3 : k0_cond3 i = 1#1) (h4 : ¬k0_cond4 i = 1#1) :
    arg9.view.read (Elt F) (arg9.view.writes (Elt F) (harg9.unread o7)
      (runLast c i arg2 harg2 arg3 harg3 arg4 harg4 arg5 harg5 arg6 harg6 arg7 harg7 arg8 harg8 arg9 harg9 arg10 harg10 x0 x1 x2 x3 x4 x5 h1 h2 h3 h4 o6 o7 xs).2.1)
      = dvOf x0 x1 x4 x5 (k0_pay3 x2 x3 (take i xs)) o7 := by
  unfold runLast dvOf
  dsimp only
  simp only [runLast.sl.v39, runLast.sl.HS_1, runLast.sl.v78, runLast.sl.v82, runLast.sl.v86, readCov_put' i _ _ _ (k0_off2_eq i) (k0_off3_eq i), View.readAt_eq_ld, harg2.read_unread, harg3.read_unread, harg4.read_unread, harg5.read_unread, harg6.read_unread, harg7.read_unread, harg9.read_unread, harg10.read_unread,
    View.ld_unit_zero (S := S1x512x1408) zero_off3, View.ld_unit_zero (S := S1408x1024) zero_off2, View.ld_unit_zero (S := S512x1024) zero_off2, ld_take i _ (k0_off2_eq i), ld_take' i _ (k0_off2_eq i),
    ld_row0, ld_row1, ld_row2, ld_row3]
  generalize k0_pay3 x2 x3 (take i xs) = acc
  simp only [read_putRow _ _ 0 (by decide), read_putRow _ _ 1 (by decide), read_putRow _ _ 2 (by decide), read_putRow _ _ 3 (by decide),
    readCov_row _ 0 (by decide), readCov_row _ 1 (by decide), readCov_row _ 2 (by decide), readCov_row _ 3 (by decide)]
  simp only [View.writes_nil, harg9.read_unread]
  rfl

end

end Cert.Kernel10Ideal.Gen

end
-- ==== Proof.NormFrame.lean ====
/- The run of the call that takes the gradient through the first projection and the normalisation of the rows. -/
module

public import proofs.«01_k».proof.Proof.NormPieces
public import Idealize.ShloMosaic.Lib.Claim

@[expose] public section

set_option maxRecDepth 16384

noncomputable section

namespace Cert.Kernel10Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is known between the points -/

/-- A point by its number. -/
abbrev pt (n : ℕ) : Fin cfg0.N := ⟨n % 16, lt_of_lt_of_eq (Nat.mod_lt _ (by decide)) N_0.symm⟩

theorem pt_val (t : Fin cfg0.N) : pt t.val = t := Fin.ext (Nat.mod_eq_of_lt (lt_of_lt_of_eq t.isLt N_0))

/-- Rows put in and taken out again, by the same point or by one of other rows. -/
theorem take_put (i j : grid0.Coords) (h : (i 1).val = (j 1).val) (xs : Vec F S2048x1024 .f32) (p : Vec F S512x1024 .f32) : take j (put i xs p) = p := by
  funext x
  have hi := row_lt i
  have hx : (x 0).val < 512 := (x 0).isLt
  have e : (Fin.ofNat 2048 (512 * (j 1).val + (x 0).val)).val = 512 * (i 1).val + (x 0).val := by
    show (512 * (j 1).val + (x 0).val) % 2048 = _
    omega
  refine (if_pos ?_).trans (congrArg p ?_)
  · show 512 * (i 1).val ≤ (Fin.ofNat 2048 (512 * (j 1).val + (x 0).val)).val ∧ (Fin.ofNat 2048 (512 * (j 1).val + (x 0).val)).val < _
    rw [e]; omega
  · refine (congrArg (fun r : Fin 512 => (ix2 r (x 1) : S512x1024.Idx)) (Fin.ext ?_)).trans (eq_ix2 x).symm
    show (Fin.ofNat 2048 (512 * (j 1).val + (x 0).val)).val % 512 = (x 0).val
    rw [e]; omega

theorem take_put_other (i j : grid0.Coords) (h : (i 1).val ≠ (j 1).val) (xs : Vec F S2048x1024 .f32) (p : Vec F S512x1024 .f32) :
    take j (put i xs p) = take j xs := by
  funext x
  have hi := row_lt i
  have hj := row_lt j
  have hx : (x 0).val < 512 := (x 0).isLt
  have e : (Fin.ofNat 2048 (512 * (j 1).val + (x 0).val)).val = 512 * (j 1).val + (x 0).val := by
    show (512 * (j 1).val + (x 0).val) % 2048 = _
    omega
  refine if_neg ?_
  show ¬(512 * (i 1).val ≤ (Fin.ofNat 2048 (512 * (j 1).val + (x 0).val)).val ∧ (Fin.ofNat 2048 (512 * (j 1).val + (x 0).val)).val < _)
  rw [e]; omega

/-- What the rows of block `j` hold after block `k` of the columns. -/
def part (c : Dev nD) (j : ℕ) : ℕ → Vec F S512x1024 .f32
  | 0 => k0_pay2 (iblk m c 2 (pt j)) (iblk m c 3 (pt j))
  | k + 1 => k0_pay3 (iblk m c 2 (pt (4 * (k + 1) + j))) (iblk m c 3 (pt (4 * (k + 1) + j))) (part c j k)

/-- The same by the point. -/
abbrev partAt (c : Dev nD) (n : ℕ) : Vec F S512x1024 .f32 := part m c (n % 4) (n / 4)

theorem partAt_first (c : Dev nD) (t : Fin cfg0.N) (h : t.val < 4) : k0_pay2 (iblk m c 2 t) (iblk m c 3 t) = partAt m c t.val := by
  have e : t.val / 4 = 0 := by omega
  unfold partAt
  rw [e]
  unfold part
  rw [Nat.mod_eq_of_lt h, pt_val]

theorem partAt_next (c : Dev nD) (t : Fin cfg0.N) (h : 4 ≤ t.val) :
    k0_pay3 (iblk m c 2 t) (iblk m c 3 t) (partAt m c (t.val - 4)) = partAt m c t.val := by
  have e : t.val / 4 = (t.val - 4) / 4 + 1 := by omega
  have e' : (t.val - 4) % 4 = t.val % 4 := by omega
  have e'' : 4 * ((t.val - 4) / 4 + 1) + t.val % 4 = t.val := by omega
  unfold partAt
  rw [e, e']
  conv_rhs => unfold part
  rw [e'', pt_val]

/-- What is known of the scratch before point `n`: the rows of the last four points. -/
def Known (c : Dev nD) (n : ℕ) (d : Vec F S2048x1024 .f32) : Prop :=
  ∀ t : Fin cfg0.N, t.val < n → n ≤ t.val + 4 → take (grid0.coords t) d = partAt m c t.val

theorem take_congr (t u : Fin cfg0.N) (h : t.val % 4 = u.val % 4) (d : Vec F S2048x1024 .f32) : take (grid0.coords t) d = take (grid0.coords u) d := by
  unfold take
  rw [coord1 t, coord1 u, h]

theorem known_next (c : Dev nD) (t : Fin cfg0.N) (d : Vec F S2048x1024 .f32) (h : Known m c t.val d) :
    Known m c (t.val + 1) (put (grid0.coords t) d (partAt m c t.val)) := by
  intro u hu hu'
  by_cases e : u = t
  · rw [e]; exact take_put _ _ rfl _ _
  · have e' : u.val ≠ t.val := fun h => e (Fin.ext h)
    rw [take_put_other _ _ (by rw [coord1, coord1]; omega)]
    exact h u (by omega) (by omega)

theorem known_take (c : Dev nD) (t : Fin cfg0.N) (d : Vec F S2048x1024 .f32) (h : Known m c t.val d) (ht : 4 ≤ t.val) :
    k0_pay3 (iblk m c 2 t) (iblk m c 3 t) (take (grid0.coords t) d) = partAt m c t.val := by
  rw [take_congr t ⟨t.val - 4, by have := t.isLt; omega⟩ (by show t.val % 4 = (t.val - 4) % 4; omega),
    h ⟨t.val - 4, by have := t.isLt; omega⟩ (by show t.val - 4 < t.val; omega) (by show t.val ≤ t.val - 4 + 4; omega)]
  exact partAt_next m c t ht

/-- The sums over the rows, after block `j` of them. -/
def sums (c : Dev nD) : ℕ → Vec F S8x1024 .f32
  | 0 => dvOf (iblk m c 0 (pt 12)) (iblk m c 1 (pt 12)) (iblk m c 4 (pt 12)) (iblk m c 5 (pt 12)) (partAt m c 12) k0_pay18
  | j + 1 => dvOf (iblk m c 0 (pt (13 + j))) (iblk m c 1 (pt (13 + j))) (iblk m c 4 (pt (13 + j))) (iblk m c 5 (pt (13 + j))) (partAt m c (13 + j)) (sums c j)

theorem sums_first (c : Dev nD) (t : Fin cfg0.N) (h : 12 ≤ t.val) (h' : t.val % 4 = 0) :
    dvOf (iblk m c 0 t) (iblk m c 1 t) (iblk m c 4 t) (iblk m c 5 t) (partAt m c t.val) k0_pay18 = sums m c (t.val % 4) := by
  have ht : t.val < 16 := lt_of_lt_of_eq t.isLt N_0
  have e : pt 12 = t := Fin.ext (show 12 % 16 = t.val by omega)
  have e' : t.val = 12 := by omega
  rw [h']
  unfold sums
  rw [e, e']

theorem sums_next (c : Dev nD) (t : Fin cfg0.N) (h : 12 ≤ t.val) (h' : ¬t.val % 4 = 0) :
    dvOf (iblk m c 0 t) (iblk m c 1 t) (iblk m c 4 t) (iblk m c 5 t) (partAt m c t.val) (sums m c ((t.val - 1) % 4)) = sums m c (t.val % 4) := by
  have ht : t.val < 16 := lt_of_lt_of_eq t.isLt N_0
  obtain ⟨j, hj⟩ : ∃ j, t.val = 13 + j := ⟨t.val - 13, by omega⟩
  have e : pt (13 + j) = t := Fin.ext (show (13 + j) % 16 = t.val by omega)
  have e' : t.val % 4 = j + 1 := by omega
  have e'' : (t.val - 1) % 4 = j := by omega
  rw [e', e'', hj]
  conv_rhs => unfold sums
  rw [e]

/-! ## The data of the run -/

abbrev stage0 (t : Fin cfg0.N) : Memref sig .tc .vmem S512x1024 .f32 := win0_0.stage (cfg0.slots t 0)
abbrev whole0 (t : Fin cfg0.N) : (stage0 t).IsWhole := hstage0_0 ((cfg0.slots t 0).cast nbuf0_0)
abbrev stage1 (t : Fin cfg0.N) : Memref sig .tc .vmem S8x1024 .f32 := win0_1.stage (cfg0.slots t 1)
abbrev whole1 (t : Fin cfg0.N) : (stage1 t).IsWhole := hstage0_1 ((cfg0.slots t 1).cast nbuf0_1)
abbrev stage2 (t : Fin cfg0.N) : Memref sig .tc .vmem S1x512x1408 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S1408x1024 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S512x1024 .f32 := win0_4.stage (cfg0.slots t 4)
abbrev whole4 (t : Fin cfg0.N) : (stage4 t).IsWhole := hstage0_4 ((cfg0.slots t 4).cast nbuf0_4)
abbrev stage5 (t : Fin cfg0.N) : Memref sig .tc .vmem S512x1024 .f32 := win0_5.stage (cfg0.slots t 5)
abbrev whole5 (t : Fin cfg0.N) : (stage5 t).IsWhole := hstage0_5 ((cfg0.slots t 5).cast nbuf0_5)
abbrev stage6 (t : Fin cfg0.N) : Memref sig .tc .vmem S512x1024 .f32 := win0_6.stage (cfg0.slots t 6)
abbrev whole6 (t : Fin cfg0.N) : (stage6 t).IsWhole := hstage0_6 ((cfg0.slots t 6).cast nbuf0_6)
abbrev stage7 (t : Fin cfg0.N) : Memref sig .tc .vmem S8x1024 .f32 := win0_7.stage (cfg0.slots t 7)
abbrev whole7 (t : Fin cfg0.N) : (stage7 t).IsWhole := hstage0_7 ((cfg0.slots t 7).cast nbuf0_7)
abbrev carried : Memref sig .tc .vmem S2048x1024 .f32 := Memref.whole cc0_scratch0

theorem launch_rest (c : Dev nD) : (Pipeline.ΦA spec0 c : sProp 𝕄)
    = iprop(iprop((∃ d, owns (c : Thread nD τ) carried fullShare d)) ∗ (∃ r, prngReg c r)) := by
  unfold Pipeline.ΦA; rw [scopedRest0_eq]; simp only [carried, owns_whole]; try rfl

/-- Between the points the scratch is owned, with its last four blocks of rows known. -/
def between (c : Dev nD) (n : ℕ) : sProp 𝕄 :=
  iprop((∃ d, ⌜Known m c n d⌝ ∗ owns (c : Thread nD τ) carried fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxOf (iblk m c 0 t) (iblk m c 1 t) (iblk m c 4 t) (partAt m c t.val)
    | ⟨7, _⟩ => sums m c (t.val % 4)
  Φ t := between m c t.val
  q _ := fullShare
  owed _ := 0

theorem A_eq (c : Dev nD) (w : Fin cfg0.W) : (dats m 0 c).A w = V m c (Pipeline.arrRef spec0 w) := by
  dsimp only [dats]

theorem leaves0 (c : Dev nD) (t : Fin cfg0.N) : (dats m 0 c).after 0 t = iblk m c 0 t := by dsimp only [dats]
theorem finds0 (c : Dev nD) (t : Fin cfg0.N) (d) : (dats m 0 c).before 0 t d = iblk m c 0 t :=
  before0_0_of m (dats m 0 c) (A_eq m c 0) (leaves0 m c) t d
theorem exact0 (c : Dev nD) (t : Fin cfg0.N) : (dats m 0 c).leavesExact 0 t = owns (c : Thread nD τ) (stage0 t) fullShare (iblk m c 0 t) := by
  unfold Dat.leavesExact
  rw [(rfl : cfg0.idle 0 (grid0.coords t) = false), leaves0]
theorem leaves1 (c : Dev nD) (t : Fin cfg0.N) : (dats m 0 c).after 1 t = iblk m c 1 t := by dsimp only [dats]
theorem finds1 (c : Dev nD) (t : Fin cfg0.N) (d) : (dats m 0 c).before 1 t d = iblk m c 1 t :=
  before0_1_of m (dats m 0 c) (A_eq m c 1) (leaves1 m c) t d
theorem exact1 (c : Dev nD) (t : Fin cfg0.N) : (dats m 0 c).leavesExact 1 t = owns (c : Thread nD τ) (stage1 t) fullShare (iblk m c 1 t) := by
  unfold Dat.leavesExact
  rw [(rfl : cfg0.idle 1 (grid0.coords t) = false), leaves1]
theorem leaves2 (c : Dev nD) (t : Fin cfg0.N) : (dats m 0 c).after 2 t = iblk m c 2 t := by dsimp only [dats]
theorem finds2 (c : Dev nD) (t : Fin cfg0.N) (d) : (dats m 0 c).before 2 t d = iblk m c 2 t :=
  before0_2_of m (dats m 0 c) (A_eq m c 2) (leaves2 m c) t d
theorem exact2 (c : Dev nD) (t : Fin cfg0.N) : (dats m 0 c).leavesExact 2 t = owns (c : Thread nD τ) (stage2 t) fullShare (iblk m c 2 t) := by
  unfold Dat.leavesExact
  rw [(rfl : cfg0.idle 2 (grid0.coords t) = false), leaves2]
theorem leaves3 (c : Dev nD) (t : Fin cfg0.N) : (dats m 0 c).after 3 t = iblk m c 3 t := by dsimp only [dats]
theorem finds3 (c : Dev nD) (t : Fin cfg0.N) (d) : (dats m 0 c).before 3 t d = iblk m c 3 t :=
  before0_3_of m (dats m 0 c) (A_eq m c 3) (leaves3 m c) t d
theorem exact3 (c : Dev nD) (t : Fin cfg0.N) : (dats m 0 c).leavesExact 3 t = owns (c : Thread nD τ) (stage3 t) fullShare (iblk m c 3 t) := by
  unfold Dat.leavesExact
  rw [(rfl : cfg0.idle 3 (grid0.coords t) = false), leaves3]
theorem leaves4 (c : Dev nD) (t : Fin cfg0.N) : (dats m 0 c).after 4 t = iblk m c 4 t := by dsimp only [dats]
theorem finds4 (c : Dev nD) (t : Fin cfg0.N) (d) : (dats m 0 c).before 4 t d = iblk m c 4 t :=
  before0_4_of m (dats m 0 c) (A_eq m c 4) (leaves4 m c) t d
theorem exact4 (c : Dev nD) (t : Fin cfg0.N) : (dats m 0 c).leavesExact 4 t = owns (c : Thread nD τ) (stage4 t) fullShare (iblk m c 4 t) := by
  unfold Dat.leavesExact
  rw [(rfl : cfg0.idle 4 (grid0.coords t) = false), leaves4]
theorem leaves5 (c : Dev nD) (t : Fin cfg0.N) : (dats m 0 c).after 5 t = iblk m c 5 t := by dsimp only [dats]
theorem finds5 (c : Dev nD) (t : Fin cfg0.N) (d) : (dats m 0 c).before 5 t d = iblk m c 5 t :=
  before0_5_of m (dats m 0 c) (A_eq m c 5) (leaves5 m c) t d
theorem exact5 (c : Dev nD) (t : Fin cfg0.N) : (dats m 0 c).leavesExact 5 t = owns (c : Thread nD τ) (stage5 t) fullShare (iblk m c 5 t) := by
  unfold Dat.leavesExact
  rw [(rfl : cfg0.idle 5 (grid0.coords t) = false), leaves5]
theorem leaves6 (c : Dev nD) (t : Fin cfg0.N) :
    (dats m 0 c).after 6 t = dxOf (iblk m c 0 t) (iblk m c 1 t) (iblk m c 4 t) (partAt m c t.val) := by dsimp only [dats]
theorem leaves7 (c : Dev nD) (t : Fin cfg0.N) : (dats m 0 c).after 7 t = sums m c (t.val % 4) := by dsimp only [dats]

theorem idle6 : ∀ t : Fin cfg0.N, t.val < 12 → cfg0.idle 6 (grid0.coords t) = true := by decide +kernel
theorem idle7 : ∀ t : Fin cfg0.N, t.val < 12 → cfg0.idle 7 (grid0.coords t) = true := by decide +kernel
theorem live6 : ∀ t : Fin cfg0.N, 12 ≤ t.val → cfg0.idle 6 (grid0.coords t) = false := by decide +kernel
theorem live7 : ∀ t : Fin cfg0.N, 12 ≤ t.val → cfg0.idle 7 (grid0.coords t) = false := by decide +kernel
theorem stays6 : ∀ t : Fin cfg0.N, t.val < 12 → (cfg0.win 6).flush t = false := by decide +kernel
theorem stays7 : ∀ t : Fin cfg0.N, t.val < 15 → (cfg0.win 7).flush t = false := by decide +kernel

theorem exact6 (c : Dev nD) (t : Fin cfg0.N) (h : 12 ≤ t.val) : (dats m 0 c).leavesExact 6 t
    = owns (c : Thread nD τ) (stage6 t) fullShare (dxOf (iblk m c 0 t) (iblk m c 1 t) (iblk m c 4 t) (partAt m c t.val)) := by
  unfold Dat.leavesExact
  rw [live6 t h, leaves6]
theorem exact7 (c : Dev nD) (t : Fin cfg0.N) (h : 12 ≤ t.val) : (dats m 0 c).leavesExact 7 t = owns (c : Thread nD τ) (stage7 t) fullShare (sums m c (t.val % 4)) := by
  unfold Dat.leavesExact
  rw [live7 t h, leaves7]

/-- After the first of the last four points, the sums are what the point before left. -/
theorem finds7 (c : Dev nD) (t : Fin cfg0.N) (h : 12 ≤ t.val) (h' : ¬t.val % 4 = 0) (d) : (dats m 0 c).before 7 t d = sums m c ((t.val - 1) % 4) := by
  have ht : t.val < 16 := lt_of_lt_of_eq t.isLt N_0
  rw [(dats m 0 c).before_of_pos 7 t (by omega) ((cfg0.win 7).fetch_out rfl t), stays7 ⟨t.val - 1, _⟩ (by show t.val - 1 < 15; omega), if_neg Bool.false_ne_true]
  unfold Dat.left
  rw [live7 ⟨t.val - 1, _⟩ (by show 12 ≤ t.val - 1; omega)]
  show (dats m 0 c).kept 7 ⟨t.val - 1, _⟩ d = _
  unfold Dat.kept
  rw [Pipeline.fill_of_clip_none 7 _ (fun _ => rfl) d ((dats m 0 c).after 7 _), Window.fill_cut]
  exact leaves7 m c _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [finds0, finds1, finds2, finds3, finds4, finds5]
  rw [show (dats m 0 c).owesAt () t.succ = (dats m 0 c).owesAt () t.castSucc from rfl,
    show (dats m 0 c).Φ t.castSucc = between m c t.val from rfl, show (dats m 0 c).Φ t.succ = between m c (t.val + 1) from rfl,
    exact0, exact1, exact2, exact3, exact4, exact5]
  unfold between
  have hN : t.val < 16 := lt_of_lt_of_eq t.isLt N_0
  by_cases h3 : 12 ≤ t.val
  · have c1 : ¬k0_cond1 (grid0.coords t) = 1#1 := fun h => absurd ((starts t).mp h) (by omega)
    have c2 : k0_cond2 (grid0.coords t) = 1#1 := (goes_on t).mpr (by omega)
    have c3 : k0_cond3 (grid0.coords t) = 1#1 := (ends t).mpr h3
    rw [exact6 m c t h3, exact7 m c t h3]
    by_cases h4 : t.val % 4 = 0
    · have c4 : k0_cond4 (grid0.coords t) = 1#1 := (resets t).mpr h4
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runReset c (grid0.coords t) (stage0 t) (whole0 t) (stage1 t) (whole1 t) (stage2 t) (whole2 t) (stage3 t) (whole3 t) (stage4 t) (whole4 t) (stage5 t) (whole5 t) (stage6 t) (whole6 t) (stage7 t) (whole7 t) carried (Memref.isWhole_whole _) (iblk m c 0 t) (iblk m c 1 t) (iblk m c 2 t) (iblk m c 3 t) (iblk m c 4 t) (iblk m c 5 t) c1 c2 c3 c4 _ _ xs).2.2.2 Set.univ _)
      isplitl [H0 H1 H2 H3 H4 H5]
      · unfold six
        isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      unfold six
      iintro ⟨⟨H0, H1, H2, H3, H4, H5⟩, H6, H7, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptReset _ _ _ _ _ _ _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr; swap; · iexact H6
        ipureintro; refine (dxReset _ _ _ _ _ _ _ _ _ _ _ _ _ _ _ _ _ _ _ _ _ _ _ _ _ _ _ _ _ _ _ _ _).trans (congrArg (dxOf (iblk m c 0 t) (iblk m c 1 t) (iblk m c 4 t)) ?_)
        exact known_take m c t xs hK (by omega)
      unfold owns; iexists _; isplitr; swap; · iexact H7
      ipureintro; refine (dvReset _ _ _ _ _ _ _ _ _ _ _ _ _ _ _ _ _ _ _ _ _ _ _ _ _ _ _ _ _ _ _ _ _).trans ?_
      rw [known_take m c t xs hK (by omega)]
      exact sums_first m c t h3 h4
    · have c4 : ¬k0_cond4 (grid0.coords t) = 1#1 := fun h => h4 ((resets t).mp h)
      simp only [finds7 m c t h3 h4]
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (stage0 t) (whole0 t) (stage1 t) (whole1 t) (stage2 t) (whole2 t) (stage3 t) (whole3 t) (stage4 t) (whole4 t) (stage5 t) (whole5 t) (stage6 t) (whole6 t) (stage7 t) (whole7 t) carried (Memref.isWhole_whole _) (iblk m c 0 t) (iblk m c 1 t) (iblk m c 2 t) (iblk m c 3 t) (iblk m c 4 t) (iblk m c 5 t) c1 c2 c3 c4 _ _ xs).2.2.2 Set.univ _)
      isplitl [H0 H1 H2 H3 H4 H5]
      · unfold six
        isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      unfold six
      iintro ⟨⟨H0, H1, H2, H3, H4, H5⟩, H6, H7, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptLast _ _ _ _ _ _ _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr; swap; · iexact H6
        ipureintro; refine (dxLast _ _ _ _ _ _ _ _ _ _ _ _ _ _ _ _ _ _ _ _ _ _ _ _ _ _ _ _ _ _ _ _ _).trans (congrArg (dxOf (iblk m c 0 t) (iblk m c 1 t) (iblk m c 4 t)) ?_)
        exact known_take m c t xs hK (by omega)
      unfold owns; iexists _; isplitr; swap; · iexact H7
      ipureintro; refine (dvLast _ _ _ _ _ _ _ _ _ _ _ _ _ _ _ _ _ _ _ _ _ _ _ _ _ _ _ _ _ _ _ _ _).trans ?_
      rw [known_take m c t xs hK (by omega)]
      exact sums_next m c t h3 h4
  · have c3 : ¬k0_cond3 (grid0.coords t) = 1#1 := fun h => h3 ((ends t).mp h)
    rw [Dat.leavesExact_idle (dats m 0 c) 6 t (idle6 t (by omega)) (stays6 t (by omega)), Dat.leavesExact_idle (dats m 0 c) 7 t (idle7 t (by omega)) (stays7 t (by omega))]
    by_cases h1 : t.val < 4
    · have c1 : k0_cond1 (grid0.coords t) = 1#1 := (starts t).mpr h1
      have c2 : ¬k0_cond2 (grid0.coords t) = 1#1 := fun h => absurd ((goes_on t).mp h) (by omega)
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (stage0 t) (whole0 t) (stage1 t) (whole1 t) (stage2 t) (whole2 t) (stage3 t) (whole3 t) (stage4 t) (whole4 t) (stage5 t) (whole5 t) (stage6 t) (whole6 t) (stage7 t) (whole7 t) carried (Memref.isWhole_whole _) (iblk m c 0 t) (iblk m c 1 t) (iblk m c 2 t) (iblk m c 3 t) (iblk m c 4 t) (iblk m c 5 t) c1 c2 c3 xs).2 _ _ Set.univ _)
      isplitl [H0 H1 H2 H3 H4 H5]
      · unfold six
        isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      unfold six
      iintro ⟨⟨H0, H1, H2, H3, H4, H5⟩, H6, H7, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptFirst _ _ _ _ _ _ _ _ _ _ _ _ _ _ _ _ _ _ _ _ _ _ _ _ _ _ _ _ _ _ ).trans (congrArg (put (grid0.coords t) xs) ?_)
          exact partAt_first m c t h1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have c1 : ¬k0_cond1 (grid0.coords t) = 1#1 := fun h => h1 ((starts t).mp h)
      have c2 : k0_cond2 (grid0.coords t) = 1#1 := (goes_on t).mpr (by omega)
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runNext c (grid0.coords t) (stage0 t) (whole0 t) (stage1 t) (whole1 t) (stage2 t) (whole2 t) (stage3 t) (whole3 t) (stage4 t) (whole4 t) (stage5 t) (whole5 t) (stage6 t) (whole6 t) (stage7 t) (whole7 t) carried (Memref.isWhole_whole _) (iblk m c 0 t) (iblk m c 1 t) (iblk m c 2 t) (iblk m c 3 t) (iblk m c 4 t) (iblk m c 5 t) c1 c2 c3 xs).2 _ _ Set.univ _)
      isplitl [H0 H1 H2 H3 H4 H5]
      · unfold six
        isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      unfold six
      iintro ⟨⟨H0, H1, H2, H3, H4, H5⟩, H6, H7, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptNext _ _ _ _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_row (t : Fin cfg0.N) : defs₀ (F := F) .tc cfg0.body (cfg0.bodyArgs t (cfg0.slots t)) = bodyAt0 t := by
  unfold defs₀; rw [Defs.onTc_tc]

theorem body_holds (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = between m c 0 from rfl, launch_rest]
  unfold between
  iintro ⟨⟨%d, HS⟩, Hg⟩
  isplitl [HS]
  · iexists d
    isplitr
    · ipureintro; exact fun u h => absurd h (Nat.not_lt_zero _)
    iexact HS
  iexact Hg

theorem leaves (c : Dev nD) : (dats m 0 c).Φ (Fin.last cfg0.N) ⊢ Pipeline.ΦA spec0 c := by
  rw [show (dats m 0 c).Φ (Fin.last cfg0.N) = between m c (Fin.last cfg0.N).val from rfl, launch_rest]
  unfold between
  iintro ⟨⟨%d, _, HS⟩, Hg⟩
  isplitl [HS]
  · iexists d; iexact HS
  iexact Hg

/-! ## The run -/

-- the library's theorem is applied by matching its conclusion with this one, in which plain definitions have to be opened
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_holds m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiet m ρ))

end Cert.Kernel10Ideal.Gen

end
-- ==== Proof.NormModel.lean ====
/- The gradient of a normalised, modulated row and of the vectors it is made with, as numbers; and the sums, spreads and
   indices that both sides print. -/
module

public import proofs.«01_k».proof.Proof.ProdModel

@[expose] public section

noncomputable section

namespace Cert.Norm

open Idealize.ShloMosaic Idealize.ShloMosaic.ValueIdx Cert.Attn

/-- A row of numbers. -/
abbrev Row := Fin 1024 → EReal

abbrev count : EReal := Ideal.ofBits .f32 0x44800000#32
abbrev small : EReal := Ideal.ofBits .f32 0x358637BD#32
abbrev half : EReal := Ideal.ofBits .f32 0xBF000000#32
abbrev one : EReal := Ideal.ofBits .f32 0x3F800000#32

/-- The mean of the squares of a row, with the small number added, and the factor that normalises the row. -/
def square (x : Row) : EReal := Ideal.div (∑ k, x k * x k) count + small
def factor (x : Row) : EReal := Ideal.rsqrt (square x)
/-- The normalised row. -/
def normed (x : Row) (d : Fin 1024) : EReal := x d * factor x
/-- The gradient `a` of the modulated row taken back through the modulation by `s`. -/
def back (s a : Row) (d : Fin 1024) : EReal := a d * (one + s d)
/-- The gradient of the mean of the squares, over the length of the row. -/
def slope (x w s a : Row) : EReal :=
  Ideal.div ((∑ k, x k * (back s a k * w k)) * (half * Ideal.div (factor x) (square x))) count
/-- The gradient of the row. -/
def rowGrad (x w s o a : Row) (d : Fin 1024) : EReal :=
  o d + ((back s a d * w d * factor x + x d * slope x w s a) + slope x w s a * x d)
/-- What a row adds to the gradients of the vectors: the weight, the shift, the scale, the gate, and nothing. -/
def vectorGrad (q : ℕ) (x w s o p a : Row) (d : Fin 1024) : EReal :=
  if q = 0 then normed x d * back s a d else if q = 1 then a d else if q = 2 then normed x d * w d * a d
  else if q = 3 then o d * p d else 0

/-- A row of an array. -/
abbrev rowAt {n : ℕ} (x : (Mat n 1024).Idx → EReal) (r : Fin n) : Row := fun d => x (ix2 r d)

/-! ## Indices -/

theorem at1 {a : ℕ} (i : (⟨1, ![a]⟩ : Shape).Idx) (r : Fin a) (h : (i 0).val = r.val) : i = ix1 r :=
  funext fun k => Fin.ext (match k with | ⟨0, _⟩ => h)
theorem at2 {a b : ℕ} (i : (Mat a b).Idx) (r : Fin a) (c : Fin b) (h : (i 0).val = r.val) (h' : (i 1).val = c.val) : i = ix2 r c :=
  funext fun k => Fin.ext (match k with | ⟨0, _⟩ => h | ⟨1, _⟩ => h')

theorem lift_column {a b : ℕ} (h : (Mat a b).Reduces [0] ⟨1, ![b]⟩) (c : Fin b) (k : Fin a) : h.lift (ix1 c) k = ix2 k c := by
  refine at2 _ k c ?_ ?_ <;> rfl

/-- The sum of each column. -/
def colSum {a b : ℕ} (src : FVec Ideal (Mat a b) .f32) (h : (Mat a b).Reduces [0] ⟨1, ![b]⟩) : FVec Ideal ⟨1, ![b]⟩ .f32 :=
  multiReduction .add [0] ⟨1, ![b]⟩ src 0x00000000#32 h (.inl rfl) rfl

theorem colSum_apply {a b : ℕ} (src : FVec Ideal (Mat a b) .f32) (h : (Mat a b).Reduces [0] ⟨1, ![b]⟩) (c : Fin b) :
    colSum src h (ix1 c) = ∑ k : Fin a, src (ix2 k c) :=
  (Ideal.multiReduction_add_single src _ h _ _ _).trans (Finset.sum_congr rfl fun k _ => congrArg src (lift_column h c k))

theorem rowBroadcast_apply {α : Type} {a b : ℕ} (x : (Mat 1 b).Idx → α) (h : (Mat 1 b).Broadcasts (Mat a b)) (r : Fin a) (c : Fin b) :
    broadcastTo (Mat a b) x h (ix2 r c) = x (ix2 0 c) :=
  broadcastTo_apply x h _ _ fun d => match d with
    | ⟨0, _⟩ => by show 0 = if (1 : ℕ) = 1 then 0 else r.val; rw [if_pos rfl]
    | ⟨1, _⟩ => by
        show c.val = if b = 1 then 0 else c.val
        have := c.isLt
        split <;> omega

theorem asRow_apply {α : Type} {b : ℕ} (x : (⟨1, ![b]⟩ : Shape).Idx → α) (h : (⟨1, ![b]⟩ : Shape).ShapeCasts (Mat 1 b)) (c : Fin b) :
    shapeCast (Mat 1 b) x h (ix2 0 c) = x (ix1 c) := by
  refine shapeCast_apply x h _ _ ?_
  rw [Shape.rowMajor_val_one, Shape.rowMajor_val_two]
  show c.val = 0 * b + c.val
  omega

/-- Four rows and a block of four more. -/
abbrev rows (x0 x1 x2 x3 : (Mat 1 1024).Idx → EReal) (z : (Mat 4 1024).Idx → EReal) : List ((s : Shape) × (s.Idx → EReal)) :=
  [⟨Mat 1 1024, x0⟩, ⟨Mat 1 1024, x1⟩, ⟨Mat 1 1024, x2⟩, ⟨Mat 1 1024, x3⟩, ⟨Mat 4 1024, z⟩]

/-- The same, put one below the other. -/
theorem stack_apply (x0 x1 x2 x3 : (Mat 1 1024).Idx → EReal) (z : (Mat 4 1024).Idx → EReal)
    (h : Shape.Concatenates [Mat 1 1024, Mat 1 1024, Mat 1 1024, Mat 1 1024, Mat 4 1024] (Mat 8 1024) (0 : Fin 2)) (q : Fin 8) (d : Fin 1024) :
    concatenate (Mat 8 1024) (0 : Fin 2) [⟨Mat 1 1024, x0⟩, ⟨Mat 1 1024, x1⟩, ⟨Mat 1 1024, x2⟩, ⟨Mat 1 1024, x3⟩, ⟨Mat 4 1024, z⟩] h (ix2 q d)
      = if q.val = 0 then x0 (ix2 0 d) else if q.val = 1 then x1 (ix2 0 d) else if q.val = 2 then x2 (ix2 0 d)
        else if q.val = 3 then x3 (ix2 0 d) else z (ix2 (Fin.ofNat 4 (q.val - 4)) d) := by
  have hq := q.isLt
  split
  · rename_i h0
    exact concatenate_apply_piece (t := Mat 8 1024) (0 : Fin 2) (rows x0 x1 x2 x3 z) h (ix2 q d) 0 (by show 0 < 5; decide) _ x0 rfl rfl 0 rfl (ix2 0 d)
      (fun b hb => match b with | ⟨0, _⟩ => absurd rfl hb | ⟨1, _⟩ => rfl) (show 0 + 0 = q.val by omega)
  split
  · rename_i h0 h1
    exact concatenate_apply_piece (t := Mat 8 1024) (0 : Fin 2) (rows x0 x1 x2 x3 z) h (ix2 q d) 1 (by show 1 < 5; decide) _ x1 rfl rfl 1 rfl (ix2 0 d)
      (fun b hb => match b with | ⟨0, _⟩ => absurd rfl hb | ⟨1, _⟩ => rfl) (show 1 + 0 = q.val by omega)
  split
  · rename_i h0 h1 h2
    exact concatenate_apply_piece (t := Mat 8 1024) (0 : Fin 2) (rows x0 x1 x2 x3 z) h (ix2 q d) 2 (by show 2 < 5; decide) _ x2 rfl rfl 2 rfl (ix2 0 d)
      (fun b hb => match b with | ⟨0, _⟩ => absurd rfl hb | ⟨1, _⟩ => rfl) (show 2 + 0 = q.val by omega)
  split
  · rename_i h0 h1 h2 h3
    exact concatenate_apply_piece (t := Mat 8 1024) (0 : Fin 2) (rows x0 x1 x2 x3 z) h (ix2 q d) 3 (by show 3 < 5; decide) _ x3 rfl rfl 3 rfl (ix2 0 d)
      (fun b hb => match b with | ⟨0, _⟩ => absurd rfl hb | ⟨1, _⟩ => rfl) (show 3 + 0 = q.val by omega)
  · refine concatenate_apply_piece (t := Mat 8 1024) (0 : Fin 2) (rows x0 x1 x2 x3 z) h (ix2 q d) 4 (by show 4 < 5; decide) _ z rfl rfl 4 rfl (ix2 (Fin.ofNat 4 (q.val - 4)) d)
      (fun b hb => match b with | ⟨0, _⟩ => absurd rfl hb | ⟨1, _⟩ => rfl) ?_
    show 4 + (q.val - 4) % 4 = q.val
    omega

end Cert.Norm

end
-- ==== Proof.NormTile.lean ====
/- What a point of the kernel computes of its blocks, as numbers. -/
module

public import proofs.«01_k».proof.Proof.NormModel
public import proofs.«01_k».proof.Proof.NormPieces

@[expose] public section

noncomputable section

namespace Cert.Kernel10Ideal.Gen

open Idealize.ShloMosaic Idealize.ShloMosaic.TcCoe Idealize.ShloMosaic.ValueIdx Cert.Attn Cert.Prod Cert.Norm

variable (x o p a : Vec Ideal S512x1024 .f32) (w s z1 : Vec Ideal S1x1024 .f32) (r : Fin 512) (d : Fin 1024)

/-- The product of a block of the projection's gradient and a block of its weight. -/
theorem product_at (u : Vec Ideal S1x512x1408 .bf16) (v : Vec Ideal S1408x1024 .bf16) :
    k0_pay1 u v (ix2 r d) = ∑ k : Fin 1408, u (ix3 (0 : Fin 1) r k) * v (ix2 k d) := by
  unfold k0_pay1
  simp only [shapeCast_self]
  refine (Ideal.matmul_plain_apply (M := 512) (K := 1408) (N := 1024) (φ₁ := .bf16) (φ₂ := .bf16) none _ v _ r d).trans ?_
  rw [constant_apply, zero_word, zero_add]
  exact Finset.sum_congr rfl fun k _ => congrArg (fun y : EReal => y * _) (flat_apply u _ r k)

theorem first_at (u : Vec Ideal S1x512x1408 .bf16) (v : Vec Ideal S1408x1024 .bf16) :
    k0_pay2 u v (ix2 r d) = ∑ k : Fin 1408, u (ix3 (0 : Fin 1) r k) * v (ix2 k d) := by
  unfold k0_pay2
  simp only [shapeCast_self]
  exact product_at r d u v

theorem next_at (u : Vec Ideal S1x512x1408 .bf16) (v : Vec Ideal S1408x1024 .bf16) :
    k0_pay3 u v a (ix2 r d) = a (ix2 r d) + ∑ k : Fin 1408, u (ix3 (0 : Fin 1) r k) * v (ix2 k d) := by
  unfold k0_pay3
  simp only [shapeCast_self]
  exact congrArg (fun y : EReal => a (ix2 r d) + y) (product_at r d u v)

/-! ## A row -/

theorem square_at : k0_pay6 x (ix2 r (0 : Fin 1)) = square (rowAt x r) := by
  unfold k0_pay6
  show Ideal.div (shapeCast (Mat 512 1) (rowSum (F := Ideal) (mulf x x) reduces_S512x1024_S512) shapeCasts_S512_S512x1 (ix2 r (0 : Fin 1))) count + small = _
  rw [shapeCast_a_a1_apply, rowSum_apply]
  rfl

theorem factor_at : k0_pay7 x (ix2 r (0 : Fin 1)) = factor (rowAt x r) := by
  unfold k0_pay7
  exact congrArg Ideal.rsqrt (square_at x r)

theorem normed_at : k0_pay8 x (ix2 r d) = normed (rowAt x r) d := by
  unfold k0_pay8
  show x (ix2 r d) * broadcastTo (Mat 512 1024) (k0_pay7 x) broadcasts_S512x1_S512x1024 (ix2 r d) = _
  rw [colBroadcast_apply]
  exact congrArg (fun y : EReal => x (ix2 r d) * y) (factor_at x r)

theorem back_at : k0_pay12 s a (ix2 r d) = back (rowAt s 0) (rowAt a r) d := by
  unfold k0_pay12 k0_pay9
  simp only [shapeCast_self]
  show a (ix2 r d) * broadcastTo (Mat 512 1024) _ broadcasts_S1x1024_S512x1024 (ix2 r d) = _
  rw [rowBroadcast_apply]
  rfl

theorem weighted_at : k0_pay14 w s a (ix2 r d) = back (rowAt s 0) (rowAt a r) d * w (ix2 0 d) := by
  unfold k0_pay14 k0_pay5
  simp only [shapeCast_self]
  show k0_pay12 s a (ix2 r d) * broadcastTo (Mat 512 1024) w broadcasts_S1x1024_S512x1024 (ix2 r d) = _
  rw [rowBroadcast_apply]
  exact congrArg (fun y : EReal => y * w (ix2 0 d)) (back_at a s r d)

theorem scaled_at : k0_pay15 x w s a (ix2 r d) = back (rowAt s 0) (rowAt a r) d * w (ix2 0 d) * factor (rowAt x r) := by
  unfold k0_pay15
  show k0_pay14 w s a (ix2 r d) * broadcastTo (Mat 512 1024) (k0_pay7 x) broadcasts_S512x1_S512x1024 (ix2 r d) = _
  rw [colBroadcast_apply]
  exact congrArg₂ (fun y z : EReal => y * z) (weighted_at a w s r d) (factor_at x r)

theorem mean_at : k0_pay16 x w s a (ix2 r (0 : Fin 1))
    = (∑ k, x (ix2 r k) * (back (rowAt s 0) (rowAt a r) k * w (ix2 0 k))) * (half * Ideal.div (factor (rowAt x r)) (square (rowAt x r))) := by
  unfold k0_pay16
  show shapeCast (Mat 512 1) (rowSum (F := Ideal) (mulf x (k0_pay14 w s a)) reduces_S512x1024_S512) shapeCasts_S512_S512x1 (ix2 r (0 : Fin 1))
    * (half * Ideal.div (k0_pay7 x (ix2 r (0 : Fin 1))) (k0_pay6 x (ix2 r (0 : Fin 1)))) = _
  rw [shapeCast_a_a1_apply, rowSum_apply]
  refine congrArg₂ (fun y z : EReal => y * z) (Finset.sum_congr rfl fun k _ => ?_) ?_
  · exact congrArg (fun y : EReal => x (ix2 r k) * y) (weighted_at a w s r k)
  · exact congrArg₂ (fun y z : EReal => half * Ideal.div y z) (factor_at x r) (square_at x r)

theorem gradient_at (g : Vec Ideal S512x1024 .f32) (b : Vec Ideal S512x1 .f32) :
    k0_pay17 x g b (Scalar.ofBits .f32 0x44800000#32) o (ix2 r d)
      = o (ix2 r d) + ((g (ix2 r d) + x (ix2 r d) * Ideal.div (b (ix2 r (0 : Fin 1))) count) + Ideal.div (b (ix2 r (0 : Fin 1))) count * x (ix2 r d)) := by
  have e : broadcastTo (Mat 512 1024) (shapeCast (Mat 512 1) (rowSum (F := Ideal) (divf b (broadcast S512x1 (Scalar.ofBits .f32 0x44800000#32 : Ideal .f32))) reduces_S512x1_S512)
      shapeCasts_S512_S512x1) broadcasts_S512x1_S512x1024 (ix2 r d) = Ideal.div (b (ix2 r (0 : Fin 1))) count := by
    rw [colBroadcast_apply, shapeCast_a_a1_apply, rowSum_apply, Fin.sum_univ_one]
    rfl
  unfold k0_pay17
  exact congrArg (fun y : EReal => o (ix2 r d) + ((g (ix2 r d) + x (ix2 r d) * y) + y * x (ix2 r d))) e

/-- The block of the row gradients at an index. -/
theorem dxOf_at (v : Vec Ideal S8x1024 .f32) :
    dxOf x v o a (ix2 r d) = rowGrad (rowAt x r) (rowAt v 0) (rowAt v 2) (rowAt o r) (rowAt a r) d := by
  unfold dxOf
  rw [gradient_at, scaled_at, mean_at]
  rfl

/-! ## The sums over the rows -/

theorem shift_at : k0_pay10 a (ix2 (0 : Fin 1) d) = ∑ r : Fin 512, a (ix2 r d) := by
  unfold k0_pay10
  exact (asRow_apply (colSum a reduces_S512x1024_S1024) shapeCasts_S1024_S1x1024 d).trans (colSum_apply _ _ d)

theorem scale_at : k0_pay11 x w a (ix2 (0 : Fin 1) d) = ∑ r : Fin 512, normed (rowAt x r) d * w (ix2 0 d) * a (ix2 r d) := by
  unfold k0_pay11 k0_pay5 k0_pay9
  simp only [shapeCast_self]
  refine (asRow_apply (colSum _ reduces_S512x1024_S1024) shapeCasts_S1024_S1x1024 d).trans ((colSum_apply _ _ d).trans (Finset.sum_congr rfl fun r _ => ?_))
  show k0_pay8 x (ix2 r d) * broadcastTo (Mat 512 1024) w broadcasts_S1x1024_S512x1024 (ix2 r d) * a (ix2 r d) = _
  rw [rowBroadcast_apply]
  exact congrArg (fun y : EReal => y * w (ix2 0 d) * a (ix2 r d)) (normed_at x r d)

theorem weight_at : k0_pay13 x s a (ix2 (0 : Fin 1) d) = ∑ r : Fin 512, normed (rowAt x r) d * back (rowAt s 0) (rowAt a r) d := by
  unfold k0_pay13
  refine (asRow_apply (colSum _ reduces_S512x1024_S1024) shapeCasts_S1024_S1x1024 d).trans ((colSum_apply _ _ d).trans (Finset.sum_congr rfl fun r _ => ?_))
  exact congrArg₂ (fun y z : EReal => y * z) (normed_at x r d) (back_at a s r d)

theorem gate_at : k0_pay4 z1 o p (ix2 (0 : Fin 1) d) = z1 (ix2 0 d) + ∑ r : Fin 512, o (ix2 r d) * p (ix2 r d) := by
  unfold k0_pay4
  refine congrArg (fun y : EReal => z1 (ix2 0 d) + y) ?_
  exact (asRow_apply (colSum _ reduces_S512x1024_S1024) shapeCasts_S1024_S1x1024 d).trans (colSum_apply _ _ d)

theorem putRow_at (k : Fin 8) (z : Vec Ideal S8x1024 .f32) (y : FVec Ideal S1x1024 .f32) (q : Fin 8) :
    putRow k z y (ix2 q d) = if q.val = k.val then y (ix2 0 d) else z (ix2 q d) := rfl

/-- The sums with a block's added. -/
theorem dvOf_at (v z : Vec Ideal S8x1024 .f32) (q : Fin 8) :
    dvOf x v o p a z (ix2 q d)
      = z (ix2 q d) + ∑ r : Fin 512, vectorGrad q.val (rowAt x r) (rowAt v 0) (rowAt v 2) (rowAt o r) (rowAt p r) (rowAt a r) d := by
  unfold dvOf k0_pay19 k0_pay20 k0_pay21 k0_pay22
  simp only [shapeCast_self, putRow_at]
  by_cases h3 : q.val = 3
  · obtain rfl : q = 3 := Fin.ext h3
    refine (if_pos rfl).trans ((gate_at o p _ d).trans ?_)
    rfl
  refine (if_neg h3).trans ?_
  by_cases h2 : q.val = 2
  · obtain rfl : q = 2 := Fin.ext h2
    refine (if_pos rfl).trans (congrArg (fun y : EReal => z (ix2 2 d) + y) ((scale_at x a _ d).trans ?_))
    rfl
  refine (if_neg h2).trans ?_
  by_cases h1 : q.val = 1
  · obtain rfl : q = 1 := Fin.ext h1
    refine (if_pos rfl).trans (congrArg (fun y : EReal => z (ix2 1 d) + y) ((shift_at a d).trans ?_))
    rfl
  refine (if_neg h1).trans ?_
  by_cases h0 : q.val = 0
  · obtain rfl : q = 0 := Fin.ext h0
    refine (if_pos rfl).trans (congrArg (fun y : EReal => z (ix2 0 d) + y) ((weight_at x a _ d).trans ?_))
    rfl
  refine (if_neg h0).trans ?_
  simp only [vectorGrad, if_neg h0, if_neg h1, if_neg h2, if_neg h3, Finset.sum_const_zero, add_zero]

end Cert.Kernel10Ideal.Gen

end
-- ==== Proof.NormReference.lean ====
/- The reference's gradients at an index. -/
module

public import proofs.«01_k».proof.Proof.NormModel
public import proofs.«01_k».proof.Proof.Gen.Reference10Ideal.Run
public import proofs.«01_k».proof.Proof.Gen.Reference10Ideal.Read

@[expose] public section

noncomputable section

namespace Cert.NormReference

open Idealize.ShloMosaic Idealize.ShloMosaic.TcCoe Idealize.ShloMosaic.ValueIdx Cert.Attn Cert.Prod Cert.Norm
open Cert.Reference10Ideal Cert.Reference10Ideal.Read

variable (X O P : FVec Ideal S2048x1024 .f32) (W S : FVec Ideal S1024 .f32) (U : FVec Ideal S1024x5632 .f32) (D : FVec Ideal S2048x5632 .f32)
  (t : Fin 2048) (d : Fin 1024)

/-- A vector as a row, and the gradient of the modulated rows. -/
abbrev vec (w : FVec Ideal S1024 .f32) : Row := fun d => w (ix1 d)
def modGrad (U : FVec Ideal S1024x5632 .f32) (D : FVec Ideal S2048x5632 .f32) (t : Fin 2048) : Row := fun d => ∑ k : Fin 5632, D (ix2 t k) * U (ix2 d k)

theorem square_at : val_main_v10 (F := Ideal) X (ix2 t (0 : Fin 1)) = square (rowAt X t) := by
  rw [val_main_v10_apply, val_main_v8_apply, val_main_v6_apply, val_main_v5_apply, val_main_v7_apply, val_main_v9_apply]
  refine congrArg (fun y : EReal => Ideal.div y count + small) ?_
  refine Eq.trans (b := Ideal.ofBits .f32 0x00000000#32 + ∑ k : Fin 1024, _) rfl ?_
  rw [zero_word, zero_add]
  refine Finset.sum_congr rfl fun k _ => ?_
  rw [val_main_v4_apply, at2 (idx_main_v5 (idx_main_v6 (ix2 t (0 : Fin 1))) k) t k rfl rfl]
  rfl

theorem factor_at : val_main_v11 (F := Ideal) X (ix2 t (0 : Fin 1)) = factor (rowAt X t) := by
  rw [val_main_v11_apply]
  exact congrArg Ideal.rsqrt (square_at X t)

theorem normed_at : val_main_v16 (F := Ideal) X (ix2 t d) = normed (rowAt X t) d := by
  rw [val_main_v16_apply, val_main_v15_apply, at2 (idx_main_v15 (ix2 t d)) t (0 : Fin 1) rfl rfl]
  exact congrArg (fun y : EReal => X (ix2 t d) * y) (factor_at X t)

theorem mod_at : val_main_v29 (F := Ideal) U D (ix2 t d) = modGrad U D t d := by
  rw [val_main_v29_apply]
  refine Finset.sum_congr rfl fun k _ => ?_
  rw [at2 (lidx_main_v29 (ix2 t d) k) t k rfl rfl, at2 (ridx_main_v29 (ix2 t d) k) d k rfl rfl]

theorem back_at : val_main_v37 (F := Ideal) S U D (ix2 t d) = back (vec S) (modGrad U D t) d := by
  rw [val_main_v37_apply, val_main_v36_apply, val_main_v22_apply, val_main_v21_apply, val_main_v20_apply,
    at1 (idx_main_v20 (idx_main_v36 (ix2 t d))) d rfl]
  exact congrArg (fun y : EReal => y * (one + S (ix1 d))) (mod_at U D t d)

theorem weighted_at : val_main_v43 (F := Ideal) W S U D (ix2 t d) = back (vec S) (modGrad U D t) d * W (ix1 d) := by
  rw [val_main_v43_apply, val_main_v42_apply, val_main_v17_apply, at1 (idx_main_v17 (idx_main_v42 (ix2 t d))) d rfl]
  exact congrArg (fun y : EReal => y * W (ix1 d)) (back_at S U D t d)

theorem slope_at : val_main_v53 (F := Ideal) X W S U D (ix1 t) = slope (rowAt X t) (vec W) (vec S) (modGrad U D t) := by
  rw [val_main_v53_apply]
  refine Eq.trans (b := Ideal.ofBits .f32 0x00000000#32 + ∑ k : Fin 1, _) rfl ?_
  rw [zero_word, zero_add, Fin.sum_univ_one, at2 (idx_main_v53 (ix1 t) 0) t (0 : Fin 1) rfl rfl, val_main_v52_apply, val_main_v51_apply,
    val_main_v50_apply, val_main_v47_apply, val_main_v46_apply, val_main_v14_apply, val_main_v13_apply, val_main_v12_apply]
  refine congrArg₂ (fun y z : EReal => Ideal.div (y * z) count) ?_
    (congrArg₂ (fun y z : EReal => half * Ideal.div y z) (factor_at X t) (square_at X t))
  refine Eq.trans (b := Ideal.ofBits .f32 0x00000000#32 + ∑ k : Fin 1024, _) rfl ?_
  rw [zero_word, zero_add]
  refine Finset.sum_congr rfl fun k _ => ?_
  have ht := t.isLt
  rw [at2 (idx_main_v46 (idx_main_v47 (ix2 t (0 : Fin 1))) k) t k (show t.val * 1 + 0 = t.val by omega) rfl, val_main_v45_apply]
  exact congrArg (fun y : EReal => X (ix2 t k) * y) (weighted_at W S U D t k)

/-- The gradient of the rows. -/
theorem rows_at : val_main_v60 (F := Ideal) X W S U D O (ix2 t d) = rowGrad (rowAt X t) (vec W) (vec S) (rowAt O t) (modGrad U D t) d := by
  have e := slope_at X W S U D t
  rw [val_main_v60_apply, val_main_v58_apply, val_main_v57_apply, val_main_v56_apply, val_main_v55_apply, val_main_v54_apply, val_main_v49_apply,
    val_main_v48_apply, at2 (idx_main_v48 (ix2 t d)) t (0 : Fin 1) rfl rfl, at1 (idx_main_v54 (ix2 t d)) t rfl, e, weighted_at, factor_at]
  exact add_comm _ _

/-! ## The sums over the rows -/

theorem shift_at : val_main_v32 (F := Ideal) U D (ix1 d) = ∑ t : Fin 2048, modGrad U D t d := by
  rw [val_main_v32_apply]
  refine Eq.trans (b := Ideal.ofBits .f32 0x00000000#32 + ∑ k : Fin 1, _) rfl ?_
  rw [zero_word, zero_add, Fin.sum_univ_one, val_main_v31_apply, val_main_v30_apply]
  refine Eq.trans (b := Ideal.ofBits .f32 0x00000000#32 + ∑ k : Fin 2048, _) rfl ?_
  rw [zero_word, zero_add]
  refine Finset.sum_congr rfl fun t _ => ?_
  rw [at2 (idx_main_v30 (idx_main_v31 (idx_main_v32 (ix1 d) 0)) t) t d rfl (show 0 * 1024 + d.val = d.val by omega)]
  exact mod_at U D t d

theorem scale_at : val_main_v38 (F := Ideal) X W U D (ix1 d) = ∑ t : Fin 2048, normed (rowAt X t) d * W (ix1 d) * modGrad U D t d := by
  rw [val_main_v38_apply]
  refine Eq.trans (b := Ideal.ofBits .f32 0x00000000#32 + ∑ k : Fin 1, _) rfl ?_
  rw [zero_word, zero_add, Fin.sum_univ_one, val_main_v35_apply, val_main_v34_apply]
  refine Eq.trans (b := Ideal.ofBits .f32 0x00000000#32 + ∑ k : Fin 2048, _) rfl ?_
  rw [zero_word, zero_add]
  refine Finset.sum_congr rfl fun t _ => ?_
  rw [at2 (idx_main_v34 (idx_main_v35 (idx_main_v38 (ix1 d) 0)) t) t d rfl (show 0 * 1024 + d.val = d.val by omega), val_main_v33_apply,
    val_main_v19_apply, val_main_v18_apply, val_main_v17_apply, at1 (idx_main_v17 (idx_main_v18 (ix2 t d))) d rfl]
  exact congrArg₂ (fun y z : EReal => y * W (ix1 d) * z) (normed_at X t d) (mod_at U D t d)

theorem weight_at : val_main_v44 (F := Ideal) X S U D (ix1 d) = ∑ t : Fin 2048, normed (rowAt X t) d * back (vec S) (modGrad U D t) d := by
  rw [val_main_v44_apply]
  refine Eq.trans (b := Ideal.ofBits .f32 0x00000000#32 + ∑ k : Fin 1, _) rfl ?_
  rw [zero_word, zero_add, Fin.sum_univ_one, val_main_v41_apply, val_main_v40_apply]
  refine Eq.trans (b := Ideal.ofBits .f32 0x00000000#32 + ∑ k : Fin 2048, _) rfl ?_
  rw [zero_word, zero_add]
  refine Finset.sum_congr rfl fun t _ => ?_
  rw [at2 (idx_main_v40 (idx_main_v41 (idx_main_v44 (ix1 d) 0)) t) t d rfl (show 0 * 1024 + d.val = d.val by omega), val_main_v39_apply]
  exact congrArg₂ (fun y z : EReal => y * z) (normed_at X t d) (back_at S U D t d)

theorem gate_at : val_main_v64 (F := Ideal) P O (ix1 d) = ∑ t : Fin 2048, O (ix2 t d) * P (ix2 t d) := by
  rw [val_main_v64_apply]
  refine Eq.trans (b := Ideal.ofBits .f32 0x00000000#32 + ∑ k : Fin 1, _) rfl ?_
  rw [zero_word, zero_add, Fin.sum_univ_one, val_main_v63_apply, val_main_v62_apply]
  refine Eq.trans (b := Ideal.ofBits .f32 0x00000000#32 + ∑ k : Fin 2048, _) rfl ?_
  rw [zero_word, zero_add]
  refine Finset.sum_congr rfl fun t _ => ?_
  have hd := d.isLt
  rw [at2 (idx_main_v62 (idx_main_v63 (idx_main_v64 (ix1 d) 0)) t) t d rfl (show 0 * 1024 + d.val = d.val by omega), val_main_v61_apply,
    val_main_v59_apply, at2 (idx_main_v59 (ix2 t d)) t d (show (t.val * 1024 + d.val) / 1024 = t.val by omega)
      (show (t.val * 1024 + d.val) % 1024 = d.val by omega)]
  rfl

/-- The gradients of the vectors. -/
theorem vectors_at (q : Fin 8) : val_main_v70 (F := Ideal) X W S U P D O (ix2 q d)
    = ∑ t : Fin 2048, vectorGrad q.val (rowAt X t) (vec W) (vec S) (rowAt O t) (rowAt P t) (modGrad U D t) d := by
  unfold val_main_v70
  refine (stack_apply _ _ _ _ _ _ q d).trans ?_
  by_cases h0 : q.val = 0
  · simp only [vectorGrad, if_pos h0]
    rw [val_main_v65_apply, at1 (idx_main_v65 (ix2 (0 : Fin 1) d)) d rfl]
    exact weight_at X S U D d
  by_cases h1 : q.val = 1
  · simp only [vectorGrad, if_neg h0, if_pos h1]
    rw [val_main_v66_apply, at1 (idx_main_v66 (ix2 (0 : Fin 1) d)) d rfl]
    exact shift_at U D d
  by_cases h2 : q.val = 2
  · simp only [vectorGrad, if_neg h0, if_neg h1, if_pos h2]
    rw [val_main_v67_apply, at1 (idx_main_v67 (ix2 (0 : Fin 1) d)) d rfl]
    exact scale_at X W U D d
  by_cases h3 : q.val = 3
  · simp only [vectorGrad, if_neg h0, if_neg h1, if_neg h2, if_pos h3]
    rw [val_main_v68_apply, at1 (idx_main_v68 (ix2 (0 : Fin 1) d)) d rfl]
    exact gate_at O P d
  · simp only [vectorGrad, if_neg h0, if_neg h1, if_neg h2, if_neg h3, Finset.sum_const_zero]
    rw [val_main_v69_apply]
    exact zero_word

end Cert.NormReference

end
-- ==== Proof.NormValue.lean ====
/- What the kernel of the normalised layer leaves in its two results: the reference's gradients. -/
module

public import proofs.«01_k».proof.Proof.NormFrame
public import proofs.«01_k».proof.Proof.NormTile
public import proofs.«01_k».proof.Proof.NormReference
public import proofs.«01_k».proof.Proof.ProdUp

@[expose] public section

noncomputable section

namespace Cert.Kernel10Ideal.Gen

open Idealize.ShloMosaic Idealize.ShloMosaic.TcCoe Idealize.ShloMosaic.Tactic Idealize.ShloMosaic.ValueIdx Cert.Attn Cert.Prod Cert.Norm
open Cert.NormReference (vec modGrad)
open Idealize.SL.Sem
open Idealize.ShloMosaic.Pipeline (Dat)

variable (m : (ℓ : Loc nD τ sig) → Buf (Elt Ideal) ℓ) (ρ : Dev nD → PrngReg) (c : Dev nD)

/-! ## What the host hands to the call -/

abbrev argX : FVec Ideal S2048x1024 .f32 := m (c, main_arg0)
abbrev argW : FVec Ideal S1024 .f32 := m (c, main_arg1)
abbrev argB : FVec Ideal S1024 .f32 := m (c, main_arg2)
abbrev argS : FVec Ideal S1024 .f32 := m (c, main_arg3)
abbrev argG : FVec Ideal S1024 .f32 := m (c, main_arg4)
abbrev argU : FVec Ideal S1024x5632 .f32 := m (c, main_arg5)
abbrev argP : FVec Ideal S2048x1024 .f32 := m (c, main_arg6)
abbrev argD : FVec Ideal S2048x5632 .f32 := m (c, main_arg7)
abbrev argO : FVec Ideal S2048x1024 .f32 := m (c, main_arg8)

abbrev line (w : FVec Ideal S1024 .f32) : FVec Ideal S1x1024 .f32 := broadcastInDim S1x1024 ![1] bcast_S1024_S1x1024_1 w

theorem line_apply (w : FVec Ideal S1024 .f32) (d : Fin 1024) : line w (ix2 0 d) = w (ix1 d) :=
  broadcastInDim_apply _ _ _ (ix2 (0 : Fin 1) d) (ix1 d) fun k => match k with | ⟨0, _⟩ => rfl

theorem entry_vec (q : Fin 8) (d : Fin 1024) : V m c main_v5 (ix2 q d)
    = if q.val = 0 then line (argW m c) (ix2 0 d) else if q.val = 1 then line (argB m c) (ix2 0 d) else if q.val = 2 then line (argS m c) (ix2 0 d)
      else if q.val = 3 then line (argG m c) (ix2 0 d) else (0 : EReal) := by
  have e : V m c main_v5 = concatenate S8x1024 0 (rows (line (argW m c)) (line (argB m c)) (line (argS m c)) (line (argG m c))
      (broadcastInDim S4x1024 ![] bcast_S_S4x1024 (constant (F := Ideal) S_ .f32 0x00000000#32))) concatenates_S1x1024_S1x1024_S1x1024_S1x1024_S4x1024_S8x1024_d0 := by
    unfold V
    simp only [hostOps0, List.flatten_cons, List.flatten_nil, List.append_nil, List.cons_append, List.nil_append]
    after_results
    rfl
  rw [e]
  refine (stack_apply _ _ _ _ _ _ q d).trans ?_
  have e0 : broadcastInDim S4x1024 ![] bcast_S_S4x1024 (constant (F := Ideal) S_ .f32 0x00000000#32) (ix2 (Fin.ofNat 4 (q.val - 4)) d) = (0 : EReal) := zero_word
  rw [e0]

theorem entry_proj : V m c main_v8 = Cert.Kernel2Ideal.Gen.halves (argD m c) := by
  unfold V
  simp only [hostOps0, List.flatten_cons, List.flatten_nil, List.append_nil, List.cons_append, List.nil_append]
  after_results
  rfl

theorem entry_weight : V m c main_v10 = (truncf .bf16 (transpose S5632x1024 [1, 0] (argU m c) transposes_S1024x5632_S5632x1024_1_0) bitsLt_bf16_f32 : FVec Ideal S5632x1024 .bf16) := by
  unfold V
  simp only [hostOps0, List.flatten_cons, List.flatten_nil, List.append_nil, List.cons_append, List.nil_append]
  after_results

/-! ## The blocks -/

theorem index0 : ∀ t : Fin cfg0.N, 12 ≤ t.val → win0_0.index t 0 = t.val % 4 ∧ win0_0.index t 1 = 0 :=
  (by decide +kernel : ∀ t : Fin grid0.N, 12 ≤ t.val → win0_0.index t 0 = t.val % 4 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val / 8 ∧ win0_2.index t 1 = t.val % 4 ∧ win0_2.index t 2 = t.val / 4 % 2 :=
  (by decide +kernel : ∀ t : Fin grid0.N, win0_2.index t 0 = t.val / 8 ∧ win0_2.index t 1 = t.val % 4 ∧ win0_2.index t 2 = t.val / 4 % 2)
theorem index3 : ∀ t : Fin cfg0.N, win0_3.index t 0 = t.val / 4 ∧ win0_3.index t 1 = 0 :=
  (by decide +kernel : ∀ t : Fin grid0.N, win0_3.index t 0 = t.val / 4 ∧ win0_3.index t 1 = 0)
theorem index4 : ∀ t : Fin cfg0.N, 12 ≤ t.val → win0_4.index t 0 = t.val % 4 ∧ win0_4.index t 1 = 0 :=
  (by decide +kernel : ∀ t : Fin grid0.N, 12 ≤ t.val → win0_4.index t 0 = t.val % 4 ∧ win0_4.index t 1 = 0)
theorem index5 : ∀ t : Fin cfg0.N, 12 ≤ t.val → win0_5.index t 0 = t.val % 4 ∧ win0_5.index t 1 = 0 :=
  (by decide +kernel : ∀ t : Fin grid0.N, 12 ≤ t.val → win0_5.index t 0 = t.val % 4 ∧ win0_5.index t 1 = 0)
theorem index6 : ∀ t : Fin cfg0.N, 12 ≤ t.val → win0_6.index t 0 = t.val % 4 ∧ win0_6.index t 1 = 0 :=
  (by decide +kernel : ∀ t : Fin grid0.N, 12 ≤ t.val → win0_6.index t 0 = t.val % 4 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem flush6 : ∀ t : Fin cfg0.N, win0_6.flush t = true ↔ 12 ≤ t.val :=
  (by decide +kernel : ∀ t : Fin grid0.N, win0_6.flush t = true ↔ 12 ≤ t.val)

abbrev block0 (t : Fin cfg0.N) : Vec Ideal S512x1024 .f32 := iblk m c 0 t
abbrev block1 (t : Fin cfg0.N) : Vec Ideal S8x1024 .f32 := iblk m c 1 t
abbrev block2 (t : Fin cfg0.N) : Vec Ideal S1x512x1408 .bf16 := iblk m c 2 t
abbrev block3 (t : Fin cfg0.N) : Vec Ideal S1408x1024 .bf16 := iblk m c 3 t
abbrev block4 (t : Fin cfg0.N) : Vec Ideal S512x1024 .f32 := iblk m c 4 t
abbrev block5 (t : Fin cfg0.N) : Vec Ideal S512x1024 .f32 := iblk m c 5 t

theorem row_of (a : ℕ) (r : Fin 512) : (row (512 * (a % 4) + r.val)).val = 512 * (a % 4) + r.val := by
  have hr := r.isLt
  exact Nat.mod_eq_of_lt (by omega)

theorem block0_row (t : Fin cfg0.N) (h : 12 ≤ t.val) (r : Fin 512) : rowAt (block0 m c t) r = rowAt (argX m c) (row (512 * (t.val % 4) + r.val)) := by
  funext d
  have hi := index0 t h
  have e := row_of t.val r
  refine (congrArg (V m c main_arg0) (at2 _ (row (512 * (t.val % 4) + r.val)) d ?_ ?_)).trans (congrFun (V_main_arg0 m c) _)
  · show win0_0.index t 0 * 512 + 1 * r.val = _; omega
  · show win0_0.index t 1 * 1024 + 1 * d.val = _; omega
theorem block4_row (t : Fin cfg0.N) (h : 12 ≤ t.val) (r : Fin 512) : rowAt (block4 m c t) r = rowAt (argO m c) (row (512 * (t.val % 4) + r.val)) := by
  funext d
  have hi := index4 t h
  have e := row_of t.val r
  refine (congrArg (V m c main_arg8) (at2 _ (row (512 * (t.val % 4) + r.val)) d ?_ ?_)).trans (congrFun (V_main_arg8 m c) _)
  · show win0_4.index t 0 * 512 + 1 * r.val = _; omega
  · show win0_4.index t 1 * 1024 + 1 * d.val = _; omega
theorem block5_row (t : Fin cfg0.N) (h : 12 ≤ t.val) (r : Fin 512) : rowAt (block5 m c t) r = rowAt (argP m c) (row (512 * (t.val % 4) + r.val)) := by
  funext d
  have hi := index5 t h
  have e := row_of t.val r
  refine (congrArg (V m c main_arg6) (at2 _ (row (512 * (t.val % 4) + r.val)) d ?_ ?_)).trans (congrFun (V_main_arg6 m c) _)
  · show win0_5.index t 0 * 512 + 1 * r.val = _; omega
  · show win0_5.index t 1 * 1024 + 1 * d.val = _; omega

theorem block1_apply (t : Fin cfg0.N) (q : Fin 8) (d : Fin 1024) : block1 m c t (ix2 q d) = V m c main_v5 (ix2 q d) := by
  have hi := index1 t
  refine congrArg (V m c main_v5) (at2 _ q d ?_ ?_)
  · show win0_1.index t 0 * 8 + 1 * q.val = _; omega
  · show win0_1.index t 1 * 1024 + 1 * d.val = _; omega
theorem block1_weight (t : Fin cfg0.N) : rowAt (block1 m c t) 0 = vec (argW m c) :=
  funext fun d => (block1_apply m c t 0 d).trans ((entry_vec m c 0 d).trans (line_apply _ d))
theorem block1_scale (t : Fin cfg0.N) : rowAt (block1 m c t) 2 = vec (argS m c) :=
  funext fun d => (block1_apply m c t 2 d).trans ((entry_vec m c 2 d).trans (line_apply _ d))

/-- The column of the projection, read off any number. -/
abbrev col (n : ℕ) : Fin 5632 := Fin.ofNat 5632 n

theorem col_of (t : Fin cfg0.N) (k : Fin 1408) : (col (1408 * (t.val / 4) + k.val)).val = 1408 * (t.val / 4) + k.val := by
  have hk := k.isLt
  have ht : t.val < 16 := lt_of_lt_of_eq t.isLt N_0
  exact Nat.mod_eq_of_lt (by omega)

theorem block2_apply (t : Fin cfg0.N) (r : Fin 512) (k : Fin 1408) :
    block2 m c t (ix3 (0 : Fin 1) r k) = argD m c (ix2 (row (512 * (t.val % 4) + r.val)) (col (1408 * (t.val / 4) + k.val))) := by
  have hi := index2 t
  have e := row_of t.val r
  have e' := col_of t k
  have hk := k.isLt
  have ht : t.val < 16 := lt_of_lt_of_eq t.isLt N_0
  refine Eq.trans (b := V m c main_v8 (ix3 (⟨t.val / 8, by omega⟩ : Fin 2) (row (512 * (t.val % 4) + r.val)) (⟨1408 * (t.val / 4 % 2) + k.val, by omega⟩ : Fin 2816))) ?_ ?_
  · refine congrArg (V m c main_v8) (funext fun a => Fin.ext ?_)
    match a with
    | ⟨0, _⟩ => show win0_2.index t 0 * 1 + 1 * 0 = t.val / 8; omega
    | ⟨1, _⟩ => show win0_2.index t 1 * 512 + 1 * r.val = (row (512 * (t.val % 4) + r.val)).val; omega
    | ⟨2, _⟩ => show win0_2.index t 2 * 1408 + 1 * k.val = 1408 * (t.val / 4 % 2) + k.val; omega
  · rw [entry_proj]
    refine Cert.Kernel2Ideal.Gen.halves_apply _ _ _ _ _ ?_
    show (col (1408 * (t.val / 4) + k.val)).val = 2816 * (t.val / 8) + (1408 * (t.val / 4 % 2) + k.val)
    omega

theorem block3_apply (t : Fin cfg0.N) (k : Fin 1408) (d : Fin 1024) :
    block3 m c t (ix2 k d) = argU m c (ix2 d (col (1408 * (t.val / 4) + k.val))) := by
  have hi := index3 t
  have e' := col_of t k
  refine Eq.trans (b := V m c main_v10 (ix2 (col (1408 * (t.val / 4) + k.val)) d)) ?_ ?_
  · refine congrArg (V m c main_v10) (at2 _ _ _ ?_ ?_)
    · show win0_3.index t 0 * 1408 + 1 * k.val = _; omega
    · show win0_3.index t 1 * 1024 + 1 * d.val = _; omega
  · rw [entry_weight]
    exact transpose_apply [1, 0] (argU m c) transposes_S1024x5632_S5632x1024_1_0 (ix2 (col (1408 * (t.val / 4) + k.val)) d)
      (ix2 d (col (1408 * (t.val / 4) + k.val))) fun b => match b with | ⟨0, _⟩ => rfl | ⟨1, _⟩ => rfl

/-! ## The gradient of the modulated rows -/

/-- What the rows of a block hold after some of the columns. -/
theorem part_apply (j : ℕ) (hj : j < 4) (r : Fin 512) (d : Fin 1024) (k : ℕ) (hk : k < 4) :
    part m c j k (ix2 r d)
      = ∑ s ∈ Finset.range (k + 1), ∑ e : Fin 1408, argD m c (ix2 (row (512 * j + r.val)) (col (1408 * s + e.val))) * argU m c (ix2 d (col (1408 * s + e.val))) := by
  have block (n : ℕ) (hn : n < 4) : ∑ e : Fin 1408, block2 m c (pt (4 * n + j)) (ix3 (0 : Fin 1) r e) * block3 m c (pt (4 * n + j)) (ix2 e d)
      = ∑ e : Fin 1408, argD m c (ix2 (row (512 * j + r.val)) (col (1408 * n + e.val))) * argU m c (ix2 d (col (1408 * n + e.val))) := by
    have e1 : (pt (4 * n + j)).val % 4 = j := by show (4 * n + j) % 16 % 4 = j; omega
    have e2 : (pt (4 * n + j)).val / 4 = n := by show (4 * n + j) % 16 / 4 = n; omega
    refine Finset.sum_congr rfl fun e _ => ?_
    rw [block2_apply, block3_apply, e1, e2]
  induction k with
  | zero =>
    unfold part
    rw [Finset.sum_range_one]
    have b := block 0 (by decide)
    rw [Nat.mul_zero, Nat.zero_add] at b
    exact (first_at r d _ _).trans b
  | succ k ih =>
    rw [Finset.sum_range_succ, ← ih (by omega)]
    conv_lhs => unfold part
    exact (next_at _ r d _ _).trans (congrArg (fun y : EReal => part m c j k (ix2 r d) + y) (block (k + 1) hk))

theorem partAt_row (t : Fin cfg0.N) (h : 12 ≤ t.val) (r : Fin 512) :
    rowAt (partAt m c t.val) r = modGrad (argU m c) (argD m c) (row (512 * (t.val % 4) + r.val)) := by
  funext d
  have ht : t.val < 16 := lt_of_lt_of_eq t.isLt N_0
  have e : t.val / 4 = 3 := by omega
  refine (part_apply m c (t.val % 4) (by omega) r d (t.val / 4) (by omega)).trans ?_
  rw [e]
  exact sum_split (b := 1408) (n := 5632) rfl
    fun k => argD m c (ix2 (row (512 * (t.val % 4) + r.val)) k) * argU m c (ix2 d k)

/-! ## The two results -/

/-- The reference's arrays at the kernel's arguments. -/
abbrev rowsRef : FVec Ideal S2048x1024 .f32 :=
  Cert.Reference10Ideal.Read.val_main_v60 (F := Ideal) (argX m c) (argW m c) (argS m c) (argU m c) (argD m c) (argO m c)
abbrev vectorsRef : FVec Ideal S8x1024 .f32 :=
  Cert.Reference10Ideal.Read.val_main_v70 (F := Ideal) (argX m c) (argW m c) (argS m c) (argU m c) (argP m c) (argD m c) (argO m c)

theorem rows_block (t : Fin cfg0.N) (h : 12 ≤ t.val) (r : Fin 512) (d : Fin 1024) :
    dxOf (block0 m c t) (block1 m c t) (block4 m c t) (partAt m c t.val) (ix2 r d) = rowsRef m c (ix2 (row (512 * (t.val % 4) + r.val)) d) := by
  rw [dxOf_at, block0_row m c t h, block1_weight, block1_scale, block4_row m c t h, partAt_row m c t h]
  exact (Cert.NormReference.rows_at (argX m c) (argO m c) (argW m c) (argS m c) (argU m c) (argD m c) _ d).symm

/-- What a row adds to the gradients of the vectors. -/
abbrev share (q : Fin 8) (d : Fin 1024) (t : Fin 2048) : EReal :=
  vectorGrad q.val (rowAt (argX m c) t) (vec (argW m c)) (vec (argS m c)) (rowAt (argO m c) t) (rowAt (argP m c) t) (modGrad (argU m c) (argD m c) t) d

theorem vectors_block (t : Fin cfg0.N) (h : 12 ≤ t.val) (z : Vec Ideal S8x1024 .f32) (q : Fin 8) (d : Fin 1024) :
    dvOf (block0 m c t) (block1 m c t) (block4 m c t) (block5 m c t) (partAt m c t.val) z (ix2 q d)
      = z (ix2 q d) + ∑ r : Fin 512, share m c q d (row (512 * (t.val % 4) + r.val)) := by
  rw [dvOf_at]
  refine congrArg (fun y : EReal => z (ix2 q d) + y) (Finset.sum_congr rfl fun r _ => ?_)
  rw [block0_row m c t h, block1_weight, block1_scale, block4_row m c t h, block5_row m c t h, partAt_row m c t h]

theorem zero_at (q : Fin 8) (d : Fin 1024) : k0_pay18 (F := Ideal) (ix2 q d) = (0 : EReal) := by
  unfold k0_pay18
  exact zero_word

theorem sums_apply (q : Fin 8) (d : Fin 1024) (j : ℕ) (hj : j < 4) :
    sums m c j (ix2 q d) = ∑ s ∈ Finset.range (j + 1), ∑ r : Fin 512, share m c q d (row (512 * s + r.val)) := by
  induction j with
  | zero =>
    unfold sums
    rw [Finset.sum_range_one]
    exact (vectors_block m c (pt 12) (by decide) _ q d).trans ((congrArg (fun y : EReal => y + _) (zero_at q d)).trans (zero_add _))
  | succ j ih =>
    rw [Finset.sum_range_succ, ← ih (by omega)]
    conv_lhs => unfold sums
    have e : (pt (13 + j)).val = 13 + j := Nat.mod_eq_of_lt (by omega)
    have e' : (pt (13 + j)).val % 4 = j + 1 := by omega
    have b := vectors_block m c (pt (13 + j)) (by omega) (sums m c j) q d
    rw [e'] at b
    rw [e] at b
    exact b

theorem vectors_all (q : Fin 8) (d : Fin 1024) : sums m c 3 (ix2 q d) = vectorsRef m c (ix2 q d) := by
  rw [sums_apply m c q d 3 (by decide)]
  refine (sum_blocks (share m c q d)).trans ?_
  exact (Cert.NormReference.vectors_at (argX m c) (argO m c) (argP m c) (argW m c) (argS m c) (argU m c) (argD m c) d q).symm

theorem rows_flushed (t : Fin cfg0.N) (hf : (cfg0.win 6).flush t = true) :
    (dats m 0 c).flushed 6 t = ((cfg0.win 6).blk t).view.read (Elt Ideal) (rowsRef m c) := by
  have h : 12 ≤ t.val := (flush6 t).mp hf
  have hi := index6 t h
  show (cfg0.win 6).cut (grid0.coords t) ((dats m 0 c).after 6 t) = _
  rw [leaves6]
  funext y
  obtain ⟨r, d, rfl⟩ : ∃ (r : Fin 512) (d : Fin 1024), y = (ix2 r d : S512x1024.Idx) := ⟨y 0, y 1, eq_ix2 (n0 := 512) (n1 := 1024) y⟩
  have e := row_of t.val r
  refine Eq.trans ?_ ((rows_block m c t h r d).trans (congrArg (rowsRef m c) (at2 _ _ _ ?_ ?_).symm))
  · exact congrArg (dxOf (block0 m c t) (block1 m c t) (block4 m c t) (partAt m c t.val)) (at2 _ r d rfl rfl)
  · show win0_6.index t 0 * 512 + 1 * r.val = _; omega
  · show win0_6.index t 1 * 1024 + 1 * d.val = _; omega

theorem vectors_flushed (t : Fin cfg0.N) (hf : (cfg0.win 7).flush t = true) :
    (dats m 0 c).flushed 7 t = ((cfg0.win 7).blk t).view.read (Elt Ideal) (vectorsRef m c) := by
  have h : t.val % 16 = 15 := (flush0_7 t).mp hf
  have hi := index7 t
  show (cfg0.win 7).cut (grid0.coords t) ((dats m 0 c).after 7 t) = _
  rw [leaves7, show t.val % 4 = 3 by omega]
  funext y
  obtain ⟨q, d, rfl⟩ : ∃ (q : Fin 8) (d : Fin 1024), y = (ix2 q d : S8x1024.Idx) := ⟨y 0, y 1, eq_ix2 (n0 := 8) (n1 := 1024) y⟩
  refine Eq.trans ?_ ((vectors_all m c q d).trans (congrArg (vectorsRef m c) (at2 _ _ _ ?_ ?_).symm))
  · exact congrArg (sums m c 3) (at2 _ q d rfl rfl)
  · show win0_7.index t 0 * 8 + 1 * q.val = _; omega
  · show win0_7.index t 1 * 1024 + 1 * d.val = _; omega

theorem mem_rows (t : Fin cfg0.N) (i : S2048x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v11_0).slice (win0_6.rect t)).set ↔ _
  rw [View.set_slice_whole, Rect.mem_set_unit]
  exact Iff.rfl

theorem rows_left : (dats m 0 c).arrAt 6 cfg0.N = rowsRef m c :=
  (dats m 0 c).arrAt_eq_of_cover 6 _ (fun t hf => rows_flushed m c t hf) fun (i : S2048x1024.Idx) => by
    have h0 : (i 0).val < 2048 := (i 0).isLt
    have h1 : (i 1).val < 1024 := (i 1).isLt
    have hv : (pt (12 + (i 0).val / 512)).val = 12 + (i 0).val / 512 := Nat.mod_eq_of_lt (by omega)
    have h : 12 ≤ (pt (12 + (i 0).val / 512)).val := by omega
    have hi := index6 _ h
    refine ⟨pt (12 + (i 0).val / 512), (flush6 _).mpr h, ?_⟩
    rw [mem_rows]
    intro a
    match a with
    | ⟨0, _⟩ =>
      show win0_6.index (pt (12 + (i 0).val / 512)) 0 * 512 ≤ (i 0).val ∧ (i 0).val < win0_6.index (pt (12 + (i 0).val / 512)) 0 * 512 + 512
      omega
    | ⟨1, _⟩ =>
      show win0_6.index (pt (12 + (i 0).val / 512)) 1 * 1024 ≤ (i 1).val ∧ (i 1).val < win0_6.index (pt (12 + (i 0).val / 512)) 1 * 1024 + 1024
      omega

theorem vectors_left : (dats m 0 c).arrAt 7 cfg0.N = vectorsRef m c :=
  (dats m 0 c).arrAt_eq_of_cover 7 _ (fun t hf => vectors_flushed m c t hf) fun (i : S8x1024.Idx) => by
    have h0 : (i 0).val < 8 := (i 0).isLt
    have h1 : (i 1).val < 1024 := (i 1).isLt
    have hi := index7 (pt 15)
    refine ⟨pt 15, (flush0_7 _).mpr rfl, ?_⟩
    show i ∈ ((View.whole main_v11_1).slice (win0_7.rect (pt 15))).set
    rw [View.set_slice_whole, Rect.mem_set_unit]
    intro a
    match a with
    | ⟨0, _⟩ => show win0_7.index (pt 15) 0 * 8 ≤ (i 0).val ∧ (i 0).val < win0_7.index (pt 15) 0 * 8 + 8; omega
    | ⟨1, _⟩ => show win0_7.index (pt 15) 1 * 1024 ≤ (i 1).val ∧ (i 1).val < win0_7.index (pt 15) 1 * 1024 + 1024; omega

/-- The run, with its two results read. -/
theorem run_read : θ_run defs (onTc (τ := τ) (main (F := Ideal))) ⟨m, fun _ => 0, ρ⟩ (fun r => ∀ c : Dev nD,
      r.2.mem ((c.tc : Thread nD τ).loc main_v11_0) = rowsRef m c
      ∧ r.2.mem ((c.tc : Thread nD τ).loc main_v11_1) = vectorsRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 6).trans (rows_left m c), ((h.1 c).1 7).trans (vectors_left m c), h.2.1 c⟩)
    (θ_run_and (run_main m ρ) (frame m ρ))

end Cert.Kernel10Ideal.Gen

end
-- ==== Proof.NormClaims.lean ====
/- The claims on the gradient of the normalised layer. -/
module

public import proofs.«01_k».proof.Defs
public import proofs.«01_k».proof.Proof.NormValue
public import proofs.«01_k».proof.Proof.Gen.Kernel10.Frame
public import proofs.«01_k».proof.Proof.Gen.Reference10Ideal.Run
public import proofs.«01_k».proof.Proof.Gen.Reference10Ideal.Read
public import Idealize.ShloMosaic.Adequacy
public import Idealize.ShloMosaic.Init

@[expose] public section

noncomputable section

namespace Cert.NormClaims

open Idealize.ShloMosaic Idealize.SL.Sem Idealize.ShloMosaic.TcCoe

/-- The kernel as printed and as idealized are one program: no rewrite was asked for. -/
theorem bodies_eq : @Cert.Kernel10.defs₀ Bits _ _ = @Cert.Kernel10Ideal.defs₀ Bits _ _ := by
  unfold Cert.Kernel10.defs₀ Cert.Kernel10Ideal.defs₀
  refine congrArg Defs.onTc (funext fun l => funext fun a => ?_)
  match l, a with
  | 0, (t, s) => rfl

theorem defs_eq : @Cert.Kernel10.defs Bits _ _ = @Cert.Kernel10Ideal.defs Bits _ _ :=
  congrArg (Pipeline.defs (Cert.Kernel10.pcfgs (F := Bits))) bodies_eq

theorem frame_kernel10 : Cert.quiescent_Kernel10 := fun m ρ _ => by
  have h := Cert.Kernel10Ideal.Gen.frame (F := Bits) m ρ
  rw [← defs_eq] at h
  exact h

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := fun m ρ m' ρ' _ ha =>
  ⟨fun c => Cert.Kernel10Ideal.Gen.rowsRef m c, fun c => Cert.Kernel10Ideal.Gen.vectorsRef m c, Cert.Kernel10Ideal.Gen.run_read m ρ,
    (θ_run Cert.Reference10Ideal.defs _ _).mono (fun r h c => by
      obtain ⟨a0, a1, a2, a3, a4, a5, a6, a7, a8⟩ := ha c
      obtain ⟨h0, h1, h2⟩ := h c
      refine ⟨h0.trans ((Cert.Reference10Ideal.Read.val_main_v60_eq (F := Ideal) _ _).trans ?_),
        h1.trans ((Cert.Reference10Ideal.Read.val_main_v70_eq (F := Ideal) _ _ _ _ _ _ _).trans ?_), h2⟩
      · rw [a0, a1, a3, a5, a7, a8]
      · rw [a0, a1, a3, a5, a6, a7, a8])
      (Cert.Reference10Ideal.Value.run (F := Ideal) m' ρ')⟩

end Cert.NormClaims

end
-- ==== Proof.ProjRuns.lean ====
/- The body of the input projections' gradient, run once per case of its conditions. -/
module

public import proofs.«01_k».proof.Proof.Gen.Kernel11Ideal.Frame
public import proofs.«01_k».proof.Proof.Gen.Kernel11Ideal.Skeleton
public import Idealize.ShloMosaic.Lib.WritesUnit

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The conditions, over the points -/

section
variable (t : Fin cfg0.N)

theorem coord0 : (grid0.coords t 0).val = t.val / 4 := by
  have ht : t.val < 12 := Nat.lt_of_lt_of_eq t.isLt N_0
  exact (Pipeline.Grid.coords_val t 0 (by decide) rfl : (grid0.coords t 0).val = t.val / 4 % 3).trans (Nat.mod_eq_of_lt (by omega))
theorem coord1 : (grid0.coords t 1).val = t.val % 4 :=
  (Pipeline.Grid.coords_val t 1 (by decide) rfl : (grid0.coords t 1).val = t.val / 1 % 4).trans (by rw [Nat.div_one])

end

theorem starts : ∀ t : Fin cfg0.N, k0_cond1 (grid0.coords t) = 1#1 ↔ t.val < 4 := by decide +kernel
theorem goes_on : ∀ t : Fin cfg0.N, k0_cond2 (grid0.coords t) = 1#1 ↔ 4 ≤ t.val := by decide +kernel
theorem ends : ∀ t : Fin cfg0.N, k0_cond3 (grid0.coords t) = 1#1 ↔ 8 ≤ t.val := by decide +kernel
theorem resets : ∀ t : Fin cfg0.N, k0_cond4 (grid0.coords t) = 1#1 ↔ t.val % 4 = 0 := by decide +kernel

/-! ## The runs -/

/-- The five blocks that a point reads. -/
def five (c : Dev nD) (arg2 : Memref sig .tc .vmem S512x1024 .f32) (arg3 : Memref sig .tc .vmem S8x1024 .f32) (arg4 : Memref sig .tc .vmem S512x2432 .bf16)
    (arg5 : Memref sig .tc .vmem S2432x1024 .bf16) (arg6 : Memref sig .tc .vmem S512x1024 .f32)
    (x0 : Vec F S512x1024 .f32) (x1 : Vec F S8x1024 .f32) (x2 : Vec F S512x2432 .bf16) (x3 : Vec F S2432x1024 .bf16)
    (x4 : Vec F S512x1024 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S512x2432 .bf16) (harg4 : arg4.IsWhole) (arg5 : Memref sig .tc .vmem S2432x1024 .bf16) (harg5 : arg5.IsWhole)
  (arg6 : Memref sig .tc .vmem S512x1024 .f32) (harg6 : arg6.IsWhole)
  (arg7 : Memref sig .tc .vmem S512x1024 .f32) (harg7 : arg7.IsWhole) (arg8 : Memref sig .tc .vmem S8x1024 .f32) (harg8 : arg8.IsWhole)
  (arg9 : Memref sig .tc .vmem S2048x1024 .f32) (harg9 : arg9.IsWhole)
  (x0 : Vec F S512x1024 .f32) (x1 : Vec F S8x1024 .f32) (x2 : Vec F S512x2432 .bf16) (x3 : Vec F S2432x1024 .bf16)
  (x4 : Vec F S512x1024 .f32)

/-- A point of the first block of columns stores its product into its rows of the scratch. -/
noncomputable def runFirst (h1 : k0_cond1 i = 1#1) (h2 : ¬k0_cond2 i = 1#1) (h3 : ¬k0_cond3 i = 1#1) (xs : Vec F S2048x1024 .f32) :
    { L : List (View.Piece (Elt F) S2048x1024 .f32) // ∀ (o5 : Vec F S512x1024 .f32) (o6 : Vec F S8x1024 .f32) (E : Set ℕ) (K : PUnit → sProp 𝕄),
      iprop(five c arg2 arg3 arg4 arg5 arg6 x0 x1 x2 x3 x4 ∗ owns (c : Thread nD τ) arg7 fullShare o5 ∗ owns (c : Thread nD τ) arg8 fullShare o6 ∗ owns (c : Thread nD τ) arg9 fullShare xs
          ∗ (iprop(five c arg2 arg3 arg4 arg5 arg6 x0 x1 x2 x3 x4
            ∗ owns (c : Thread nD τ) arg7 fullShare o5 ∗ owns (c : Thread nD τ) arg8 fullShare o6
            ∗ (arg9.view.loc (c : Thread nD τ) ↦[arg9.view.set]{fullShare} arg9.view.writes (Elt F) (harg9.unread xs) L)) -∗ K ⟨⟩))
        ⊢ wp frame (wpE (defs₀ (F := F)) Variants.none c none) E
            (cc0_inproj_bwd i arg2 harg2 arg3 harg3 arg4 harg4 arg5 harg5 arg6 harg6 arg7 harg7 arg8 harg8 arg9 harg9) K } := by
  refine ⟨?_, fun o5 o6 E K => ?run⟩
  case run =>
    simp only [cc0_inproj_bwd_eq_skeleton]; unfold cc0_inproj_bwd_skel
    unfold five owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs
    sl_exec (disch := first | sl_exact h1 | sl_exact h2 | sl_exact h3)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

/-- A point of a later block, but the last, adds its product to its rows. -/
noncomputable def runNext (h1 : ¬k0_cond1 i = 1#1) (h2 : k0_cond2 i = 1#1) (h3 : ¬k0_cond3 i = 1#1) (xs : Vec F S2048x1024 .f32) :
    { L : List (View.Piece (Elt F) S2048x1024 .f32) // ∀ (o5 : Vec F S512x1024 .f32) (o6 : Vec F S8x1024 .f32) (E : Set ℕ) (K : PUnit → sProp 𝕄),
      iprop(five c arg2 arg3 arg4 arg5 arg6 x0 x1 x2 x3 x4 ∗ owns (c : Thread nD τ) arg7 fullShare o5 ∗ owns (c : Thread nD τ) arg8 fullShare o6 ∗ owns (c : Thread nD τ) arg9 fullShare xs
          ∗ (iprop(five c arg2 arg3 arg4 arg5 arg6 x0 x1 x2 x3 x4
            ∗ owns (c : Thread nD τ) arg7 fullShare o5 ∗ owns (c : Thread nD τ) arg8 fullShare o6
            ∗ (arg9.view.loc (c : Thread nD τ) ↦[arg9.view.set]{fullShare} arg9.view.writes (Elt F) (harg9.unread xs) L)) -∗ K ⟨⟩))
        ⊢ wp frame (wpE (defs₀ (F := F)) Variants.none c none) E
            (cc0_inproj_bwd i arg2 harg2 arg3 harg3 arg4 harg4 arg5 harg5 arg6 harg6 arg7 harg7 arg8 harg8 arg9 harg9) K } := by
  refine ⟨?_, fun o5 o6 E K => ?run⟩
  case run =>
    simp only [cc0_inproj_bwd_eq_skeleton]; unfold cc0_inproj_bwd_skel
    unfold five owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs
    sl_exec (disch := first | sl_exact h1 | sl_exact h2 | sl_exact h3)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

/-- The first point of the last block adds its product, takes the gradients of its rows, and starts the sums over the rows. -/
noncomputable def runReset (h1 : ¬k0_cond1 i = 1#1) (h2 : k0_cond2 i = 1#1) (h3 : k0_cond3 i = 1#1) (h4 : k0_cond4 i = 1#1) (o5 : Vec F S512x1024 .f32) (o6 : Vec F S8x1024 .f32) (xs : Vec F S2048x1024 .f32) :
    Σ' (L5 : List (View.Piece (Elt F) S512x1024 .f32)) (L6 : List (View.Piece (Elt F) S8x1024 .f32)),
    { L : List (View.Piece (Elt F) S2048x1024 .f32) // ∀ (E : Set ℕ) (K : PUnit → sProp 𝕄),
      iprop(five c arg2 arg3 arg4 arg5 arg6 x0 x1 x2 x3 x4 ∗ owns (c : Thread nD τ) arg7 fullShare o5 ∗ owns (c : Thread nD τ) arg8 fullShare o6 ∗ owns (c : Thread nD τ) arg9 fullShare xs
          ∗ (iprop(five c arg2 arg3 arg4 arg5 arg6 x0 x1 x2 x3 x4
            ∗ (arg7.view.loc (c : Thread nD τ) ↦[arg7.view.set]{fullShare} arg7.view.writes (Elt F) (harg7.unread o5) L5)
            ∗ (arg8.view.loc (c : Thread nD τ) ↦[arg8.view.set]{fullShare} arg8.view.writes (Elt F) (harg8.unread o6) L6)
            ∗ (arg9.view.loc (c : Thread nD τ) ↦[arg9.view.set]{fullShare} arg9.view.writes (Elt F) (harg9.unread xs) L)) -∗ K ⟨⟩))
        ⊢ wp frame (wpE (defs₀ (F := F)) Variants.none c none) E
            (cc0_inproj_bwd i arg2 harg2 arg3 harg3 arg4 harg4 arg5 harg5 arg6 harg6 arg7 harg7 arg8 harg8 arg9 harg9) K } := by
  refine ⟨?_, ?_, ?_, fun E K => ?run⟩
  case run =>
    simp only [cc0_inproj_bwd_eq_skeleton]; unfold cc0_inproj_bwd_skel
    simp only [k0_part1_eq_skeleton]; unfold k0_part1_skel
    unfold five owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs
    sl_exec (disch := first | sl_exact h1 | sl_exact h2 | sl_exact h3 | sl_exact h4)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]; · iexact H5
    isplitl [H6]; · iexact H6
    iexact HS

/-- A later point of the last block does the same and goes on with the sums. -/
noncomputable def runLast (h1 : ¬k0_cond1 i = 1#1) (h2 : k0_cond2 i = 1#1) (h3 : k0_cond3 i = 1#1) (h4 : ¬k0_cond4 i = 1#1) (o5 : Vec F S512x1024 .f32) (o6 : Vec F S8x1024 .f32) (xs : Vec F S2048x1024 .f32) :
    Σ' (L5 : List (View.Piece (Elt F) S512x1024 .f32)) (L6 : List (View.Piece (Elt F) S8x1024 .f32)),
    { L : List (View.Piece (Elt F) S2048x1024 .f32) // ∀ (E : Set ℕ) (K : PUnit → sProp 𝕄),
      iprop(five c arg2 arg3 arg4 arg5 arg6 x0 x1 x2 x3 x4 ∗ owns (c : Thread nD τ) arg7 fullShare o5 ∗ owns (c : Thread nD τ) arg8 fullShare o6 ∗ owns (c : Thread nD τ) arg9 fullShare xs
          ∗ (iprop(five c arg2 arg3 arg4 arg5 arg6 x0 x1 x2 x3 x4
            ∗ (arg7.view.loc (c : Thread nD τ) ↦[arg7.view.set]{fullShare} arg7.view.writes (Elt F) (harg7.unread o5) L5)
            ∗ (arg8.view.loc (c : Thread nD τ) ↦[arg8.view.set]{fullShare} arg8.view.writes (Elt F) (harg8.unread o6) L6)
            ∗ (arg9.view.loc (c : Thread nD τ) ↦[arg9.view.set]{fullShare} arg9.view.writes (Elt F) (harg9.unread xs) L)) -∗ K ⟨⟩))
        ⊢ wp frame (wpE (defs₀ (F := F)) Variants.none c none) E
            (cc0_inproj_bwd i arg2 harg2 arg3 harg3 arg4 harg4 arg5 harg5 arg6 harg6 arg7 harg7 arg8 harg8 arg9 harg9) K } := by
  refine ⟨?_, ?_, ?_, fun E K => ?run⟩
  case run =>
    simp only [cc0_inproj_bwd_eq_skeleton]; unfold cc0_inproj_bwd_skel
    simp only [k0_part1_eq_skeleton]; unfold k0_part1_skel
    unfold five owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs
    sl_exec (disch := first | sl_exact h1 | sl_exact h2 | sl_exact h3 | sl_exact h4)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]; · iexact H5
    isplitl [H6]; · iexact H6
    iexact HS

end

end Cert.Kernel11Ideal.Gen

end
-- ==== Proof.ProjPieces.lean ====
/- What the runs leave, read off their pieces. -/
module

public import proofs.«01_k».proof.Proof.ProjRuns
public import proofs.«01_k».proof.Proof.AttnTile

@[expose] public section

set_option maxRecDepth 16384

noncomputable section

namespace Cert.Kernel11Ideal.Gen

open Idealize.ShloMosaic Idealize.ShloMosaic.TcCoe Idealize.ShloMosaic.Tactic Idealize.ShloMosaic.ValueIdx
open Idealize.SL.Sem

variable {F : FTy → Type} [FloatOps F]

theorem zero_off2 : (![0, 0] : Fin 2 → ℕ) = fun _ => 0 := funext fun a => by fin_cases a <;> rfl

/-- The rows of the scratch that a point works on. -/
def take (i : grid0.Coords) (xs : Vec F S2048x1024 .f32) : Vec F S512x1024 .f32 := fun x => xs (ix2 (Fin.ofNat 2048 (512 * (i 1).val + (x 0).val)) (x 1))
/-- The scratch with those rows replaced. -/
def put (i : grid0.Coords) (xs : Vec F S2048x1024 .f32) (p : Vec F S512x1024 .f32) : Vec F S2048x1024 .f32 := fun y =>
  if 512 * (i 1).val ≤ (y 0).val ∧ (y 0).val < 512 * (i 1).val + 512 then p (ix2 (Fin.ofNat 512 (y 0).val) (y 1)) else xs y
/-- A row of the eight, and a row put in. -/
def rowOf (r : Fin 8) (x : Vec F S8x1024 .f32) : Vec F S1x1024 .f32 := fun y => x (ix2 r (y 1))
def putRow (r : Fin 8) (x : Vec F S8x1024 .f32) (p : FVec F S1x1024 .f32) : Vec F S8x1024 .f32 := fun y => if (y 0).val = r.val then p (ix2 0 (y 1)) else x y

theorem row_lt (i : grid0.Coords) : (i 1).val < 4 := (i 1).isLt

section
variable (i : grid0.Coords) {sp : Space} (v : View sig .tc sp S2048x1024 .f32)

theorem read_put (f : v.ty.Contents (Elt F)) (off : Fin 2 → ℕ) (hoff : off = ![512 * (i 1).val, 0]) (inb : ∀ a, off a + S512x1024.size a ≤ S2048x1024.size a) (p : Vec F S512x1024 .f32) :
    v.read (Elt F) (v.writes (Elt F) f [⟨Rect.unit (s := S2048x1024) off S512x1024.size inb, p⟩]) = put i (v.read (Elt F) f) p := by
  funext y
  have hi := row_lt i
  unfold put
  split
  · rename_i h
    refine View.read_writes_cons_rows_of_mem v f inb p [] y (ix2 (Fin.ofNat 512 (y 0).val) (y 1)) hoff ?_ rfl
    show (y 0).val = 512 * (i 1).val + (y 0).val % 512
    omega
  · rename_i h
    exact View.read_writes_cons_rows_of_not_mem v f inb p [] y hoff rfl
      (show (y 0).val < 512 * (i 1).val ∨ 512 * (i 1).val + 512 ≤ (y 0).val by omega)
/-- A read of the rows just stored reads what was stored. -/
theorem readCov_put (off off' : Fin 2 → ℕ) (hoff : off = ![512 * (i 1).val, 0]) (hoff' : off' = ![512 * (i 1).val, 0])
    (inb : ∀ a, off a + S512x1024.size a ≤ S2048x1024.size a) (inb' : ∀ a, off' a + S512x1024.size a ≤ S2048x1024.size a) (p : Vec F S512x1024 .f32) :
    v.readCov [⟨Rect.unit (s := S2048x1024) off S512x1024.size inb, p⟩] (Rect.unit (s := S2048x1024) off' S512x1024.size inb').toLoadRect = p := by
  subst hoff'
  rw [View.readCov_eq_canon']
  funext x
  rw [← View.read_writes_junk_eq_canon v]
  exact View.read_writes_cons_unit_of_mem v v.junk inb p [] _ x hoff fun a => by
    show (![512 * (i 1).val, 0] : Fin 2 → ℕ) a + 1 * (x a).val = _
    rw [Nat.one_mul]

theorem ld_take (off : Fin 2 → ℕ) (hoff : off = ![512 * (i 1).val, 0]) (inb : ∀ a, off a + S512x1024.size a ≤ S2048x1024.size a) (xs : Vec F S2048x1024 .f32) :
    View.ld xs (Rect.unit (s := S2048x1024) off S512x1024.size inb) = take i xs := by
  subst hoff
  funext x
  have hi := row_lt i
  refine congrArg xs (funext fun a => Fin.ext ?_)
  have hx : (x 0).val < 512 := (x 0).isLt
  match a with
  | ⟨0, _⟩ =>
    show 512 * (i 1).val + 1 * (x 0).val = (512 * (i 1).val + (x 0).val) % 2048
    omega
  | ⟨1, _⟩ => show 0 + 1 * (x 1).val = (x 1).val; omega
end

theorem ld_row (r : Fin 8) (inb : ∀ a, (![r.val, 0] : Fin 2 → ℕ) a + S1x1024.size a ≤ S8x1024.size a) (x : Vec F S8x1024 .f32) :
    View.ld x (Rect.unit (s := S8x1024) ![r.val, 0] S1x1024.size inb) = rowOf r x := by
  funext y
  refine congrArg x (funext fun a => Fin.ext ?_)
  have hy : (y 0).val < 1 := (y 0).isLt
  match a with
  | ⟨0, _⟩ => show r.val + 1 * (y 0).val = r.val; omega
  | ⟨1, _⟩ => show 0 + 1 * (y 1).val = (y 1).val; omega

theorem readCov_put' (i : grid0.Coords) {sp : Space} (v : View sig .tc sp S2048x1024 .f32) (off off' : Fin 2 → ℕ) (hoff : off = ![512 * (i 1).val, 0]) (hoff' : off' = ![512 * (i 1).val, 0])
    (inb : ∀ a, off a + S512x1024.size a ≤ S2048x1024.size a) (inb' : ∀ a, off' a + S512x1024.size a ≤ S2048x1024.size a) (p : Vec F S512x1024 .f32) :
    v.readCov [⟨Rect.unit (s := S2048x1024) off ![512, 1024] inb, p⟩] (Rect.unit (s := S2048x1024) off' ![512, 1024] inb').toLoadRect = p :=
  readCov_put i v off off' hoff hoff' inb inb' p
theorem ld_take' (i : grid0.Coords) (off : Fin 2 → ℕ) (hoff : off = ![512 * (i 1).val, 0]) (inb : ∀ a, off a + S512x1024.size a ≤ S2048x1024.size a) (xs : Vec F S2048x1024 .f32) :
    View.ld xs (Rect.unit (s := S2048x1024) off ![512, 1024] inb) = take i xs := ld_take i off hoff inb xs

theorem ld_row0 (inb : ∀ a, (![0, 0] : Fin 2 → ℕ) a + S1x1024.size a ≤ S8x1024.size a) (x : Vec F S8x1024 .f32) :
    View.ld x (Rect.unit (s := S8x1024) ![0, 0] ![1, 1024] inb) = rowOf 0 x := ld_row 0 inb x
theorem ld_row1 (inb : ∀ a, (![1, 0] : Fin 2 → ℕ) a + S1x1024.size a ≤ S8x1024.size a) (x : Vec F S8x1024 .f32) :
    View.ld x (Rect.unit (s := S8x1024) ![1, 0] ![1, 1024] inb) = rowOf 1 x := ld_row 1 inb x
theorem ld_row2 (inb : ∀ a, (![2, 0] : Fin 2 → ℕ) a + S1x1024.size a ≤ S8x1024.size a) (x : Vec F S8x1024 .f32) :
    View.ld x (Rect.unit (s := S8x1024) ![2, 0] ![1, 1024] inb) = rowOf 2 x := ld_row 2 inb x

section
variable {sp : Space} (v : View sig .tc sp S8x1024 .f32)

/-- A stored row, and a row read back. -/
theorem read_putRow (f : v.ty.Contents (Elt F)) (n : ℕ) (hn : n < 8) (inb : ∀ a, (![n, 0] : Fin 2 → ℕ) a + S1x1024.size a ≤ S8x1024.size a)
    (p : Vec F S1x1024 .f32) (L : List (View.Piece (Elt F) S8x1024 .f32)) :
    v.read (Elt F) (v.writes (Elt F) f (⟨Rect.unit (s := S8x1024) ![n, 0] S1x1024.size inb, p⟩ :: L))
      = putRow ⟨n, hn⟩ (v.read (Elt F) (v.writes (Elt F) f L)) p := by
  funext y
  unfold putRow
  split
  · rename_i h
    exact View.read_writes_cons_rows_of_mem v f inb p L y (ix2 0 (y 1)) rfl h rfl
  · rename_i h
    refine View.read_writes_cons_rows_of_not_mem v f inb p L y rfl rfl (show (y 0).val < n ∨ n + 1 ≤ (y 0).val from ?_)
    have : (y 0).val ≠ n := h
    omega

theorem readCov_row (n : ℕ) (hn : n < 8) (inb : ∀ a, (![n, 0] : Fin 2 → ℕ) a + S1x1024.size a ≤ S8x1024.size a) (L : List (View.Piece (Elt F) S8x1024 .f32)) :
    v.readCov L (Rect.unit (s := S8x1024) ![n, 0] S1x1024.size inb).toLoadRect = rowOf ⟨n, hn⟩ (v.read (Elt F) (v.writes (Elt F) v.junk L)) := by
  rw [View.readCov_eq_canon', View.read_writes_junk_eq_canon]
  exact ld_row ⟨n, hn⟩ inb (View.canon L)

theorem read_fill' (f : v.ty.Contents (Elt F)) (inb : ∀ a, (![0, 0] : Fin 2 → ℕ) a + S8x1024.size a ≤ S8x1024.size a) (p : Vec F S8x1024 .f32) :
    v.read (Elt F) (v.writes (Elt F) f [⟨Rect.unit (s := S8x1024) ![0, 0] ![8, 1024] inb, p⟩]) = p :=
  funext fun y => View.read_writes_cons_unit_of_mem v f inb p [] y y rfl fun a => by fin_cases a <;> exact (Nat.zero_add _).symm
end

theorem rowOf_putRow (r r' : Fin 8) (h : r ≠ r') (x : Vec F S8x1024 .f32) (p : FVec F S1x1024 .f32) : rowOf r (putRow r' x p) = rowOf r x :=
  funext fun y => if_neg fun e => h (Fin.ext e)

/-- The gradient of the rows from the gradient of the normalised rows, and the residual line's. -/
def dxOf (x0 : Vec F S512x1024 .f32) (x1 : Vec F S8x1024 .f32) (x4 acc : Vec F S512x1024 .f32) : Vec F S512x1024 .f32 :=
  k0_pay4 x0 (k0_pay19 x0 (rowOf 0 x1) (rowOf 2 x1) acc) (k0_pay20 x0 (rowOf 0 x1) (rowOf 2 x1) acc) (Scalar.ofBits .f32 0x44800000#32) x4

/-- The sums over the rows, gone on with. -/
def dvOf (x0 : Vec F S512x1024 .f32) (x1 : Vec F S8x1024 .f32) (acc : Vec F S512x1024 .f32) (z : Vec F S8x1024 .f32) : Vec F S8x1024 .f32 :=
  putRow 2 (putRow 1 (putRow 0 z (k0_pay6 (k0_pay17 x0 (rowOf 2 x1) acc) (rowOf 0 z)))
      (k0_pay7 (k0_pay14 acc) (rowOf 1 z)))
      (k0_pay8 (k0_pay15 x0 (rowOf 0 x1) acc) (rowOf 2 z))

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S512x2432 .bf16) (harg4 : arg4.IsWhole) (arg5 : Memref sig .tc .vmem S2432x1024 .bf16) (harg5 : arg5.IsWhole)
  (arg6 : Memref sig .tc .vmem S512x1024 .f32) (harg6 : arg6.IsWhole)
  (arg7 : Memref sig .tc .vmem S512x1024 .f32) (harg7 : arg7.IsWhole) (arg8 : Memref sig .tc .vmem S8x1024 .f32) (harg8 : arg8.IsWhole)
  (arg9 : Memref sig .tc .vmem S2048x1024 .f32) (harg9 : arg9.IsWhole)
  (x0 : Vec F S512x1024 .f32) (x1 : Vec F S8x1024 .f32) (x2 : Vec F S512x2432 .bf16) (x3 : Vec F S2432x1024 .bf16)
  (x4 : Vec F S512x1024 .f32) (o5 : Vec F S512x1024 .f32) (o6 : Vec F S8x1024 .f32) (xs : Vec F S2048x1024 .f32)

theorem keptFirst (h1 : k0_cond1 i = 1#1) (h2 : ¬k0_cond2 i = 1#1) (h3 : ¬k0_cond3 i = 1#1) :
    arg9.view.read (Elt F) (arg9.view.writes (Elt F) (harg9.unread xs)
      (runFirst c i arg2 harg2 arg3 harg3 arg4 harg4 arg5 harg5 arg6 harg6 arg7 harg7 arg8 harg8 arg9 harg9 x0 x1 x2 x3 x4 h1 h2 h3 xs).1) = put i xs (k0_pay2 x2 x3) := by
  unfold runFirst
  dsimp only
  rw [read_put i _ _ _ (k0_off1_eq i)]
  simp only [View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i),
    ld_row0, ld_row1, ld_row2]

theorem keptNext (h1 : ¬k0_cond1 i = 1#1) (h2 : k0_cond2 i = 1#1) (h3 : ¬k0_cond3 i = 1#1) :
    arg9.view.read (Elt F) (arg9.view.writes (Elt F) (harg9.unread xs)
      (runNext c i arg2 harg2 arg3 harg3 arg4 harg4 arg5 harg5 arg6 harg6 arg7 harg7 arg8 harg8 arg9 harg9 x0 x1 x2 x3 x4 h1 h2 h3 xs).1) = put i xs (k0_pay3 x2 x3 (take i xs)) := by
  unfold runNext
  dsimp only
  rw [read_put i _ _ _ (k0_off2_eq i)]
  simp only [View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i),
    ld_row0, ld_row1, ld_row2]

theorem keptReset (h1 : ¬k0_cond1 i = 1#1) (h2 : k0_cond2 i = 1#1) (h3 : k0_cond3 i = 1#1) (h4 : k0_cond4 i = 1#1) :
    arg9.view.read (Elt F) (arg9.view.writes (Elt F) (harg9.unread xs)
      (runReset c i arg2 harg2 arg3 harg3 arg4 harg4 arg5 harg5 arg6 harg6 arg7 harg7 arg8 harg8 arg9 harg9 x0 x1 x2 x3 x4 h1 h2 h3 h4 o5 o6 xs).2.2.1) = put i xs (k0_pay3 x2 x3 (take i xs)) := by
  unfold runReset
  dsimp only
  unfold runReset.sl.HS_1
  rw [read_put i _ _ _ (k0_off2_eq i)]
  simp only [runReset.sl.v17, View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i),
    ld_row0, ld_row1, ld_row2]

theorem keptLast (h1 : ¬k0_cond1 i = 1#1) (h2 : k0_cond2 i = 1#1) (h3 : k0_cond3 i = 1#1) (h4 : ¬k0_cond4 i = 1#1) :
    arg9.view.read (Elt F) (arg9.view.writes (Elt F) (harg9.unread xs)
      (runLast c i arg2 harg2 arg3 harg3 arg4 harg4 arg5 harg5 arg6 harg6 arg7 harg7 arg8 harg8 arg9 harg9 x0 x1 x2 x3 x4 h1 h2 h3 h4 o5 o6 xs).2.2.1) = put i xs (k0_pay3 x2 x3 (take i xs)) := by
  unfold runLast
  dsimp only
  unfold runLast.sl.HS_1
  rw [read_put i _ _ _ (k0_off2_eq i)]
  simp only [runLast.sl.v17, View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i),
    ld_row0, ld_row1, ld_row2]

set_option maxHeartbeats 1000000 in
theorem dxReset (h1 : ¬k0_cond1 i = 1#1) (h2 : k0_cond2 i = 1#1) (h3 : k0_cond3 i = 1#1) (h4 : k0_cond4 i = 1#1) :
    arg7.view.read (Elt F) (arg7.view.writes (Elt F) (harg7.unread o5)
      (runReset c i arg2 harg2 arg3 harg3 arg4 harg4 arg5 harg5 arg6 harg6 arg7 harg7 arg8 harg8 arg9 harg9 x0 x1 x2 x3 x4 h1 h2 h3 h4 o5 o6 xs).1)
      = dxOf x0 x1 x4 (k0_pay3 x2 x3 (take i xs)) := by
  unfold runReset dxOf
  dsimp only
  simp only [runReset.sl.v39, runReset.sl.v17, runReset.sl.HS_1, runReset.sl.cst_22, readCov_put' i _ _ _ (k0_off2_eq i) (k0_off3_eq i), View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i), ld_take' i _ (k0_off2_eq i),
    ld_row0, ld_row1, ld_row2]
  exact funext fun y => View.read_writes_cons_unit_of_mem _ _ _ _ [] y y zero_off2 fun a => (Nat.zero_add _).symm

set_option maxHeartbeats 1000000 in
theorem dxLast (h1 : ¬k0_cond1 i = 1#1) (h2 : k0_cond2 i = 1#1) (h3 : k0_cond3 i = 1#1) (h4 : ¬k0_cond4 i = 1#1) :
    arg7.view.read (Elt F) (arg7.view.writes (Elt F) (harg7.unread o5)
      (runLast c i arg2 harg2 arg3 harg3 arg4 harg4 arg5 harg5 arg6 harg6 arg7 harg7 arg8 harg8 arg9 harg9 x0 x1 x2 x3 x4 h1 h2 h3 h4 o5 o6 xs).1)
      = dxOf x0 x1 x4 (k0_pay3 x2 x3 (take i xs)) := by
  unfold runLast dxOf
  dsimp only
  simp only [runLast.sl.v39, runLast.sl.v17, runLast.sl.HS_1, runLast.sl.cst_22, readCov_put' i _ _ _ (k0_off2_eq i) (k0_off3_eq i), View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i), ld_take' i _ (k0_off2_eq i),
    ld_row0, ld_row1, ld_row2]
  exact funext fun y => View.read_writes_cons_unit_of_mem _ _ _ _ [] y y zero_off2 fun a => (Nat.zero_add _).symm

set_option maxHeartbeats 1000000 in
theorem dvReset (h1 : ¬k0_cond1 i = 1#1) (h2 : k0_cond2 i = 1#1) (h3 : k0_cond3 i = 1#1) (h4 : k0_cond4 i = 1#1) :
    arg8.view.read (Elt F) (arg8.view.writes (Elt F) (harg8.unread o6)
      (runReset c i arg2 harg2 arg3 harg3 arg4 harg4 arg5 harg5 arg6 harg6 arg7 harg7 arg8 harg8 arg9 harg9 x0 x1 x2 x3 x4 h1 h2 h3 h4 o5 o6 xs).2.1)
      = dvOf x0 x1 (k0_pay3 x2 x3 (take i xs)) k0_pay5 := by
  unfold runReset dvOf
  dsimp only
  simp only [runReset.sl.v39, runReset.sl.v17, runReset.sl.HS_1, runReset.sl.v82, runReset.sl.H6_3, runReset.sl.H6_2, runReset.sl.H6_1, runReset.sl.v78, runReset.sl.v74, readCov_put' i _ _ _ (k0_off2_eq i) (k0_off3_eq i), View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i), ld_take' i _ (k0_off2_eq i),
    ld_row0, ld_row1, ld_row2]
  generalize k0_pay3 x2 x3 (take i xs) = acc
  simp only [read_putRow _ _ 0 (by decide), read_putRow _ _ 1 (by decide), read_putRow _ _ 2 (by decide),
    readCov_row _ 0 (by decide), readCov_row _ 1 (by decide), readCov_row _ 2 (by decide)]
  simp only [read_fill', rowOf_putRow _ _ (show (⟨2, by decide⟩ : Fin 8) ≠ ⟨1, by decide⟩ by decide), rowOf_putRow _ _ (show (⟨2, by decide⟩ : Fin 8) ≠ ⟨0, by decide⟩ by decide),
    rowOf_putRow _ _ (show (⟨1, by decide⟩ : Fin 8) ≠ ⟨0, by decide⟩ by decide)]
  rfl

set_option maxHeartbeats 1000000 in
theorem dvLast (h1 : ¬k0_cond1 i = 1#1) (h2 : k0_cond2 i = 1#1) (h3 : k0_cond3 i = 1#1) (h4 : ¬k0_cond4 i = 1#1) :
    arg8.view.read (Elt F) (arg8.view.writes (Elt F) (harg8.unread o6)
      (runLast c i arg2 harg2 arg3 harg3 arg4 harg4 arg5 harg5 arg6 harg6 arg7 harg7 arg8 harg8 arg9 harg9 x0 x1 x2 x3 x4 h1 h2 h3 h4 o5 o6 xs).2.1)
      = dvOf x0 x1 (k0_pay3 x2 x3 (take i xs)) o6 := by
  unfold runLast dvOf
  dsimp only
  simp only [runLast.sl.v39, runLast.sl.v17, runLast.sl.HS_1, runLast.sl.v78, runLast.sl.v82, readCov_put' i _ _ _ (k0_off2_eq i) (k0_off3_eq i), View.readAt_eq_ld, harg2.read_unread, harg3.read_unread, harg4.read_unread, harg5.read_unread, harg6.read_unread, harg8.read_unread, harg9.read_unread,
    View.ld_unit_zero (S := S512x2432) zero_off2, View.ld_unit_zero (S := S2432x1024) zero_off2, View.ld_unit_zero (S := S512x1024) zero_off2, ld_take i _ (k0_off2_eq i), ld_take' i _ (k0_off2_eq i),
    ld_row0, ld_row1, ld_row2]
  generalize k0_pay3 x2 x3 (take i xs) = acc
  simp only [read_putRow _ _ 0 (by decide), read_putRow _ _ 1 (by decide), read_putRow _ _ 2 (by decide),
    readCov_row _ 0 (by decide), readCov_row _ 1 (by decide), readCov_row _ 2 (by decide)]
  simp only [View.writes_nil, harg8.read_unread]
  rfl

end

end Cert.Kernel11Ideal.Gen

end
-- ==== Proof.ProjFrame.lean ====
/- The run of the call that takes the gradient through the input projections and the normalisation of the rows. -/
module

public import proofs.«01_k».proof.Proof.ProjPieces
public import Idealize.ShloMosaic.Lib.Claim

@[expose] public section

set_option maxRecDepth 16384

noncomputable section

namespace Cert.Kernel11Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is known between the points -/

/-- A point by its number. -/
abbrev pt (n : ℕ) : Fin cfg0.N := ⟨n % 12, lt_of_lt_of_eq (Nat.mod_lt _ (by decide)) N_0.symm⟩

theorem pt_val (t : Fin cfg0.N) : pt t.val = t := Fin.ext (Nat.mod_eq_of_lt (lt_of_lt_of_eq t.isLt N_0))

/-- Rows put in and taken out again, by the same point or by one of other rows. -/
theorem take_put (i j : grid0.Coords) (h : (i 1).val = (j 1).val) (xs : Vec F S2048x1024 .f32) (p : Vec F S512x1024 .f32) : take j (put i xs p) = p := by
  funext x
  have hi := row_lt i
  have hx : (x 0).val < 512 := (x 0).isLt
  have e : (Fin.ofNat 2048 (512 * (j 1).val + (x 0).val)).val = 512 * (i 1).val + (x 0).val := by
    show (512 * (j 1).val + (x 0).val) % 2048 = _
    omega
  refine (if_pos ?_).trans (congrArg p ?_)
  · show 512 * (i 1).val ≤ (Fin.ofNat 2048 (512 * (j 1).val + (x 0).val)).val ∧ (Fin.ofNat 2048 (512 * (j 1).val + (x 0).val)).val < _
    rw [e]; omega
  · refine (congrArg (fun r : Fin 512 => (ix2 r (x 1) : S512x1024.Idx)) (Fin.ext ?_)).trans (eq_ix2 x).symm
    show (Fin.ofNat 2048 (512 * (j 1).val + (x 0).val)).val % 512 = (x 0).val
    rw [e]; omega

theorem take_put_other (i j : grid0.Coords) (h : (i 1).val ≠ (j 1).val) (xs : Vec F S2048x1024 .f32) (p : Vec F S512x1024 .f32) :
    take j (put i xs p) = take j xs := by
  funext x
  have hi := row_lt i
  have hj := row_lt j
  have hx : (x 0).val < 512 := (x 0).isLt
  have e : (Fin.ofNat 2048 (512 * (j 1).val + (x 0).val)).val = 512 * (j 1).val + (x 0).val := by
    show (512 * (j 1).val + (x 0).val) % 2048 = _
    omega
  refine if_neg ?_
  show ¬(512 * (i 1).val ≤ (Fin.ofNat 2048 (512 * (j 1).val + (x 0).val)).val ∧ (Fin.ofNat 2048 (512 * (j 1).val + (x 0).val)).val < _)
  rw [e]; omega

/-- What the rows of block `j` hold after block `k` of the columns. -/
def part (c : Dev nD) (j : ℕ) : ℕ → Vec F S512x1024 .f32
  | 0 => k0_pay2 (iblk m c 2 (pt j)) (iblk m c 3 (pt j))
  | k + 1 => k0_pay3 (iblk m c 2 (pt (4 * (k + 1) + j))) (iblk m c 3 (pt (4 * (k + 1) + j))) (part c j k)

/-- The same by the point. -/
abbrev partAt (c : Dev nD) (n : ℕ) : Vec F S512x1024 .f32 := part m c (n % 4) (n / 4)

theorem partAt_first (c : Dev nD) (t : Fin cfg0.N) (h : t.val < 4) : k0_pay2 (iblk m c 2 t) (iblk m c 3 t) = partAt m c t.val := by
  have e : t.val / 4 = 0 := by omega
  unfold partAt
  rw [e]
  unfold part
  rw [Nat.mod_eq_of_lt h, pt_val]

theorem partAt_next (c : Dev nD) (t : Fin cfg0.N) (h : 4 ≤ t.val) :
    k0_pay3 (iblk m c 2 t) (iblk m c 3 t) (partAt m c (t.val - 4)) = partAt m c t.val := by
  have e : t.val / 4 = (t.val - 4) / 4 + 1 := by omega
  have e' : (t.val - 4) % 4 = t.val % 4 := by omega
  have e'' : 4 * ((t.val - 4) / 4 + 1) + t.val % 4 = t.val := by omega
  unfold partAt
  rw [e, e']
  conv_rhs => unfold part
  rw [e'', pt_val]

/-- What is known of the scratch before point `n`: the rows of the last four points. -/
def Known (c : Dev nD) (n : ℕ) (d : Vec F S2048x1024 .f32) : Prop :=
  ∀ t : Fin cfg0.N, t.val < n → n ≤ t.val + 4 → take (grid0.coords t) d = partAt m c t.val

theorem take_congr (t u : Fin cfg0.N) (h : t.val % 4 = u.val % 4) (d : Vec F S2048x1024 .f32) : take (grid0.coords t) d = take (grid0.coords u) d := by
  unfold take
  rw [coord1 t, coord1 u, h]

theorem known_next (c : Dev nD) (t : Fin cfg0.N) (d : Vec F S2048x1024 .f32) (h : Known m c t.val d) :
    Known m c (t.val + 1) (put (grid0.coords t) d (partAt m c t.val)) := by
  intro u hu hu'
  by_cases e : u = t
  · rw [e]; exact take_put _ _ rfl _ _
  · have e' : u.val ≠ t.val := fun h => e (Fin.ext h)
    rw [take_put_other _ _ (by rw [coord1, coord1]; omega)]
    exact h u (by omega) (by omega)

theorem known_take (c : Dev nD) (t : Fin cfg0.N) (d : Vec F S2048x1024 .f32) (h : Known m c t.val d) (ht : 4 ≤ t.val) :
    k0_pay3 (iblk m c 2 t) (iblk m c 3 t) (take (grid0.coords t) d) = partAt m c t.val := by
  rw [take_congr t ⟨t.val - 4, by have := t.isLt; omega⟩ (by show t.val % 4 = (t.val - 4) % 4; omega),
    h ⟨t.val - 4, by have := t.isLt; omega⟩ (by show t.val - 4 < t.val; omega) (by show t.val ≤ t.val - 4 + 4; omega)]
  exact partAt_next m c t ht

/-- The sums over the rows, after block `j` of them. -/
def sums (c : Dev nD) : ℕ → Vec F S8x1024 .f32
  | 0 => dvOf (iblk m c 0 (pt 8)) (iblk m c 1 (pt 8)) (partAt m c 8) k0_pay5
  | j + 1 => dvOf (iblk m c 0 (pt (9 + j))) (iblk m c 1 (pt (9 + j))) (partAt m c (9 + j)) (sums c j)

theorem sums_first (c : Dev nD) (t : Fin cfg0.N) (h : 8 ≤ t.val) (h' : t.val % 4 = 0) :
    dvOf (iblk m c 0 t) (iblk m c 1 t) (partAt m c t.val) k0_pay5 = sums m c (t.val % 4) := by
  have ht : t.val < 12 := lt_of_lt_of_eq t.isLt N_0
  have e : pt 8 = t := Fin.ext (show 8 % 12 = t.val by omega)
  have e' : t.val = 8 := by omega
  rw [h']
  unfold sums
  rw [e, e']

theorem sums_next (c : Dev nD) (t : Fin cfg0.N) (h : 8 ≤ t.val) (h' : ¬t.val % 4 = 0) :
    dvOf (iblk m c 0 t) (iblk m c 1 t) (partAt m c t.val) (sums m c ((t.val - 1) % 4)) = sums m c (t.val % 4) := by
  have ht : t.val < 12 := lt_of_lt_of_eq t.isLt N_0
  obtain ⟨j, hj⟩ : ∃ j, t.val = 9 + j := ⟨t.val - 9, by omega⟩
  have e : pt (9 + j) = t := Fin.ext (show (9 + j) % 12 = t.val by omega)
  have e' : t.val % 4 = j + 1 := by omega
  have e'' : (t.val - 1) % 4 = j := by omega
  rw [e', e'', hj]
  conv_rhs => unfold sums
  rw [e]

/-! ## The data of the run -/

abbrev stage0 (t : Fin cfg0.N) : Memref sig .tc .vmem S512x1024 .f32 := win0_0.stage (cfg0.slots t 0)
abbrev whole0 (t : Fin cfg0.N) : (stage0 t).IsWhole := hstage0_0 ((cfg0.slots t 0).cast nbuf0_0)
abbrev stage1 (t : Fin cfg0.N) : Memref sig .tc .vmem S8x1024 .f32 := win0_1.stage (cfg0.slots t 1)
abbrev whole1 (t : Fin cfg0.N) : (stage1 t).IsWhole := hstage0_1 ((cfg0.slots t 1).cast nbuf0_1)
abbrev stage2 (t : Fin cfg0.N) : Memref sig .tc .vmem S512x2432 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S2432x1024 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S512x1024 .f32 := win0_4.stage (cfg0.slots t 4)
abbrev whole4 (t : Fin cfg0.N) : (stage4 t).IsWhole := hstage0_4 ((cfg0.slots t 4).cast nbuf0_4)
abbrev stage5 (t : Fin cfg0.N) : Memref sig .tc .vmem S512x1024 .f32 := win0_5.stage (cfg0.slots t 5)
abbrev whole5 (t : Fin cfg0.N) : (stage5 t).IsWhole := hstage0_5 ((cfg0.slots t 5).cast nbuf0_5)
abbrev stage6 (t : Fin cfg0.N) : Memref sig .tc .vmem S8x1024 .f32 := win0_6.stage (cfg0.slots t 6)
abbrev whole6 (t : Fin cfg0.N) : (stage6 t).IsWhole := hstage0_6 ((cfg0.slots t 6).cast nbuf0_6)
abbrev carried : Memref sig .tc .vmem S2048x1024 .f32 := Memref.whole cc0_scratch0

theorem launch_rest (c : Dev nD) : (Pipeline.ΦA spec0 c : sProp 𝕄)
    = iprop(iprop((∃ d, owns (c : Thread nD τ) carried fullShare d)) ∗ (∃ r, prngReg c r)) := by
  unfold Pipeline.ΦA; rw [scopedRest0_eq]; simp only [carried, owns_whole]; try rfl

/-- Between the points the scratch is owned, with its last four blocks of rows known. -/
def between (c : Dev nD) (n : ℕ) : sProp 𝕄 :=
  iprop((∃ d, ⌜Known m c n d⌝ ∗ owns (c : Thread nD τ) carried fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxOf (iblk m c 0 t) (iblk m c 1 t) (iblk m c 4 t) (partAt m c t.val)
    | ⟨6, _⟩ => sums m c (t.val % 4)
  Φ t := between m c t.val
  q _ := fullShare
  owed _ := 0

theorem A_eq (c : Dev nD) (w : Fin cfg0.W) : (dats m 0 c).A w = V m c (Pipeline.arrRef spec0 w) := by
  dsimp only [dats]

theorem leaves0 (c : Dev nD) (t : Fin cfg0.N) : (dats m 0 c).after 0 t = iblk m c 0 t := by dsimp only [dats]
theorem finds0 (c : Dev nD) (t : Fin cfg0.N) (d) : (dats m 0 c).before 0 t d = iblk m c 0 t :=
  before0_0_of m (dats m 0 c) (A_eq m c 0) (leaves0 m c) t d
theorem exact0 (c : Dev nD) (t : Fin cfg0.N) : (dats m 0 c).leavesExact 0 t = owns (c : Thread nD τ) (stage0 t) fullShare (iblk m c 0 t) := by
  unfold Dat.leavesExact
  rw [(rfl : cfg0.idle 0 (grid0.coords t) = false), leaves0]
theorem leaves1 (c : Dev nD) (t : Fin cfg0.N) : (dats m 0 c).after 1 t = iblk m c 1 t := by dsimp only [dats]
theorem finds1 (c : Dev nD) (t : Fin cfg0.N) (d) : (dats m 0 c).before 1 t d = iblk m c 1 t :=
  before0_1_of m (dats m 0 c) (A_eq m c 1) (leaves1 m c) t d
theorem exact1 (c : Dev nD) (t : Fin cfg0.N) : (dats m 0 c).leavesExact 1 t = owns (c : Thread nD τ) (stage1 t) fullShare (iblk m c 1 t) := by
  unfold Dat.leavesExact
  rw [(rfl : cfg0.idle 1 (grid0.coords t) = false), leaves1]
theorem leaves2 (c : Dev nD) (t : Fin cfg0.N) : (dats m 0 c).after 2 t = iblk m c 2 t := by dsimp only [dats]
theorem finds2 (c : Dev nD) (t : Fin cfg0.N) (d) : (dats m 0 c).before 2 t d = iblk m c 2 t :=
  before0_2_of m (dats m 0 c) (A_eq m c 2) (leaves2 m c) t d
theorem exact2 (c : Dev nD) (t : Fin cfg0.N) : (dats m 0 c).leavesExact 2 t = owns (c : Thread nD τ) (stage2 t) fullShare (iblk m c 2 t) := by
  unfold Dat.leavesExact
  rw [(rfl : cfg0.idle 2 (grid0.coords t) = false), leaves2]
theorem leaves3 (c : Dev nD) (t : Fin cfg0.N) : (dats m 0 c).after 3 t = iblk m c 3 t := by dsimp only [dats]
theorem finds3 (c : Dev nD) (t : Fin cfg0.N) (d) : (dats m 0 c).before 3 t d = iblk m c 3 t :=
  before0_3_of m (dats m 0 c) (A_eq m c 3) (leaves3 m c) t d
theorem exact3 (c : Dev nD) (t : Fin cfg0.N) : (dats m 0 c).leavesExact 3 t = owns (c : Thread nD τ) (stage3 t) fullShare (iblk m c 3 t) := by
  unfold Dat.leavesExact
  rw [(rfl : cfg0.idle 3 (grid0.coords t) = false), leaves3]
theorem leaves4 (c : Dev nD) (t : Fin cfg0.N) : (dats m 0 c).after 4 t = iblk m c 4 t := by dsimp only [dats]
theorem finds4 (c : Dev nD) (t : Fin cfg0.N) (d) : (dats m 0 c).before 4 t d = iblk m c 4 t :=
  before0_4_of m (dats m 0 c) (A_eq m c 4) (leaves4 m c) t d
theorem exact4 (c : Dev nD) (t : Fin cfg0.N) : (dats m 0 c).leavesExact 4 t = owns (c : Thread nD τ) (stage4 t) fullShare (iblk m c 4 t) := by
  unfold Dat.leavesExact
  rw [(rfl : cfg0.idle 4 (grid0.coords t) = false), leaves4]
theorem leaves5 (c : Dev nD) (t : Fin cfg0.N) :
    (dats m 0 c).after 5 t = dxOf (iblk m c 0 t) (iblk m c 1 t) (iblk m c 4 t) (partAt m c t.val) := by dsimp only [dats]
theorem leaves6 (c : Dev nD) (t : Fin cfg0.N) : (dats m 0 c).after 6 t = sums m c (t.val % 4) := by dsimp only [dats]

theorem idle5 : ∀ t : Fin cfg0.N, t.val < 8 → cfg0.idle 5 (grid0.coords t) = true := by decide +kernel
theorem idle6 : ∀ t : Fin cfg0.N, t.val < 8 → cfg0.idle 6 (grid0.coords t) = true := by decide +kernel
theorem live5 : ∀ t : Fin cfg0.N, 8 ≤ t.val → cfg0.idle 5 (grid0.coords t) = false := by decide +kernel
theorem live6 : ∀ t : Fin cfg0.N, 8 ≤ t.val → cfg0.idle 6 (grid0.coords t) = false := by decide +kernel
theorem stays5 : ∀ t : Fin cfg0.N, t.val < 8 → (cfg0.win 5).flush t = false := by decide +kernel
theorem stays6 : ∀ t : Fin cfg0.N, t.val < 11 → (cfg0.win 6).flush t = false := by decide +kernel

theorem exact5 (c : Dev nD) (t : Fin cfg0.N) (h : 8 ≤ t.val) : (dats m 0 c).leavesExact 5 t
    = owns (c : Thread nD τ) (stage5 t) fullShare (dxOf (iblk m c 0 t) (iblk m c 1 t) (iblk m c 4 t) (partAt m c t.val)) := by
  unfold Dat.leavesExact
  rw [live5 t h, leaves5]
theorem exact6 (c : Dev nD) (t : Fin cfg0.N) (h : 8 ≤ t.val) : (dats m 0 c).leavesExact 6 t = owns (c : Thread nD τ) (stage6 t) fullShare (sums m c (t.val % 4)) := by
  unfold Dat.leavesExact
  rw [live6 t h, leaves6]

/-- After the first of the last four points, the sums are what the point before left. -/
theorem finds6 (c : Dev nD) (t : Fin cfg0.N) (h : 8 ≤ t.val) (h' : ¬t.val % 4 = 0) (d) : (dats m 0 c).before 6 t d = sums m c ((t.val - 1) % 4) := by
  have ht : t.val < 12 := lt_of_lt_of_eq t.isLt N_0
  rw [(dats m 0 c).before_of_pos 6 t (by omega) ((cfg0.win 6).fetch_out rfl t), stays6 ⟨t.val - 1, _⟩ (by show t.val - 1 < 11; omega), if_neg Bool.false_ne_true]
  unfold Dat.left
  rw [live6 ⟨t.val - 1, _⟩ (by show 8 ≤ t.val - 1; omega)]
  show (dats m 0 c).kept 6 ⟨t.val - 1, _⟩ d = _
  unfold Dat.kept
  rw [Pipeline.fill_of_clip_none 6 _ (fun _ => rfl) d ((dats m 0 c).after 6 _), Window.fill_cut]
  exact leaves6 m c _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [finds0, finds1, finds2, finds3, finds4]
  rw [show (dats m 0 c).owesAt () t.succ = (dats m 0 c).owesAt () t.castSucc from rfl,
    show (dats m 0 c).Φ t.castSucc = between m c t.val from rfl, show (dats m 0 c).Φ t.succ = between m c (t.val + 1) from rfl,
    exact0, exact1, exact2, exact3, exact4]
  unfold between
  have hN : t.val < 12 := lt_of_lt_of_eq t.isLt N_0
  by_cases h3 : 8 ≤ t.val
  · have c1 : ¬k0_cond1 (grid0.coords t) = 1#1 := fun h => absurd ((starts t).mp h) (by omega)
    have c2 : k0_cond2 (grid0.coords t) = 1#1 := (goes_on t).mpr (by omega)
    have c3 : k0_cond3 (grid0.coords t) = 1#1 := (ends t).mpr h3
    rw [exact5 m c t h3, exact6 m c t h3]
    by_cases h4 : t.val % 4 = 0
    · have c4 : k0_cond4 (grid0.coords t) = 1#1 := (resets t).mpr h4
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) (stage0 t) (whole0 t) (stage1 t) (whole1 t) (stage2 t) (whole2 t) (stage3 t) (whole3 t) (stage4 t) (whole4 t) (stage5 t) (whole5 t) (stage6 t) (whole6 t) carried (Memref.isWhole_whole _) (iblk m c 0 t) (iblk m c 1 t) (iblk m c 2 t) (iblk m c 3 t) (iblk m c 4 t) c1 c2 c3 c4 _ _ xs).2.2.2 Set.univ _)
      isplitl [H0 H1 H2 H3 H4]
      · unfold five
        isplitl [H0]; · iexact H0
        isplitl [H1]; · iexact H1
        isplitl [H2]; · iexact H2
        isplitl [H3]; · iexact H3
        iexact H4
      isplitl [H5]; · iexact H5
      isplitl [H6]; · iexact H6
      isplitl [HS]; · iexact HS
      unfold five
      iintro ⟨⟨H0, H1, H2, H3, H4⟩, H5, H6, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptReset _ _ _ _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; refine (dxReset _ _ _ _ _ _ _ _ _ _ _ _ _ _ _ _ _ _ _ _ _ _ _ _ _ _ _ _ _ _).trans (congrArg (dxOf (iblk m c 0 t) (iblk m c 1 t) (iblk m c 4 t)) ?_)
        exact known_take m c t xs hK (by omega)
      unfold owns; iexists _; isplitr; swap; · iexact H6
      ipureintro; refine (dvReset _ _ _ _ _ _ _ _ _ _ _ _ _ _ _ _ _ _ _ _ _ _ _ _ _ _ _ _ _ _).trans ?_
      rw [known_take m c t xs hK (by omega)]
      exact sums_first m c t h3 h4
    · have c4 : ¬k0_cond4 (grid0.coords t) = 1#1 := fun h => h4 ((resets t).mp h)
      simp only [finds6 m c t h3 h4]
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (stage0 t) (whole0 t) (stage1 t) (whole1 t) (stage2 t) (whole2 t) (stage3 t) (whole3 t) (stage4 t) (whole4 t) (stage5 t) (whole5 t) (stage6 t) (whole6 t) carried (Memref.isWhole_whole _) (iblk m c 0 t) (iblk m c 1 t) (iblk m c 2 t) (iblk m c 3 t) (iblk m c 4 t) c1 c2 c3 c4 _ _ xs).2.2.2 Set.univ _)
      isplitl [H0 H1 H2 H3 H4]
      · unfold five
        isplitl [H0]; · iexact H0
        isplitl [H1]; · iexact H1
        isplitl [H2]; · iexact H2
        isplitl [H3]; · iexact H3
        iexact H4
      isplitl [H5]; · iexact H5
      isplitl [H6]; · iexact H6
      isplitl [HS]; · iexact HS
      unfold five
      iintro ⟨⟨H0, H1, H2, H3, H4⟩, H5, H6, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptLast _ _ _ _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap; · iexact H5
        ipureintro; refine (dxLast _ _ _ _ _ _ _ _ _ _ _ _ _ _ _ _ _ _ _ _ _ _ _ _ _ _ _ _ _ _).trans (congrArg (dxOf (iblk m c 0 t) (iblk m c 1 t) (iblk m c 4 t)) ?_)
        exact known_take m c t xs hK (by omega)
      unfold owns; iexists _; isplitr; swap; · iexact H6
      ipureintro; refine (dvLast _ _ _ _ _ _ _ _ _ _ _ _ _ _ _ _ _ _ _ _ _ _ _ _ _ _ _ _ _ _).trans ?_
      rw [known_take m c t xs hK (by omega)]
      exact sums_next m c t h3 h4
  · have c3 : ¬k0_cond3 (grid0.coords t) = 1#1 := fun h => h3 ((ends t).mp h)
    rw [Dat.leavesExact_idle (dats m 0 c) 5 t (idle5 t (by omega)) (stays5 t (by omega)), Dat.leavesExact_idle (dats m 0 c) 6 t (idle6 t (by omega)) (stays6 t (by omega))]
    by_cases h1 : t.val < 4
    · have c1 : k0_cond1 (grid0.coords t) = 1#1 := (starts t).mpr h1
      have c2 : ¬k0_cond2 (grid0.coords t) = 1#1 := fun h => absurd ((goes_on t).mp h) (by omega)
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (stage0 t) (whole0 t) (stage1 t) (whole1 t) (stage2 t) (whole2 t) (stage3 t) (whole3 t) (stage4 t) (whole4 t) (stage5 t) (whole5 t) (stage6 t) (whole6 t) carried (Memref.isWhole_whole _) (iblk m c 0 t) (iblk m c 1 t) (iblk m c 2 t) (iblk m c 3 t) (iblk m c 4 t) c1 c2 c3 xs).2 _ _ Set.univ _)
      isplitl [H0 H1 H2 H3 H4]
      · unfold five
        isplitl [H0]; · iexact H0
        isplitl [H1]; · iexact H1
        isplitl [H2]; · iexact H2
        isplitl [H3]; · iexact H3
        iexact H4
      isplitl [H5]; · iexact H5
      isplitl [H6]; · iexact H6
      isplitl [HS]; · iexact HS
      unfold five
      iintro ⟨⟨H0, H1, H2, H3, H4⟩, H5, H6, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptFirst _ _ _ _ _ _ _ _ _ _ _ _ _ _ _ _ _ _ _ _ _ _ _ _ _ _ _ ).trans (congrArg (put (grid0.coords t) xs) ?_)
          exact partAt_first m c t h1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · have c1 : ¬k0_cond1 (grid0.coords t) = 1#1 := fun h => h1 ((starts t).mp h)
      have c2 : k0_cond2 (grid0.coords t) = 1#1 := (goes_on t).mpr (by omega)
      iintro ⟨⟨⟨%xs, %hK, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runNext c (grid0.coords t) (stage0 t) (whole0 t) (stage1 t) (whole1 t) (stage2 t) (whole2 t) (stage3 t) (whole3 t) (stage4 t) (whole4 t) (stage5 t) (whole5 t) (stage6 t) (whole6 t) carried (Memref.isWhole_whole _) (iblk m c 0 t) (iblk m c 1 t) (iblk m c 2 t) (iblk m c 3 t) (iblk m c 4 t) c1 c2 c3 xs).2 _ _ Set.univ _)
      isplitl [H0 H1 H2 H3 H4]
      · unfold five
        isplitl [H0]; · iexact H0
        isplitl [H1]; · iexact H1
        isplitl [H2]; · iexact H2
        isplitl [H3]; · iexact H3
        iexact H4
      isplitl [H5]; · iexact H5
      isplitl [H6]; · iexact H6
      isplitl [HS]; · iexact HS
      unfold five
      iintro ⟨⟨H0, H1, H2, H3, H4⟩, H5, H6, HS⟩
      isplitl [HS Hg]
      · isplitl [HS]
        · iexists put (grid0.coords t) xs (partAt m c t.val)
          isplitr
          · ipureintro; exact known_next m c t xs hK
          unfold owns; iexists _; isplitr; swap; · iexact HS
          ipureintro; refine (keptNext _ _ _ _ _ _ _ _ _ _ _ _ _ _ _ _ _ _ _ _ _ _ _ _ _ _ _ ).trans (congrArg (put (grid0.coords t) xs) ?_)
          exact known_take m c t xs hK (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_row (t : Fin cfg0.N) : defs₀ (F := F) .tc cfg0.body (cfg0.bodyArgs t (cfg0.slots t)) = bodyAt0 t := by
  unfold defs₀; rw [Defs.onTc_tc]

theorem body_holds (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = between m c 0 from rfl, launch_rest]
  unfold between
  iintro ⟨⟨%d, HS⟩, Hg⟩
  isplitl [HS]
  · iexists d
    isplitr
    · ipureintro; exact fun u h => absurd h (Nat.not_lt_zero _)
    iexact HS
  iexact Hg

theorem leaves (c : Dev nD) : (dats m 0 c).Φ (Fin.last cfg0.N) ⊢ Pipeline.ΦA spec0 c := by
  rw [show (dats m 0 c).Φ (Fin.last cfg0.N) = between m c (Fin.last cfg0.N).val from rfl, launch_rest]
  unfold between
  iintro ⟨⟨%d, _, HS⟩, Hg⟩
  isplitl [HS]
  · iexists d; iexact HS
  iexact Hg

/-! ## The run -/

-- the library's theorem is applied by matching its conclusion with this one, in which plain definitions have to be opened
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_holds m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.Kernel11Ideal.Gen

end
-- ==== Proof.ProjTile.lean ====
/- What a point of the input projections' gradient computes of its blocks, as numbers. -/
module

public import proofs.«01_k».proof.Proof.NormTile
public import proofs.«01_k».proof.Proof.ProjPieces

@[expose] public section

noncomputable section

namespace Cert.Kernel11Ideal.Gen

open Idealize.ShloMosaic Idealize.ShloMosaic.TcCoe Idealize.ShloMosaic.ValueIdx Cert.Attn Cert.Prod Cert.Norm

variable (x o a : Vec Ideal S512x1024 .f32) (r : Fin 512) (d : Fin 1024)

/-- The product of a block of the projections' gradient and a block of their weights. -/
theorem product_at (u : Vec Ideal S512x2432 .bf16) (v : Vec Ideal S2432x1024 .bf16) :
    k0_pay1 u v (ix2 r d) = ∑ k : Fin 2432, u (ix2 r k) * v (ix2 k d) := by
  unfold k0_pay1
  simp only [shapeCast_self]
  refine (Ideal.matmul_plain_apply (M := 512) (K := 2432) (N := 1024) (φ₁ := .bf16) (φ₂ := .bf16) none u v _ r d).trans ?_
  rw [constant_apply, zero_word, zero_add]

theorem first_at (u : Vec Ideal S512x2432 .bf16) (v : Vec Ideal S2432x1024 .bf16) :
    k0_pay2 u v (ix2 r d) = ∑ k : Fin 2432, u (ix2 r k) * v (ix2 k d) := by
  unfold k0_pay2
  simp only [shapeCast_self]
  exact product_at r d u v

theorem next_at (u : Vec Ideal S512x2432 .bf16) (v : Vec Ideal S2432x1024 .bf16) :
    k0_pay3 u v a (ix2 r d) = a (ix2 r d) + ∑ k : Fin 2432, u (ix2 r k) * v (ix2 k d) := by
  unfold k0_pay3
  simp only [shapeCast_self]
  exact congrArg (fun y : EReal => a (ix2 r d) + y) (product_at r d u v)

/-- The block of the row gradients at an index: the same numbers as in the gated layer. -/
theorem dxOf_at (v : Vec Ideal S8x1024 .f32) :
    dxOf x v o a (ix2 r d) = rowGrad (rowAt x r) (rowAt v 0) (rowAt v 2) (rowAt o r) (rowAt a r) d :=
  Cert.Kernel10Ideal.Gen.dxOf_at x o a r d v

theorem putRow_at (k : Fin 8) (z : Vec Ideal S8x1024 .f32) (y : FVec Ideal S1x1024 .f32) (q : Fin 8) :
    putRow k z y (ix2 q d) = if q.val = k.val then y (ix2 0 d) else z (ix2 q d) := rfl

/-- The sums with a block's added. There is no gate, so its row has a gradient of zeros. -/
theorem dvOf_at (v z : Vec Ideal S8x1024 .f32) (q : Fin 8) :
    dvOf x v a z (ix2 q d)
      = z (ix2 q d) + ∑ r : Fin 512, vectorGrad q.val (rowAt x r) (rowAt v 0) (rowAt v 2) 0 0 (rowAt a r) d := by
  unfold dvOf k0_pay6 k0_pay7 k0_pay8
  simp only [shapeCast_self, putRow_at]
  by_cases h2 : q.val = 2
  · obtain rfl : q = 2 := Fin.ext h2
    exact (if_pos rfl).trans (congrArg (fun y : EReal => z (ix2 2 d) + y) (Cert.Kernel10Ideal.Gen.scale_at x a _ d))
  refine (if_neg h2).trans ?_
  by_cases h1 : q.val = 1
  · obtain rfl : q = 1 := Fin.ext h1
    exact (if_pos rfl).trans (congrArg (fun y : EReal => z (ix2 1 d) + y) (Cert.Kernel10Ideal.Gen.shift_at a d))
  refine (if_neg h1).trans ?_
  by_cases h0 : q.val = 0
  · obtain rfl : q = 0 := Fin.ext h0
    exact (if_pos rfl).trans (congrArg (fun y : EReal => z (ix2 0 d) + y) (Cert.Kernel10Ideal.Gen.weight_at x a _ d))
  refine (if_neg h0).trans ?_
  by_cases h3 : q.val = 3
  · simp only [vectorGrad, if_neg h0, if_neg h1, if_neg h2, if_pos h3, Pi.zero_apply, zero_mul, Finset.sum_const_zero, add_zero]
  · simp only [vectorGrad, if_neg h0, if_neg h1, if_neg h2, if_neg h3, Finset.sum_const_zero, add_zero]

end Cert.Kernel11Ideal.Gen

end
-- ==== Proof.ProjModel.lean ====
/- Sums over the columns that the projections' call lays out, and three rows above five of zeros. -/
module

public import proofs.«01_k».proof.Proof.NormModel
public import proofs.«01_k».proof.Proof.ProdLayout

@[expose] public section

noncomputable section

namespace Cert.Proj

open Idealize.ShloMosaic Idealize.ShloMosaic.ValueIdx Cert.Attn Cert.Prod

/-- Three blocks of equal length are the whole range. -/
theorem sum_thirds {b n : ℕ} [NeZero n] (hn : n = b + b + b) (f : Fin n → EReal) :
    ∑ s ∈ Finset.range 3, ∑ k : Fin b, f (Fin.ofNat n (b * s + k.val)) = ∑ t : Fin n, f t := by
  have e : ∑ t : Fin n, f t = ∑ t : Fin n, f (Fin.ofNat n t.val) :=
    Finset.sum_congr rfl fun t _ => congrArg f (Fin.ext (Nat.mod_eq_of_lt t.isLt).symm)
  have e' : Finset.range n = Finset.range (b + b + b) := congrArg Finset.range hn
  rw [e, sum_fin_range (fun x => f (Fin.ofNat n x)) n, e', Finset.sum_range_add, Finset.sum_range_add,
    Finset.sum_range_succ, Finset.sum_range_succ, Finset.sum_range_one]
  simp only [Finset.sum_range, Nat.mul_zero, Nat.zero_add, Nat.mul_one, show b * 2 = b + b by omega]

section
variable (u : Fin 6832 → EReal) (v : Fin 32 → EReal)

/-- A segment of the columns laid out that is a segment of the projection's own columns. -/
theorem segment (p o w : ℕ) (h : ∀ x < w, col u v (p + x) = u (Fin.ofNat 6832 (o + x))) :
    ∑ x ∈ Finset.range w, col u v (p + x) = ∑ x ∈ Finset.range w, u (Fin.ofNat 6832 (o + x)) :=
  Finset.sum_congr rfl fun x hx => h x (Finset.mem_range.mp hx)

/-- A segment of zeros. -/
theorem segment_zero (p w : ℕ) (h : ∀ x < w, col u v (p + x) = 0) : ∑ x ∈ Finset.range w, col u v (p + x) = 0 :=
  Finset.sum_eq_zero fun x hx => h x (Finset.mem_range.mp hx)

/-- A sum over a range, cut in two. -/
theorem cut (f : ℕ → EReal) (p a b : ℕ) : ∑ x ∈ Finset.range (a + b), f (p + x) = ∑ x ∈ Finset.range a, f (p + x) + ∑ x ∈ Finset.range b, f (p + a + x) := by
  rw [Finset.sum_range_add]
  simp only [Nat.add_assoc]

set_option maxHeartbeats 1000000 in
/-- The columns laid out hold each column of the projection and each of the swapped copy once. -/
theorem sum_laid : ∑ j : Fin 7296, col u v j.val = ∑ e, u e + ∑ e, v e := by
  have eu : ∑ e, u e = ∑ x ∈ Finset.range 6832, u (Fin.ofNat 6832 (0 + x)) := by
    rw [← sum_fin_range (fun x => u (Fin.ofNat 6832 (0 + x))) 6832]
    exact Finset.sum_congr rfl fun t _ => congrArg u (Fin.ext (show t.val = (0 + t.val) % 6832 by have := t.isLt; omega))
  have ev : ∑ e, v e = ∑ x ∈ Finset.range 32, v (Fin.ofNat 32 x) := by
    rw [← sum_fin_range (fun x => v (Fin.ofNat 32 x)) 32]
    exact Finset.sum_congr rfl fun t _ => congrArg v (Fin.ext (Nat.mod_eq_of_lt t.isLt).symm)
  have el : ∑ j : Fin 7296, col u v j.val = ∑ x ∈ Finset.range 7296, col u v (0 + x) := by
    rw [← sum_fin_range (fun x => col u v (0 + x)) 7296]
    simp only [Nat.zero_add]
  rw [eu, ev, el]
  have r1 := cut (fun n => u (Fin.ofNat 6832 n)) 0 384 6448
  have r2 := cut (fun n => u (Fin.ofNat 6832 n)) 384 256 6192
  have r3 := cut (fun n => u (Fin.ofNat 6832 n)) 640 32 6160
  have r4 := cut (fun n => u (Fin.ofNat 6832 n)) 672 512 5648
  have r5 := cut (fun n => u (Fin.ofNat 6832 n)) 1184 1024 4624
  have r6 := cut (fun n => u (Fin.ofNat 6832 n)) 2208 1024 3600
  have r7 := cut (fun n => u (Fin.ofNat 6832 n)) 3232 512 3088
  have r8 := cut (fun n => u (Fin.ofNat 6832 n)) 3744 16 3072
  have l1 := cut (col u v) 0 3072 4224
  have l2 := cut (col u v) 3072 1024 3200
  have l3 := cut (col u v) 4096 1024 2176
  have l4 := cut (col u v) 5120 512 1664
  have l5 := cut (col u v) 5632 512 1152
  have l6 := cut (col u v) 6144 256 896
  have l7 := cut (col u v) 6400 32 864
  have l8 := cut (col u v) 6432 96 768
  have l9 := cut (col u v) 6528 32 736
  have l10 := cut (col u v) 6560 96 640
  have l11 := cut (col u v) 6656 16 624
  have l12 := cut (col u v) 6672 240 384
  simp only [Nat.reduceAdd] at r1 r2 r3 r4 r5 r6 r7 r8 l1 l2 l3 l4 l5 l6 l7 l8 l9 l10 l11 l12
  have s0 := segment u v 0 3760 3072 fun x hx => by
    unfold col
    rw [if_pos (by omega), Nat.zero_add]
  have s1 := segment u v 3072 2208 1024 fun x hx => by
    unfold col
    rw [if_neg (by omega), if_pos (by omega), Nat.add_sub_cancel_left]
  have s2 := segment u v 4096 1184 1024 fun x hx => by
    unfold col
    rw [if_neg (by omega), if_neg (by omega), if_pos (by omega), Nat.add_sub_cancel_left]
  have s3 := segment u v 5120 672 512 fun x hx => by
    unfold col
    rw [if_neg (by omega), if_neg (by omega), if_neg (by omega), if_pos (by omega), Nat.add_sub_cancel_left]
  have s4 := segment u v 5632 3232 512 fun x hx => by
    unfold col
    rw [if_neg (by omega), if_neg (by omega), if_neg (by omega), if_neg (by omega), if_pos (by omega), Nat.add_sub_cancel_left]
  have s5 := segment u v 6144 384 256 fun x hx => by
    unfold col
    rw [if_neg (by omega), if_neg (by omega), if_neg (by omega), if_neg (by omega), if_neg (by omega), if_pos (by omega), Nat.add_sub_cancel_left]
  have s6 := segment u v 6400 640 32 fun x hx => by
    unfold col
    rw [if_neg (by omega), if_neg (by omega), if_neg (by omega), if_neg (by omega), if_neg (by omega), if_neg (by omega), if_pos (by omega), Nat.add_sub_cancel_left]
  have s7 := segment_zero u v 6432 96 fun x hx => by
    unfold col
    rw [if_neg (by omega), if_neg (by omega), if_neg (by omega), if_neg (by omega), if_neg (by omega), if_neg (by omega), if_neg (by omega), if_pos (by omega)]
  have s8 : ∑ x ∈ Finset.range 32, col u v (6528 + x) = ∑ x ∈ Finset.range 32, v (Fin.ofNat 32 x) := by
    refine Finset.sum_congr rfl fun x hx => ?_
    have := Finset.mem_range.mp hx
    unfold col
    rw [if_neg (by omega), if_neg (by omega), if_neg (by omega), if_neg (by omega), if_neg (by omega), if_neg (by omega), if_neg (by omega), if_neg (by omega),
      if_pos (by omega), Nat.add_sub_cancel_left]
  have s9 := segment_zero u v 6560 96 fun x hx => by
    unfold col
    rw [if_neg (by omega), if_neg (by omega), if_neg (by omega), if_neg (by omega), if_neg (by omega), if_neg (by omega), if_neg (by omega), if_neg (by omega),
      if_neg (by omega), if_pos (by omega)]
  have s10 := segment u v 6656 3744 16 fun x hx => by
    unfold col
    rw [if_neg (by omega), if_neg (by omega), if_neg (by omega), if_neg (by omega), if_neg (by omega), if_neg (by omega), if_neg (by omega), if_neg (by omega),
      if_neg (by omega), if_neg (by omega), if_pos (by omega), Nat.add_sub_cancel_left]
  have s11 := segment_zero u v 6672 240 fun x hx => by
    unfold col
    rw [if_neg (by omega), if_neg (by omega), if_neg (by omega), if_neg (by omega), if_neg (by omega), if_neg (by omega), if_neg (by omega), if_neg (by omega),
      if_neg (by omega), if_neg (by omega), if_neg (by omega), if_pos (by omega)]
  have s12 := segment u v 6912 0 384 fun x hx => by
    unfold col
    rw [if_neg (by omega), if_neg (by omega), if_neg (by omega), if_neg (by omega), if_neg (by omega), if_neg (by omega), if_neg (by omega), if_neg (by omega),
      if_neg (by omega), if_neg (by omega), if_neg (by omega), if_neg (by omega), Nat.add_sub_cancel_left, Nat.zero_add]
  rw [l1, l2, l3, l4, l5, l6, l7, l8, l9, l10, l11, l12, s0, s1, s2, s3, s4, s5, s6, s7, s8, s9, s10, s11, s12, r1, r2, r3, r4, r5, r6, r7, r8]
  abel

end

/-- A product over the columns laid out is the product over the projection's columns and the one over the swapped copy's. -/
theorem sum_product (a a' : Fin 6832 → EReal) (b b' : Fin 32 → EReal) :
    ∑ j : Fin 7296, col a b j.val * col a' b' j.val = ∑ e, a e * a' e + ∑ e, b e * b' e := by
  rw [← sum_laid (fun e => a e * a' e) (fun e => b e * b' e)]
  refine Finset.sum_congr rfl fun j _ => ?_
  obtain ⟨e, he⟩ | ⟨e, he⟩ | he := col_cases j.val
  · simp only [he]
  · simp only [he]
  · simp only [he]
    exact zero_mul _

/-- Three rows and a block of five more. -/
abbrev rows (x0 x1 x2 : (Mat 1 1024).Idx → EReal) (z : (Mat 5 1024).Idx → EReal) : List ((s : Shape) × (s.Idx → EReal)) :=
  [⟨Mat 1 1024, x0⟩, ⟨Mat 1 1024, x1⟩, ⟨Mat 1 1024, x2⟩, ⟨Mat 5 1024, z⟩]

/-- The same, put one below the other. -/
theorem stack_apply (x0 x1 x2 : (Mat 1 1024).Idx → EReal) (z : (Mat 5 1024).Idx → EReal)
    (h : Shape.Concatenates [Mat 1 1024, Mat 1 1024, Mat 1 1024, Mat 5 1024] (Mat 8 1024) (0 : Fin 2)) (q : Fin 8) (d : Fin 1024) :
    concatenate (Mat 8 1024) (0 : Fin 2) [⟨Mat 1 1024, x0⟩, ⟨Mat 1 1024, x1⟩, ⟨Mat 1 1024, x2⟩, ⟨Mat 5 1024, z⟩] h (ix2 q d)
      = if q.val = 0 then x0 (ix2 0 d) else if q.val = 1 then x1 (ix2 0 d) else if q.val = 2 then x2 (ix2 0 d)
        else z (ix2 (Fin.ofNat 5 (q.val - 3)) d) := by
  have hq := q.isLt
  split
  · rename_i h0
    exact concatenate_apply_piece (t := Mat 8 1024) (0 : Fin 2) (rows x0 x1 x2 z) h (ix2 q d) 0 (by show 0 < 4; decide) _ x0 rfl rfl 0 rfl (ix2 0 d)
      (fun b hb => match b with | ⟨0, _⟩ => absurd rfl hb | ⟨1, _⟩ => rfl) (show 0 + 0 = q.val by omega)
  split
  · rename_i h0 h1
    exact concatenate_apply_piece (t := Mat 8 1024) (0 : Fin 2) (rows x0 x1 x2 z) h (ix2 q d) 1 (by show 1 < 4; decide) _ x1 rfl rfl 1 rfl (ix2 0 d)
      (fun b hb => match b with | ⟨0, _⟩ => absurd rfl hb | ⟨1, _⟩ => rfl) (show 1 + 0 = q.val by omega)
  split
  · rename_i h0 h1 h2
    exact concatenate_apply_piece (t := Mat 8 1024) (0 : Fin 2) (rows x0 x1 x2 z) h (ix2 q d) 2 (by show 2 < 4; decide) _ x2 rfl rfl 2 rfl (ix2 0 d)
      (fun b hb => match b with | ⟨0, _⟩ => absurd rfl hb | ⟨1, _⟩ => rfl) (show 2 + 0 = q.val by omega)
  · refine concatenate_apply_piece (t := Mat 8 1024) (0 : Fin 2) (rows x0 x1 x2 z) h (ix2 q d) 3 (by show 3 < 4; decide) _ z rfl rfl 3 rfl (ix2 (Fin.ofNat 5 (q.val - 3)) d)
      (fun b hb => match b with | ⟨0, _⟩ => absurd rfl hb | ⟨1, _⟩ => rfl) ?_
    show 3 + (q.val - 3) % 5 = q.val
    omega

end Cert.Proj

end
-- ==== Proof.ProjReference.lean ====
/- The reference's gradients of the input projections' norm at an index. -/
module

public import proofs.«01_k».proof.Proof.NormReference
public import proofs.«01_k».proof.Proof.ProjModel
public import proofs.«01_k».proof.Proof.Gen.Reference11Ideal.Run
public import proofs.«01_k».proof.Proof.Gen.Reference11Ideal.Read

@[expose] public section

noncomputable section

namespace Cert.ProjReference

open Idealize.ShloMosaic Idealize.ShloMosaic.TcCoe Idealize.ShloMosaic.ValueIdx Cert.Attn Cert.Prod Cert.Norm
open Cert.NormReference (vec)
open Cert.Reference11Ideal Cert.Reference11Ideal.Read

variable (X O : FVec Ideal S2048x1024 .f32) (W S : FVec Ideal S1024 .f32) (U : FVec Ideal S1024x6832 .f32) (D : FVec Ideal S2048x6832 .f32)
  (E : FVec Ideal S2048x32 .f32) (t : Fin 2048) (d : Fin 1024)

/-- The weight of the rope key's columns, their halves swapped. -/
abbrev swapped (U : FVec Ideal S1024x6832 .f32) : FVec Ideal S1024x32 .f32 := val_main_v3 (F := Ideal) U

/-- The same columns, cut from the weight directly. -/
theorem swapped_eq (h1 : S1024x6832.Slices ![0, 656] S1024x16) (h2 : S1024x6832.Slices ![0, 640] S1024x16)
    (h3 : Shape.Concatenates [S1024x16, S1024x16] S1024x32 (1 : Fin 2)) :
    concatenate S1024x32 1 [⟨S1024x16, extractStridedSlice S1024x16 ![0, 656] U h1⟩, ⟨S1024x16, extractStridedSlice S1024x16 ![0, 640] U h2⟩] h3 = swapped U := by
  have e1 : extractStridedSlice S1024x16 ![0, 656] U h1 = val_main_v1 (F := Ideal) U := by
    funext i
    obtain ⟨r, e, rfl⟩ : ∃ (r : Fin 1024) (e : Fin 16), i = (ix2 r e : S1024x16.Idx) := ⟨i 0, i 1, eq_ix2 (n0 := 1024) (n1 := 16) i⟩
    have he := e.isLt
    rw [val_main_v1_apply, val_main_v0_apply]
    refine columns_apply U h1 r e (⟨656 + e.val, by omega⟩ : Fin 6832) rfl |>.trans (congrArg U (at2 _ _ _ rfl ?_).symm)
    show 640 + (16 + e.val) = 656 + e.val
    omega
  have e2 : extractStridedSlice S1024x16 ![0, 640] U h2 = val_main_v2 (F := Ideal) U := by
    funext i
    obtain ⟨r, e, rfl⟩ : ∃ (r : Fin 1024) (e : Fin 16), i = (ix2 r e : S1024x16.Idx) := ⟨i 0, i 1, eq_ix2 (n0 := 1024) (n1 := 16) i⟩
    have he := e.isLt
    rw [val_main_v2_apply, val_main_v0_apply]
    exact columns_apply U h2 r e (⟨640 + e.val, by omega⟩ : Fin 6832) rfl |>.trans (congrArg U (at2 _ _ _ rfl rfl).symm)
  rw [e1, e2]
  rfl

/-- The gradient of the modulated rows, from the projections and from the swapped copy. -/
def mixGrad (U : FVec Ideal S1024x6832 .f32) (D : FVec Ideal S2048x6832 .f32) (E : FVec Ideal S2048x32 .f32) (t : Fin 2048) : Row := fun d =>
  ∑ k : Fin 6832, D (ix2 t k) * U (ix2 d k) + ∑ k : Fin 32, E (ix2 t k) * swapped U (ix2 d k)

theorem square_at : val_main_v10 (F := Ideal) X (ix2 t (0 : Fin 1)) = square (rowAt X t) := by
  rw [val_main_v10_apply, val_main_v8_apply, val_main_v6_apply, val_main_v5_apply, val_main_v7_apply, val_main_v9_apply]
  refine congrArg (fun y : EReal => Ideal.div y count + small) ?_
  refine Eq.trans (b := Ideal.ofBits .f32 0x00000000#32 + ∑ k : Fin 1024, _) rfl ?_
  rw [zero_word, zero_add]
  refine Finset.sum_congr rfl fun k _ => ?_
  rw [val_main_v4_apply, at2 (idx_main_v5 (idx_main_v6 (ix2 t (0 : Fin 1))) k) t k rfl rfl]
  rfl

theorem factor_at : val_main_v11 (F := Ideal) X (ix2 t (0 : Fin 1)) = factor (rowAt X t) := by
  rw [val_main_v11_apply]
  exact congrArg Ideal.rsqrt (square_at X t)

theorem normed_at : val_main_v16 (F := Ideal) X (ix2 t d) = normed (rowAt X t) d := by
  rw [val_main_v16_apply, val_main_v15_apply, at2 (idx_main_v15 (ix2 t d)) t (0 : Fin 1) rfl rfl]
  exact congrArg (fun y : EReal => X (ix2 t d) * y) (factor_at X t)

theorem mod_at : val_main_v32 (F := Ideal) U D E (ix2 t d) = mixGrad U D E t d := by
  rw [val_main_v32_apply, val_main_v30_apply, val_main_v31_apply]
  refine (congrArg₂ (fun y z : EReal => y + z) (Finset.sum_congr rfl fun k _ => ?_) (Finset.sum_congr rfl fun k _ => ?_)).trans (add_comm _ _)
  · rw [at2 (lidx_main_v30 (ix2 t d) k) t k rfl rfl, at2 (ridx_main_v30 (ix2 t d) k) d k rfl rfl]
  · rw [at2 (lidx_main_v31 (ix2 t d) k) t k rfl rfl, at2 (ridx_main_v31 (ix2 t d) k) d k rfl rfl]

theorem back_at : val_main_v40 (F := Ideal) S U D E (ix2 t d) = back (vec S) (mixGrad U D E t) d := by
  rw [val_main_v40_apply, val_main_v39_apply, val_main_v22_apply, val_main_v21_apply, val_main_v20_apply,
    at1 (idx_main_v20 (idx_main_v39 (ix2 t d))) d rfl]
  exact congrArg (fun y : EReal => y * (one + S (ix1 d))) (mod_at U D E t d)

theorem weighted_at : val_main_v46 (F := Ideal) W S U D E (ix2 t d) = back (vec S) (mixGrad U D E t) d * W (ix1 d) := by
  rw [val_main_v46_apply, val_main_v45_apply, val_main_v17_apply, at1 (idx_main_v17 (idx_main_v45 (ix2 t d))) d rfl]
  exact congrArg (fun y : EReal => y * W (ix1 d)) (back_at S U D E t d)

theorem slope_at : val_main_v57 (F := Ideal) X W S U D E (ix1 t) = slope (rowAt X t) (vec W) (vec S) (mixGrad U D E t) := by
  rw [val_main_v57_apply]
  refine Eq.trans (b := Ideal.ofBits .f32 0x00000000#32 + ∑ k : Fin 1, _) rfl ?_
  rw [zero_word, zero_add, Fin.sum_univ_one, at2 (idx_main_v57 (ix1 t) 0) t (0 : Fin 1) rfl rfl, val_main_v56_apply, val_main_v55_apply,
    val_main_v54_apply, val_main_v50_apply, val_main_v49_apply, val_main_v14_apply, val_main_v13_apply, val_main_v12_apply]
  refine congrArg₂ (fun y z : EReal => Ideal.div (y * z) count) ?_
    (congrArg₂ (fun y z : EReal => half * Ideal.div y z) (factor_at X t) (square_at X t))
  refine Eq.trans (b := Ideal.ofBits .f32 0x00000000#32 + ∑ k : Fin 1024, _) rfl ?_
  rw [zero_word, zero_add]
  refine Finset.sum_congr rfl fun k _ => ?_
  have ht := t.isLt
  rw [at2 (idx_main_v49 (idx_main_v50 (ix2 t (0 : Fin 1))) k) t k (show t.val * 1 + 0 = t.val by omega) rfl, val_main_v48_apply]
  exact congrArg (fun y : EReal => X (ix2 t k) * y) (weighted_at W S U D E t k)

/-- The gradient of the rows. -/
theorem rows_at : val_main_v62 (F := Ideal) X W S U D E O (ix2 t d) = rowGrad (rowAt X t) (vec W) (vec S) (rowAt O t) (mixGrad U D E t) d := by
  have e := slope_at X W S U D E t
  rw [val_main_v62_apply, val_main_v61_apply, val_main_v60_apply, val_main_v59_apply, val_main_v58_apply, val_main_v53_apply, val_main_v52_apply,
    val_main_v51_apply, at2 (idx_main_v51 (ix2 t d)) t (0 : Fin 1) rfl rfl, at1 (idx_main_v58 (ix2 t d)) t rfl, e, weighted_at, factor_at]
  refine Eq.trans ?_ (add_assoc (G := EReal) _ _ _)
  exact congrArg (fun y : EReal => y + _) (add_assoc (G := EReal) _ _ _)

/-! ## The sums over the rows -/

theorem shift_at : val_main_v35 (F := Ideal) U D E (ix1 d) = ∑ t : Fin 2048, mixGrad U D E t d := by
  rw [val_main_v35_apply]
  refine Eq.trans (b := Ideal.ofBits .f32 0x00000000#32 + ∑ k : Fin 1, _) rfl ?_
  rw [zero_word, zero_add, Fin.sum_univ_one, val_main_v34_apply, val_main_v33_apply]
  refine Eq.trans (b := Ideal.ofBits .f32 0x00000000#32 + ∑ k : Fin 2048, _) rfl ?_
  rw [zero_word, zero_add]
  refine Finset.sum_congr rfl fun t _ => ?_
  rw [at2 (idx_main_v33 (idx_main_v34 (idx_main_v35 (ix1 d) 0)) t) t d rfl (show 0 * 1024 + d.val = d.val by omega)]
  exact mod_at U D E t d

theorem scale_at : val_main_v41 (F := Ideal) X W U D E (ix1 d) = ∑ t : Fin 2048, normed (rowAt X t) d * W (ix1 d) * mixGrad U D E t d := by
  rw [val_main_v41_apply]
  refine Eq.trans (b := Ideal.ofBits .f32 0x00000000#32 + ∑ k : Fin 1, _) rfl ?_
  rw [zero_word, zero_add, Fin.sum_univ_one, val_main_v38_apply, val_main_v37_apply]
  refine Eq.trans (b := Ideal.ofBits .f32 0x00000000#32 + ∑ k : Fin 2048, _) rfl ?_
  rw [zero_word, zero_add]
  refine Finset.sum_congr rfl fun t _ => ?_
  rw [at2 (idx_main_v37 (idx_main_v38 (idx_main_v41 (ix1 d) 0)) t) t d rfl (show 0 * 1024 + d.val = d.val by omega), val_main_v36_apply,
    val_main_v19_apply, val_main_v18_apply, val_main_v17_apply, at1 (idx_main_v17 (idx_main_v18 (ix2 t d))) d rfl]
  exact congrArg₂ (fun y z : EReal => y * W (ix1 d) * z) (normed_at X t d) (mod_at U D E t d)

theorem weight_at : val_main_v47 (F := Ideal) X S U D E (ix1 d) = ∑ t : Fin 2048, normed (rowAt X t) d * back (vec S) (mixGrad U D E t) d := by
  rw [val_main_v47_apply]
  refine Eq.trans (b := Ideal.ofBits .f32 0x00000000#32 + ∑ k : Fin 1, _) rfl ?_
  rw [zero_word, zero_add, Fin.sum_univ_one, val_main_v44_apply, val_main_v43_apply]
  refine Eq.trans (b := Ideal.ofBits .f32 0x00000000#32 + ∑ k : Fin 2048, _) rfl ?_
  rw [zero_word, zero_add]
  refine Finset.sum_congr rfl fun t _ => ?_
  rw [at2 (idx_main_v43 (idx_main_v44 (idx_main_v47 (ix1 d) 0)) t) t d rfl (show 0 * 1024 + d.val = d.val by omega), val_main_v42_apply]
  exact congrArg₂ (fun y z : EReal => y * z) (normed_at X t d) (back_at S U D E t d)

/-- The gradients of the vectors: there is no gate. -/
theorem vectors_at (q : Fin 8) : val_main_v67 (F := Ideal) X W S U D E (ix2 q d)
    = ∑ t : Fin 2048, vectorGrad q.val (rowAt X t) (vec W) (vec S) 0 0 (mixGrad U D E t) d := by
  unfold val_main_v67
  refine (Cert.Proj.stack_apply _ _ _ _ _ q d).trans ?_
  by_cases h0 : q.val = 0
  · simp only [vectorGrad, if_pos h0]
    rw [val_main_v63_apply, at1 (idx_main_v63 (ix2 (0 : Fin 1) d)) d rfl]
    exact weight_at X S U D E d
  by_cases h1 : q.val = 1
  · simp only [vectorGrad, if_neg h0, if_pos h1]
    rw [val_main_v64_apply, at1 (idx_main_v64 (ix2 (0 : Fin 1) d)) d rfl]
    exact shift_at U D E d
  by_cases h2 : q.val = 2
  · simp only [vectorGrad, if_neg h0, if_neg h1, if_pos h2]
    rw [val_main_v65_apply, at1 (idx_main_v65 (ix2 (0 : Fin 1) d)) d rfl]
    exact scale_at X W U D E d
  · simp only [vectorGrad, if_neg h0, if_neg h1, if_neg h2, Pi.zero_apply, zero_mul, ite_self, Finset.sum_const_zero]
    rw [val_main_v66_apply]
    exact zero_word

end Cert.ProjReference

end
-- ==== Proof.ProjValue.lean ====
/- What the gradient of the input projections leaves in its two results: the reference's gradients. -/
module

public import proofs.«01_k».proof.Proof.ProjFrame
public import proofs.«01_k».proof.Proof.ProjTile
public import proofs.«01_k».proof.Proof.ProjReference
public import proofs.«01_k».proof.Proof.ProdIn

@[expose] public section

noncomputable section

namespace Cert.Kernel11Ideal.Gen

open Idealize.ShloMosaic Idealize.ShloMosaic.TcCoe Idealize.ShloMosaic.Tactic Idealize.ShloMosaic.ValueIdx Cert.Attn Cert.Prod Cert.Norm
open Cert.NormReference (vec)
open Cert.ProjReference (mixGrad swapped)
open Cert.Kernel4Ideal.Gen (fill fill_apply)
open Idealize.SL.Sem
open Idealize.ShloMosaic.Pipeline (Dat)

variable (m : (ℓ : Loc nD τ sig) → Buf (Elt Ideal) ℓ) (ρ : Dev nD → PrngReg) (c : Dev nD)

/-! ## What the host hands to the call -/

abbrev argX : FVec Ideal S2048x1024 .f32 := m (c, main_arg0)
abbrev argW : FVec Ideal S1024 .f32 := m (c, main_arg1)
abbrev argB : FVec Ideal S1024 .f32 := m (c, main_arg2)
abbrev argS : FVec Ideal S1024 .f32 := m (c, main_arg3)
abbrev argU : FVec Ideal S1024x6832 .f32 := m (c, main_arg4)
abbrev argD : FVec Ideal S2048x6832 .f32 := m (c, main_arg5)
abbrev argE : FVec Ideal S2048x32 .f32 := m (c, main_arg6)
abbrev argO : FVec Ideal S2048x1024 .f32 := m (c, main_arg7)

abbrev line (w : FVec Ideal S1024 .f32) : FVec Ideal S1x1024 .f32 := broadcastInDim S1x1024 ![1] bcast_S1024_S1x1024_1 w

theorem line_apply (w : FVec Ideal S1024 .f32) (d : Fin 1024) : line w (ix2 0 d) = w (ix1 d) :=
  broadcastInDim_apply _ _ _ (ix2 (0 : Fin 1) d) (ix1 d) fun k => match k with | ⟨0, _⟩ => rfl

/-- The weight's columns in the order of the call. -/
abbrev laidRows (y : FVec Ideal S1024x6832 .f32) (z : FVec Ideal S1024x32 .f32) : FVec Ideal S1024x7296 .f32 :=
  concatenate S1024x7296 1 [⟨S1024x3072, extractStridedSlice S1024x3072 ![0, 3760] y slices_S1024x6832_S1024x3072_0_3760⟩,
    ⟨S1024x1024, extractStridedSlice S1024x1024 ![0, 2208] y slices_S1024x6832_S1024x1024_0_2208⟩,
    ⟨S1024x1024, extractStridedSlice S1024x1024 ![0, 1184] y slices_S1024x6832_S1024x1024_0_1184⟩,
    ⟨S1024x512, extractStridedSlice S1024x512 ![0, 672] y slices_S1024x6832_S1024x512_0_672⟩,
    ⟨S1024x512, extractStridedSlice S1024x512 ![0, 3232] y slices_S1024x6832_S1024x512_0_3232⟩,
    ⟨S1024x256, extractStridedSlice S1024x256 ![0, 384] y slices_S1024x6832_S1024x256_0_384⟩,
    ⟨S1024x128, pad S1024x128 ![0, 0] ![0, 96] ![0, 0] (extractStridedSlice S1024x32 ![0, 640] y slices_S1024x6832_S1024x32_0_640) fill
      pads_S1024x32_S1024x128_000_0960 h_S_⟩,
    ⟨S1024x128, pad S1024x128 ![0, 0] ![0, 96] ![0, 0] z fill pads_S1024x32_S1024x128_000_0960 h_S_⟩,
    ⟨S1024x128, pad S1024x128 ![0, 0] ![0, 112] ![0, 0] (extractStridedSlice S1024x16 ![0, 3744] y slices_S1024x6832_S1024x16_0_3744) fill
      pads_S1024x16_S1024x128_000_01120 h_S_⟩,
    ⟨S1024x128, broadcastInDim S1024x128 ![] bcast_S_S1024x128 (constant S_ .f32 0x00000000#32)⟩,
    ⟨S1024x384, extractStridedSlice S1024x384 ![0, 0] y slices_S1024x6832_S1024x384_0_0⟩]
    concatenates_S1024x3072_S1024x1024_S1024x1024_S1024x512_S1024x512_S1024x256_S1024x128_S1024x128_S1024x128_S1024x128_S1024x384_S1024x7296_d1

theorem laidRows_apply (y : FVec Ideal S1024x6832 .f32) (z : FVec Ideal S1024x32 .f32) (t : Fin 1024) (j : Fin 7296) :
    laidRows y z (ix2 t j) = Cert.Prod.col (fun e => y (ix2 t e)) (fun e => z (ix2 t e)) j.val := by
  refine joined_apply (n := 1024) (A := y) (B := z) ⟨?_, ?_, ?_, ?_, ?_, ?_, ?_, ?_, ?_, ?_, ?_⟩ _ t j
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => columns_apply y _ r e _ (Nat.mod_eq_of_lt (by have := e.isLt; omega))
  · exact fun r e => filled_apply _ fill _ _ (fill_apply _) r e _ fun he => columns_apply y _ r _ _ (Nat.mod_eq_of_lt (by show 640 + e.val < 6832; omega))
  · exact fun r e => filled_apply z fill _ _ (fill_apply _) r e _ fun he => congrArg (fun a => z (ix2 r a)) (Fin.ext (Nat.mod_eq_of_lt he).symm)
  · exact fun r e => filled_apply _ fill _ _ (fill_apply _) r e _ fun he => columns_apply y _ r _ _ (Nat.mod_eq_of_lt (by show 3744 + e.val < 6832; omega))
  · exact fun r e => zero_word
  · exact fun r e => columns_apply y _ r e _ ((Nat.mod_eq_of_lt (by have := e.isLt; omega)).trans (Nat.zero_add _).symm)

set_option maxHeartbeats 4000000 in
theorem entry_vec (q : Fin 8) (d : Fin 1024) : V m c main_v4 (ix2 q d)
    = if q.val = 0 then line (argW m c) (ix2 0 d) else if q.val = 1 then line (argB m c) (ix2 0 d) else if q.val = 2 then line (argS m c) (ix2 0 d)
      else (0 : EReal) := by
  have e : V m c main_v4 = concatenate S8x1024 0 (Cert.Proj.rows (line (argW m c)) (line (argB m c)) (line (argS m c))
      (broadcastInDim S5x1024 ![] bcast_S_S5x1024 (constant (F := Ideal) S_ .f32 0x00000000#32))) concatenates_S1x1024_S1x1024_S1x1024_S5x1024_S8x1024_d0 := by
    unfold V
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    after_results
    rfl
  rw [e]
  refine (Cert.Proj.stack_apply _ _ _ _ _ q d).trans ?_
  have e0 : broadcastInDim S5x1024 ![] bcast_S_S5x1024 (constant (F := Ideal) S_ .f32 0x00000000#32) (ix2 (Fin.ofNat 5 (q.val - 3)) d) = (0 : EReal) := zero_word
  rw [e0]

set_option maxHeartbeats 4000000 in
theorem entry_proj : V m c main_v22 = (truncf .bf16 (Cert.Kernel4Ideal.Gen.laid (argD m c) (argE m c)) bitsLt_bf16_f32 : FVec Ideal S2048x7296 .bf16) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- The swapped copy, as the host cuts it. -/
abbrev cutSwapped : FVec Ideal S1024x32 .f32 :=
  concatenate S1024x32 1 [⟨S1024x16, extractStridedSlice S1024x16 ![0, 656] (argU m c) slices_S1024x6832_S1024x16_0_656⟩,
    ⟨S1024x16, extractStridedSlice S1024x16 ![0, 640] (argU m c) slices_S1024x6832_S1024x16_0_640⟩] concatenates_S1024x16_S1024x16_S1024x32_d1

set_option maxHeartbeats 4000000 in
theorem entry_weight : V m c main_v38 = (transpose S7296x1024 [1, 0] (truncf .bf16 (laidRows (argU m c) (cutSwapped m c)) bitsLt_bf16_f32 : FVec Ideal S1024x7296 .bf16)
    transposes_S1024x7296_S7296x1024_1_0 : FVec Ideal S7296x1024 .bf16) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-! ## The blocks -/

theorem index0 : ∀ t : Fin cfg0.N, 8 ≤ t.val → win0_0.index t 0 = t.val % 4 ∧ win0_0.index t 1 = 0 :=
  (by decide +kernel : ∀ t : Fin grid0.N, 8 ≤ t.val → win0_0.index t 0 = t.val % 4 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val % 4 ∧ win0_2.index t 1 = t.val / 4 :=
  (by decide +kernel : ∀ t : Fin grid0.N, win0_2.index t 0 = t.val % 4 ∧ win0_2.index t 1 = t.val / 4)
theorem index3 : ∀ t : Fin cfg0.N, win0_3.index t 0 = t.val / 4 ∧ win0_3.index t 1 = 0 :=
  (by decide +kernel : ∀ t : Fin grid0.N, win0_3.index t 0 = t.val / 4 ∧ win0_3.index t 1 = 0)
theorem index4 : ∀ t : Fin cfg0.N, 8 ≤ t.val → win0_4.index t 0 = t.val % 4 ∧ win0_4.index t 1 = 0 :=
  (by decide +kernel : ∀ t : Fin grid0.N, 8 ≤ t.val → win0_4.index t 0 = t.val % 4 ∧ win0_4.index t 1 = 0)
theorem index5 : ∀ t : Fin cfg0.N, 8 ≤ t.val → win0_5.index t 0 = t.val % 4 ∧ win0_5.index t 1 = 0 :=
  (by decide +kernel : ∀ t : Fin grid0.N, 8 ≤ t.val → win0_5.index t 0 = t.val % 4 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem flush5 : ∀ t : Fin cfg0.N, win0_5.flush t = true ↔ 8 ≤ t.val :=
  (by decide +kernel : ∀ t : Fin grid0.N, win0_5.flush t = true ↔ 8 ≤ t.val)

abbrev block0 (t : Fin cfg0.N) : Vec Ideal S512x1024 .f32 := iblk m c 0 t
abbrev block1 (t : Fin cfg0.N) : Vec Ideal S8x1024 .f32 := iblk m c 1 t
abbrev block2 (t : Fin cfg0.N) : Vec Ideal S512x2432 .bf16 := iblk m c 2 t
abbrev block3 (t : Fin cfg0.N) : Vec Ideal S2432x1024 .bf16 := iblk m c 3 t
abbrev block4 (t : Fin cfg0.N) : Vec Ideal S512x1024 .f32 := iblk m c 4 t

theorem row_of (a : ℕ) (r : Fin 512) : (row (512 * (a % 4) + r.val)).val = 512 * (a % 4) + r.val := by
  have hr := r.isLt
  exact Nat.mod_eq_of_lt (by omega)

theorem block0_row (t : Fin cfg0.N) (h : 8 ≤ t.val) (r : Fin 512) : rowAt (block0 m c t) r = rowAt (argX m c) (row (512 * (t.val % 4) + r.val)) := by
  funext d
  have hi := index0 t h
  have e := row_of t.val r
  refine (congrArg (V m c main_arg0) (at2 _ (row (512 * (t.val % 4) + r.val)) d ?_ ?_)).trans (congrFun (V_main_arg0 m c) _)
  · show win0_0.index t 0 * 512 + 1 * r.val = _; omega
  · show win0_0.index t 1 * 1024 + 1 * d.val = _; omega
theorem block4_row (t : Fin cfg0.N) (h : 8 ≤ t.val) (r : Fin 512) : rowAt (block4 m c t) r = rowAt (argO m c) (row (512 * (t.val % 4) + r.val)) := by
  funext d
  have hi := index4 t h
  have e := row_of t.val r
  refine (congrArg (V m c main_arg7) (at2 _ (row (512 * (t.val % 4) + r.val)) d ?_ ?_)).trans (congrFun (V_main_arg7 m c) _)
  · show win0_4.index t 0 * 512 + 1 * r.val = _; omega
  · show win0_4.index t 1 * 1024 + 1 * d.val = _; omega

theorem block1_apply (t : Fin cfg0.N) (q : Fin 8) (d : Fin 1024) : block1 m c t (ix2 q d) = V m c main_v4 (ix2 q d) := by
  have hi := index1 t
  refine congrArg (V m c main_v4) (at2 _ q d ?_ ?_)
  · show win0_1.index t 0 * 8 + 1 * q.val = _; omega
  · show win0_1.index t 1 * 1024 + 1 * d.val = _; omega
theorem block1_weight (t : Fin cfg0.N) : rowAt (block1 m c t) 0 = vec (argW m c) :=
  funext fun d => (block1_apply m c t 0 d).trans ((entry_vec m c 0 d).trans (line_apply _ d))
theorem block1_scale (t : Fin cfg0.N) : rowAt (block1 m c t) 2 = vec (argS m c) :=
  funext fun d => (block1_apply m c t 2 d).trans ((entry_vec m c 2 d).trans (line_apply _ d))

/-- A column of the columns laid out, read off any number. -/
abbrev place (n : ℕ) : Fin 7296 := Fin.ofNat 7296 n

theorem place_of (t : Fin cfg0.N) (k : Fin 2432) : (place (2432 * (t.val / 4) + k.val)).val = 2432 * (t.val / 4) + k.val := by
  have hk := k.isLt
  have ht : t.val < 12 := lt_of_lt_of_eq t.isLt N_0
  exact Nat.mod_eq_of_lt (by omega)

/-- A row of the projections' gradient, and a row of the weight, at a column laid out. -/
abbrev laidGrad (t : Fin 2048) (j : ℕ) : EReal := Cert.Prod.col (fun e => argD m c (ix2 t e)) (fun e => argE m c (ix2 t e)) j
abbrev laidWeight (d : Fin 1024) (j : ℕ) : EReal := Cert.Prod.col (fun e => argU m c (ix2 d e)) (fun e => swapped (argU m c) (ix2 d e)) j

theorem block2_apply (t : Fin cfg0.N) (r : Fin 512) (k : Fin 2432) :
    block2 m c t (ix2 r k) = laidGrad m c (row (512 * (t.val % 4) + r.val)) (place (2432 * (t.val / 4) + k.val)).val := by
  have hi := index2 t
  have e := row_of t.val r
  have e' := place_of t k
  refine Eq.trans (b := V m c main_v22 (ix2 (row (512 * (t.val % 4) + r.val)) (place (2432 * (t.val / 4) + k.val)))) ?_ ?_
  · refine congrArg (V m c main_v22) (at2 _ _ _ ?_ ?_)
    · show win0_2.index t 0 * 512 + 1 * r.val = _; omega
    · show win0_2.index t 1 * 2432 + 1 * k.val = _; omega
  · rw [entry_proj]
    exact Cert.Kernel4Ideal.Gen.laid_apply _ _ _ _

theorem block3_apply (t : Fin cfg0.N) (k : Fin 2432) (d : Fin 1024) :
    block3 m c t (ix2 k d) = laidWeight m c d (place (2432 * (t.val / 4) + k.val)).val := by
  have hi := index3 t
  have e' := place_of t k
  refine Eq.trans (b := V m c main_v38 (ix2 (place (2432 * (t.val / 4) + k.val)) d)) ?_ ?_
  · refine congrArg (V m c main_v38) (at2 _ _ _ ?_ ?_)
    · show win0_3.index t 0 * 2432 + 1 * k.val = _; omega
    · show win0_3.index t 1 * 1024 + 1 * d.val = _; omega
  · rw [entry_weight]
    refine (transpose_apply [1, 0] _ transposes_S1024x7296_S7296x1024_1_0 (ix2 (place (2432 * (t.val / 4) + k.val)) d)
      (ix2 d (place (2432 * (t.val / 4) + k.val))) fun b => match b with | ⟨0, _⟩ => rfl | ⟨1, _⟩ => rfl).trans ?_
    refine (laidRows_apply _ _ d _).trans ?_
    unfold cutSwapped
    rw [Cert.ProjReference.swapped_eq]

/-! ## The gradient of the modulated rows -/

/-- What the rows of a block hold after some of the columns. -/
theorem part_apply (j : ℕ) (hj : j < 4) (r : Fin 512) (d : Fin 1024) (k : ℕ) (hk : k < 3) :
    part m c j k (ix2 r d)
      = ∑ s ∈ Finset.range (k + 1), ∑ e : Fin 2432, laidGrad m c (row (512 * j + r.val)) (place (2432 * s + e.val)).val * laidWeight m c d (place (2432 * s + e.val)).val := by
  have block (n : ℕ) (hn : n < 3) : ∑ e : Fin 2432, block2 m c (pt (4 * n + j)) (ix2 r e) * block3 m c (pt (4 * n + j)) (ix2 e d)
      = ∑ e : Fin 2432, laidGrad m c (row (512 * j + r.val)) (place (2432 * n + e.val)).val * laidWeight m c d (place (2432 * n + e.val)).val := by
    have e1 : (pt (4 * n + j)).val % 4 = j := by show (4 * n + j) % 12 % 4 = j; omega
    have e2 : (pt (4 * n + j)).val / 4 = n := by show (4 * n + j) % 12 / 4 = n; omega
    refine Finset.sum_congr rfl fun e _ => ?_
    rw [block2_apply, block3_apply, e1, e2]
  induction k with
  | zero =>
    unfold part
    rw [Finset.sum_range_one]
    have b := block 0 (by decide)
    rw [Nat.mul_zero, Nat.zero_add] at b
    exact (first_at r d _ _).trans b
  | succ k ih =>
    rw [Finset.sum_range_succ, ← ih (by omega)]
    conv_lhs => unfold part
    exact (next_at _ r d _ _).trans (congrArg (fun y : EReal => part m c j k (ix2 r d) + y) (block (k + 1) hk))

theorem partAt_row (t : Fin cfg0.N) (h : 8 ≤ t.val) (r : Fin 512) :
    rowAt (partAt m c t.val) r = mixGrad (argU m c) (argD m c) (argE m c) (row (512 * (t.val % 4) + r.val)) := by
  funext d
  have ht : t.val < 12 := lt_of_lt_of_eq t.isLt N_0
  have e : t.val / 4 = 2 := by omega
  refine (part_apply m c (t.val % 4) (by omega) r d (t.val / 4) (by omega)).trans ?_
  rw [e]
  refine (Cert.Proj.sum_thirds (b := 2432) (n := 7296) rfl
    fun j => laidGrad m c (row (512 * (t.val % 4) + r.val)) j.val * laidWeight m c d j.val).trans ?_
  exact Cert.Proj.sum_product _ _ _ _

/-! ## The two results -/

/-- The reference's arrays at the kernel's arguments. -/
abbrev rowsRef : FVec Ideal S2048x1024 .f32 :=
  Cert.Reference11Ideal.Read.val_main_v62 (F := Ideal) (argX m c) (argW m c) (argS m c) (argU m c) (argD m c) (argE m c) (argO m c)
abbrev vectorsRef : FVec Ideal S8x1024 .f32 :=
  Cert.Reference11Ideal.Read.val_main_v67 (F := Ideal) (argX m c) (argW m c) (argS m c) (argU m c) (argD m c) (argE m c)

theorem rows_block (t : Fin cfg0.N) (h : 8 ≤ t.val) (r : Fin 512) (d : Fin 1024) :
    dxOf (block0 m c t) (block1 m c t) (block4 m c t) (partAt m c t.val) (ix2 r d) = rowsRef m c (ix2 (row (512 * (t.val % 4) + r.val)) d) := by
  rw [dxOf_at, block0_row m c t h, block1_weight, block1_scale, block4_row m c t h, partAt_row m c t h]
  exact (Cert.ProjReference.rows_at (argX m c) (argO m c) (argW m c) (argS m c) (argU m c) (argD m c) (argE m c) _ d).symm

/-- What a row adds to the gradients of the vectors. -/
abbrev share (q : Fin 8) (d : Fin 1024) (t : Fin 2048) : EReal :=
  vectorGrad q.val (rowAt (argX m c) t) (vec (argW m c)) (vec (argS m c)) 0 0 (mixGrad (argU m c) (argD m c) (argE m c) t) d

theorem vectors_block (t : Fin cfg0.N) (h : 8 ≤ t.val) (z : Vec Ideal S8x1024 .f32) (q : Fin 8) (d : Fin 1024) :
    dvOf (block0 m c t) (block1 m c t) (partAt m c t.val) z (ix2 q d)
      = z (ix2 q d) + ∑ r : Fin 512, share m c q d (row (512 * (t.val % 4) + r.val)) := by
  rw [dvOf_at]
  refine congrArg (fun y : EReal => z (ix2 q d) + y) (Finset.sum_congr rfl fun r _ => ?_)
  rw [block0_row m c t h, block1_weight, block1_scale, partAt_row m c t h]

theorem zero_at (q : Fin 8) (d : Fin 1024) : k0_pay5 (F := Ideal) (ix2 q d) = (0 : EReal) := by
  unfold k0_pay5
  exact zero_word

theorem sums_apply (q : Fin 8) (d : Fin 1024) (j : ℕ) (hj : j < 4) :
    sums m c j (ix2 q d) = ∑ s ∈ Finset.range (j + 1), ∑ r : Fin 512, share m c q d (row (512 * s + r.val)) := by
  induction j with
  | zero =>
    unfold sums
    rw [Finset.sum_range_one]
    exact (vectors_block m c (pt 8) (by decide) _ q d).trans ((congrArg (fun y : EReal => y + _) (zero_at q d)).trans (zero_add _))
  | succ j ih =>
    rw [Finset.sum_range_succ, ← ih (by omega)]
    conv_lhs => unfold sums
    have e : (pt (9 + j)).val = 9 + j := Nat.mod_eq_of_lt (by omega)
    have e' : (pt (9 + j)).val % 4 = j + 1 := by omega
    have b := vectors_block m c (pt (9 + j)) (by omega) (sums m c j) q d
    rw [e'] at b
    rw [e] at b
    exact b

theorem vectors_all (q : Fin 8) (d : Fin 1024) : sums m c 3 (ix2 q d) = vectorsRef m c (ix2 q d) := by
  rw [sums_apply m c q d 3 (by decide)]
  refine (sum_blocks (share m c q d)).trans ?_
  exact (Cert.ProjReference.vectors_at (argX m c) (argW m c) (argS m c) (argU m c) (argD m c) (argE m c) d q).symm

theorem rows_flushed (t : Fin cfg0.N) (hf : (cfg0.win 5).flush t = true) :
    (dats m 0 c).flushed 5 t = ((cfg0.win 5).blk t).view.read (Elt Ideal) (rowsRef m c) := by
  have h : 8 ≤ t.val := (flush5 t).mp hf
  have hi := index5 t h
  show (cfg0.win 5).cut (grid0.coords t) ((dats m 0 c).after 5 t) = _
  rw [leaves5]
  funext y
  obtain ⟨r, d, rfl⟩ : ∃ (r : Fin 512) (d : Fin 1024), y = (ix2 r d : S512x1024.Idx) := ⟨y 0, y 1, eq_ix2 (n0 := 512) (n1 := 1024) y⟩
  have e := row_of t.val r
  refine Eq.trans ?_ ((rows_block m c t h r d).trans (congrArg (rowsRef m c) (at2 _ _ _ ?_ ?_).symm))
  · exact congrArg (dxOf (block0 m c t) (block1 m c t) (block4 m c t) (partAt m c t.val)) (at2 _ r d rfl rfl)
  · show win0_5.index t 0 * 512 + 1 * r.val = _; omega
  · show win0_5.index t 1 * 1024 + 1 * d.val = _; omega

theorem vectors_flushed (t : Fin cfg0.N) (hf : (cfg0.win 6).flush t = true) :
    (dats m 0 c).flushed 6 t = ((cfg0.win 6).blk t).view.read (Elt Ideal) (vectorsRef m c) := by
  have h : t.val % 12 = 11 := (flush0_6 t).mp hf
  have hi := index6 t
  show (cfg0.win 6).cut (grid0.coords t) ((dats m 0 c).after 6 t) = _
  rw [leaves6, show t.val % 4 = 3 by omega]
  funext y
  obtain ⟨q, d, rfl⟩ : ∃ (q : Fin 8) (d : Fin 1024), y = (ix2 q d : S8x1024.Idx) := ⟨y 0, y 1, eq_ix2 (n0 := 8) (n1 := 1024) y⟩
  refine Eq.trans ?_ ((vectors_all m c q d).trans (congrArg (vectorsRef m c) (at2 _ _ _ ?_ ?_).symm))
  · exact congrArg (sums m c 3) (at2 _ q d rfl rfl)
  · show win0_6.index t 0 * 8 + 1 * q.val = _; omega
  · show win0_6.index t 1 * 1024 + 1 * d.val = _; omega

theorem mem_rows (t : Fin cfg0.N) (i : S2048x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v39_0).slice (win0_5.rect t)).set ↔ _
  rw [View.set_slice_whole, Rect.mem_set_unit]
  exact Iff.rfl

theorem rows_left : (dats m 0 c).arrAt 5 cfg0.N = rowsRef m c :=
  (dats m 0 c).arrAt_eq_of_cover 5 _ (fun t hf => rows_flushed m c t hf) fun (i : S2048x1024.Idx) => by
    have h0 : (i 0).val < 2048 := (i 0).isLt
    have h1 : (i 1).val < 1024 := (i 1).isLt
    obtain ⟨t, ht⟩ : ∃ t : Fin cfg0.N, t.val = 8 + (i 0).val / 512 := ⟨pt (8 + (i 0).val / 512), Nat.mod_eq_of_lt (by omega)⟩
    have h : 8 ≤ t.val := by omega
    have hi := index5 t h
    refine ⟨t, (flush5 t).mpr h, ?_⟩
    rw [mem_rows]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

theorem vectors_left : (dats m 0 c).arrAt 6 cfg0.N = vectorsRef m c :=
  (dats m 0 c).arrAt_eq_of_cover 6 _ (fun t hf => vectors_flushed m c t hf) fun (i : S8x1024.Idx) => by
    have h0 : (i 0).val < 8 := (i 0).isLt
    have h1 : (i 1).val < 1024 := (i 1).isLt
    have hi := index6 (pt 11)
    refine ⟨pt 11, (flush0_6 _).mpr rfl, ?_⟩
    show i ∈ ((View.whole main_v39_1).slice (win0_6.rect (pt 11))).set
    rw [View.set_slice_whole, Rect.mem_set_unit]
    intro a
    match a with
    | ⟨0, _⟩ => show win0_6.index (pt 11) 0 * 8 ≤ (i 0).val ∧ (i 0).val < win0_6.index (pt 11) 0 * 8 + 8; omega
    | ⟨1, _⟩ => show win0_6.index (pt 11) 1 * 1024 ≤ (i 1).val ∧ (i 1).val < win0_6.index (pt 11) 1 * 1024 + 1024; omega

/-- The run, with its two results read. -/
theorem run_read : θ_run defs (onTc (τ := τ) (main (F := Ideal))) ⟨m, fun _ => 0, ρ⟩ (fun r => ∀ c : Dev nD,
      r.2.mem ((c.tc : Thread nD τ).loc main_v39_0) = rowsRef m c
      ∧ r.2.mem ((c.tc : Thread nD τ).loc main_v39_1) = vectorsRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 5).trans (rows_left m c), ((h.1 c).1 6).trans (vectors_left m c), h.2.1 c⟩)
    (θ_run_and (run_main m ρ) (frame m ρ))

end Cert.Kernel11Ideal.Gen

end
-- ==== Proof.ProjClaims.lean ====
/- The claims on the gradient of the input projections. -/
module

public import proofs.«01_k».proof.Defs
public import proofs.«01_k».proof.Proof.ProjValue
public import proofs.«01_k».proof.Proof.Gen.Kernel11.Frame
public import proofs.«01_k».proof.Proof.Gen.Reference11Ideal.Run
public import proofs.«01_k».proof.Proof.Gen.Reference11Ideal.Read
public import Idealize.ShloMosaic.Adequacy
public import Idealize.ShloMosaic.Init

@[expose] public section

noncomputable section

namespace Cert.ProjClaims

open Idealize.ShloMosaic Idealize.SL.Sem Idealize.ShloMosaic.TcCoe

/-- The kernel as printed and as idealized are one program: no rewrite was asked for. -/
theorem bodies_eq : @Cert.Kernel11.defs₀ Bits _ _ = @Cert.Kernel11Ideal.defs₀ Bits _ _ := by
  unfold Cert.Kernel11.defs₀ Cert.Kernel11Ideal.defs₀
  refine congrArg Defs.onTc (funext fun l => funext fun a => ?_)
  match l, a with
  | 0, (t, s) => rfl

theorem defs_eq : @Cert.Kernel11.defs Bits _ _ = @Cert.Kernel11Ideal.defs Bits _ _ :=
  congrArg (Pipeline.defs (Cert.Kernel11.pcfgs (F := Bits))) bodies_eq

set_option maxHeartbeats 4000000 in
theorem frame_kernel11 : Cert.quiescent_Kernel11 := fun m ρ _ => by
  have h := Cert.Kernel11Ideal.Gen.frame (F := Bits) m ρ
  rw [← defs_eq] at h
  exact h

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem algebraic11 : Cert.algebraic_Kernel11Ideal_Reference11Ideal := fun m ρ m' ρ' _ ha =>
  ⟨fun c => Cert.Kernel11Ideal.Gen.rowsRef m c, fun c => Cert.Kernel11Ideal.Gen.vectorsRef m c, Cert.Kernel11Ideal.Gen.run_read m ρ,
    (θ_run Cert.Reference11Ideal.defs _ _).mono (fun r h c => by
      obtain ⟨a0, a1, a2, a3, a4, a5, a6, a7⟩ := ha c
      obtain ⟨h0, h1, h2⟩ := h c
      refine ⟨h0.trans ((Cert.Reference11Ideal.Read.val_main_v62_eq (F := Ideal) _ _).trans ?_),
        h1.trans ((Cert.Reference11Ideal.Read.val_main_v67_eq (F := Ideal) _ _).trans ?_), h2⟩
      · rw [a0, a1, a3, a4, a5, a6, a7]
      · rw [a0, a1, a3, a4, a5, a6])
      (Cert.Reference11Ideal.Value.run (F := Ideal) m' ρ')⟩

end Cert.ProjClaims

end
-- ==== Proof.FwdRuns.lean ====
/- The body of the input projections' forward call, run once per case of its conditions. -/
module

public import proofs.«01_k».proof.Proof.Gen.Kernel12Ideal.Frame
public import proofs.«01_k».proof.Proof.Gen.Kernel12Ideal.Skeleton
public import Idealize.ShloMosaic.Lib.WritesUnit

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The conditions, over the points -/

theorem coord0 (t : Fin cfg0.N) : (grid0.coords t 0).val = t.val / 4 := by
  have ht : t.val < 12 := Nat.lt_of_lt_of_eq t.isLt N_0
  exact (Pipeline.Grid.coords_val t 0 (by decide) rfl : (grid0.coords t 0).val = t.val / 4 % 3).trans (Nat.mod_eq_of_lt (by omega))
theorem coord1 (t : Fin cfg0.N) : (grid0.coords t 1).val = t.val % 4 :=
  (Pipeline.Grid.coords_val t 1 (by decide) rfl : (grid0.coords t 1).val = t.val / 1 % 4).trans (by rw [Nat.div_one])

theorem starts : ∀ t : Fin cfg0.N, k0_cond1 (grid0.coords t) = 1#1 ↔ t.val < 4 := by decide +kernel
theorem ends : ∀ t : Fin cfg0.N, k0_cond2 (grid0.coords t) = 1#1 ↔ 8 ≤ t.val := by decide +kernel

/-! ## The runs -/

/-- The three blocks that a point reads. -/
def three (c : Dev nD) (arg2 : Memref sig .tc .vmem S512x1024 .f32) (arg3 : Memref sig .tc .vmem S8x1024 .f32) (arg4 : Memref sig .tc .vmem S2432x1024 .bf16)
    (x0 : Vec F S512x1024 .f32) (x1 : Vec F S8x1024 .f32) (x2 : Vec F S2432x1024 .bf16) : sProp 𝕄 :=
  iprop(owns (c : Thread nD τ) arg2 fullShare x0 ∗ owns (c : Thread nD τ) arg3 fullShare x1 ∗ owns (c : Thread nD τ) arg4 fullShare x2)

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S2432x1024 .bf16) (harg4 : arg4.IsWhole) (arg5 : Memref sig .tc .vmem S512x2432 .f32) (harg5 : arg5.IsWhole)
  (arg6 : Memref sig .tc .vmem S512x1024 .bf16) (harg6 : arg6.IsWhole) (arg7 : Memref sig .tc .vmem S512x128 .f32) (harg7 : arg7.IsWhole)
  (arg8 : Memref sig .tc .vmem S2048x1024 .bf16) (harg8 : arg8.IsWhole)
  (x0 : Vec F S512x1024 .f32) (x1 : Vec F S8x1024 .f32) (x2 : Vec F S2432x1024 .bf16)

/-- A point of the first block of columns stores its normalised rows into the scratch, and multiplies them. -/
noncomputable def runFirst (h1 : k0_cond1 i = 1#1) (h2 : ¬k0_cond2 i = 1#1) (o3 : Vec F S512x2432 .f32) (o4 : Vec F S512x1024 .bf16) (xs : Vec F S2048x1024 .bf16) :
    Σ' (L5 : List (View.Piece (Elt F) S512x2432 .f32)) (L6 : List (View.Piece (Elt F) S512x1024 .bf16)),
    { L8 : List (View.Piece (Elt F) S2048x1024 .bf16) // ∀ (o5 : Vec F S512x128 .f32) (E : Set ℕ) (K : PUnit → sProp 𝕄),
      iprop(three c arg2 arg3 arg4 x0 x1 x2 ∗ owns (c : Thread nD τ) arg5 fullShare o3 ∗ owns (c : Thread nD τ) arg6 fullShare o4 ∗ owns (c : Thread nD τ) arg7 fullShare o5 ∗ owns (c : Thread nD τ) arg8 fullShare xs
          ∗ (iprop(three c arg2 arg3 arg4 x0 x1 x2
            ∗ (arg5.view.loc (c : Thread nD τ) ↦[arg5.view.set]{fullShare} arg5.view.writes (Elt F) (harg5.unread o3) L5)
            ∗ (arg6.view.loc (c : Thread nD τ) ↦[arg6.view.set]{fullShare} arg6.view.writes (Elt F) (harg6.unread o4) L6)
            ∗ owns (c : Thread nD τ) arg7 fullShare o5
            ∗ (arg8.view.loc (c : Thread nD τ) ↦[arg8.view.set]{fullShare} arg8.view.writes (Elt F) (harg8.unread xs) L8)) -∗ K ⟨⟩))
        ⊢ wp frame (wpE (defs₀ (F := F)) Variants.none c none) E
            (cc0_inproj_fwd i arg2 harg2 arg3 harg3 arg4 harg4 arg5 harg5 arg6 harg6 arg7 harg7 arg8 harg8) K } := by
  refine ⟨?_, ?_, ?_, fun o5 E K => ?run⟩
  case run =>
    simp only [cc0_inproj_fwd_eq_skeleton]; unfold cc0_inproj_fwd_skel
    unfold three owns
    iintro ⟨⟨⟨%f0, %hf0, H0⟩, ⟨%f1, %hf1, H1⟩, ⟨%f2, %hf2, H2⟩⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf5
    obtain rfl := harg6.eq_unread hf6; obtain rfl := harg7.eq_unread hf7; obtain rfl := harg8.eq_unread hf8
    sl_exec (disch := first | sl_exact h1 | sl_exact h2)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H5]; · iexact H5
    isplitl [H6]; · iexact H6
    isplitl [H7]
    · iexists _; isplitr; · ipureintro; exact harg7.read_unread _
      iexact H7
    iexact H8

/-- A point of the second block multiplies the rows that the scratch holds. -/
noncomputable def runNext (h1 : ¬k0_cond1 i = 1#1) (h2 : ¬k0_cond2 i = 1#1) (o3 : Vec F S512x2432 .f32) (xs : Vec F S2048x1024 .bf16) :
    { L5 : List (View.Piece (Elt F) S512x2432 .f32) // ∀ (o4 : Vec F S512x1024 .bf16) (o5 : Vec F S512x128 .f32) (E : Set ℕ) (K : PUnit → sProp 𝕄),
      iprop(three c arg2 arg3 arg4 x0 x1 x2 ∗ owns (c : Thread nD τ) arg5 fullShare o3 ∗ owns (c : Thread nD τ) arg6 fullShare o4 ∗ owns (c : Thread nD τ) arg7 fullShare o5 ∗ owns (c : Thread nD τ) arg8 fullShare xs
          ∗ (iprop(three c arg2 arg3 arg4 x0 x1 x2
            ∗ (arg5.view.loc (c : Thread nD τ) ↦[arg5.view.set]{fullShare} arg5.view.writes (Elt F) (harg5.unread o3) L5)
            ∗ owns (c : Thread nD τ) arg6 fullShare o4
            ∗ owns (c : Thread nD τ) arg7 fullShare o5
            ∗ owns (c : Thread nD τ) arg8 fullShare xs) -∗ K ⟨⟩))
        ⊢ wp frame (wpE (defs₀ (F := F)) Variants.none c none) E
            (cc0_inproj_fwd i arg2 harg2 arg3 harg3 arg4 harg4 arg5 harg5 arg6 harg6 arg7 harg7 arg8 harg8) K } := by
  refine ⟨?_, fun o4 o5 E K => ?run⟩
  case run =>
    simp only [cc0_inproj_fwd_eq_skeleton]; unfold cc0_inproj_fwd_skel
    unfold three owns
    iintro ⟨⟨⟨%f0, %hf0, H0⟩, ⟨%f1, %hf1, H1⟩, ⟨%f2, %hf2, H2⟩⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf5
    obtain rfl := harg6.eq_unread hf6; obtain rfl := harg7.eq_unread hf7; obtain rfl := harg8.eq_unread hf8
    sl_exec (disch := first | sl_exact h1 | sl_exact h2)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H5]; · iexact H5
    isplitl [H6]
    · iexists _; isplitr; · ipureintro; exact harg6.read_unread _
      iexact H6
    isplitl [H7]
    · iexists _; isplitr; · ipureintro; exact harg7.read_unread _
      iexact H7
    iexists _; isplitr; · ipureintro; exact harg8.read_unread _
    iexact H8

/-- A point of the last block does the same and stores the columns of dt once more. -/
noncomputable def runLast (h1 : ¬k0_cond1 i = 1#1) (h2 : k0_cond2 i = 1#1) (o3 : Vec F S512x2432 .f32) (o5 : Vec F S512x128 .f32) (xs : Vec F S2048x1024 .bf16) :
    Σ' (L5 : List (View.Piece (Elt F) S512x2432 .f32)),
    { L7 : List (View.Piece (Elt F) S512x128 .f32) // ∀ (o4 : Vec F S512x1024 .bf16) (E : Set ℕ) (K : PUnit → sProp 𝕄),
      iprop(three c arg2 arg3 arg4 x0 x1 x2 ∗ owns (c : Thread nD τ) arg5 fullShare o3 ∗ owns (c : Thread nD τ) arg6 fullShare o4 ∗ owns (c : Thread nD τ) arg7 fullShare o5 ∗ owns (c : Thread nD τ) arg8 fullShare xs
          ∗ (iprop(three c arg2 arg3 arg4 x0 x1 x2
            ∗ (arg5.view.loc (c : Thread nD τ) ↦[arg5.view.set]{fullShare} arg5.view.writes (Elt F) (harg5.unread o3) L5)
            ∗ owns (c : Thread nD τ) arg6 fullShare o4
            ∗ (arg7.view.loc (c : Thread nD τ) ↦[arg7.view.set]{fullShare} arg7.view.writes (Elt F) (harg7.unread o5) L7)
            ∗ owns (c : Thread nD τ) arg8 fullShare xs) -∗ K ⟨⟩))
        ⊢ wp frame (wpE (defs₀ (F := F)) Variants.none c none) E
            (cc0_inproj_fwd i arg2 harg2 arg3 harg3 arg4 harg4 arg5 harg5 arg6 harg6 arg7 harg7 arg8 harg8) K } := by
  refine ⟨?_, ?_, fun o4 E K => ?run⟩
  case run =>
    simp only [cc0_inproj_fwd_eq_skeleton]; unfold cc0_inproj_fwd_skel
    unfold three owns
    iintro ⟨⟨⟨%f0, %hf0, H0⟩, ⟨%f1, %hf1, H1⟩, ⟨%f2, %hf2, H2⟩⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf5
    obtain rfl := harg6.eq_unread hf6; obtain rfl := harg7.eq_unread hf7; obtain rfl := harg8.eq_unread hf8
    sl_exec (disch := first | sl_exact h1 | sl_exact h2)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H5]; · iexact H5
    isplitl [H6]
    · iexists _; isplitr; · ipureintro; exact harg6.read_unread _
      iexact H6
    isplitl [H7]; · iexact H7
    iexists _; isplitr; · ipureintro; exact harg8.read_unread _
    iexact H8

end

end Cert.Kernel12Ideal.Gen

end
-- ==== Proof.FwdPieces.lean ====
/- What the runs of the forward call leave, read off their pieces. -/
module

public import proofs.«01_k».proof.Proof.FwdRuns
public import proofs.«01_k».proof.Proof.AttnTile

@[expose] public section

set_option maxRecDepth 16384

noncomputable section

namespace Cert.Kernel12Ideal.Gen

open Idealize.ShloMosaic Idealize.ShloMosaic.TcCoe Idealize.ShloMosaic.Tactic Idealize.ShloMosaic.ValueIdx
open Idealize.SL.Sem

variable {F : FTy → Type} [FloatOps F]

theorem zero_off2 : (![0, 0] : Fin 2 → ℕ) = fun _ => 0 := funext fun a => by fin_cases a <;> rfl

/-- The rows of the scratch that a point works on. -/
def take (i : grid0.Coords) (xs : Vec F S2048x1024 .bf16) : Vec F S512x1024 .bf16 := fun x => xs (ix2 (Fin.ofNat 2048 (512 * (i 1).val + (x 0).val)) (x 1))
/-- The scratch with those rows replaced. -/
def put (i : grid0.Coords) (xs : Vec F S2048x1024 .bf16) (p : Vec F S512x1024 .bf16) : Vec F S2048x1024 .bf16 := fun y =>
  if 512 * (i 1).val ≤ (y 0).val ∧ (y 0).val < 512 * (i 1).val + 512 then p (ix2 (Fin.ofNat 512 (y 0).val) (y 1)) else xs y
/-- A row of the eight. -/
def rowOf (r : Fin 8) (x : Vec F S8x1024 .f32) : Vec F S1x1024 .f32 := fun y => x (ix2 r (y 1))

theorem row_lt (i : grid0.Coords) : (i 1).val < 4 := (i 1).isLt

section
variable (i : grid0.Coords) {sp : Space} (v : View sig .tc sp S2048x1024 .bf16)

theorem read_put (f : v.ty.Contents (Elt F)) (off : Fin 2 → ℕ) (hoff : off = ![512 * (i 1).val, 0]) (inb : ∀ a, off a + S512x1024.size a ≤ S2048x1024.size a) (p : Vec F S512x1024 .bf16) :
    v.read (Elt F) (v.writes (Elt F) f [⟨Rect.unit (s := S2048x1024) off S512x1024.size inb, p⟩]) = put i (v.read (Elt F) f) p := by
  funext y
  have hi := row_lt i
  unfold put
  split
  · rename_i h
    refine View.read_writes_cons_rows_of_mem v f inb p [] y (ix2 (Fin.ofNat 512 (y 0).val) (y 1)) hoff ?_ rfl
    show (y 0).val = 512 * (i 1).val + (y 0).val % 512
    omega
  · rename_i h
    exact View.read_writes_cons_rows_of_not_mem v f inb p [] y hoff rfl
      (show (y 0).val < 512 * (i 1).val ∨ 512 * (i 1).val + 512 ≤ (y 0).val by omega)

/-- A read of the rows just stored reads what was stored. -/
theorem readCov_put (off off' : Fin 2 → ℕ) (hoff : off = ![512 * (i 1).val, 0]) (hoff' : off' = ![512 * (i 1).val, 0])
    (inb : ∀ a, off a + S512x1024.size a ≤ S2048x1024.size a) (inb' : ∀ a, off' a + S512x1024.size a ≤ S2048x1024.size a) (p : Vec F S512x1024 .bf16) :
    v.readCov [⟨Rect.unit (s := S2048x1024) off ![512, 1024] inb, p⟩] (Rect.unit (s := S2048x1024) off' ![512, 1024] inb').toLoadRect = p := by
  subst hoff'
  rw [View.readCov_eq_canon']
  funext x
  rw [← View.read_writes_junk_eq_canon v]
  exact View.read_writes_cons_unit_of_mem v v.junk inb p [] _ x hoff fun a => by
    show (![512 * (i 1).val, 0] : Fin 2 → ℕ) a + 1 * (x a).val = _
    rw [Nat.one_mul]

theorem ld_take (off : Fin 2 → ℕ) (hoff : off = ![512 * (i 1).val, 0]) (inb : ∀ a, off a + S512x1024.size a ≤ S2048x1024.size a) (xs : Vec F S2048x1024 .bf16) :
    View.ld xs (Rect.unit (s := S2048x1024) off ![512, 1024] inb) = take i xs := by
  subst hoff
  funext x
  have hi := row_lt i
  refine congrArg xs (funext fun a => Fin.ext ?_)
  have hx : (x 0).val < 512 := (x 0).isLt
  match a with
  | ⟨0, _⟩ =>
    show 512 * (i 1).val + 1 * (x 0).val = (512 * (i 1).val + (x 0).val) % 2048
    omega
  | ⟨1, _⟩ => show 0 + 1 * (x 1).val = (x 1).val; omega
end

theorem ld_row (r : Fin 8) (inb : ∀ a, (![r.val, 0] : Fin 2 → ℕ) a + S1x1024.size a ≤ S8x1024.size a) (x : Vec F S8x1024 .f32) :
    View.ld x (Rect.unit (s := S8x1024) ![r.val, 0] ![1, 1024] inb) = rowOf r x := by
  funext y
  refine congrArg x (funext fun a => Fin.ext ?_)
  have hy : (y 0).val < 1 := (y 0).isLt
  match a with
  | ⟨0, _⟩ => show r.val + 1 * (y 0).val = r.val; omega
  | ⟨1, _⟩ => show 0 + 1 * (y 1).val = (y 1).val; omega
theorem ld_row0 (inb : ∀ a, (![0, 0] : Fin 2 → ℕ) a + S1x1024.size a ≤ S8x1024.size a) (x : Vec F S8x1024 .f32) :
    View.ld x (Rect.unit (s := S8x1024) ![0, 0] ![1, 1024] inb) = rowOf 0 x := ld_row 0 inb x
theorem ld_row1 (inb : ∀ a, (![1, 0] : Fin 2 → ℕ) a + S1x1024.size a ≤ S8x1024.size a) (x : Vec F S8x1024 .f32) :
    View.ld x (Rect.unit (s := S8x1024) ![1, 0] ![1, 1024] inb) = rowOf 1 x := ld_row 1 inb x
theorem ld_row2 (inb : ∀ a, (![2, 0] : Fin 2 → ℕ) a + S1x1024.size a ≤ S8x1024.size a) (x : Vec F S8x1024 .f32) :
    View.ld x (Rect.unit (s := S8x1024) ![2, 0] ![1, 1024] inb) = rowOf 2 x := ld_row 2 inb x

/-- The normalised rows with scale and shift, as the scratch and as the second output hold them. -/
def held (x0 : Vec F S512x1024 .f32) (x1 : Vec F S8x1024 .f32) : Vec F S512x1024 .bf16 := k0_pay2 x0 (rowOf 0 x1) (rowOf 2 x1) (rowOf 1 x1)
def shown (x0 : Vec F S512x1024 .f32) (x1 : Vec F S8x1024 .f32) : Vec F S512x1024 .bf16 := k0_pay3 x0 (rowOf 0 x1) (rowOf 2 x1) (rowOf 1 x1)

section
variable (c : Dev nD) (i : grid0.Coords)
  (arg2 : Memref sig .tc .vmem S512x1024 .f32) (harg2 : arg2.IsWhole) (arg3 : Memref sig .tc .vmem S8x1024 .f32) (harg3 : arg3.IsWhole)
  (arg4 : Memref sig .tc .vmem S2432x1024 .bf16) (harg4 : arg4.IsWhole) (arg5 : Memref sig .tc .vmem S512x2432 .f32) (harg5 : arg5.IsWhole)
  (arg6 : Memref sig .tc .vmem S512x1024 .bf16) (harg6 : arg6.IsWhole) (arg7 : Memref sig .tc .vmem S512x128 .f32) (harg7 : arg7.IsWhole)
  (arg8 : Memref sig .tc .vmem S2048x1024 .bf16) (harg8 : arg8.IsWhole)
  (x0 : Vec F S512x1024 .f32) (x1 : Vec F S8x1024 .f32) (x2 : Vec F S2432x1024 .bf16)
  (o3 : Vec F S512x2432 .f32) (o4 : Vec F S512x1024 .bf16) (o5 : Vec F S512x128 .f32) (xs : Vec F S2048x1024 .bf16)

theorem outFirst (h1 : k0_cond1 i = 1#1) (h2 : ¬k0_cond2 i = 1#1) :
    arg5.view.read (Elt F) (arg5.view.writes (Elt F) (harg5.unread o3)
      (runFirst c i arg2 harg2 arg3 harg3 arg4 harg4 arg5 harg5 arg6 harg6 arg7 harg7 arg8 harg8 x0 x1 x2 h1 h2 o3 o4 xs).1) = k0_pay4 (held x0 x1) x2 := by
  unfold runFirst held
  dsimp only
  simp only [runFirst.sl.v6, runFirst.sl.H8_1, View.readAt_eq_ld, harg2.read_unread, harg3.read_unread, harg4.read_unread, harg8.read_unread,
    View.ld_unit_zero (S := S2432x1024) zero_off2, View.ld_unit_zero (S := S512x1024) zero_off2, readCov_put i _ _ _ (k0_off1_eq i) (k0_off2_eq i), ld_take i _ (k0_off2_eq i),
    ld_row0, ld_row1, ld_row2]
  exact funext fun y => View.read_writes_cons_unit_of_mem _ _ _ _ [] y y zero_off2 fun a => (Nat.zero_add _).symm

theorem normFirst (h1 : k0_cond1 i = 1#1) (h2 : ¬k0_cond2 i = 1#1) :
    arg6.view.read (Elt F) (arg6.view.writes (Elt F) (harg6.unread o4)
      (runFirst c i arg2 harg2 arg3 harg3 arg4 harg4 arg5 harg5 arg6 harg6 arg7 harg7 arg8 harg8 x0 x1 x2 h1 h2 o3 o4 xs).2.1) = shown x0 x1 := by
  unfold runFirst shown
  dsimp only
  simp only [ View.readAt_eq_ld, harg2.read_unread, harg3.read_unread, harg4.read_unread, harg8.read_unread,
    View.ld_unit_zero (S := S2432x1024) zero_off2, View.ld_unit_zero (S := S512x1024) zero_off2, readCov_put i _ _ _ (k0_off1_eq i) (k0_off2_eq i), ld_take i _ (k0_off2_eq i),
    ld_row0, ld_row1, ld_row2]
  exact funext fun y => View.read_writes_cons_unit_of_mem _ _ _ _ [] y y zero_off2 fun a => (Nat.zero_add _).symm

theorem keptFirst (h1 : k0_cond1 i = 1#1) (h2 : ¬k0_cond2 i = 1#1) :
    arg8.view.read (Elt F) (arg8.view.writes (Elt F) (harg8.unread xs)
      (runFirst c i arg2 harg2 arg3 harg3 arg4 harg4 arg5 harg5 arg6 harg6 arg7 harg7 arg8 harg8 x0 x1 x2 h1 h2 o3 o4 xs).2.2.1) = put i xs (held x0 x1) := by
  unfold runFirst held
  dsimp only
  unfold runFirst.sl.H8_1
  rw [read_put i _ _ _ (k0_off1_eq i)]
  simp only [ View.readAt_eq_ld, harg2.read_unread, harg3.read_unread, harg4.read_unread, harg8.read_unread,
    View.ld_unit_zero (S := S2432x1024) zero_off2, View.ld_unit_zero (S := S512x1024) zero_off2, readCov_put i _ _ _ (k0_off1_eq i) (k0_off2_eq i), ld_take i _ (k0_off2_eq i),
    ld_row0, ld_row1, ld_row2]

theorem outNext (h1 : ¬k0_cond1 i = 1#1) (h2 : ¬k0_cond2 i = 1#1) :
    arg5.view.read (Elt F) (arg5.view.writes (Elt F) (harg5.unread o3)
      (runNext c i arg2 harg2 arg3 harg3 arg4 harg4 arg5 harg5 arg6 harg6 arg7 harg7 arg8 harg8 x0 x1 x2 h1 h2 o3 xs).1) = k0_pay4 (take i xs) x2 := by
  unfold runNext
  dsimp only
  simp only [ View.readAt_eq_ld, harg2.read_unread, harg3.read_unread, harg4.read_unread, harg8.read_unread,
    View.ld_unit_zero (S := S2432x1024) zero_off2, View.ld_unit_zero (S := S512x1024) zero_off2,  ld_take i _ (k0_off2_eq i),
    ld_row0, ld_row1, ld_row2]
  exact funext fun y => View.read_writes_cons_unit_of_mem _ _ _ _ [] y y zero_off2 fun a => (Nat.zero_add _).symm

theorem outLast (h1 : ¬k0_cond1 i = 1#1) (h2 : k0_cond2 i = 1#1) :
    arg5.view.read (Elt F) (arg5.view.writes (Elt F) (harg5.unread o3)
      (runLast c i arg2 harg2 arg3 harg3 arg4 harg4 arg5 harg5 arg6 harg6 arg7 harg7 arg8 harg8 x0 x1 x2 h1 h2 o3 o5 xs).1) = k0_pay4 (take i xs) x2 := by
  unfold runLast
  dsimp only
  simp only [ View.readAt_eq_ld, harg2.read_unread, harg3.read_unread, harg4.read_unread, harg8.read_unread,
    View.ld_unit_zero (S := S2432x1024) zero_off2, View.ld_unit_zero (S := S512x1024) zero_off2,  ld_take i _ (k0_off2_eq i),
    ld_row0, ld_row1, ld_row2]
  exact funext fun y => View.read_writes_cons_unit_of_mem _ _ _ _ [] y y zero_off2 fun a => (Nat.zero_add _).symm

theorem dtLast (h1 : ¬k0_cond1 i = 1#1) (h2 : k0_cond2 i = 1#1) :
    arg7.view.read (Elt F) (arg7.view.writes (Elt F) (harg7.unread o5)
      (runLast c i arg2 harg2 arg3 harg3 arg4 harg4 arg5 harg5 arg6 harg6 arg7 harg7 arg8 harg8 x0 x1 x2 h1 h2 o3 o5 xs).2.1) = k0_pay5 (take i xs) x2 := by
  unfold runLast
  dsimp only
  simp only [ View.readAt_eq_ld, harg2.read_unread, harg3.read_unread, harg4.read_unread, harg8.read_unread,
    View.ld_unit_zero (S := S2432x1024) zero_off2, View.ld_unit_zero (S := S512x1024) zero_off2,  ld_take i _ (k0_off2_eq i),
    ld_row0, ld_row1, ld_row2]
  exact funext fun y => View.read_writes_cons_unit_of_mem _ _ _ _ [] y y zero_off2 fun a => (Nat.zero_add _).symm

end

end Cert.Kernel12Ideal.Gen

end
-- ==== Proof.FwdFrame.lean ====
/- The run of the forward call of the normalisation and the input projections. -/
module

public import proofs.«01_k».proof.Proof.FwdPieces
public import Idealize.ShloMosaic.Lib.Claim

@[expose] public section

set_option maxRecDepth 16384

noncomputable section

namespace Cert.Kernel12Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is known between the points -/

/-- A point by its number. -/
abbrev pt (n : ℕ) : Fin cfg0.N := ⟨n % 12, lt_of_lt_of_eq (Nat.mod_lt _ (by decide)) N_0.symm⟩

theorem pt_val (t : Fin cfg0.N) : pt t.val = t := Fin.ext (Nat.mod_eq_of_lt (lt_of_lt_of_eq t.isLt N_0))

/-- Rows put in and taken out again, by the same point or by one of other rows. -/
theorem take_put (i j : grid0.Coords) (h : (i 1).val = (j 1).val) (xs : Vec F S2048x1024 .bf16) (p : Vec F S512x1024 .bf16) : take j (put i xs p) = p := by
  funext x
  have hi := row_lt i
  have hx : (x 0).val < 512 := (x 0).isLt
  have e : (Fin.ofNat 2048 (512 * (j 1).val + (x 0).val)).val = 512 * (i 1).val + (x 0).val := by
    show (512 * (j 1).val + (x 0).val) % 2048 = _
    omega
  refine (if_pos ?_).trans (congrArg p ?_)
  · show 512 * (i 1).val ≤ (Fin.ofNat 2048 (512 * (j 1).val + (x 0).val)).val ∧ (Fin.ofNat 2048 (512 * (j 1).val + (x 0).val)).val < _
    rw [e]; omega
  · refine (congrArg (fun r : Fin 512 => (ix2 r (x 1) : S512x1024.Idx)) (Fin.ext ?_)).trans (eq_ix2 x).symm
    show (Fin.ofNat 2048 (512 * (j 1).val + (x 0).val)).val % 512 = (x 0).val
    rw [e]; omega

theorem take_put_other (i j : grid0.Coords) (h : (i 1).val ≠ (j 1).val) (xs : Vec F S2048x1024 .bf16) (p : Vec F S512x1024 .bf16) :
    take j (put i xs p) = take j xs := by
  funext x
  have hi := row_lt i
  have hj := row_lt j
  have hx : (x 0).val < 512 := (x 0).isLt
  have e : (Fin.ofNat 2048 (512 * (j 1).val + (x 0).val)).val = 512 * (j 1).val + (x 0).val := by
    show (512 * (j 1).val + (x 0).val) % 2048 = _
    omega
  refine if_neg ?_
  show ¬(512 * (i 1).val ≤ (Fin.ofNat 2048 (512 * (j 1).val + (x 0).val)).val ∧ (Fin.ofNat 2048 (512 * (j 1).val + (x 0).val)).val < _)
  rw [e]; omega

/-- The normalised rows of block `j`, in the scratch. -/
abbrev rowsOf (c : Dev nD) (j : ℕ) : Vec F S512x1024 .bf16 := held (iblk m c 0 (pt j)) (iblk m c 1 (pt j))
/-- What the second output's buffer holds after point `n`: after the first four points it stays. -/
abbrev shownAt (c : Dev nD) (n : ℕ) : Vec F S512x1024 .bf16 := shown (iblk m c 0 (pt (min n 3))) (iblk m c 1 (pt (min n 3)))

/-- What is known of the scratch before point `n`: the blocks of rows that the first points have stored. -/
def Known (c : Dev nD) (n : ℕ) (d : Vec F S2048x1024 .bf16) : Prop :=
  ∀ t : Fin cfg0.N, t.val < n → t.val < 4 → take (grid0.coords t) d = rowsOf m c t.val

theorem known_first (c : Dev nD) (t : Fin cfg0.N) (h4 : t.val < 4) (d : Vec F S2048x1024 .bf16) (h : Known m c t.val d) :
    Known m c (t.val + 1) (put (grid0.coords t) d (held (iblk m c 0 t) (iblk m c 1 t))) := by
  intro u hu hu'
  by_cases e : u = t
  · rw [e, take_put _ _ rfl]
    show _ = held (iblk m c 0 (pt t.val)) (iblk m c 1 (pt t.val))
    rw [pt_val]
  · have e' : u.val ≠ t.val := fun h => e (Fin.ext h)
    rw [take_put_other _ _ (by rw [coord1, coord1]; omega)]
    exact h u (by omega) hu'

theorem known_later (c : Dev nD) (t : Fin cfg0.N) (h4 : 4 ≤ t.val) (d : Vec F S2048x1024 .bf16) (h : Known m c t.val d) : Known m c (t.val + 1) d :=
  fun u _ hu' => h u (by omega) hu'

theorem take_congr (t u : Fin cfg0.N) (h : t.val % 4 = u.val % 4) (d : Vec F S2048x1024 .bf16) : take (grid0.coords t) d = take (grid0.coords u) d := by
  unfold take
  rw [coord1 t, coord1 u, h]

theorem known_take (c : Dev nD) (t : Fin cfg0.N) (d : Vec F S2048x1024 .bf16) (h : Known m c t.val d) (ht : 4 ≤ t.val) :
    take (grid0.coords t) d = rowsOf m c (t.val % 4) := by
  have hl : t.val % 4 < 4 := Nat.mod_lt _ (by decide)
  have hN : t.val < 12 := lt_of_lt_of_eq t.isLt N_0
  rw [take_congr t ⟨t.val % 4, by have := t.isLt; omega⟩ (by show t.val % 4 = t.val % 4 % 4; omega)]
  exact h ⟨t.val % 4, _⟩ (by show t.val % 4 < t.val; omega) hl

theorem rows_first (c : Dev nD) (t : Fin cfg0.N) (h4 : t.val < 4) : held (iblk m c 0 t) (iblk m c 1 t) = rowsOf m c (t.val % 4) := by
  rw [Nat.mod_eq_of_lt h4]
  show _ = held (iblk m c 0 (pt t.val)) (iblk m c 1 (pt t.val))
  rw [pt_val]

theorem shown_first (c : Dev nD) (t : Fin cfg0.N) (h4 : t.val < 4) : shown (iblk m c 0 t) (iblk m c 1 t) = shownAt m c t.val := by
  unfold shownAt
  rw [show min t.val 3 = t.val by omega, pt_val]

theorem shown_later (c : Dev nD) (n k : ℕ) (h : 3 ≤ n) (h' : 3 ≤ k) : shownAt m c n = shownAt m c k := by
  unfold shownAt
  rw [show min n 3 = min k 3 by omega]

/-! ## The data of the run -/

abbrev stage0 (t : Fin cfg0.N) : Memref sig .tc .vmem S512x1024 .f32 := win0_0.stage (cfg0.slots t 0)
abbrev whole0 (t : Fin cfg0.N) : (stage0 t).IsWhole := hstage0_0 ((cfg0.slots t 0).cast nbuf0_0)
abbrev stage1 (t : Fin cfg0.N) : Memref sig .tc .vmem S8x1024 .f32 := win0_1.stage (cfg0.slots t 1)
abbrev whole1 (t : Fin cfg0.N) : (stage1 t).IsWhole := hstage0_1 ((cfg0.slots t 1).cast nbuf0_1)
abbrev stage2 (t : Fin cfg0.N) : Memref sig .tc .vmem S2432x1024 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S512x2432 .f32 := win0_3.stage (cfg0.slots t 3)
abbrev whole3 (t : Fin cfg0.N) : (stage3 t).IsWhole := hstage0_3 ((cfg0.slots t 3).cast nbuf0_3)
abbrev stage4 (t : Fin cfg0.N) : Memref sig .tc .vmem S512x1024 .bf16 := win0_4.stage (cfg0.slots t 4)
abbrev whole4 (t : Fin cfg0.N) : (stage4 t).IsWhole := hstage0_4 ((cfg0.slots t 4).cast nbuf0_4)
abbrev stage5 (t : Fin cfg0.N) : Memref sig .tc .vmem S512x128 .f32 := win0_5.stage (cfg0.slots t 5)
abbrev whole5 (t : Fin cfg0.N) : (stage5 t).IsWhole := hstage0_5 ((cfg0.slots t 5).cast nbuf0_5)
abbrev carried : Memref sig .tc .vmem S2048x1024 .bf16 := Memref.whole cc0_scratch0

theorem launch_rest (c : Dev nD) : (Pipeline.ΦA spec0 c : sProp 𝕄)
    = iprop(iprop((∃ d, owns (c : Thread nD τ) carried fullShare d)) ∗ (∃ r, prngReg c r)) := by
  unfold Pipeline.ΦA; rw [scopedRest0_eq]; simp only [carried, owns_whole]; try rfl

/-- Between the points the scratch is owned, with the stored blocks of rows known. -/
def between (c : Dev nD) (n : ℕ) : sProp 𝕄 :=
  iprop((∃ d, ⌜Known m c n d⌝ ∗ owns (c : Thread nD τ) carried fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (rowsOf m c (t.val % 4)) (iblk m c 2 t)
    | ⟨4, _⟩ => shownAt m c t.val
    | ⟨5, _⟩ => k0_pay5 (rowsOf m c (t.val % 4)) (iblk m c 2 t)
  Φ t := between m c t.val
  q _ := fullShare
  owed _ := 0

theorem A_eq (c : Dev nD) (w : Fin cfg0.W) : (dats m 0 c).A w = V m c (Pipeline.arrRef spec0 w) := by
  dsimp only [dats]

theorem leaves0 (c : Dev nD) (t : Fin cfg0.N) : (dats m 0 c).after 0 t = iblk m c 0 t := by dsimp only [dats]
theorem finds0 (c : Dev nD) (t : Fin cfg0.N) (d) : (dats m 0 c).before 0 t d = iblk m c 0 t :=
  before0_0_of m (dats m 0 c) (A_eq m c 0) (leaves0 m c) t d
theorem exact0 (c : Dev nD) (t : Fin cfg0.N) : (dats m 0 c).leavesExact 0 t = owns (c : Thread nD τ) (stage0 t) fullShare (iblk m c 0 t) := by
  unfold Dat.leavesExact
  rw [(rfl : cfg0.idle 0 (grid0.coords t) = false), leaves0]
theorem leaves1 (c : Dev nD) (t : Fin cfg0.N) : (dats m 0 c).after 1 t = iblk m c 1 t := by dsimp only [dats]
theorem finds1 (c : Dev nD) (t : Fin cfg0.N) (d) : (dats m 0 c).before 1 t d = iblk m c 1 t :=
  before0_1_of m (dats m 0 c) (A_eq m c 1) (leaves1 m c) t d
theorem exact1 (c : Dev nD) (t : Fin cfg0.N) : (dats m 0 c).leavesExact 1 t = owns (c : Thread nD τ) (stage1 t) fullShare (iblk m c 1 t) := by
  unfold Dat.leavesExact
  rw [(rfl : cfg0.idle 1 (grid0.coords t) = false), leaves1]
theorem leaves2 (c : Dev nD) (t : Fin cfg0.N) : (dats m 0 c).after 2 t = iblk m c 2 t := by dsimp only [dats]
theorem finds2 (c : Dev nD) (t : Fin cfg0.N) (d) : (dats m 0 c).before 2 t d = iblk m c 2 t :=
  before0_2_of m (dats m 0 c) (A_eq m c 2) (leaves2 m c) t d
theorem exact2 (c : Dev nD) (t : Fin cfg0.N) : (dats m 0 c).leavesExact 2 t = owns (c : Thread nD τ) (stage2 t) fullShare (iblk m c 2 t) := by
  unfold Dat.leavesExact
  rw [(rfl : cfg0.idle 2 (grid0.coords t) = false), leaves2]
theorem leaves3 (c : Dev nD) (t : Fin cfg0.N) : (dats m 0 c).after 3 t = k0_pay4 (rowsOf m c (t.val % 4)) (iblk m c 2 t) := by dsimp only [dats]
theorem exact3 (c : Dev nD) (t : Fin cfg0.N) :
    (dats m 0 c).leavesExact 3 t = owns (c : Thread nD τ) (stage3 t) fullShare (k0_pay4 (rowsOf m c (t.val % 4)) (iblk m c 2 t)) := by
  unfold Dat.leavesExact
  rw [(rfl : cfg0.idle 3 (grid0.coords t) = false), leaves3]
theorem leaves4 (c : Dev nD) (t : Fin cfg0.N) : (dats m 0 c).after 4 t = shownAt m c t.val := by dsimp only [dats]
theorem leaves5 (c : Dev nD) (t : Fin cfg0.N) : (dats m 0 c).after 5 t = k0_pay5 (rowsOf m c (t.val % 4)) (iblk m c 2 t) := by dsimp only [dats]

theorem idle4 : ∀ t : Fin cfg0.N, 4 ≤ t.val → cfg0.idle 4 (grid0.coords t) = true := by decide +kernel
theorem live4 : ∀ t : Fin cfg0.N, t.val < 4 → cfg0.idle 4 (grid0.coords t) = false := by decide +kernel
theorem stays4 : ∀ t : Fin cfg0.N, 3 ≤ t.val → t.val < 11 → (cfg0.win 4).flush t = false := by decide +kernel
theorem goes4 : ∀ t : Fin cfg0.N, ¬t.val < 11 → (cfg0.win 4).flush t = true := by decide +kernel
theorem idle5 : ∀ t : Fin cfg0.N, t.val < 8 → cfg0.idle 5 (grid0.coords t) = true := by decide +kernel
theorem live5 : ∀ t : Fin cfg0.N, 8 ≤ t.val → cfg0.idle 5 (grid0.coords t) = false := by decide +kernel
theorem stays5 : ∀ t : Fin cfg0.N, t.val < 8 → (cfg0.win 5).flush t = false := by decide +kernel

theorem exact4 (c : Dev nD) (t : Fin cfg0.N) (h : t.val < 4) : (dats m 0 c).leavesExact 4 t = owns (c : Thread nD τ) (stage4 t) fullShare (shownAt m c t.val) := by
  unfold Dat.leavesExact
  rw [live4 t h, leaves4]
theorem exact5 (c : Dev nD) (t : Fin cfg0.N) (h : 8 ≤ t.val) :
    (dats m 0 c).leavesExact 5 t = owns (c : Thread nD τ) (stage5 t) fullShare (k0_pay5 (rowsOf m c (t.val % 4)) (iblk m c 2 t)) := by
  unfold Dat.leavesExact
  rw [live5 t h, leaves5]

/-- After the first four points the second output's buffer keeps the fourth block. -/
theorem finds4 (c : Dev nD) : ∀ (n : ℕ) (t : Fin cfg0.N), t.val = 4 + n → ∀ d, (dats m 0 c).before 4 t d = shownAt m c t.val
  | 0, t, ht, d => by
    rw [(dats m 0 c).before_of_pos 4 t (by omega) ((cfg0.win 4).fetch_out rfl t), stays4 ⟨t.val - 1, _⟩ (by show 3 ≤ t.val - 1; omega) (by show t.val - 1 < 11; omega),
      if_neg Bool.false_ne_true]
    unfold Dat.left
    rw [live4 ⟨t.val - 1, _⟩ (by show t.val - 1 < 4; omega)]
    show (dats m 0 c).kept 4 ⟨t.val - 1, _⟩ d = _
    unfold Dat.kept
    rw [Pipeline.fill_of_clip_none 4 _ (fun _ => rfl) d ((dats m 0 c).after 4 _), Window.fill_cut, leaves4]
    exact shown_later m c _ _ (by show 3 ≤ t.val - 1; omega) (by omega)
  | n + 1, t, ht, d => by
    have hN : t.val < 12 := lt_of_lt_of_eq t.isLt N_0
    rw [(dats m 0 c).before_of_pos 4 t (by omega) ((cfg0.win 4).fetch_out rfl t), stays4 ⟨t.val - 1, _⟩ (by show 3 ≤ t.val - 1; omega) (by show t.val - 1 < 11; omega),
      if_neg Bool.false_ne_true]
    unfold Dat.left
    rw [idle4 ⟨t.val - 1, _⟩ (by show 4 ≤ t.val - 1; omega)]
    show (dats m 0 c).before 4 ⟨t.val - 1, _⟩ d = _
    rw [finds4 c n ⟨t.val - 1, _⟩ (by show t.val - 1 = 4 + n; omega) d]
    exact shown_later m c _ _ (by show 3 ≤ t.val - 1; omega) (by omega)

/-- At a later point, what the buffer holds is what the point has to leave. -/
theorem keeps4 (c : Dev nD) (t : Fin cfg0.N) (h : 4 ≤ t.val) :
    (iprop(owns (c : Thread nD τ) (stage4 t) fullShare (shownAt m c t.val)) : sProp 𝕄) ⊢ (dats m 0 c).leavesExact 4 t := by
  have hN : t.val < 12 := lt_of_lt_of_eq t.isLt N_0
  by_cases h' : t.val < 11
  · rw [Dat.leavesExact_idle (dats m 0 c) 4 t (idle4 t h) (stays4 t (by omega) h')]
    simp only [finds4 m c (t.val - 4) t (by omega)]
    iintro H
    iexists shownAt m c t.val
    iexact H
  · unfold Dat.leavesExact
    rw [idle4 t h, goes4 t h', leaves4]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [finds0, finds1, finds2]
  rw [show (dats m 0 c).owesAt () t.succ = (dats m 0 c).owesAt () t.castSucc from rfl,
    show (dats m 0 c).Φ t.castSucc = between m c t.val from rfl, show (dats m 0 c).Φ t.succ = between m c (t.val + 1) from rfl,
    exact0, exact1, exact2, exact3]
  unfold between
  have hN : t.val < 12 := lt_of_lt_of_eq t.isLt N_0
  by_cases h1 : t.val < 4
  · have c1 : k0_cond1 (grid0.coords t) = 1#1 := (starts t).mpr h1
    have c2 : ¬k0_cond2 (grid0.coords t) = 1#1 := fun h => absurd ((ends t).mp h) (by omega)
    rw [exact4 m c t h1, Dat.leavesExact_idle (dats m 0 c) 5 t (idle5 t (by omega)) (stays5 t (by omega))]
    iintro ⟨⟨⟨%xs, %hK, HS⟩, Hg⟩, Ho, ⟨%d0, H0⟩, ⟨%d1, H1⟩, ⟨%d2, H2⟩, ⟨%d3, H3⟩, ⟨%d4, H4⟩, ⟨%d5, H5⟩⟩
    iapply ((runFirst c (grid0.coords t) (stage0 t) (whole0 t) (stage1 t) (whole1 t) (stage2 t) (whole2 t) (stage3 t) (whole3 t) (stage4 t) (whole4 t) (stage5 t) (whole5 t) carried (Memref.isWhole_whole _) (iblk m c 0 t) (iblk m c 1 t) (iblk m c 2 t) c1 c2 _ _ xs).2.2.2 _ Set.univ _)
    isplitl [H0 H1 H2]
    · unfold three
      isplitl [H0]; · iexact H0
      isplitl [H1]; · iexact H1
      iexact H2
    isplitl [H3]; · iexact H3
    isplitl [H4]; · iexact H4
    isplitl [H5]; · iexact H5
    isplitl [HS]; · iexact HS
    unfold three
    iintro ⟨⟨H0, H1, H2⟩, H3, H4, H5, HS⟩
    isplitl [HS Hg]
    · isplitl [HS]
      · iexists put (grid0.coords t) xs (held (iblk m c 0 t) (iblk m c 1 t))
        isplitr
        · ipureintro; exact known_first m c t h1 xs hK
        unfold owns; iexists _; isplitr; swap; · iexact HS
        ipureintro; exact keptFirst _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]
    · unfold owns; iexists _; isplitr; swap; · iexact H3
      ipureintro; refine (outFirst _ _ _ _ _ _ _ _ _ _ _ _ _ _ _ _ _ _ _ _ _ _ _ _).trans (congrArg (fun a => k0_pay4 a (iblk m c 2 t)) ?_)
      exact rows_first m c t h1
    isplitl [H4]
    · unfold owns; iexists _; isplitr; swap; · iexact H4
      ipureintro; exact (normFirst _ _ _ _ _ _ _ _ _ _ _ _ _ _ _ _ _ _ _ _ _ _ _ _).trans (shown_first m c t h1)
    iexists _; iexact H5
  · have c1 : ¬k0_cond1 (grid0.coords t) = 1#1 := fun h => h1 ((starts t).mp h)
    simp only [finds4 m c (t.val - 4) t (by omega)]
    by_cases h2 : 8 ≤ t.val
    · have c2 : k0_cond2 (grid0.coords t) = 1#1 := (ends t).mpr h2
      rw [exact5 m c t h2]
      iintro ⟨⟨⟨%xs, %hK, HS⟩, Hg⟩, Ho, ⟨%d0, H0⟩, ⟨%d1, H1⟩, ⟨%d2, H2⟩, ⟨%d3, H3⟩, ⟨%d4, H4⟩, ⟨%d5, H5⟩⟩
      iapply ((runLast c (grid0.coords t) (stage0 t) (whole0 t) (stage1 t) (whole1 t) (stage2 t) (whole2 t) (stage3 t) (whole3 t) (stage4 t) (whole4 t) (stage5 t) (whole5 t) carried (Memref.isWhole_whole _) (iblk m c 0 t) (iblk m c 1 t) (iblk m c 2 t) c1 c2 _ _ xs).2.2 _ Set.univ _)
      isplitl [H0 H1 H2]
      · unfold three
        isplitl [H0]; · iexact H0
        isplitl [H1]; · iexact H1
        iexact H2
      isplitl [H3]; · iexact H3
      isplitl [H4]; · iexact H4
      isplitl [H5]; · iexact H5
      isplitl [HS]; · iexact HS
      unfold three
      iintro ⟨⟨H0, H1, H2⟩, H3, H4, H5, HS⟩
      isplitl [HS Hg]
      · isplitl [HS]
        · iexists xs
          isplitr
          · ipureintro; exact known_later m c t (by omega) xs hK
          iexact HS
        iexact Hg
      isplitl [Ho]; · iexact Ho
      isplitl [H0]; · iexact H0
      isplitl [H1]; · iexact H1
      isplitl [H2]; · iexact H2
      isplitl [H3]
      · unfold owns; iexists _; isplitr; swap; · iexact H3
        ipureintro; refine (outLast _ _ _ _ _ _ _ _ _ _ _ _ _ _ _ _ _ _ _ _ _ _ _ _).trans (congrArg (fun a => k0_pay4 a (iblk m c 2 t)) ?_)
        exact known_take m c t xs hK (by omega)
      isplitl [H4]; · iapply keeps4 m c t (by omega) $$ H4
      unfold owns; iexists _; isplitr; swap; · iexact H5
      ipureintro; refine (dtLast _ _ _ _ _ _ _ _ _ _ _ _ _ _ _ _ _ _ _ _ _ _ _ _).trans (congrArg (fun a => k0_pay5 a (iblk m c 2 t)) ?_)
      exact known_take m c t xs hK (by omega)
    · have c2 : ¬k0_cond2 (grid0.coords t) = 1#1 := fun h => h2 ((ends t).mp h)
      rw [Dat.leavesExact_idle (dats m 0 c) 5 t (idle5 t (by omega)) (stays5 t (by omega))]
      iintro ⟨⟨⟨%xs, %hK, HS⟩, Hg⟩, Ho, ⟨%d0, H0⟩, ⟨%d1, H1⟩, ⟨%d2, H2⟩, ⟨%d3, H3⟩, ⟨%d4, H4⟩, ⟨%d5, H5⟩⟩
      iapply ((runNext c (grid0.coords t) (stage0 t) (whole0 t) (stage1 t) (whole1 t) (stage2 t) (whole2 t) (stage3 t) (whole3 t) (stage4 t) (whole4 t) (stage5 t) (whole5 t) carried (Memref.isWhole_whole _) (iblk m c 0 t) (iblk m c 1 t) (iblk m c 2 t) c1 c2 _ xs).2 _ _ Set.univ _)
      isplitl [H0 H1 H2]
      · unfold three
        isplitl [H0]; · iexact H0
        isplitl [H1]; · iexact H1
        iexact H2
      isplitl [H3]; · iexact H3
      isplitl [H4]; · iexact H4
      isplitl [H5]; · iexact H5
      isplitl [HS]; · iexact HS
      unfold three
      iintro ⟨⟨H0, H1, H2⟩, H3, H4, H5, HS⟩
      isplitl [HS Hg]
      · isplitl [HS]
        · iexists xs
          isplitr
          · ipureintro; exact known_later m c t (by omega) xs hK
          iexact HS
        iexact Hg
      isplitl [Ho]; · iexact Ho
      isplitl [H0]; · iexact H0
      isplitl [H1]; · iexact H1
      isplitl [H2]; · iexact H2
      isplitl [H3]
      · unfold owns; iexists _; isplitr; swap; · iexact H3
        ipureintro; refine (outNext _ _ _ _ _ _ _ _ _ _ _ _ _ _ _ _ _ _ _ _ _ _ _).trans (congrArg (fun a => k0_pay4 a (iblk m c 2 t)) ?_)
        exact known_take m c t xs hK (by omega)
      isplitl [H4]; · iapply keeps4 m c t (by omega) $$ H4
      iexists _; iexact H5

theorem body_row (t : Fin cfg0.N) : defs₀ (F := F) .tc cfg0.body (cfg0.bodyArgs t (cfg0.slots t)) = bodyAt0 t := by
  unfold defs₀; rw [Defs.onTc_tc]

theorem body_holds (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = between m c 0 from rfl, launch_rest]
  unfold between
  iintro ⟨⟨%d, HS⟩, Hg⟩
  isplitl [HS]
  · iexists d
    isplitr
    · ipureintro; exact fun u h => absurd h (Nat.not_lt_zero _)
    iexact HS
  iexact Hg

theorem leaves (c : Dev nD) : (dats m 0 c).Φ (Fin.last cfg0.N) ⊢ Pipeline.ΦA spec0 c := by
  rw [show (dats m 0 c).Φ (Fin.last cfg0.N) = between m c (Fin.last cfg0.N).val from rfl, launch_rest]
  unfold between
  iintro ⟨⟨%d, _, HS⟩, Hg⟩
  isplitl [HS]
  · iexists d; iexact HS
  iexact Hg

/-! ## The run -/

-- the library's theorem is applied by matching its conclusion with this one, in which plain definitions have to be opened
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_holds m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel12Ideal.Gen

end
-- ==== Proof.FwdTile.lean ====
/- What a point of the forward call computes of its blocks, at an index. -/
module

public import proofs.«01_k».proof.Proof.NormModel
public import proofs.«01_k».proof.Proof.ProdLayout
public import proofs.«01_k».proof.Proof.FwdPieces

@[expose] public section

noncomputable section

namespace Cert.Fwd

open Idealize.ShloMosaic Cert.Attn Cert.Prod Cert.Norm

/-- A row, normalised, weighted, scaled and shifted. -/
def modRow (x w b s : Row) : Row := fun d => normed x d * w d * (one + s d) + b d

end Cert.Fwd

namespace Cert.Kernel12Ideal.Gen

open Idealize.ShloMosaic Idealize.ShloMosaic.TcCoe Idealize.ShloMosaic.ValueIdx Cert.Attn Cert.Prod Cert.Norm Cert.Fwd

variable (x : Vec Ideal S512x1024 .f32) (r : Fin 512) (d : Fin 1024)

theorem mod_at (w s b : Vec Ideal S1x1024 .f32) : k0_pay1 x w s b (ix2 r d) = modRow (rowAt x r) (rowAt w 0) (rowAt b 0) (rowAt s 0) d := by
  unfold k0_pay1
  simp only [shapeCast_self]
  have e : broadcastTo (Mat 512 1024) (rsqrt (F := Ideal) (φ := .f32) (addf (divf (shapeCast (Mat 512 1) (rowSum (F := Ideal) (mulf x x) reduces_S512x1024_S512) shapeCasts_S512_S512x1)
      (broadcast S512x1 (Scalar.ofBits .f32 0x44800000#32 : Ideal .f32))) (broadcast S512x1 (Scalar.ofBits .f32 0x358637BD#32 : Ideal .f32))))
      broadcasts_S512x1_S512x1024 (ix2 r d) = factor (rowAt x r) := by
    rw [colBroadcast_apply]
    show Ideal.rsqrt (Ideal.div (shapeCast (Mat 512 1) (rowSum (F := Ideal) (mulf x x) reduces_S512x1024_S512) shapeCasts_S512_S512x1 (ix2 r (0 : Fin 1))) count + small) = _
    rw [shapeCast_a_a1_apply, rowSum_apply]
    rfl
  have eb (z : FVec Ideal S1x1024 .f32) : broadcastTo (Mat 512 1024) z broadcasts_S1x1024_S512x1024 (ix2 r d) = z (ix2 0 d) := rowBroadcast_apply _ _ r d
  show x (ix2 r d) * _ * broadcastTo (Mat 512 1024) w broadcasts_S1x1024_S512x1024 (ix2 r d) * broadcastTo (Mat 512 1024) _ broadcasts_S1x1024_S512x1024 (ix2 r d)
    + broadcastTo (Mat 512 1024) b broadcasts_S1x1024_S512x1024 (ix2 r d) = _
  rw [eb, eb, eb]
  exact congrArg (fun y : EReal => x (ix2 r d) * y * w (ix2 0 d) * (one + s (ix2 0 d)) + b (ix2 0 d)) e

/-- The block that the scratch keeps, and the block that is returned. -/
theorem held_at (v : Vec Ideal S8x1024 .f32) : held x v (ix2 r d) = modRow (rowAt x r) (rowAt v 0) (rowAt v 1) (rowAt v 2) d := by
  unfold held k0_pay2
  simp only [shapeCast_self]
  exact mod_at x r d (rowOf 0 v) (rowOf 2 v) (rowOf 1 v)
theorem shown_at (v : Vec Ideal S8x1024 .f32) : shown x v (ix2 r d) = modRow (rowAt x r) (rowAt v 0) (rowAt v 1) (rowAt v 2) d := by
  unfold shown k0_pay3
  exact mod_at x r d (rowOf 0 v) (rowOf 2 v) (rowOf 1 v)

/-- The product with a block of the weight, and the columns of it that are returned once more. -/
theorem product_at (h : Vec Ideal S512x1024 .bf16) (u : Vec Ideal S2432x1024 .bf16) (k : Fin 2432) :
    k0_pay4 h u (ix2 r k) = ∑ d : Fin 1024, h (ix2 r d) * u (ix2 k d) := by
  unfold k0_pay4
  simp only [shapeCast_self]
  refine (Ideal.matmul_transposedRhs_apply (M := 512) (K := 1024) (N := 2432) (φ₁ := .bf16) (φ₂ := .bf16) none h u _ r k).trans ?_
  rw [constant_apply, zero_word, zero_add]

theorem columns_at (h : Vec Ideal S512x1024 .bf16) (u : Vec Ideal S2432x1024 .bf16) (k : Fin 128) :
    k0_pay5 h u (ix2 r k) = k0_pay4 h u (ix2 r ⟨1792 + k.val, by have := k.isLt; omega⟩) := by
  unfold k0_pay5
  exact columns_apply (k0_pay4 h u) _ r k _ rfl

end Cert.Kernel12Ideal.Gen

end
-- ==== Proof.FwdReference.lean ====
/- The reference's normalised rows and projections at an index. -/
module

public import proofs.«01_k».proof.Proof.FwdTile
public import proofs.«01_k».proof.Proof.ProjReference
public import proofs.«01_k».proof.Proof.ProdIn
public import proofs.«01_k».proof.Proof.Gen.Reference12Ideal.Run
public import proofs.«01_k».proof.Proof.Gen.Reference12Ideal.Read

@[expose] public section

noncomputable section

namespace Cert.FwdReference

open Idealize.ShloMosaic Idealize.ShloMosaic.TcCoe Idealize.ShloMosaic.ValueIdx Cert.Attn Cert.Prod Cert.Norm Cert.Fwd
open Cert.NormReference (vec)
open Cert.ProjReference (swapped swapped_eq)
open Cert.Reference12Ideal Cert.Reference12Ideal.Read

variable (X : FVec Ideal S2048x1024 .f32) (W B S : FVec Ideal S1024 .f32) (U : FVec Ideal S1024x6832 .f32) (t : Fin 2048)

theorem normed_at (d : Fin 1024) : val_main_v9 (F := Ideal) X (ix2 t d) = normed (rowAt X t) d := by
  have e : val_main_v4 (F := Ideal) X (ix2 t (0 : Fin 1)) = Ideal.div (∑ k, X (ix2 t k) * X (ix2 t k)) count := by
    rw [val_main_v4_apply, val_main_v2_apply, val_main_v1_apply, val_main_v3_apply]
    refine congrArg (fun y : EReal => Ideal.div y count) ?_
    refine Eq.trans (b := Ideal.ofBits .f32 0x00000000#32 + ∑ k : Fin 1024, _) rfl ?_
    rw [zero_word, zero_add]
    refine Finset.sum_congr rfl fun k _ => ?_
    rw [val_main_v0_apply, at2 (idx_main_v1 (idx_main_v2 (ix2 t (0 : Fin 1))) k) t k rfl rfl]
    rfl
  rw [val_main_v9_apply, val_main_v8_apply, at2 (idx_main_v8 (ix2 t d)) t (0 : Fin 1) rfl rfl, val_main_v7_apply, val_main_v6_apply, val_main_v5_apply, e]
  rfl

/-- The normalised rows. -/
theorem rows_at (d : Fin 1024) : val_main_v20 (F := Ideal) X W B S (ix2 t d) = modRow (rowAt X t) (vec W) (vec B) (vec S) d := by
  rw [val_main_v20_apply, val_main_v17_apply, val_main_v12_apply, normed_at, val_main_v11_apply, val_main_v10_apply, val_main_v16_apply, val_main_v15_apply,
    val_main_v13_apply, val_main_v19_apply, val_main_v18_apply, at1 (idx_main_v10 (idx_main_v11 (ix2 t d))) d rfl,
    at1 (idx_main_v13 (idx_main_v16 (ix2 t d))) d rfl, at1 (idx_main_v18 (idx_main_v19 (ix2 t d))) d rfl]
  rfl

theorem swapped_at : val_main_v23 (F := Ideal) U = swapped U := by
  unfold val_main_v23 val_main_v21 val_main_v22
  exact swapped_eq U _ _ _

/-- The projections, and the swapped copy. -/
theorem proj_at (e : Fin 6832) : val_main_v24 (F := Ideal) X W B S U (ix2 t e)
    = ∑ d : Fin 1024, U (ix2 d e) * modRow (rowAt X t) (vec W) (vec B) (vec S) d := by
  rw [val_main_v24_apply]
  refine Finset.sum_congr rfl fun d _ => ?_
  rw [at2 (lidx_main_v24 (ix2 t e) d) t d rfl rfl, at2 (ridx_main_v24 (ix2 t e) d) d e rfl rfl, rows_at]
  exact mul_comm (G := EReal) _ _
theorem swap_at (e : Fin 32) : val_main_v25 (F := Ideal) X W B S U (ix2 t e)
    = ∑ d : Fin 1024, swapped U (ix2 d e) * modRow (rowAt X t) (vec W) (vec B) (vec S) d := by
  rw [val_main_v25_apply]
  refine Finset.sum_congr rfl fun d _ => ?_
  rw [at2 (lidx_main_v25 (ix2 t e) d) t d rfl rfl, at2 (ridx_main_v25 (ix2 t e) d) d e rfl rfl, rows_at, swapped_at]
  exact mul_comm (G := EReal) _ _

/-- A column of the columns laid out: a product of the row with the weight's column. -/
theorem laid_at (j : Fin 7296) : val_main_v39 (F := Ideal) X W B S U (ix2 t j)
    = ∑ d : Fin 1024, modRow (rowAt X t) (vec W) (vec B) (vec S) d * col (fun e => U (ix2 d e)) (fun e => swapped U (ix2 d e)) j.val := by
  have key := sum_col (fun d e => U (ix2 d e)) (fun d e => swapped U (ix2 d e)) (modRow (rowAt X t) (vec W) (vec B) (vec S)) j.val
  simp only [← proj_at, ← swap_at] at key
  refine Eq.trans ?_ (key.symm.trans (Finset.sum_congr rfl fun d _ => mul_comm (G := EReal) _ _))
  unfold val_main_v39 val_main_v35 val_main_v36 val_main_v37 val_main_v26 val_main_v27 val_main_v28 val_main_v29 val_main_v30 val_main_v31 val_main_v32 val_main_v33 val_main_v34
  generalize val_main_v24 (F := Ideal) X W B S U = P
  generalize val_main_v25 (F := Ideal) X W B S U = Q
  refine joined_apply (n := 2048) (A := P) (B := Q) ⟨?_, ?_, ?_, ?_, ?_, ?_, ?_, ?_, ?_, ?_, ?_⟩ _ t j
  · exact fun r e => columns_apply P _ r e _ (Nat.mod_eq_of_lt (by have := e.isLt; omega))
  · exact fun r e => columns_apply P _ r e _ (Nat.mod_eq_of_lt (by have := e.isLt; omega))
  · exact fun r e => columns_apply P _ r e _ (Nat.mod_eq_of_lt (by have := e.isLt; omega))
  · exact fun r e => columns_apply P _ r e _ (Nat.mod_eq_of_lt (by have := e.isLt; omega))
  · exact fun r e => columns_apply P _ r e _ (Nat.mod_eq_of_lt (by have := e.isLt; omega))
  · exact fun r e => columns_apply P _ r e _ (Nat.mod_eq_of_lt (by have := e.isLt; omega))
  · exact fun r e => filled_apply _ _ _ _ zero_word r e _ fun he => columns_apply P _ r _ _ (Nat.mod_eq_of_lt (by show 640 + e.val < 6832; omega))
  · exact fun r e => filled_apply Q _ _ _ zero_word r e _ fun he => congrArg (fun a => Q (ix2 r a)) (Fin.ext (Nat.mod_eq_of_lt he).symm)
  · exact fun r e => filled_apply _ _ _ _ zero_word r e _ fun he => columns_apply P _ r _ _ (Nat.mod_eq_of_lt (by show 3744 + e.val < 6832; omega))
  · exact fun r e => zero_word
  · exact fun r e => columns_apply P _ r e _ ((Nat.mod_eq_of_lt (by have := e.isLt; omega)).trans (Nat.zero_add _).symm)

set_option maxRecDepth 16384 in
/-- The ninth of the pieces laid side by side. -/
theorem ninth {n : ℕ} (p0 : (Mat n 3072).Idx → EReal) (p1 p2 : (Mat n 1024).Idx → EReal) (p3 p4 : (Mat n 512).Idx → EReal) (p5 : (Mat n 256).Idx → EReal)
    (p6 p7 p8 p9 : (Mat n 128).Idx → EReal) (p10 : (Mat n 384).Idx → EReal)
    (h : Shape.Concatenates [Mat n 3072, Mat n 1024, Mat n 1024, Mat n 512, Mat n 512, Mat n 256, Mat n 128, Mat n 128, Mat n 128, Mat n 128, Mat n 384]
      (Mat n 7296) (1 : Fin 2)) (r : Fin n) (j : Fin 7296) (k : Fin 128) (hj : j.val = 6656 + k.val) :
    concatenate (Mat n 7296) (1 : Fin 2) (pieces p0 p1 p2 p3 p4 p5 p6 p7 p8 p9 p10) h (ix2 r j) = p8 (ix2 r k) :=
  joined_at (pieces p0 p1 p2 p3 p4 p5 p6 p7 p8 p9 p10) h r j 8 (by show _ < 11; decide) p8 rfl 6656 rfl k hj.symm

/-- The columns returned once more are those of the columns laid out. -/
theorem again_at (k : Fin 128) (j : Fin 7296) (hj : j.val = 6656 + k.val) :
    val_main_v41 (F := Ideal) X W B S U (ix2 t k) = val_main_v39 (F := Ideal) X W B S U (ix2 t j) := by
  have hk := k.isLt
  have key : val_main_v39 (F := Ideal) X W B S U (ix2 t j) = val_main_v37 (F := Ideal) X W B S U (ix2 t k) := by
    unfold val_main_v39
    exact ninth _ _ _ _ _ _ _ _ _ _ _ _ t j k hj
  rw [key]
  rfl

end Cert.FwdReference

end
-- ==== Proof.FwdValue.lean ====
/- What the forward call leaves in its three results: the reference's projections and normalised rows. -/
module

public import proofs.«01_k».proof.Proof.FwdFrame
public import proofs.«01_k».proof.Proof.FwdReference
public import proofs.«01_k».proof.Proof.ProjValue

@[expose] public section

noncomputable section

namespace Cert.Kernel12Ideal.Gen

open Idealize.ShloMosaic Idealize.ShloMosaic.TcCoe Idealize.ShloMosaic.Tactic Idealize.ShloMosaic.ValueIdx Cert.Attn Cert.Prod Cert.Norm Cert.Fwd
open Cert.NormReference (vec)
open Cert.ProjReference (swapped swapped_eq)
open Cert.Kernel11Ideal.Gen (laidRows laidRows_apply place line line_apply row_of)
open Idealize.SL.Sem
open Idealize.ShloMosaic.Pipeline (Dat)

variable (m : (ℓ : Loc nD τ sig) → Buf (Elt Ideal) ℓ) (ρ : Dev nD → PrngReg) (c : Dev nD)

/-! ## What the host hands to the call -/

abbrev argX : FVec Ideal S2048x1024 .f32 := m (c, main_arg0)
abbrev argW : FVec Ideal S1024 .f32 := m (c, main_arg1)
abbrev argB : FVec Ideal S1024 .f32 := m (c, main_arg2)
abbrev argS : FVec Ideal S1024 .f32 := m (c, main_arg3)
abbrev argU : FVec Ideal S1024x6832 .f32 := m (c, main_arg4)

set_option maxHeartbeats 4000000 in
theorem entry_vec (q : Fin 8) (d : Fin 1024) : V m c main_v4 (ix2 q d)
    = if q.val = 0 then line (argW m c) (ix2 0 d) else if q.val = 1 then line (argB m c) (ix2 0 d) else if q.val = 2 then line (argS m c) (ix2 0 d)
      else (0 : EReal) := by
  have e : V m c main_v4 = concatenate S8x1024 0 (Cert.Proj.rows (line (argW m c)) (line (argB m c)) (line (argS m c))
      (broadcastInDim S5x1024 ![] bcast_S_S5x1024 (constant (F := Ideal) S_ .f32 0x00000000#32))) concatenates_S1x1024_S1x1024_S1x1024_S5x1024_S8x1024_d0 := by
    unfold V
    simp only [hostOps0, hostOps0_1, hostOps0_2, hostOps0_3, hostOps0_4, hostOps0_5, hostOps0_6, List.flatten_cons, List.flatten_nil, List.append_nil, List.cons_append, List.nil_append]
    after_results
    rfl
  rw [e]
  refine (Cert.Proj.stack_apply _ _ _ _ _ q d).trans ?_
  have e0 : broadcastInDim S5x1024 ![] bcast_S_S5x1024 (constant (F := Ideal) S_ .f32 0x00000000#32) (ix2 (Fin.ofNat 5 (q.val - 3)) d) = (0 : EReal) := zero_word
  rw [e0]

/-- The swapped copy, as the host cuts it. -/
abbrev cutSwapped : FVec Ideal S1024x32 .f32 :=
  concatenate S1024x32 1 [⟨S1024x16, extractStridedSlice S1024x16 ![0, 656] (argU m c) slices_S1024x6832_S1024x16_0_656⟩,
    ⟨S1024x16, extractStridedSlice S1024x16 ![0, 640] (argU m c) slices_S1024x6832_S1024x16_0_640⟩] concatenates_S1024x16_S1024x16_S1024x32_d1

set_option maxHeartbeats 4000000 in
theorem entry_weight : V m c main_v23 = (transpose S7296x1024 [1, 0] (truncf .bf16 (laidRows (argU m c) (cutSwapped m c)) bitsLt_bf16_f32 : FVec Ideal S1024x7296 .bf16)
    transposes_S1024x7296_S7296x1024_1_0 : FVec Ideal S7296x1024 .bf16) := by
  unfold V
  simp only [hostOps0, hostOps0_1, hostOps0_2, hostOps0_3, hostOps0_4, hostOps0_5, hostOps0_6, List.flatten_cons, List.flatten_nil, List.append_nil, List.cons_append, List.nil_append]
  after_results
  rfl

/-! ## The blocks -/

theorem index0 : ∀ t : Fin cfg0.N, t.val < 4 → win0_0.index t 0 = t.val ∧ win0_0.index t 1 = 0 :=
  (by decide +kernel : ∀ t : Fin grid0.N, t.val < 4 → win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)
theorem index3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)
theorem index4 : ∀ t : Fin cfg0.N, win0_4.index t 0 = min t.val 3 ∧ win0_4.index t 1 = 0 :=
  (by decide +kernel : ∀ t : Fin grid0.N, win0_4.index t 0 = min t.val 3 ∧ win0_4.index t 1 = 0)
theorem index5 : ∀ t : Fin cfg0.N, 8 ≤ t.val → win0_5.index t 0 = t.val % 4 ∧ win0_5.index t 1 = 0 :=
  (by decide +kernel : ∀ t : Fin grid0.N, 8 ≤ t.val → win0_5.index t 0 = t.val % 4 ∧ win0_5.index t 1 = 0)
theorem flush4 : ∀ t : Fin cfg0.N, t.val < 3 ∨ t.val = 11 → win0_4.flush t = true :=
  (by decide +kernel : ∀ t : Fin grid0.N, t.val < 3 ∨ t.val = 11 → win0_4.flush t = true)
theorem flush5 : ∀ t : Fin cfg0.N, win0_5.flush t = true ↔ 8 ≤ t.val :=
  (by decide +kernel : ∀ t : Fin grid0.N, win0_5.flush t = true ↔ 8 ≤ t.val)

abbrev block0 (t : Fin cfg0.N) : Vec Ideal S512x1024 .f32 := iblk m c 0 t
abbrev block1 (t : Fin cfg0.N) : Vec Ideal S8x1024 .f32 := iblk m c 1 t
abbrev block2 (t : Fin cfg0.N) : Vec Ideal S2432x1024 .bf16 := iblk m c 2 t

theorem block0_row (j : ℕ) (h : j < 4) (r : Fin 512) : rowAt (block0 m c (pt j)) r = rowAt (argX m c) (row (512 * j + r.val)) := by
  funext d
  have ej : (pt j).val = j := Nat.mod_eq_of_lt (by omega)
  have hi := index0 (pt j) (by omega)
  have e := row_of j r
  rw [Nat.mod_eq_of_lt h] at e
  refine (congrArg (V m c main_arg0) (at2 _ (row (512 * j + r.val)) d ?_ ?_)).trans (congrFun (V_main_arg0 m c) _)
  · show win0_0.index (pt j) 0 * 512 + 1 * r.val = _; omega
  · show win0_0.index (pt j) 1 * 1024 + 1 * d.val = _; omega

theorem block1_apply (t : Fin cfg0.N) (q : Fin 8) (d : Fin 1024) : block1 m c t (ix2 q d) = V m c main_v4 (ix2 q d) := by
  have hi := index1 t
  refine congrArg (V m c main_v4) (at2 _ q d ?_ ?_)
  · show win0_1.index t 0 * 8 + 1 * q.val = _; omega
  · show win0_1.index t 1 * 1024 + 1 * d.val = _; omega
theorem block1_weight (t : Fin cfg0.N) : rowAt (block1 m c t) 0 = vec (argW m c) :=
  funext fun d => (block1_apply m c t 0 d).trans ((entry_vec m c 0 d).trans (line_apply _ d))
theorem block1_shift (t : Fin cfg0.N) : rowAt (block1 m c t) 1 = vec (argB m c) :=
  funext fun d => (block1_apply m c t 1 d).trans ((entry_vec m c 1 d).trans (line_apply _ d))
theorem block1_scale (t : Fin cfg0.N) : rowAt (block1 m c t) 2 = vec (argS m c) :=
  funext fun d => (block1_apply m c t 2 d).trans ((entry_vec m c 2 d).trans (line_apply _ d))

theorem place_of (t : Fin cfg0.N) (k : Fin 2432) : (place (2432 * (t.val / 4) + k.val)).val = 2432 * (t.val / 4) + k.val := by
  have hk := k.isLt
  have ht : t.val < 12 := lt_of_lt_of_eq t.isLt N_0
  exact Nat.mod_eq_of_lt (by omega)

/-- A row of the weight, at a column laid out, and a normalised row. -/
abbrev laidWeight (d : Fin 1024) (j : ℕ) : EReal := Cert.Prod.col (fun e => argU m c (ix2 d e)) (fun e => swapped (argU m c) (ix2 d e)) j
abbrev normedRow (t : Fin 2048) : Row := modRow (rowAt (argX m c) t) (vec (argW m c)) (vec (argB m c)) (vec (argS m c))

theorem block2_apply (t : Fin cfg0.N) (k : Fin 2432) (d : Fin 1024) :
    block2 m c t (ix2 k d) = laidWeight m c d (place (2432 * (t.val / 4) + k.val)).val := by
  have hi := index2 t
  have e' := place_of t k
  refine Eq.trans (b := V m c main_v23 (ix2 (place (2432 * (t.val / 4) + k.val)) d)) ?_ ?_
  · refine congrArg (V m c main_v23) (at2 _ _ _ ?_ ?_)
    · show win0_2.index t 0 * 2432 + 1 * k.val = _; omega
    · show win0_2.index t 1 * 1024 + 1 * d.val = _; omega
  · rw [entry_weight]
    refine (transpose_apply [1, 0] _ transposes_S1024x7296_S7296x1024_1_0 (ix2 (place (2432 * (t.val / 4) + k.val)) d)
      (ix2 d (place (2432 * (t.val / 4) + k.val))) fun b => match b with | ⟨0, _⟩ => rfl | ⟨1, _⟩ => rfl).trans ?_
    refine (laidRows_apply _ _ d _).trans ?_
    unfold cutSwapped
    rw [swapped_eq]

theorem rowsOf_at (j : ℕ) (h : j < 4) (r : Fin 512) (d : Fin 1024) : rowsOf m c j (ix2 r d) = normedRow m c (row (512 * j + r.val)) d := by
  refine (held_at (block0 m c (pt j)) r d (block1 m c (pt j))).trans ?_
  rw [block0_row m c j h, block1_weight, block1_shift, block1_scale]

theorem shownAt_at (n : ℕ) (r : Fin 512) (d : Fin 1024) : shownAt m c n (ix2 r d) = normedRow m c (row (512 * min n 3 + r.val)) d := by
  refine (shown_at (block0 m c (pt (min n 3))) r d (block1 m c (pt (min n 3)))).trans ?_
  rw [block0_row m c (min n 3) (by omega), block1_weight, block1_shift, block1_scale]

/-! ## The three results -/

/-- The reference's arrays at the kernel's arguments. -/
abbrev projRef : FVec Ideal S2048x7296 .f32 :=
  Cert.Reference12Ideal.Read.val_main_v39 (F := Ideal) (argX m c) (argW m c) (argB m c) (argS m c) (argU m c)
abbrev rowsRef : FVec Ideal S2048x1024 .bf16 :=
  Cert.Reference12Ideal.Read.val_main_v40 (F := Ideal) (argX m c) (argW m c) (argB m c) (argS m c)
abbrev againRef : FVec Ideal S2048x128 .f32 :=
  Cert.Reference12Ideal.Read.val_main_v41 (F := Ideal) (argX m c) (argW m c) (argB m c) (argS m c) (argU m c)

theorem proj_block (t : Fin cfg0.N) (r : Fin 512) (k : Fin 2432) : k0_pay4 (rowsOf m c (t.val % 4)) (block2 m c t) (ix2 r k)
    = projRef m c (ix2 (row (512 * (t.val % 4) + r.val)) (place (2432 * (t.val / 4) + k.val))) := by
  rw [product_at]
  refine Eq.trans (Finset.sum_congr rfl fun d _ => ?_)
    (Cert.FwdReference.laid_at (argX m c) (argW m c) (argB m c) (argS m c) (argU m c) _ _).symm
  rw [rowsOf_at m c _ (Nat.mod_lt _ (by decide)), block2_apply]

theorem proj_flushed (t : Fin cfg0.N) : (dats m 0 c).flushed 3 t = ((cfg0.win 3).blk t).view.read (Elt Ideal) (projRef m c) := by
  have hi := index3 t
  show (cfg0.win 3).cut (grid0.coords t) ((dats m 0 c).after 3 t) = _
  rw [leaves3]
  funext y
  obtain ⟨r, k, rfl⟩ : ∃ (r : Fin 512) (k : Fin 2432), y = (ix2 r k : S512x2432.Idx) := ⟨y 0, y 1, eq_ix2 (n0 := 512) (n1 := 2432) y⟩
  have e := row_of t.val r
  have e' := place_of t k
  refine Eq.trans ?_ ((proj_block m c t r k).trans (congrArg (projRef m c) (at2 _ _ _ ?_ ?_).symm))
  · exact congrArg (k0_pay4 (rowsOf m c (t.val % 4)) (block2 m c t)) (at2 _ r k rfl rfl)
  · show win0_3.index t 0 * 512 + 1 * r.val = _; omega
  · show win0_3.index t 1 * 2432 + 1 * k.val = _; omega

theorem rows_flushed (t : Fin cfg0.N) : (dats m 0 c).flushed 4 t = ((cfg0.win 4).blk t).view.read (Elt Ideal) (rowsRef m c) := by
  have hi := index4 t
  show (cfg0.win 4).cut (grid0.coords t) ((dats m 0 c).after 4 t) = _
  rw [leaves4]
  funext y
  obtain ⟨r, d, rfl⟩ : ∃ (r : Fin 512) (d : Fin 1024), y = (ix2 r d : S512x1024.Idx) := ⟨y 0, y 1, eq_ix2 (n0 := 512) (n1 := 1024) y⟩
  have e := row_of (min t.val 3) r
  rw [Nat.mod_eq_of_lt (by omega : min t.val 3 < 4)] at e
  refine Eq.trans (b := shownAt m c t.val (ix2 r d)) ?_ ((shownAt_at m c t.val r d).trans
    (((Cert.FwdReference.rows_at (argX m c) (argW m c) (argB m c) (argS m c) _ d).symm).trans (congrArg (rowsRef m c) (at2 _ _ _ ?_ ?_).symm)))
  · exact congrArg (shownAt m c t.val) (at2 _ r d rfl rfl)
  · show win0_4.index t 0 * 512 + 1 * r.val = _; omega
  · show win0_4.index t 1 * 1024 + 1 * d.val = _; omega

theorem again_flushed (t : Fin cfg0.N) (hf : (cfg0.win 5).flush t = true) :
    (dats m 0 c).flushed 5 t = ((cfg0.win 5).blk t).view.read (Elt Ideal) (againRef m c) := by
  have h : 8 ≤ t.val := (flush5 t).mp hf
  have ht : t.val < 12 := lt_of_lt_of_eq t.isLt N_0
  have hi := index5 t h
  show (cfg0.win 5).cut (grid0.coords t) ((dats m 0 c).after 5 t) = _
  rw [leaves5]
  funext y
  obtain ⟨r, k, rfl⟩ : ∃ (r : Fin 512) (k : Fin 128), y = (ix2 r k : S512x128.Idx) := ⟨y 0, y 1, eq_ix2 (n0 := 512) (n1 := 128) y⟩
  have e := row_of t.val r
  have hk := k.isLt
  have ep := place_of t ⟨1792 + k.val, by omega⟩
  refine Eq.trans (b := k0_pay5 (rowsOf m c (t.val % 4)) (block2 m c t) (ix2 r k)) ?_
    ((columns_at r _ _ k).trans ((proj_block m c t r _).trans
      ((Cert.FwdReference.again_at (argX m c) (argW m c) (argB m c) (argS m c) (argU m c) _ k _ (ep.trans ?_)).symm.trans
        (congrArg (againRef m c) (at2 _ _ _ ?_ ?_).symm))))
  · exact congrArg (k0_pay5 (rowsOf m c (t.val % 4)) (block2 m c t)) (at2 _ r k rfl rfl)
  · show 2432 * (t.val / 4) + (1792 + k.val) = 6656 + k.val; omega
  · show win0_5.index t 0 * 512 + 1 * r.val = _; omega
  · show win0_5.index t 1 * 128 + 1 * k.val = _; omega

theorem mem_proj (t : Fin cfg0.N) (i : S2048x7296.Idx) :
    i ∈ ((cfg0.win 3).blk t).view.set ↔ ∀ a : Fin 2, win0_3.index t a * S512x2432.size a ≤ (i a).val ∧ (i a).val < win0_3.index t a * S512x2432.size a + S512x2432.size a := by
  show i ∈ ((View.whole main_v24_0).slice (win0_3.rect t)).set ↔ _
  rw [View.set_slice_whole, Rect.mem_set_unit]
  exact Iff.rfl
theorem mem_rows (t : Fin cfg0.N) (i : S2048x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v24_1).slice (win0_4.rect t)).set ↔ _
  rw [View.set_slice_whole, Rect.mem_set_unit]
  exact Iff.rfl
theorem mem_again (t : Fin cfg0.N) (i : S2048x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v24_2).slice (win0_5.rect t)).set ↔ _
  rw [View.set_slice_whole, Rect.mem_set_unit]
  exact Iff.rfl

theorem proj_left : (dats m 0 c).arrAt 3 cfg0.N = projRef m c :=
  (dats m 0 c).arrAt_eq_of_cover 3 _ (fun t _ => proj_flushed m c t) fun (i : S2048x7296.Idx) => by
    have h0 : (i 0).val < 2048 := (i 0).isLt
    have h1 : (i 1).val < 7296 := (i 1).isLt
    obtain ⟨t, ht⟩ : ∃ t : Fin cfg0.N, t.val = 4 * ((i 1).val / 2432) + (i 0).val / 512 :=
      ⟨pt (4 * ((i 1).val / 2432) + (i 0).val / 512), Nat.mod_eq_of_lt (by omega)⟩
    have hi := index3 t
    refine ⟨t, flush0_3 t, ?_⟩
    rw [mem_proj]
    intro a
    match a with
    | ⟨0, _⟩ => show win0_3.index t 0 * 512 ≤ (i 0).val ∧ (i 0).val < win0_3.index t 0 * 512 + 512; omega
    | ⟨1, _⟩ => show win0_3.index t 1 * 2432 ≤ (i 1).val ∧ (i 1).val < win0_3.index t 1 * 2432 + 2432; omega

theorem rows_left : (dats m 0 c).arrAt 4 cfg0.N = rowsRef m c :=
  (dats m 0 c).arrAt_eq_of_cover 4 _ (fun t _ => rows_flushed m c t) fun (i : S2048x1024.Idx) => by
    have h0 : (i 0).val < 2048 := (i 0).isLt
    have h1 : (i 1).val < 1024 := (i 1).isLt
    obtain ⟨t, ht, hf⟩ : ∃ t : Fin cfg0.N, min t.val 3 = (i 0).val / 512 ∧ (t.val < 3 ∨ t.val = 11) := by
      by_cases h : (i 0).val / 512 < 3
      · have e : (pt ((i 0).val / 512)).val = (i 0).val / 512 := Nat.mod_eq_of_lt (by omega)
        exact ⟨pt ((i 0).val / 512), by omega, by omega⟩
      · have e : (pt 11).val = 11 := rfl
        exact ⟨pt 11, by omega, by omega⟩
    have hi := index4 t
    refine ⟨t, flush4 t hf, ?_⟩
    rw [mem_rows]
    intro a
    match a with
    | ⟨0, _⟩ => show win0_4.index t 0 * 512 ≤ (i 0).val ∧ (i 0).val < win0_4.index t 0 * 512 + 512; omega
    | ⟨1, _⟩ => show win0_4.index t 1 * 1024 ≤ (i 1).val ∧ (i 1).val < win0_4.index t 1 * 1024 + 1024; omega

theorem again_left : (dats m 0 c).arrAt 5 cfg0.N = againRef m c :=
  (dats m 0 c).arrAt_eq_of_cover 5 _ (fun t hf => again_flushed m c t hf) fun (i : S2048x128.Idx) => by
    have h0 : (i 0).val < 2048 := (i 0).isLt
    have h1 : (i 1).val < 128 := (i 1).isLt
    obtain ⟨t, ht⟩ : ∃ t : Fin cfg0.N, t.val = 8 + (i 0).val / 512 := ⟨pt (8 + (i 0).val / 512), Nat.mod_eq_of_lt (by omega)⟩
    have h : 8 ≤ t.val := by omega
    have hi := index5 t h
    refine ⟨t, (flush5 t).mpr h, ?_⟩
    rw [mem_again]
    intro a
    match a with
    | ⟨0, _⟩ => show win0_5.index t 0 * 512 ≤ (i 0).val ∧ (i 0).val < win0_5.index t 0 * 512 + 512; omega
    | ⟨1, _⟩ => show win0_5.index t 1 * 128 ≤ (i 1).val ∧ (i 1).val < win0_5.index t 1 * 128 + 128; omega

/-- The run, with its three results read. -/
theorem run_read : θ_run defs (onTc (τ := τ) (main (F := Ideal))) ⟨m, fun _ => 0, ρ⟩ (fun r => ∀ c : Dev nD,
      r.2.mem ((c.tc : Thread nD τ).loc main_v24_0) = projRef m c
      ∧ r.2.mem ((c.tc : Thread nD τ).loc main_v24_1) = rowsRef m c
      ∧ r.2.mem ((c.tc : Thread nD τ).loc main_v24_2) = againRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (proj_left m c), ((h.1 c).1 4).trans (rows_left m c), ((h.1 c).1 5).trans (again_left m c), h.2.1 c⟩)
    (θ_run_and (run_main m ρ) (frame m ρ))

end Cert.Kernel12Ideal.Gen

end
-- ==== Proof.FwdClaims.lean ====
/- The claims on the forward call of the input projections. -/
module

public import proofs.«01_k».proof.Defs
public import proofs.«01_k».proof.Proof.FwdValue
public import proofs.«01_k».proof.Proof.Gen.Kernel12.Frame
public import proofs.«01_k».proof.Proof.Gen.Reference12Ideal.Run
public import proofs.«01_k».proof.Proof.Gen.Reference12Ideal.Read
public import Idealize.ShloMosaic.Adequacy
public import Idealize.ShloMosaic.Init

@[expose] public section

noncomputable section

namespace Cert.FwdClaims

open Idealize.ShloMosaic Idealize.SL.Sem Idealize.ShloMosaic.TcCoe

/-- The kernel as printed and as idealized are one program: no rewrite was asked for. -/
theorem bodies_eq : @Cert.Kernel12.defs₀ Bits _ _ = @Cert.Kernel12Ideal.defs₀ Bits _ _ := by
  unfold Cert.Kernel12.defs₀ Cert.Kernel12Ideal.defs₀
  refine congrArg Defs.onTc (funext fun l => funext fun a => ?_)
  match l, a with
  | 0, (t, s) => rfl

theorem defs_eq : @Cert.Kernel12.defs Bits _ _ = @Cert.Kernel12Ideal.defs Bits _ _ :=
  congrArg (Pipeline.defs (Cert.Kernel12.pcfgs (F := Bits))) bodies_eq

set_option maxHeartbeats 4000000 in
theorem frame_kernel12 : Cert.quiescent_Kernel12 := fun m ρ _ => by
  have h := Cert.Kernel12Ideal.Gen.frame (F := Bits) m ρ
  rw [← defs_eq] at h
  exact h

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem algebraic12 : Cert.algebraic_Kernel12Ideal_Reference12Ideal := fun m ρ m' ρ' _ ha =>
  ⟨fun c => Cert.Kernel12Ideal.Gen.projRef m c, fun c => Cert.Kernel12Ideal.Gen.rowsRef m c, fun c => Cert.Kernel12Ideal.Gen.againRef m c,
    Cert.Kernel12Ideal.Gen.run_read m ρ,
    (θ_run Cert.Reference12Ideal.defs _ _).mono (fun r h c => by
      obtain ⟨a0, a1, a2, a3, a4⟩ := ha c
      obtain ⟨h0, h1, h2, h3⟩ := h c
      refine ⟨h0.trans ((Cert.Reference12Ideal.Read.val_main_v39_eq (F := Ideal) _ _).trans ?_),
        h1.trans ((Cert.Reference12Ideal.Read.val_main_v40_eq (F := Ideal) _ _ _ _).trans ?_),
        h2.trans ((Cert.Reference12Ideal.Read.val_main_v41_eq (F := Ideal) _ _ _ _ _).trans ?_), h3⟩
      · rw [a0, a1, a2, a3, a4]
      · rw [a0, a1, a2, a3]
      · rw [a0, a1, a2, a3, a4])
      (Cert.Reference12Ideal.Value.run (F := Ideal) m' ρ')⟩

end Cert.FwdClaims

end
-- ==== Proof.lean ====
module

public import proofs.«01_k».proof.Proof.Gen.Kernel12.Frame
public import proofs.«01_k».proof.Proof.Gen.Kernel12.Skeleton
public import proofs.«01_k».proof.Proof.Gen.Kernel12Ideal.Skeleton
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel11.Frame
public import proofs.«01_k».proof.Proof.Gen.Kernel11.Skeleton
public import proofs.«01_k».proof.Proof.Gen.Kernel11Ideal.Skeleton
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel10.Frame
public import proofs.«01_k».proof.Proof.Gen.Kernel10.Skeleton
public import proofs.«01_k».proof.Proof.Gen.Kernel10Ideal.Skeleton
public import proofs.«01_k».proof.Proof.Gen.Kernel10Ideal.Frame
public import proofs.«01_k».proof.Proof.Gen.Reference10Ideal.Run
public import proofs.«01_k».proof.Proof.Gen.Reference10Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite
public import proofs.«01_k».proof.Proof.Gen.Pre_finite3
public import proofs.«01_k».proof.Proof.AttnClaims
public import proofs.«01_k».proof.Proof.ProdClaims
public import proofs.«01_k».proof.Proof.WeightClaims
public import proofs.«01_k».proof.Proof.NormClaims
public import proofs.«01_k».proof.Proof.ProjClaims
public import proofs.«01_k».proof.Proof.FwdClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite3.Gen.facts,
  AttnClaims.frame_kernel, AttnClaims.frame_ideal, AttnClaims.frame_ideal_pre, AttnClaims.frame_reference, AttnClaims.frame_reference_pre,
  ProdClaims.frame_kernel2, ProdClaims.frame_ideal2, ProdClaims.frame_reference2,
  ProdClaims.frame_kernel3, ProdClaims.frame_ideal3, ProdClaims.frame_ideal3_pre, ProdClaims.frame_reference3, ProdClaims.frame_reference3_pre,
  ProdClaims.frame_kernel4, ProdClaims.frame_ideal4, ProdClaims.frame_reference4,
  ProdClaims.frame_kernel6, ProdClaims.frame_ideal6, ProdClaims.frame_reference6,
  ProdClaims.frame_kernel7, ProdClaims.frame_ideal7, ProdClaims.frame_reference7,
  ProdClaims.frame_kernel8, ProdClaims.frame_ideal8, ProdClaims.frame_reference8,
  ProdClaims.frame_kernel9, ProdClaims.frame_ideal9, ProdClaims.frame_reference9,
  NormClaims.frame_kernel10, NormClaims.frame_ideal10, NormClaims.frame_reference10,
  ProjClaims.frame_kernel11, ProjClaims.frame_ideal11, ProjClaims.frame_reference11,
  FwdClaims.frame_kernel12, FwdClaims.frame_ideal12, FwdClaims.frame_reference12,
  trivial, AttnClaims.algebraic, trivial, ProdClaims.algebraic2, trivial, ProdClaims.algebraic3,
  trivial, ProdClaims.algebraic4, trivial, ProdClaims.algebraic6, trivial, ProdClaims.algebraic7, trivial, ProdClaims.algebraic8, trivial, ProdClaims.algebraic9,
  trivial, NormClaims.algebraic10, trivial, ProjClaims.algebraic11,
  trivial, FwdClaims.algebraic12⟩

end Cert.Proof

end
